-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v103)) (v2 : (c : Dev Cert.KernelIdeal.nD) → Buf (Elt Ideal) ((c.tc : Thread Cert.KernelIdeal.nD Cert.KernelIdeal.τ).loc Cert.KernelIdeal.main_v105)) (v3 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_v105) = v2 c
          ∧ r.2.mem ((c.tc : Thread Cert.KernelIdeal.nD Cert.KernelIdeal.τ).loc Cert.KernelIdeal.main_v110) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v72)) (v1 : (c : Dev Cert.Kernel2Ideal.nD) → Buf (Elt Ideal) ((c.tc : Thread Cert.Kernel2Ideal.nD Cert.Kernel2Ideal.τ).loc Cert.Kernel2Ideal.main_v74)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v72) = v0 c
          ∧ r.2.mem ((c.tc : Thread Cert.Kernel2Ideal.nD Cert.Kernel2Ideal.τ).loc Cert.Kernel2Ideal.main_v74) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S16x16384x64 : Shape := ⟨3, ![16, 16384, 64]⟩
abbrev S16x16384 : Shape := ⟨2, ![16, 16384]⟩
abbrev S_ : Shape := ⟨0, ![]⟩

class Facts : Prop where
  bcast_S_S16x16384x64 : S_.BroadcastsInDim S16x16384x64 (![] : Fin 0 → Fin S16x16384x64.rank)
  reducesTo_S16x16384x64_S_d0_1_2 : S16x16384x64.ReducesTo [0, 1, 2] S_
  h_S_ : 0 < S_.numel
  bcast_S_S16x16384 : S_.BroadcastsInDim S16x16384 (![] : Fin 0 → Fin S16x16384.rank)
  reducesTo_S16x16384_S_d0_1 : S16x16384.ReducesTo [0, 1] S_

variable [Facts]

def fn_part1 {F : FTy → Type} [FloatOps F] (main_arg4 : FVec F S16x16384x64 .f32) (main_v13 : IVec S_ 1) (main_v16 : IVec S16x16384 1) : IVec S_ 1 :=
  let main_c_5 : IVec S_ 1 := constantI S_ 1 1#1
  let main_v17 : IVec S_ 1 := (fun x v => Host.reduce IntOp.andi x v reducesTo_S16x16384_S_d0_1 h_S_) main_v16 main_c_5
  let main_v18 : IVec S_ 1 := andi main_v13 main_v17
  let main_v19 : FVec F S16x16384x64 .f32 := Host.absf main_arg4
  let main_cst_6 : FVec F S_ .f32 := constant S_ .f32 0x7F800000#32
  let main_v20 : FVec F S16x16384x64 .f32 := broadcastInDim S16x16384x64 ![] bcast_S_S16x16384x64 main_cst_6
  let main_v21 : IVec S16x16384x64 1 := cmpf .olt main_v19 main_v20
  let main_c_7 : IVec S_ 1 := constantI S_ 1 1#1
  let main_v22 : IVec S_ 1 := (fun x v => Host.reduce IntOp.andi x v reducesTo_S16x16384x64_S_d0_1_2 h_S_) main_v21 main_c_7
  let main_v23 : IVec S_ 1 := andi main_v18 main_v22
  main_v23

def fn {F : FTy → Type} [FloatOps F] (main_arg0 : FVec F S16x16384x64 .f32) (main_arg1 : FVec F S16x16384x64 .f32) (main_arg2 : FVec F S16x16384x64 .f32) (main_arg3 : FVec F S16x16384 .f32) (main_arg4 : FVec F S16x16384x64 .f32) : IVec S_ 1 :=
  let main_v0 : FVec F S16x16384x64 .f32 := Host.absf main_arg0
  let main_cst : FVec F S_ .f32 := constant S_ .f32 0x7F800000#32
  let main_v1 : FVec F S16x16384x64 .f32 := broadcastInDim S16x16384x64 ![] bcast_S_S16x16384x64 main_cst
  let main_v2 : IVec S16x16384x64 1 := cmpf .olt main_v0 main_v1
  let main_c : IVec S_ 1 := constantI S_ 1 1#1
  let main_v3 : IVec S_ 1 := (fun x v => Host.reduce IntOp.andi x v reducesTo_S16x16384x64_S_d0_1_2 h_S_) main_v2 main_c
  let main_v4 : FVec F S16x16384x64 .f32 := Host.absf main_arg1
  let main_cst_0 : FVec F S_ .f32 := constant S_ .f32 0x7F800000#32
  let main_v5 : FVec F S16x16384x64 .f32 := broadcastInDim S16x16384x64 ![] bcast_S_S16x16384x64 main_cst_0
  let main_v6 : IVec S16x16384x64 1 := cmpf .olt main_v4 main_v5
  let main_c_1 : IVec S_ 1 := constantI S_ 1 1#1
  let main_v7 : IVec S_ 1 := (fun x v => Host.reduce IntOp.andi x v reducesTo_S16x16384x64_S_d0_1_2 h_S_) main_v6 main_c_1
  let main_v8 : IVec S_ 1 := andi main_v3 main_v7
  let main_v9 : FVec F S16x16384x64 .f32 := Host.absf main_arg2
  let main_cst_2 : FVec F S_ .f32 := constant S_ .f32 0x7F800000#32
  let main_v10 : FVec F S16x16384x64 .f32 := broadcastInDim S16x16384x64 ![] bcast_S_S16x16384x64 main_cst_2
  let main_v11 : IVec S16x16384x64 1 := cmpf .olt main_v9 main_v10
  let main_c_3 : IVec S_ 1 := constantI S_ 1 1#1
  let main_v12 : IVec S_ 1 := (fun x v => Host.reduce IntOp.andi x v reducesTo_S16x16384x64_S_d0_1_2 h_S_) main_v11 main_c_3
  let main_v13 : IVec S_ 1 := andi main_v8 main_v12
  let main_v14 : FVec F S16x16384 .f32 := Host.absf main_arg3
  let main_cst_4 : FVec F S_ .f32 := constant S_ .f32 0x7F800000#32
  let main_v15 : FVec F S16x16384 .f32 := broadcastInDim S16x16384 ![] bcast_S_S16x16384 main_cst_4
  let main_v16 : IVec S16x16384 1 := cmpf .olt main_v14 main_v15
  fn_part1 (F := F) main_arg4 main_v13 main_v16
-- ==== Pre_finite2.lean ====
abbrev S16x16384x64 : Shape := ⟨3, ![16, 16384, 64]⟩
abbrev S16x16384 : Shape := ⟨2, ![16, 16384]⟩
abbrev S1x64 : Shape := ⟨2, ![1, 64]⟩
abbrev S_ : Shape := ⟨0, ![]⟩

class Facts : Prop where
  bcast_S_S16x16384x64 : S_.BroadcastsInDim S16x16384x64 (![] : Fin 0 → Fin S16x16384x64.rank)
  reducesTo_S16x16384x64_S_d0_1_2 : S16x16384x64.ReducesTo [0, 1, 2] S_
  h_S_ : 0 < S_.numel
  bcast_S_S16x16384 : S_.BroadcastsInDim S16x16384 (![] : Fin 0 → Fin S16x16384.rank)
  reducesTo_S16x16384_S_d0_1 : S16x16384.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_v13 : IVec S_ 1) (main_v16 : IVec S16x16384 1) : IVec S_ 1 :=
  let main_c_5 : IVec S_ 1 := constantI S_ 1 1#1
  let main_v17 : IVec S_ 1 := (fun x v => Host.reduce IntOp.andi x v reducesTo_S16x16384_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  main_v28

def fn {F : FTy → Type} [FloatOps F] (main_arg0 : FVec F S16x16384x64 .f32) (main_arg1 : FVec F S16x16384x64 .f32) (main_arg2 : FVec F S16x16384x64 .f32) (main_arg3 : FVec F S16x16384 .f32) (main_arg4 : FVec F S1x64 .f32) (main_arg5 : FVec F S1x64 .f32) : IVec S_ 1 :=
  let main_v0 : FVec F S16x16384x64 .f32 := Host.absf main_arg0
  let main_cst : FVec F S_ .f32 := constant S_ .f32 0x7F800000#32
  let main_v1 : FVec F S16x16384x64 .f32 := broadcastInDim S16x16384x64 ![] bcast_S_S16x16384x64 main_cst
  let main_v2 : IVec S16x16384x64 1 := cmpf .olt main_v0 main_v1
  let main_c : IVec S_ 1 := constantI S_ 1 1#1
  let main_v3 : IVec S_ 1 := (fun x v => Host.reduce IntOp.andi x v reducesTo_S16x16384x64_S_d0_1_2 h_S_) main_v2 main_c
  let main_v4 : FVec F S16x16384x64 .f32 := Host.absf main_arg1
  let main_cst_0 : FVec F S_ .f32 := constant S_ .f32 0x7F800000#32
  let main_v5 : FVec F S16x16384x64 .f32 := broadcastInDim S16x16384x64 ![] bcast_S_S16x16384x64 main_cst_0
  let main_v6 : IVec S16x16384x64 1 := cmpf .olt main_v4 main_v5
  let main_c_1 : IVec S_ 1 := constantI S_ 1 1#1
  let main_v7 : IVec S_ 1 := (fun x v => Host.reduce IntOp.andi x v reducesTo_S16x16384x64_S_d0_1_2 h_S_) main_v6 main_c_1
  let main_v8 : IVec S_ 1 := andi main_v3 main_v7
  let main_v9 : FVec F S16x16384x64 .f32 := Host.absf main_arg2
  let main_cst_2 : FVec F S_ .f32 := constant S_ .f32 0x7F800000#32
  let main_v10 : FVec F S16x16384x64 .f32 := broadcastInDim S16x16384x64 ![] bcast_S_S16x16384x64 main_cst_2
  let main_v11 : IVec S16x16384x64 1 := cmpf .olt main_v9 main_v10
  let main_c_3 : IVec S_ 1 := constantI S_ 1 1#1
  let main_v12 : IVec S_ 1 := (fun x v => Host.reduce IntOp.andi x v reducesTo_S16x16384x64_S_d0_1_2 h_S_) main_v11 main_c_3
  let main_v13 : IVec S_ 1 := andi main_v8 main_v12
  let main_v14 : FVec F S16x16384 .f32 := Host.absf main_arg3
  let main_cst_4 : FVec F S_ .f32 := constant S_ .f32 0x7F800000#32
  let main_v15 : FVec F S16x16384 .f32 := broadcastInDim S16x16384 ![] bcast_S_S16x16384 main_cst_4
  let main_v16 : IVec S16x16384 1 := cmpf .olt main_v14 main_v15
  fn_part1 (F := F) main_arg4 main_arg5 main_v13 main_v16
-- ==== Kernel.lean ====
abbrev S16x16384x64 : Shape := ⟨3, ![16, 16384, 64]⟩
abbrev S16x16384 : Shape := ⟨2, ![16, 16384]⟩
abbrev S16384 : Shape := ⟨1, ![16384]⟩
abbrev S16x16384x16384 : Shape := ⟨3, ![16, 16384, 16384]⟩
abbrev S_ : Shape := ⟨0, ![]⟩
abbrev S16x1x16384 : Shape := ⟨3, ![16, 1, 16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S16x16384x1 : Shape := ⟨3, ![16, 16384, 1]⟩
abbrev S16x16384x58 : Shape := ⟨3, ![16, 16384, 58]⟩
abbrev S16x16384x128 : Shape := ⟨3, ![16, 16384, 128]⟩
abbrev S16x16384x61 : Shape := ⟨3, ![16, 16384, 61]⟩
abbrev S16x32x512x128 : Shape := ⟨4, ![16, 32, 512, 128]⟩
abbrev S1x16384x128 : Shape := ⟨3, ![1, 16384, 128]⟩
abbrev S1x1x512x128 : Shape := ⟨4, ![1, 1, 512, 128]⟩
abbrev S1x512x128 : Shape := ⟨3, ![1, 512, 128]⟩
abbrev S16384x128 : Shape := ⟨2, ![16384, 128]⟩
abbrev S128x512 : Shape := ⟨2, ![128, 512]⟩
abbrev S512x128 : Shape := ⟨2, ![512, 128]⟩
abbrev S1x2048x128 : Shape := ⟨3, ![1, 2048, 128]⟩
abbrev S2048x128 : Shape := ⟨2, ![2048, 128]⟩
abbrev S2048x512 : Shape := ⟨2, ![2048, 512]⟩
abbrev S1x1536x128 : Shape := ⟨3, ![1, 1536, 128]⟩
abbrev S1536x128 : Shape := ⟨2, ![1536, 128]⟩
abbrev S1536x512 : Shape := ⟨2, ![1536, 512]⟩
abbrev S1x1024x128 : Shape := ⟨3, ![1, 1024, 128]⟩
abbrev S1024x128 : Shape := ⟨2, ![1024, 128]⟩
abbrev S1024x512 : Shape := ⟨2, ![1024, 512]⟩
abbrev S512x512 : Shape := ⟨2, ![512, 512]⟩

abbrev nBuf : Space → Nat
  | .hbm => 133
  | .vmem => 15
  | .smem => 0
  | _ => 0

abbrev hbmTy0_0 (i : Nat) : BufTy := match i % 128 with
  | 0 => ⟨S16x16384x64, .f32⟩
  | 1 => ⟨S16x16384x64, .f32⟩
  | 2 => ⟨S16x16384x64, .f32⟩
  | 3 => ⟨S16x16384, .f32⟩
  | 4 => ⟨S16x16384x64, .f32⟩
  | 5 => ⟨S16384, .i32⟩
  | 6 => ⟨S16x16384x16384, .f32⟩
  | 7 => ⟨S_, .f32⟩
  | 8 => ⟨S16x16384x16384, .f32⟩
  | 9 => ⟨S16x16384x16384, .f32⟩
  | 10 => ⟨S16x1x16384, .f32⟩
  | 11 => ⟨S16x16384x16384, .f32⟩
  | 12 => ⟨S16x16384x16384, .f32⟩
  | 13 => ⟨S1x1x16384, .i32⟩
  | 14 => ⟨S1x16384x1, .i32⟩
  | 15 => ⟨S1x16384x16384, .i32⟩
  | 16 => ⟨S1x16384x16384, .i32⟩
  | 17 => ⟨S1x16384x16384, .i1⟩
  | 18 => ⟨S_, .f32⟩
  | 19 => ⟨S_, .f32⟩
  | 20 => ⟨S16x16384x16384, .i1⟩
  | 21 => ⟨S16x16384x16384, .f32⟩
  | 22 => ⟨S16x16384x16384, .f32⟩
  | 23 => ⟨S_, .f32⟩
  | 24 => ⟨S16x16384, .f32⟩
  | 25 => ⟨S16x16384x1, .f32⟩
  | 26 => ⟨S16x16384x16384, .f32⟩
  | 27 => ⟨S16x16384x16384, .f32⟩
  | 28 => ⟨S16x16384x16384, .f32⟩
  | 29 => ⟨S_, .f32⟩
  | 30 => ⟨S16x16384, .f32⟩
  | 31 => ⟨S16x16384, .f32⟩
  | 32 => ⟨S16x16384, .f32⟩
  | 33 => ⟨S16x16384x64, .f32⟩
  | 34 => ⟨S16x16384x1, .f32⟩
  | 35 => ⟨S16x16384x64, .f32⟩
  | 36 => ⟨S16x16384x64, .f32⟩
  | 37 => ⟨S16x16384x64, .f32⟩
  | 38 => ⟨S_, .f32⟩
  | 39 => ⟨S16x16384, .f32⟩
  | 40 => ⟨S_, .f32⟩
  | 41 => ⟨S16x16384, .f32⟩
  | 42 => ⟨S_, .f32⟩
  | 43 => ⟨S16x16384x64, .f32⟩
  | 44 => ⟨S16x16384x64, .f32⟩
  | 45 => ⟨S16x16384, .f32⟩
  | 46 => ⟨S16x16384, .bf16⟩
  | 47 => ⟨S16x16384, .f32⟩
  | 48 => ⟨S16x16384, .f32⟩
  | 49 => ⟨S16x16384, .bf16⟩
  | 50 => ⟨S16x16384, .f32⟩
  | 51 => ⟨S16x16384, .f32⟩
  | 52 => ⟨S16x16384, .bf16⟩
  | 53 => ⟨S16x16384, .bf16⟩
  | 54 => ⟨S16x16384x1, .bf16⟩
  | 55 => ⟨S16x16384, .bf16⟩
  | 56 => ⟨S16x16384x1, .bf16⟩
  | 57 => ⟨S16x16384, .bf16⟩
  | 58 => ⟨S16x16384x1, .bf16⟩
  | 59 => ⟨S16x16384x1, .bf16⟩
  | 60 => ⟨S16x16384x1, .bf16⟩
  | 61 => ⟨S16x16384x1, .bf16⟩
  | 62 => ⟨S16x16384x64, .bf16⟩
  | 63 => ⟨S_, .bf16⟩
  | 64 => ⟨S16x16384x58, .bf16⟩
  | 65 => ⟨S16x16384x128, .bf16⟩
  | 66 => ⟨S16x16384, .f32⟩
  | 67 => ⟨S16x16384, .bf16⟩
  | 68 => ⟨S16x16384, .f32⟩
  | 69 => ⟨S16x16384, .f32⟩
  | 70 => ⟨S16x16384, .bf16⟩
  | 71 => ⟨S16x16384, .f32⟩
  | 72 => ⟨S16x16384, .f32⟩
  | 73 => ⟨S16x16384, .bf16⟩
  | 74 => ⟨S16x16384x1, .bf16⟩
  | 75 => ⟨S16x16384x1, .bf16⟩
  | 76 => ⟨S16x16384x1, .bf16⟩
  | 77 => ⟨S16x16384, .bf16⟩
  | 78 => ⟨S16x16384x1, .bf16⟩
  | 79 => ⟨S16x16384, .bf16⟩
  | 80 => ⟨S16x16384x1, .bf16⟩
  | 81 => ⟨S16x16384, .bf16⟩
  | 82 => ⟨S16x16384x1, .bf16⟩
  | 83 => ⟨S16x16384x64, .bf16⟩
  | 84 => ⟨S_, .bf16⟩
  | 85 => ⟨S16x16384x58, .bf16⟩
  | 86 => ⟨S16x16384x128, .bf16⟩
  | 87 => ⟨S16x16384, .bf16⟩
  | 88 => ⟨S16x16384x1, .bf16⟩
  | 89 => ⟨S16x16384, .bf16⟩
  | 90 => ⟨S16x16384x1, .bf16⟩
  | 91 => ⟨S16x16384, .bf16⟩
  | 92 => ⟨S16x16384x1, .bf16⟩
  | 93 => ⟨S16x16384x64, .bf16⟩
  | 94 => ⟨S_, .bf16⟩
  | 95 => ⟨S16x16384x61, .bf16⟩
  | 96 => ⟨S16x16384x128, .bf16⟩
  | 97 => ⟨S16x16384, .f32⟩
  | 98 => ⟨S16x16384, .bf16⟩
  | 99 => ⟨S16x16384, .f32⟩
  | 100 => ⟨S16x16384, .f32⟩
  | 101 => ⟨S16x16384, .bf16⟩
  | 102 => ⟨S16x16384, .f32⟩
  | 103 => ⟨S16x16384, .f32⟩
  | 104 => ⟨S16x16384, .bf16⟩
  | 105 => ⟨S16x16384x1, .bf16⟩
  | 106 => ⟨S16x16384x1, .bf16⟩
  | 107 => ⟨S16x16384x1, .bf16⟩
  | 108 => ⟨S16x16384x64, .bf16⟩
  | 109 => ⟨S_, .bf16⟩
  | 110 => ⟨S16x16384x61, .bf16⟩
  | 111 => ⟨S16x16384x128, .bf16⟩
  | 112 => ⟨S16x32x512x128, .bf16⟩
  | 113 => ⟨S16x32x512x128, .bf16⟩
  | 114 => ⟨S16x32x512x128, .bf16⟩
  | 115 => ⟨S16x32x512x128, .bf16⟩
  | 116 => ⟨S16x16384x128, .bf16⟩
  | 117 => ⟨S16x16384x128, .bf16⟩
  | 118 => ⟨S16x16384x128, .f32⟩
  | 119 => ⟨S16x16384x128, .f32⟩
  | 120 => ⟨S16x16384x128, .bf16⟩
  | 121 => ⟨S16x16384x64, .f32⟩
  | 122 => ⟨S_, .f32⟩
  | 123 => ⟨S16x16384x64, .f32⟩
  | 124 => ⟨S16x16384x64, .f32⟩
  | 125 => ⟨S16x16384x64, .f32⟩
  | 126 => ⟨S16x16384x64, .bf16⟩
  | 127 => ⟨S16x16384x64, .f32⟩
  | _ => ⟨S16x16384x64, .f32⟩

abbrev hbmTy0_1 (i : Nat) : BufTy := match i % 128 with
  | 0 => ⟨S16x16384x1, .f32⟩
  | 1 => ⟨S16x16384, .f32⟩
  | 2 => ⟨S16x16384x1, .f32⟩
  | 3 => ⟨S16x16384, .f32⟩
  | 4 => ⟨S16x16384, .f32⟩
  | _ => ⟨S16x16384x64, .f32⟩

abbrev hbmTy (i : Nat) : BufTy := match i / 128 with
  | 0 => hbmTy0_0 i
  | 1 => hbmTy0_1 i
  | _ => ⟨S16x16384x64, .f32⟩

abbrev bufTy : (tb : Table) → Fin (tcTables nBuf tb) → BufTy
  | .hbm, ⟨i, _⟩ => hbmTy i
  | .local _ .vmem, ⟨0, _⟩ => ⟨S1x16384x128, .bf16⟩
  | .local _ .vmem, ⟨1, _⟩ => ⟨S1x16384x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x1x512x128, .bf16⟩
  | .local _ .vmem, ⟨5, _⟩ => ⟨S1x1x512x128, .bf16⟩
  | .local _ .vmem, ⟨6, _⟩ => ⟨S1x1x512x128, .bf16⟩
  | .local _ .vmem, ⟨7, _⟩ => ⟨S1x1x512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .bf16⟩
  | .local _ .vmem, ⟨11, _⟩ => ⟨S1x512x128, .bf16⟩
  | .local _ .vmem, ⟨12, _⟩ => ⟨S16384x128, .f32⟩
  | .local _ .vmem, ⟨13, _⟩ => ⟨S128x512, .f32⟩
  | .local _ .vmem, ⟨14, _⟩ => ⟨S128x512, .f32⟩
  | _, _ => ⟨S16x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_8 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_9 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99_0 : Ref sig .tc := ⟨.hbm, 118, rfl⟩
abbrev main_v99_1 : Ref sig .tc := ⟨.hbm, 119, rfl⟩
abbrev main_v99_2 : Ref sig .tc := ⟨.hbm, 120, rfl⟩
abbrev main_v100 : Ref sig .tc := ⟨.hbm, 121, rfl⟩
abbrev main_cst_10 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c3_i32 : BitVec 32 := 3#32
  let v16 : BitVec 32 := Scalar.andi arg1 c3_i32
  let c0_i32_13 : BitVec 32 := 0#32
  let v17 : BitVec 1 := Scalar.cmpi .eq v16 c0_i32_13
  let v18 : BitVec 32 := Scalar.extui v17
  let c0_i32_14 : BitVec 32 := 0#32
  let v19 : BitVec 1 := Scalar.cmpi .ne v18 c0_i32_14
  v19

def k0_mult1 (i : grid0.Coords) : BitVec 32 :=
  let arg1 : BitVec 32 := BitVec.ofNat 32 (i 1).val
  let c512_i32 : BitVec 32 := 512#32
  let v52 : BitVec 32 := Scalar.muli arg1 c512_i32
  v52
def k0_off1 (i : grid0.Coords) : Fin 3 → Nat :=
  let c0_39 : Index := 0#32
  let arg1 : BitVec 32 := BitVec.ofNat 32 (i 1).val
  let c512_i32 : BitVec 32 := 512#32
  let v52 : BitVec 32 := Scalar.muli arg1 c512_i32
  let v53 : BitVec 32 := v52
  let v54 : Index := Scalar.indexCast v53
  let c0_40 : Index := 0#32
  ![0, v54.toNat, 0]
def k0_off2 (i : grid0.Coords) : Fin 2 → Nat :=
  let arg1 : BitVec 32 := BitVec.ofNat 32 (i 1).val
  let c512_i32 : BitVec 32 := 512#32
  let v52 : BitVec 32 := Scalar.muli arg1 c512_i32
  let v53 : BitVec 32 := v52
  let v71 : Index := Scalar.indexCast v53
  let c0_46 : Index := 0#32
  ![v71.toNat, 0]
def k0_cond3 (i : grid0.Coords) : BitVec 1 :=
  let arg1 : BitVec 32 := BitVec.ofNat 32 (i 1).val
  let c3_i32_15 : BitVec 32 := 3#32
  let v20 : BitVec 32 := Scalar.andi arg1 c3_i32_15
  let c1_i32 : BitVec 32 := 1#32
  let v21 : BitVec 1 := Scalar.cmpi .eq v20 c1_i32
  let v22 : BitVec 32 := Scalar.extui v21
  let c0_i32_16 : BitVec 32 := 0#32
  let v23 : BitVec 1 := Scalar.cmpi .ne v22 c0_i32_16
  v23

def k0_mult2 (i : grid0.Coords) : BitVec 32 :=
  let arg1 : BitVec 32 := BitVec.ofNat 32 (i 1).val
  let c512_i32 : BitVec 32 := 512#32
  let v52 : BitVec 32 := Scalar.muli arg1 c512_i32
  v52
def k0_off3 (i : grid0.Coords) : Fin 3 → Nat :=
  let c0_39 : Index := 0#32
  let arg1 : BitVec 32 := BitVec.ofNat 32 (i 1).val
  let c512_i32 : BitVec 32 := 512#32
  let v52 : BitVec 32 := Scalar.muli arg1 c512_i32
  let v53 : BitVec 32 := v52
  let v54 : Index := Scalar.indexCast v53
  let c0_40 : Index := 0#32
  ![0, v54.toNat, 0]
def k0_off4 (i : grid0.Coords) : Fin 2 → Nat :=
  let arg1 : BitVec 32 := BitVec.ofNat 32 (i 1).val
  let c512_i32 : BitVec 32 := 512#32
  let v52 : BitVec 32 := Scalar.muli arg1 c512_i32
  let v53 : BitVec 32 := v52
  let v71 : Index := Scalar.indexCast v53
  let c0_46 : Index := 0#32
  ![v71.toNat, 0]
def k0_cond4 (i : grid0.Coords) : BitVec 1 :=
  let arg1 : BitVec 32 := BitVec.ofNat 32 (i 1).val
  let c3_i32_17 : BitVec 32 := 3#32
  let v24 : BitVec 32 := Scalar.andi arg1 c3_i32_17
  let c2_i32_18 : BitVec 32 := 2#32
  let v25 : BitVec 1 := Scalar.cmpi .eq v24 c2_i32_18
  let v26 : BitVec 32 := Scalar.extui v25
  let c0_i32_19 : BitVec 32 := 0#32
  let v27 : BitVec 1 := Scalar.cmpi .ne v26 c0_i32_19
  v27

def k0_mult3 (i : grid0.Coords) : BitVec 32 :=
  let arg1 : BitVec 32 := BitVec.ofNat 32 (i 1).val
  let c512_i32 : BitVec 32 := 512#32
  let v52 : BitVec 32 := Scalar.muli arg1 c512_i32
  v52
def k0_off5 (i : grid0.Coords) : Fin 3 → Nat :=
  let c0_39 : Index := 0#32
  let arg1 : BitVec 32 := BitVec.ofNat 32 (i 1).val
  let c512_i32 : BitVec 32 := 512#32
  let v52 : BitVec 32 := Scalar.muli arg1 c512_i32
  let v53 : BitVec 32 := v52
  let v54 : Index := Scalar.indexCast v53
  let c0_40 : Index := 0#32
  ![0, v54.toNat, 0]
def k0_off6 (i : grid0.Coords) : Fin 2 → Nat :=
  let arg1 : BitVec 32 := BitVec.ofNat 32 (i 1).val
  let c512_i32 : BitVec 32 := 512#32
  let v52 : BitVec 32 := Scalar.muli arg1 c512_i32
  let v53 : BitVec 32 := v52
  let v71 : Index := Scalar.indexCast v53
  let c0_46 : Index := 0#32
  ![v71.toNat, 0]
def k0_cond5 (i : grid0.Coords) : BitVec 1 :=
  let arg1 : BitVec 32 := BitVec.ofNat 32 (i 1).val
  let c3_i32_20 : BitVec 32 := 3#32
  let v28 : BitVec 32 := Scalar.andi arg1 c3_i32_20
  let c3_i32_21 : BitVec 32 := 3#32
  let v29 : BitVec 1 := Scalar.cmpi .eq v28 c3_i32_21
  let v30 : BitVec 32 := Scalar.extui v29
  let c0_i32_22 : BitVec 32 := 0#32
  let v31 : BitVec 1 := Scalar.cmpi .ne v30 c0_i32_22
  v31

def k0_mult4 (i : grid0.Coords) : BitVec 32 :=
  let arg1 : BitVec 32 := BitVec.ofNat 32 (i 1).val
  let c512_i32 : BitVec 32 := 512#32
  let v52 : BitVec 32 := Scalar.muli arg1 c512_i32
  v52
def k0_off7 (i : grid0.Coords) : Fin 3 → Nat :=
  let c0_39 : Index := 0#32
  let arg1 : BitVec 32 := BitVec.ofNat 32 (i 1).val
  let c512_i32 : BitVec 32 := 512#32
  let v52 : BitVec 32 := Scalar.muli arg1 c512_i32
  let v53 : BitVec 32 := v52
  let v54 : Index := Scalar.indexCast v53
  let c0_40 : Index := 0#32
  ![0, v54.toNat, 0]
def k0_off8 (i : grid0.Coords) : Fin 2 → Nat :=
  let arg1 : BitVec 32 := BitVec.ofNat 32 (i 1).val
  let c512_i32 : BitVec 32 := 512#32
  let v52 : BitVec 32 := Scalar.muli arg1 c512_i32
  let v53 : BitVec 32 := v52
  let v71 : Index := Scalar.indexCast v53
  let c0_46 : Index := 0#32
  ![v71.toNat, 0]
@[reducible] def k0_t1_loop (i : grid0.Coords) : Scf.Loop 32 :=
  let arg1 : BitVec 32 := BitVec.ofNat 32 (i 1).val
  let c2_i32 : BitVec 32 := 2#32
  let v15 : BitVec 32 := Scalar.shrui arg1 c2_i32
  let c1_i32_23 : BitVec 32 := 1#32
  let v32 : BitVec 32 := Scalar.addi v15 c1_i32_23
  let c8_i32 : BitVec 32 := 8#32
  let v33 : BitVec 32 := Scalar.subi c8_i32 v32
  let c1_i32_25 : BitVec 32 := 1#32
  let v35 : BitVec 32 := Scalar.divsi v33 c1_i32_25
  let v36 : BitVec 32 := Scalar.muli v35 c1_i32_25
  let v37 : BitVec 32 := Scalar.addi v32 v36
  let c1_i32_26 : BitVec 32 := 1#32
  ⟨v32, v37, c1_i32_26⟩
def k0_mult5 (i : grid0.Coords) (k0_t1 : Fin (k0_t1_loop i).trips) : BitVec 32 :=
  let arg1 : BitVec 32 := BitVec.ofNat 32 (i 1).val
  let c2_i32 : BitVec 32 := 2#32
  let v15 : BitVec 32 := Scalar.shrui arg1 c2_i32
  let c1_i32_23 : BitVec 32 := 1#32
  let v32 : BitVec 32 := Scalar.addi v15 c1_i32_23
  let c1_i32_26 : BitVec 32 := 1#32
  let arg13 : BitVec 32 := Scf.iv v32 c1_i32_26 k0_t1
  let c4_i32 : BitVec 32 := 4#32
  let v52 : BitVec 32 := Scalar.muli arg13 c4_i32
  let c512_i32 : BitVec 32 := 512#32
  let v53 : BitVec 32 := Scalar.muli v52 c512_i32
  v53
def k0_off9 (i : grid0.Coords) (k0_t1 : Fin (k0_t1_loop i).trips) : Fin 3 → Nat :=
  let c0_39 : Index := 0#32
  let arg1 : BitVec 32 := BitVec.ofNat 32 (i 1).val
  let c2_i32 : BitVec 32 := 2#32
  let v15 : BitVec 32 := Scalar.shrui arg1 c2_i32
  let c1_i32_23 : BitVec 32 := 1#32
  let v32 : BitVec 32 := Scalar.addi v15 c1_i32_23
  let c1_i32_26 : BitVec 32 := 1#32
  let arg13 : BitVec 32 := Scf.iv v32 c1_i32_26 k0_t1
  let c4_i32 : BitVec 32 := 4#32
  let v52 : BitVec 32 := Scalar.muli arg13 c4_i32
  let c512_i32 : BitVec 32 := 512#32
  let v53 : BitVec 32 := Scalar.muli v52 c512_i32
  let v54 : BitVec 32 := v53
  let v55 : Index := Scalar.indexCast v54
  let c0_40 : Index := 0#32
  ![0, v55.toNat, 0]
def k0_off10 (i : grid0.Coords) (k0_t1 : Fin (k0_t1_loop i).trips) : Fin 2 → Nat :=
  let arg1 : BitVec 32 := BitVec.ofNat 32 (i 1).val
  let c2_i32 : BitVec 32 := 2#32
  let v15 : BitVec 32 := Scalar.shrui arg1 c2_i32
  let c1_i32_23 : BitVec 32 := 1#32
  let v32 : BitVec 32 := Scalar.addi v15 c1_i32_23
  let c1_i32_26 : BitVec 32 := 1#32
  let arg13 : BitVec 32 := Scf.iv v32 c1_i32_26 k0_t1
  let c4_i32 : BitVec 32 := 4#32
  let v52 : BitVec 32 := Scalar.muli arg13 c4_i32
  let c512_i32 : BitVec 32 := 512#32
  let v53 : BitVec 32 := Scalar.muli v52 c512_i32
  let v54 : BitVec 32 := v53
  let v67 : Index := Scalar.indexCast v54
  let c0_45 : Index := 0#32
  ![v67.toNat, 0]
@[reducible] def k0_t2_loop (i : grid0.Coords) : Scf.Loop 32 :=
  let arg1 : BitVec 32 := BitVec.ofNat 32 (i 1).val
  let c2_i32 : BitVec 32 := 2#32
  let v15 : BitVec 32 := Scalar.shrui arg1 c2_i32
  let c1_i32_23 : BitVec 32 := 1#32
  let v32 : BitVec 32 := Scalar.addi v15 c1_i32_23
  let c8_i32 : BitVec 32 := 8#32
  let v33 : BitVec 32 := Scalar.subi c8_i32 v32
  let c1_i32_25 : BitVec 32 := 1#32
  let v35 : BitVec 32 := Scalar.divsi v33 c1_i32_25
  let v36 : BitVec 32 := Scalar.muli v35 c1_i32_25
  let v37 : BitVec 32 := Scalar.addi v32 v36
  let v34 : BitVec 32 := Scalar.addi v32 v33
  let c1_i32_27 : BitVec 32 := 1#32
  ⟨v37, v34, c1_i32_27⟩
def k0_mult6 (i : grid0.Coords) (k0_t2 : Fin (k0_t2_loop i).trips) : BitVec 32 :=
  let arg1 : BitVec 32 := BitVec.ofNat 32 (i 1).val
  let c2_i32 : BitVec 32 := 2#32
  let v15 : BitVec 32 := Scalar.shrui arg1 c2_i32
  let c1_i32_23 : BitVec 32 := 1#32
  let v32 : BitVec 32 := Scalar.addi v15 c1_i32_23
  let c8_i32 : BitVec 32 := 8#32
  let v33 : BitVec 32 := Scalar.subi c8_i32 v32
  let c1_i32_25 : BitVec 32 := 1#32
  let v35 : BitVec 32 := Scalar.divsi v33 c1_i32_25
  let v36 : BitVec 32 := Scalar.muli v35 c1_i32_25
  let v37 : BitVec 32 := Scalar.addi v32 v36
  let c1_i32_27 : BitVec 32 := 1#32
  let arg13 : BitVec 32 := Scf.iv v37 c1_i32_27 k0_t2
  let c4_i32 : BitVec 32 := 4#32
  let v52 : BitVec 32 := Scalar.muli arg13 c4_i32
  let c512_i32 : BitVec 32 := 512#32
  let v53 : BitVec 32 := Scalar.muli v52 c512_i32
  v53
def k0_off11 (i : grid0.Coords) (k0_t2 : Fin (k0_t2_loop i).trips) : Fin 3 → Nat :=
  let c0_39 : Index := 0#32
  let arg1 : BitVec 32 := BitVec.ofNat 32 (i 1).val
  let c2_i32 : BitVec 32 := 2#32
  let v15 : BitVec 32 := Scalar.shrui arg1 c2_i32
  let c1_i32_23 : BitVec 32 := 1#32
  let v32 : BitVec 32 := Scalar.addi v15 c1_i32_23
  let c8_i32 : BitVec 32 := 8#32
  let v33 : BitVec 32 := Scalar.subi c8_i32 v32
  let c1_i32_25 : BitVec 32 := 1#32
  let v35 : BitVec 32 := Scalar.divsi v33 c1_i32_25
  let v36 : BitVec 32 := Scalar.muli v35 c1_i32_25
  let v37 : BitVec 32 := Scalar.addi v32 v36
  let c1_i32_27 : BitVec 32 := 1#32
  let arg13 : BitVec 32 := Scf.iv v37 c1_i32_27 k0_t2
  let c4_i32 : BitVec 32 := 4#32
  let v52 : BitVec 32 := Scalar.muli arg13 c4_i32
  let c512_i32 : BitVec 32 := 512#32
  let v53 : BitVec 32 := Scalar.muli v52 c512_i32
  let v54 : BitVec 32 := v53
  let v55 : Index := Scalar.indexCast v54
  let c0_40 : Index := 0#32
  ![0, v55.toNat, 0]
def k0_off12 (i : grid0.Coords) (k0_t2 : Fin (k0_t2_loop i).trips) : Fin 2 → Nat :=
  let arg1 : BitVec 32 := BitVec.ofNat 32 (i 1).val
  let c2_i32 : BitVec 32 := 2#32
  let v15 : BitVec 32 := Scalar.shrui arg1 c2_i32
  let c1_i32_23 : BitVec 32 := 1#32
  let v32 : BitVec 32 := Scalar.addi v15 c1_i32_23
  let c8_i32 : BitVec 32 := 8#32
  let v33 : BitVec 32 := Scalar.subi c8_i32 v32
  let c1_i32_25 : BitVec 32 := 1#32
  let v35 : BitVec 32 := Scalar.divsi v33 c1_i32_25
  let v36 : BitVec 32 := Scalar.muli v35 c1_i32_25
  let v37 : BitVec 32 := Scalar.addi v32 v36
  let c1_i32_27 : BitVec 32 := 1#32
  let arg13 : BitVec 32 := Scf.iv v37 c1_i32_27 k0_t2
  let c4_i32 : BitVec 32 := 4#32
  let v52 : BitVec 32 := Scalar.muli arg13 c4_i32
  let c512_i32 : BitVec 32 := 512#32
  let v53 : BitVec 32 := Scalar.muli v52 c512_i32
  let v54 : BitVec 32 := v53
  let v67 : Index := Scalar.indexCast v54
  let c0_45 : Index := 0#32
  ![v67.toNat, 0]
def k0_cond6 (i : grid0.Coords) : BitVec 1 :=
  let arg1 : BitVec 32 := BitVec.ofNat 32 (i 1).val
  let c31_i32 : BitVec 32 := 31#32
  let v49 : BitVec 1 := Scalar.cmpi .eq arg1 c31_i32
  let v50 : BitVec 32 := Scalar.extui v49
  let c0_i32_38 : BitVec 32 := 0#32
  let v51 : BitVec 1 := Scalar.cmpi .ne v50 c0_i32_38
  v51

def k0_off13 (i : grid0.Coords) : Fin 3 → Nat :=
  let arg0 : BitVec 32 := BitVec.ofNat 32 (i 0).val
  let c0_i32_39 : BitVec 32 := 0#32
  let c0_i32_40 : BitVec 32 := 0#32
  ![arg0.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x16384x64 : Shape := ⟨3, ![16, 16384, 64]⟩
abbrev S16x16384 : Shape := ⟨2, ![16, 16384]⟩
abbrev S16384 : Shape := ⟨1, ![16384]⟩
abbrev S16x16384x16384 : Shape := ⟨3, ![16, 16384, 16384]⟩
abbrev S_ : Shape := ⟨0, ![]⟩
abbrev S16x16384x1 : Shape := ⟨3, ![16, 16384, 1]⟩
abbrev S16x1x16384 : Shape := ⟨3, ![16, 1, 16384]⟩
abbrev S1x16384 : Shape := ⟨2, ![1, 16384]⟩
abbrev S16384x1 : Shape := ⟨2, ![16384, 1]⟩
abbrev S16384x16384 : Shape := ⟨2, ![16384, 16384]⟩
abbrev S16x64x16384 : Shape := ⟨3, ![16, 64, 16384]⟩

abbrev nBuf : Space → Nat
  | .hbm => 87
  | .vmem => 0
  | .smem => 0
  | _ => 0

abbrev bufTy : (tb : Table) → Fin (tcTables nBuf tb) → BufTy
  | .hbm, ⟨0, _⟩ => ⟨S16x16384x64, .f32⟩
  | .hbm, ⟨1, _⟩ => ⟨S16x16384x64, .f32⟩
  | .hbm, ⟨2, _⟩ => ⟨S16x16384x64, .f32⟩
  | .hbm, ⟨3, _⟩ => ⟨S16x16384, .f32⟩
  | .hbm, ⟨4, _⟩ => ⟨S16x16384x64, .f32⟩
  | .hbm, ⟨5, _⟩ => ⟨S16384, .i32⟩
  | .hbm, ⟨6, _⟩ => ⟨S16x16384x16384, .f32⟩
  | .hbm, ⟨7, _⟩ => ⟨S_, .f32⟩
  | .hbm, ⟨8, _⟩ => ⟨S16x16384x16384, .f32⟩
  | .hbm, ⟨9, _⟩ => ⟨S16x16384x16384, .f32⟩
  | .hbm, ⟨10, _⟩ => ⟨S16x16384x1, .f32⟩
  | .hbm, ⟨11, _⟩ => ⟨S16x16384x16384, .f32⟩
  | .hbm, ⟨12, _⟩ => ⟨S16x16384x16384, .f32⟩
  | .hbm, ⟨13, _⟩ => ⟨S16x1x16384, .f32⟩
  | .hbm, ⟨14, _⟩ => ⟨S16x16384x16384, .f32⟩
  | .hbm, ⟨15, _⟩ => ⟨S16x16384x16384, .f32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S16x16384x16384, .i1⟩
  | .hbm, ⟨24, _⟩ => ⟨S16x16384x16384, .f32⟩
  | .hbm, ⟨25, _⟩ => ⟨S16x16384x16384, .f32⟩
  | .hbm, ⟨26, _⟩ => ⟨S_, .f32⟩
  | .hbm, ⟨27, _⟩ => ⟨S16x16384x16384, .f32⟩
  | .hbm, ⟨28, _⟩ => ⟨S_, .f32⟩
  | .hbm, ⟨29, _⟩ => ⟨S16x16384, .f32⟩
  | .hbm, ⟨30, _⟩ => ⟨S16x16384x1, .f32⟩
  | .hbm, ⟨31, _⟩ => ⟨S16x16384x16384, .f32⟩
  | .hbm, ⟨32, _⟩ => ⟨S16x16384x16384, .i1⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S16x16384x16384, .f32⟩
  | .hbm, ⟨40, _⟩ => ⟨S_, .f32⟩
  | .hbm, ⟨41, _⟩ => ⟨S16x16384, .f32⟩
  | .hbm, ⟨42, _⟩ => ⟨S16x16384x1, .f32⟩
  | .hbm, ⟨43, _⟩ => ⟨S16x16384x16384, .f32⟩
  | .hbm, ⟨44, _⟩ => ⟨S16x16384x16384, .f32⟩
  | .hbm, ⟨45, _⟩ => ⟨S16x16384x1, .f32⟩
  | .hbm, ⟨46, _⟩ => ⟨S_, .f32⟩
  | .hbm, ⟨47, _⟩ => ⟨S16x16384x1, .f32⟩
  | .hbm, ⟨48, _⟩ => ⟨S16x16384x1, .f32⟩
  | .hbm, ⟨49, _⟩ => ⟨S16x16384x64, .f32⟩
  | .hbm, ⟨50, _⟩ => ⟨S16x64x16384, .f32⟩
  | .hbm, ⟨51, _⟩ => ⟨S16x16384x64, .f32⟩
  | .hbm, ⟨52, _⟩ => ⟨S16x16384x16384, .f32⟩
  | .hbm, ⟨53, _⟩ => ⟨S16x16384x16384, .f32⟩
  | .hbm, ⟨54, _⟩ => ⟨S16x16384x16384, .f32⟩
  | .hbm, ⟨55, _⟩ => ⟨S16x16384x16384, .f32⟩
  | .hbm, ⟨56, _⟩ => ⟨S_, .f32⟩
  | .hbm, ⟨57, _⟩ => ⟨S16x16384, .f32⟩
  | .hbm, ⟨58, _⟩ => ⟨S16x16384x1, .f32⟩
  | .hbm, ⟨59, _⟩ => ⟨S16x16384x1, .f32⟩
  | .hbm, ⟨60, _⟩ => ⟨S16x16384x16384, .f32⟩
  | .hbm, ⟨61, _⟩ => ⟨S16x16384x16384, .f32⟩
  | .hbm, ⟨62, _⟩ => ⟨S_, .f32⟩
  | .hbm, ⟨63, _⟩ => ⟨S16x16384, .f32⟩
  | .hbm, ⟨64, _⟩ => ⟨S16x16384x16384, .f32⟩
  | .hbm, ⟨65, _⟩ => ⟨S16x16384x16384, .f32⟩
  | .hbm, ⟨66, _⟩ => ⟨S16x16384x16384, .f32⟩
  | .hbm, ⟨67, _⟩ => ⟨S_, .f32⟩
  | .hbm, ⟨68, _⟩ => ⟨S16x16384x16384, .f32⟩
  | .hbm, ⟨69, _⟩ => ⟨S16x16384x16384, .f32⟩
  | .hbm, ⟨70, _⟩ => ⟨S16x16384x16384, .f32⟩
  | .hbm, ⟨71, _⟩ => ⟨S_, .f32⟩
  | .hbm, ⟨72, _⟩ => ⟨S16x16384, .f32⟩
  | .hbm, ⟨73, _⟩ => ⟨S16x1x16384, .f32⟩
  | .hbm, ⟨74, _⟩ => ⟨S_, .f32⟩
  | .hbm, ⟨75, _⟩ => ⟨S16x16384, .f32⟩
  | .hbm, ⟨76, _⟩ => ⟨S_, .f32⟩
  | .hbm, ⟨77, _⟩ => ⟨S16x16384, .f32⟩
  | .hbm, ⟨78, _⟩ => ⟨S16x16384x1, .f32⟩
  | .hbm, ⟨79, _⟩ => ⟨S_, .f32⟩
  | .hbm, ⟨80, _⟩ => ⟨S16x16384, .f32⟩
  | .hbm, ⟨81, _⟩ => ⟨S16x16384, .f32⟩
  | .hbm, ⟨82, _⟩ => ⟨S_, .f32⟩
  | .hbm, ⟨83, _⟩ => ⟨S16x16384x16384, .f32⟩
  | .hbm, ⟨84, _⟩ => ⟨S16x16384x16384, .f32⟩
  | .hbm, ⟨85, _⟩ => ⟨S16x16384x64, .f32⟩
  | .hbm, ⟨86, _⟩ => ⟨S16x16384x64, .f32⟩
  | _, _ => ⟨S16x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Kernel2.lean ====
abbrev S16x16384x64 : Shape := ⟨3, ![16, 16384, 64]⟩
abbrev S16x16384 : Shape := ⟨2, ![16, 16384]⟩
abbrev S1x64 : Shape := ⟨2, ![1, 64]⟩
abbrev S_ : Shape := ⟨0, ![]⟩
abbrev S1x1 : Shape := ⟨2, ![1, 1]⟩
abbrev S16x16384x1 : Shape := ⟨3, ![16, 16384, 1]⟩
abbrev S16x16384x58 : Shape := ⟨3, ![16, 16384, 58]⟩
abbrev S16x16384x128 : Shape := ⟨3, ![16, 16384, 128]⟩
abbrev S16x16384x61 : Shape := ⟨3, ![16, 16384, 61]⟩
abbrev S16x16384x80 : Shape := ⟨3, ![16, 16384, 80]⟩
abbrev S16x4x4096x80 : Shape := ⟨4, ![16, 4, 4096, 80]⟩
abbrev S16x4x80x4096 : Shape := ⟨4, ![16, 4, 80, 4096]⟩
abbrev S16x32x512x128 : Shape := ⟨4, ![16, 32, 512, 128]⟩
abbrev S1x1x512x128 : Shape := ⟨4, ![1, 1, 512, 128]⟩
abbrev S1x16384x128 : Shape := ⟨3, ![1, 16384, 128]⟩
abbrev S1x4x80x4096 : Shape := ⟨4, ![1, 4, 80, 4096]⟩
abbrev S1x512 : Shape := ⟨2, ![1, 512]⟩
abbrev S128x512 : Shape := ⟨2, ![128, 512]⟩
abbrev S512x128 : Shape := ⟨2, ![512, 128]⟩
abbrev S1x1x80x4096 : Shape := ⟨4, ![1, 1, 80, 4096]⟩
abbrev S80x4096 : Shape := ⟨2, ![80, 4096]⟩
abbrev S1x4096x128 : Shape := ⟨3, ![1, 4096, 128]⟩
abbrev S4096x128 : Shape := ⟨2, ![4096, 128]⟩
abbrev S4096x512 : Shape := ⟨2, ![4096, 512]⟩
abbrev S80x512 : Shape := ⟨2, ![80, 512]⟩
abbrev S1x1x80x512 : Shape := ⟨4, ![1, 1, 80, 512]⟩
abbrev S1x512x128 : Shape := ⟨3, ![1, 512, 128]⟩
abbrev S512x512 : Shape := ⟨2, ![512, 512]⟩
abbrev S1x1x80x1024 : Shape := ⟨4, ![1, 1, 80, 1024]⟩
abbrev S80x1024 : Shape := ⟨2, ![80, 1024]⟩
abbrev S1x1024x128 : Shape := ⟨3, ![1, 1024, 128]⟩
abbrev S1024x128 : Shape := ⟨2, ![1024, 128]⟩
abbrev S1024x512 : Shape := ⟨2, ![1024, 512]⟩
abbrev S1x1x80x1536 : Shape := ⟨4, ![1, 1, 80, 1536]⟩
abbrev S80x1536 : Shape := ⟨2, ![80, 1536]⟩
abbrev S1x1536x128 : Shape := ⟨3, ![1, 1536, 128]⟩
abbrev S1536x128 : Shape := ⟨2, ![1536, 128]⟩
abbrev S1536x512 : Shape := ⟨2, ![1536, 512]⟩
abbrev S1x1x80x2048 : Shape := ⟨4, ![1, 1, 80, 2048]⟩
abbrev S80x2048 : Shape := ⟨2, ![80, 2048]⟩
abbrev S1x2048x128 : Shape := ⟨3, ![1, 2048, 128]⟩
abbrev S2048x128 : Shape := ⟨2, ![2048, 128]⟩
abbrev S2048x512 : Shape := ⟨2, ![2048, 512]⟩
abbrev S1x1x80x2560 : Shape := ⟨4, ![1, 1, 80, 2560]⟩
abbrev S80x2560 : Shape := ⟨2, ![80, 2560]⟩
abbrev S1x2560x128 : Shape := ⟨3, ![1, 2560, 128]⟩
abbrev S2560x128 : Shape := ⟨2, ![2560, 128]⟩
abbrev S2560x512 : Shape := ⟨2, ![2560, 512]⟩
abbrev S1x1x80x3072 : Shape := ⟨4, ![1, 1, 80, 3072]⟩
abbrev S80x3072 : Shape := ⟨2, ![80, 3072]⟩
abbrev S1x3072x128 : Shape := ⟨3, ![1, 3072, 128]⟩
abbrev S3072x128 : Shape := ⟨2, ![3072, 128]⟩
abbrev S3072x512 : Shape := ⟨2, ![3072, 512]⟩
abbrev S1x1x80x3584 : Shape := ⟨4, ![1, 1, 80, 3584]⟩
abbrev S80x3584 : Shape := ⟨2, ![80, 3584]⟩
abbrev S1x3584x128 : Shape := ⟨3, ![1, 3584, 128]⟩
abbrev S3584x128 : Shape := ⟨2, ![3584, 128]⟩
abbrev S3584x512 : Shape := ⟨2, ![3584, 512]⟩
abbrev S512 : Shape := ⟨1, ![512]⟩
abbrev S512x1 : Shape := ⟨2, ![512, 1]⟩
abbrev S16x16384x3 : Shape := ⟨3, ![16, 16384, 3]⟩

abbrev nBuf : Space → Nat
  | .hbm => 93
  | .vmem => 12
  | .smem => 1
  | _ => 0

abbrev bufTy : (tb : Table) → Fin (tcTables nBuf tb) → BufTy
  | .hbm, ⟨0, _⟩ => ⟨S16x16384x64, .f32⟩
  | .hbm, ⟨1, _⟩ => ⟨S16x16384x64, .f32⟩
  | .hbm, ⟨2, _⟩ => ⟨S16x16384x64, .f32⟩
  | .hbm, ⟨3, _⟩ => ⟨S16x16384, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S16x16384, .f32⟩
  | .hbm, ⟨23, _⟩ => ⟨S_, .f32⟩
  | .hbm, ⟨24, _⟩ => ⟨S16x16384x64, .f32⟩
  | .hbm, ⟨25, _⟩ => ⟨S16x16384x64, .f32⟩
  | .hbm, ⟨26, _⟩ => ⟨S16x16384, .f32⟩
  | .hbm, ⟨27, _⟩ => ⟨S16x16384, .f32⟩
  | .hbm, ⟨28, _⟩ => ⟨S16x16384, .bf16⟩
  | .hbm, ⟨29, _⟩ => ⟨S16x16384, .f32⟩
  | .hbm, ⟨30, _⟩ => ⟨S16x16384, .f32⟩
  | .hbm, ⟨31, _⟩ => ⟨S16x16384, .bf16⟩
  | .hbm, ⟨32, _⟩ => ⟨S16x16384, .f32⟩
  | .hbm, ⟨33, _⟩ => ⟨S16x16384, .f32⟩
  | .hbm, ⟨34, _⟩ => ⟨S16x16384, .bf16⟩
  | .hbm, ⟨35, _⟩ => ⟨S16x16384, .bf16⟩
  | .hbm, ⟨36, _⟩ => ⟨S16x16384x1, .bf16⟩
  | .hbm, ⟨37, _⟩ => ⟨S16x16384, .bf16⟩
  | .hbm, ⟨38, _⟩ => ⟨S16x16384x1, .bf16⟩
  | .hbm, ⟨39, _⟩ => ⟨S16x16384, .bf16⟩
  | .hbm, ⟨40, _⟩ => ⟨S16x16384x1, .bf16⟩
  | .hbm, ⟨41, _⟩ => ⟨S16x16384x1, .bf16⟩
  | .hbm, ⟨42, _⟩ => ⟨S16x16384x1, .bf16⟩
  | .hbm, ⟨43, _⟩ => ⟨S16x16384x1, .bf16⟩
  | .hbm, ⟨44, _⟩ => ⟨S16x16384x64, .bf16⟩
  | .hbm, ⟨45, _⟩ => ⟨S_, .bf16⟩
  | .hbm, ⟨46, _⟩ => ⟨S16x16384x58, .bf16⟩
  | .hbm, ⟨47, _⟩ => ⟨S16x16384x128, .bf16⟩
  | .hbm, ⟨48, _⟩ => ⟨S16x16384, .f32⟩
  | .hbm, ⟨49, _⟩ => ⟨S16x16384, .bf16⟩
  | .hbm, ⟨50, _⟩ => ⟨S16x16384, .f32⟩
  | .hbm, ⟨51, _⟩ => ⟨S16x16384, .f32⟩
  | .hbm, ⟨52, _⟩ => ⟨S16x16384, .bf16⟩
  | .hbm, ⟨53, _⟩ => ⟨S16x16384, .f32⟩
  | .hbm, ⟨54, _⟩ => ⟨S16x16384, .f32⟩
  | .hbm, ⟨55, _⟩ => ⟨S16x16384, .bf16⟩
  | .hbm, ⟨56, _⟩ => ⟨S16x16384x1, .bf16⟩
  | .hbm, ⟨57, _⟩ => ⟨S16x16384x1, .bf16⟩
  | .hbm, ⟨58, _⟩ => ⟨S16x16384x1, .bf16⟩
  | .hbm, ⟨59, _⟩ => ⟨S16x16384, .bf16⟩
  | .hbm, ⟨60, _⟩ => ⟨S16x16384x1, .bf16⟩
  | .hbm, ⟨61, _⟩ => ⟨S16x16384, .bf16⟩
  | .hbm, ⟨62, _⟩ => ⟨S16x16384x1, .bf16⟩
  | .hbm, ⟨63, _⟩ => ⟨S16x16384, .bf16⟩
  | .hbm, ⟨64, _⟩ => ⟨S16x16384x1, .bf16⟩
  | .hbm, ⟨65, _⟩ => ⟨S16x16384x64, .bf16⟩
  | .hbm, ⟨66, _⟩ => ⟨S_, .bf16⟩
  | .hbm, ⟨67, _⟩ => ⟨S16x16384x58, .bf16⟩
  | .hbm, ⟨68, _⟩ => ⟨S16x16384x128, .bf16⟩
  | .hbm, ⟨69, _⟩ => ⟨S16x16384, .bf16⟩
  | .hbm, ⟨70, _⟩ => ⟨S16x16384x1, .bf16⟩
  | .hbm, ⟨71, _⟩ => ⟨S16x16384, .bf16⟩
  | .hbm, ⟨72, _⟩ => ⟨S16x16384x1, .bf16⟩
  | .hbm, ⟨73, _⟩ => ⟨S16x16384, .bf16⟩
  | .hbm, ⟨74, _⟩ => ⟨S16x16384x1, .bf16⟩
  | .hbm, ⟨75, _⟩ => ⟨S16x16384x64, .bf16⟩
  | .hbm, ⟨76, _⟩ => ⟨S_, .bf16⟩
  | .hbm, ⟨77, _⟩ => ⟨S16x16384x61, .bf16⟩
  | .hbm, ⟨78, _⟩ => ⟨S16x16384x128, .bf16⟩
  | .hbm, ⟨79, _⟩ => ⟨S16x16384x80, .bf16⟩
  | .hbm, ⟨80, _⟩ => ⟨S16x4x4096x80, .bf16⟩
  | .hbm, ⟨81, _⟩ => ⟨S16x4x80x4096, .bf16⟩
  | .hbm, ⟨82, _⟩ => ⟨S16x32x512x128, .bf16⟩
  | .hbm, ⟨83, _⟩ => ⟨S16x32x512x128, .f32⟩
  | .hbm, ⟨84, _⟩ => ⟨S16x32x512x128, .bf16⟩
  | .hbm, ⟨85, _⟩ => ⟨S16x16384x128, .f32⟩
  | .hbm, ⟨86, _⟩ => ⟨S16x16384x128, .bf16⟩
  | .hbm, ⟨87, _⟩ => ⟨S16x16384x3, .bf16⟩
  | .hbm, ⟨88, _⟩ => ⟨S16x16384x3, .f32⟩
  | .hbm, ⟨89, _⟩ => ⟨S16x16384x64, .f32⟩
  | .hbm, ⟨90, _⟩ => ⟨S_, .f32⟩
  | .hbm, ⟨91, _⟩ => ⟨S16x16384, .f32⟩
  | .hbm, ⟨92, _⟩ => ⟨S16x16384, .f32⟩
  | .local _ .vmem, ⟨0, _⟩ => ⟨S1x1x512x128, .bf16⟩
  | .local _ .vmem, ⟨1, _⟩ => ⟨S1x1x512x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x4x80x4096, .bf16⟩
  | .local _ .vmem, ⟨5, _⟩ => ⟨S1x4x80x4096, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x1x512x128, .bf16⟩
  | .local _ .vmem, ⟨9, _⟩ => ⟨S1x1x512x128, .bf16⟩
  | .local _ .vmem, ⟨10, _⟩ => ⟨S1x512, .f32⟩
  | .local _ .vmem, ⟨11, _⟩ => ⟨S128x512, .f32⟩
  | .local _ .smem, ⟨0, _⟩ => ⟨S1x1, .f32⟩
  | _, _ => ⟨S16x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_cst_5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67_0 : Ref sig .tc := ⟨.hbm, 83, rfl⟩
abbrev main_v67_1 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_9 : Ref sig .tc := ⟨.hbm, 90, rfl⟩
abbrev main_v73 : Ref sig .tc := ⟨.hbm, 91, rfl⟩
abbrev main_v74 : Ref sig .tc := ⟨.hbm, 92, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 32], ![false, false]⟩

@[reducible] def k0_t1_loop (i : grid0.Coords) : Scf.Loop 32 :=
  let c0_i32_10 : BitVec 32 := 0#32
  let arg1 : BitVec 32 := BitVec.ofNat 32 (i 1).val
  let c3_i32 : BitVec 32 := 3#32
  let v10 : BitVec 32 := Scalar.shrui arg1 c3_i32
  let v21 : BitVec 32 := Scalar.subi v10 c0_i32_10
  let c1_i32 : BitVec 32 := 1#32
  let v23 : BitVec 32 := Scalar.divsi v21 c1_i32
  let v24 : BitVec 32 := Scalar.muli v23 c1_i32
  let v25 : BitVec 32 := Scalar.addi c0_i32_10 v24
  let c1_i32_11 : BitVec 32 := 1#32
  ⟨c0_i32_10, v25, c1_i32_11⟩
def k0_off1 (i : grid0.Coords) (k0_t1 : Fin (k0_t1_loop i).trips) : Fin 4 → Nat :=
  let c0_47 : Index := 0#32
  let c0_i32_10 : BitVec 32 := 0#32
  let c1_i32_11 : BitVec 32 := 1#32
  let arg10 : BitVec 32 := Scf.iv c0_i32_10 c1_i32_11 k0_t1
  let v107 : Index := Scalar.indexCast arg10
  let c0_48 : Index := 0#32
  let c0_49 : Index := 0#32
  ![0, v107.toNat, 0, 0]
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c4096_i32 : BitVec 32 := 4096#32
  let v106 : BitVec 32 := Scalar.muli arg10 c4096_i32
  v106
def k0_off2 (i : grid0.Coords) (k0_t1 : Fin (k0_t1_loop i).trips) : Fin 3 → Nat :=
  let c0_50 : Index := 0#32
  let c0_i32_10 : BitVec 32 := 0#32
  let c1_i32_11 : BitVec 32 := 1#32
  let arg10 : BitVec 32 := Scf.iv c0_i32_10 c1_i32_11 k0_t1
  let c4096_i32 : BitVec 32 := 4096#32
  let v106 : BitVec 32 := Scalar.muli arg10 c4096_i32
  let v110 : BitVec 32 := v106
  let v111 : Index := Scalar.indexCast v110
  let c0_51 : Index := 0#32
  ![0, v111.toNat, 0]
@[reducible] def k0_t2_loop (i : grid0.Coords) : Scf.Loop 32 :=
  let c0_i32_10 : BitVec 32 := 0#32
  let arg1 : BitVec 32 := BitVec.ofNat 32 (i 1).val
  let c3_i32 : BitVec 32 := 3#32
  let v10 : BitVec 32 := Scalar.shrui arg1 c3_i32
  let v21 : BitVec 32 := Scalar.subi v10 c0_i32_10
  let c1_i32 : BitVec 32 := 1#32
  let v23 : BitVec 32 := Scalar.divsi v21 c1_i32
  let v24 : BitVec 32 := Scalar.muli v23 c1_i32
  let v25 : BitVec 32 := Scalar.addi c0_i32_10 v24
  let v22 : BitVec 32 := Scalar.addi c0_i32_10 v21
  let c1_i32_12 : BitVec 32 := 1#32
  ⟨v25, v22, c1_i32_12⟩
def k0_off3 (i : grid0.Coords) (k0_t2 : Fin (k0_t2_loop i).trips) : Fin 4 → Nat :=
  let c0_47 : Index := 0#32
  let c0_i32_10 : BitVec 32 := 0#32
  let arg1 : BitVec 32 := BitVec.ofNat 32 (i 1).val
  let c3_i32 : BitVec 32 := 3#32
  let v10 : BitVec 32 := Scalar.shrui arg1 c3_i32
  let v21 : BitVec 32 := Scalar.subi v10 c0_i32_10
  let c1_i32 : BitVec 32 := 1#32
  let v23 : BitVec 32 := Scalar.divsi v21 c1_i32
  let v24 : BitVec 32 := Scalar.muli v23 c1_i32
  let v25 : BitVec 32 := Scalar.addi c0_i32_10 v24
  let c1_i32_12 : BitVec 32 := 1#32
  let arg10 : BitVec 32 := Scf.iv v25 c1_i32_12 k0_t2
  let v107 : Index := Scalar.indexCast arg10
  let c0_48 : Index := 0#32
  let c0_49 : Index := 0#32
  ![0, v107.toNat, 0, 0]
def k0_mult2 (i : grid0.Coords) (k0_t2 : Fin (k0_t2_loop i).trips) : BitVec 32 :=
  let c0_i32_10 : BitVec 32 := 0#32
  let arg1 : BitVec 32 := BitVec.ofNat 32 (i 1).val
  let c3_i32 : BitVec 32 := 3#32
  let v10 : BitVec 32 := Scalar.shrui arg1 c3_i32
  let v21 : BitVec 32 := Scalar.subi v10 c0_i32_10
  let c1_i32 : BitVec 32 := 1#32
  let v23 : BitVec 32 := Scalar.divsi v21 c1_i32
  let v24 : BitVec 32 := Scalar.muli v23 c1_i32
  let v25 : BitVec 32 := Scalar.addi c0_i32_10 v24
  let c1_i32_12 : BitVec 32 := 1#32
  let arg10 : BitVec 32 := Scf.iv v25 c1_i32_12 k0_t2
  let c4096_i32 : BitVec 32 := 4096#32
  let v106 : BitVec 32 := Scalar.muli arg10 c4096_i32
  v106
def k0_off4 (i : grid0.Coords) (k0_t2 : Fin (k0_t2_loop i).trips) : Fin 3 → Nat :=
  let c0_50 : Index := 0#32
  let c0_i32_10 : BitVec 32 := 0#32
  let arg1 : BitVec 32 := BitVec.ofNat 32 (i 1).val
  let c3_i32 : BitVec 32 := 3#32
  let v10 : BitVec 32 := Scalar.shrui arg1 c3_i32
  let v21 : BitVec 32 := Scalar.subi v10 c0_i32_10
  let c1_i32 : BitVec 32 := 1#32
  let v23 : BitVec 32 := Scalar.divsi v21 c1_i32
  let v24 : BitVec 32 := Scalar.muli v23 c1_i32
  let v25 : BitVec 32 := Scalar.addi c0_i32_10 v24
  let c1_i32_12 : BitVec 32 := 1#32
  let arg10 : BitVec 32 := Scf.iv v25 c1_i32_12 k0_t2
  let c4096_i32 : BitVec 32 := 4096#32
  let v106 : BitVec 32 := Scalar.muli arg10 c4096_i32
  let v110 : BitVec 32 := v106
  let v111 : Index := Scalar.indexCast v110
  let c0_51 : Index := 0#32
  ![0, v111.toNat, 0]
def k0_cond2 (i : grid0.Coords) : BitVec 1 :=
  let arg1 : BitVec 32 := BitVec.ofNat 32 (i 1).val
  let c7_i32 : BitVec 32 := 7#32
  let v11 : BitVec 32 := Scalar.andi arg1 c7_i32
  let c0_i32_13 : BitVec 32 := 0#32
  let v26 : BitVec 1 := Scalar.cmpi .eq v11 c0_i32_13
  let v27 : BitVec 32 := Scalar.extui v26
  let c0_i32_14 : BitVec 32 := 0#32
  let v28 : BitVec 1 := Scalar.cmpi .ne v27 c0_i32_14
  v28

def k0_off5 (i : grid0.Coords) : Fin 4 → Nat :=
  let c0_47 : Index := 0#32
  let arg1 : BitVec 32 := BitVec.ofNat 32 (i 1).val
  let c3_i32 : BitVec 32 := 3#32
  let v10 : BitVec 32 := Scalar.shrui arg1 c3_i32
  let v107 : Index := Scalar.indexCast v10
  let c0_48 : Index := 0#32
  let c0_49 : Index := 0#32
  ![0, v107.toNat, 0, 0]
def k0_mult3 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  v106
def k0_off6 (i : grid0.Coords) : Fin 3 → Nat :=
  let c0_50 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  let v110 : BitVec 32 := v106
  let v111 : Index := Scalar.indexCast v110
  let c0_51 : Index := 0#32
  ![0, v111.toNat, 0]
def k0_cond3 (i : grid0.Coords) : BitVec 1 :=
  let arg1 : BitVec 32 := BitVec.ofNat 32 (i 1).val
  let c7_i32 : BitVec 32 := 7#32
  let v11 : BitVec 32 := Scalar.andi arg1 c7_i32
  let c1_i32_15 : BitVec 32 := 1#32
  let v29 : BitVec 1 := Scalar.cmpi .eq v11 c1_i32_15
  let v30 : BitVec 32 := Scalar.extui v29
  let c0_i32_16 : BitVec 32 := 0#32
  let v31 : BitVec 1 := Scalar.cmpi .ne v30 c0_i32_16
  v31

def k0_off7 (i : grid0.Coords) : Fin 4 → Nat :=
  let c0_47 : Index := 0#32
  let arg1 : BitVec 32 := BitVec.ofNat 32 (i 1).val
  let c3_i32 : BitVec 32 := 3#32
  let v10 : BitVec 32 := Scalar.shrui arg1 c3_i32
  let v107 : Index := Scalar.indexCast v10
  let c0_48 : Index := 0#32
  let c0_49 : Index := 0#32
  ![0, v107.toNat, 0, 0]
def k0_mult4 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  v106
def k0_off8 (i : grid0.Coords) : Fin 3 → Nat :=
  let c0_50 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  let v110 : BitVec 32 := v106
  let v111 : Index := Scalar.indexCast v110
  let c0_51 : Index := 0#32
  ![0, v111.toNat, 0]
def k0_cond4 (i : grid0.Coords) : BitVec 1 :=
  let arg1 : BitVec 32 := BitVec.ofNat 32 (i 1).val
  let c7_i32 : BitVec 32 := 7#32
  let v11 : BitVec 32 := Scalar.andi arg1 c7_i32
  let c2_i32 : BitVec 32 := 2#32
  let v32 : BitVec 1 := Scalar.cmpi .eq v11 c2_i32
  let v33 : BitVec 32 := Scalar.extui v32
  let c0_i32_17 : BitVec 32 := 0#32
  let v34 : BitVec 1 := Scalar.cmpi .ne v33 c0_i32_17
  v34

def k0_off9 (i : grid0.Coords) : Fin 4 → Nat :=
  let c0_47 : Index := 0#32
  let arg1 : BitVec 32 := BitVec.ofNat 32 (i 1).val
  let c3_i32 : BitVec 32 := 3#32
  let v10 : BitVec 32 := Scalar.shrui arg1 c3_i32
  let v107 : Index := Scalar.indexCast v10
  let c0_48 : Index := 0#32
  let c0_49 : Index := 0#32
  ![0, v107.toNat, 0, 0]
def k0_mult5 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  v106
def k0_off10 (i : grid0.Coords) : Fin 3 → Nat :=
  let c0_50 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  let v110 : BitVec 32 := v106
  let v111 : Index := Scalar.indexCast v110
  let c0_51 : Index := 0#32
  ![0, v111.toNat, 0]
def k0_cond5 (i : grid0.Coords) : BitVec 1 :=
  let arg1 : BitVec 32 := BitVec.ofNat 32 (i 1).val
  let c7_i32 : BitVec 32 := 7#32
  let v11 : BitVec 32 := Scalar.andi arg1 c7_i32
  let c3_i32_18 : BitVec 32 := 3#32
  let v35 : BitVec 1 := Scalar.cmpi .eq v11 c3_i32_18
  let v36 : BitVec 32 := Scalar.extui v35
  let c0_i32_19 : BitVec 32 := 0#32
  let v37 : BitVec 1 := Scalar.cmpi .ne v36 c0_i32_19
  v37

def k0_off11 (i : grid0.Coords) : Fin 4 → Nat :=
  let c0_47 : Index := 0#32
  let arg1 : BitVec 32 := BitVec.ofNat 32 (i 1).val
  let c3_i32 : BitVec 32 := 3#32
  let v10 : BitVec 32 := Scalar.shrui arg1 c3_i32
  let v107 : Index := Scalar.indexCast v10
  let c0_48 : Index := 0#32
  let c0_49 : Index := 0#32
  ![0, v107.toNat, 0, 0]
def k0_mult6 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  v106
def k0_off12 (i : grid0.Coords) : Fin 3 → Nat :=
  let c0_50 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  let v110 : BitVec 32 := v106
  let v111 : Index := Scalar.indexCast v110
  let c0_51 : Index := 0#32
  ![0, v111.toNat, 0]
def k0_cond6 (i : grid0.Coords) : BitVec 1 :=
  let arg1 : BitVec 32 := BitVec.ofNat 32 (i 1).val
  let c7_i32 : BitVec 32 := 7#32
  let v11 : BitVec 32 := Scalar.andi arg1 c7_i32
  let c4_i32 : BitVec 32 := 4#32
  let v38 : BitVec 1 := Scalar.cmpi .eq v11 c4_i32
  let v39 : BitVec 32 := Scalar.extui v38
  let c0_i32_20 : BitVec 32 := 0#32
  let v40 : BitVec 1 := Scalar.cmpi .ne v39 c0_i32_20
  v40

def k0_off13 (i : grid0.Coords) : Fin 4 → Nat :=
  let c0_47 : Index := 0#32
  let arg1 : BitVec 32 := BitVec.ofNat 32 (i 1).val
  let c3_i32 : BitVec 32 := 3#32
  let v10 : BitVec 32 := Scalar.shrui arg1 c3_i32
  let v107 : Index := Scalar.indexCast v10
  let c0_48 : Index := 0#32
  let c0_49 : Index := 0#32
  ![0, v107.toNat, 0, 0]
def k0_mult7 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  v106
def k0_off14 (i : grid0.Coords) : Fin 3 → Nat :=
  let c0_50 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  let v110 : BitVec 32 := v106
  let v111 : Index := Scalar.indexCast v110
  let c0_51 : Index := 0#32
  ![0, v111.toNat, 0]
def k0_cond7 (i : grid0.Coords) : BitVec 1 :=
  let arg1 : BitVec 32 := BitVec.ofNat 32 (i 1).val
  let c7_i32 : BitVec 32 := 7#32
  let v11 : BitVec 32 := Scalar.andi arg1 c7_i32
  let c5_i32 : BitVec 32 := 5#32
  let v41 : BitVec 1 := Scalar.cmpi .eq v11 c5_i32
  let v42 : BitVec 32 := Scalar.extui v41
  let c0_i32_21 : BitVec 32 := 0#32
  let v43 : BitVec 1 := Scalar.cmpi .ne v42 c0_i32_21
  v43

def k0_off15 (i : grid0.Coords) : Fin 4 → Nat :=
  let c0_47 : Index := 0#32
  let arg1 : BitVec 32 := BitVec.ofNat 32 (i 1).val
  let c3_i32 : BitVec 32 := 3#32
  let v10 : BitVec 32 := Scalar.shrui arg1 c3_i32
  let v107 : Index := Scalar.indexCast v10
  let c0_48 : Index := 0#32
  let c0_49 : Index := 0#32
  ![0, v107.toNat, 0, 0]
def k0_mult8 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  v106
def k0_off16 (i : grid0.Coords) : Fin 3 → Nat :=
  let c0_50 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  let v110 : BitVec 32 := v106
  let v111 : Index := Scalar.indexCast v110
  let c0_51 : Index := 0#32
  ![0, v111.toNat, 0]
def k0_cond8 (i : grid0.Coords) : BitVec 1 :=
  let arg1 : BitVec 32 := BitVec.ofNat 32 (i 1).val
  let c7_i32 : BitVec 32 := 7#32
  let v11 : BitVec 32 := Scalar.andi arg1 c7_i32
  let c6_i32 : BitVec 32 := 6#32
  let v44 : BitVec 1 := Scalar.cmpi .eq v11 c6_i32
  let v45 : BitVec 32 := Scalar.extui v44
  let c0_i32_22 : BitVec 32 := 0#32
  let v46 : BitVec 1 := Scalar.cmpi .ne v45 c0_i32_22
  v46

def k0_off17 (i : grid0.Coords) : Fin 4 → Nat :=
  let c0_47 : Index := 0#32
  let arg1 : BitVec 32 := BitVec.ofNat 32 (i 1).val
  let c3_i32 : BitVec 32 := 3#32
  let v10 : BitVec 32 := Scalar.shrui arg1 c3_i32
  let v107 : Index := Scalar.indexCast v10
  let c0_48 : Index := 0#32
  let c0_49 : Index := 0#32
  ![0, v107.toNat, 0, 0]
def k0_mult9 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  v106
def k0_off18 (i : grid0.Coords) : Fin 3 → Nat :=
  let c0_50 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  let v110 : BitVec 32 := v106
  let v111 : Index := Scalar.indexCast v110
  let c0_51 : Index := 0#32
  ![0, v111.toNat, 0]
def k0_cond9 (i : grid0.Coords) : BitVec 1 :=
  let arg1 : BitVec 32 := BitVec.ofNat 32 (i 1).val
  let c7_i32 : BitVec 32 := 7#32
  let v11 : BitVec 32 := Scalar.andi arg1 c7_i32
  let c7_i32_23 : BitVec 32 := 7#32
  let v47 : BitVec 1 := Scalar.cmpi .eq v11 c7_i32_23
  let v48 : BitVec 32 := Scalar.extui v47
  let c0_i32_24 : BitVec 32 := 0#32
  let v49 : BitVec 1 := Scalar.cmpi .ne v48 c0_i32_24
  v49

def k0_off19 (i : grid0.Coords) : Fin 4 → Nat :=
  let c0_47 : Index := 0#32
  let arg1 : BitVec 32 := BitVec.ofNat 32 (i 1).val
  let c3_i32 : BitVec 32 := 3#32
  let v10 : BitVec 32 := Scalar.shrui arg1 c3_i32
  let v107 : Index := Scalar.indexCast v10
  let c0_48 : Index := 0#32
  let c0_49 : Index := 0#32
  ![0, v107.toNat, 0, 0]
def k0_mult10 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  v106
def k0_off20 (i : grid0.Coords) : Fin 3 → Nat :=
  let c0_50 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v106 : BitVec 32 := Scalar.muli v10 c4096_i32
  let v110 : BitVec 32 := v106
  let v111 : Index := Scalar.indexCast v110
  let c0_51 : Index := 0#32
  ![0, v111.toNat, 0]
@[reducible] def k0_t3_loop (i : grid0.Coords) : Scf.Loop 32 :=
  let c0_i32_14 : BitVec 32 := 0#32
  let arg1 : BitVec 32 := BitVec.ofNat 32 (i 1).val
  let c3_i32 : BitVec 32 := 3#32
  let v10 : BitVec 32 := Scalar.shrui arg1 c3_i32
  let v27 : BitVec 32 := Scalar.subi v10 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_15 : BitVec 32 := 1#32
  ⟨c0_i32_14, v31, c1_i32_15⟩
def k0_off21 (i : grid0.Coords) (k0_t3 : Fin (k0_t3_loop i).trips) : Fin 4 → Nat :=
  let c0_53 : Index := 0#32
  let c0_i32_14 : BitVec 32 := 0#32
  let c1_i32_15 : BitVec 32 := 1#32
  let arg10 : BitVec 32 := Scf.iv c0_i32_14 c1_i32_15 k0_t3
  let v116 : Index := Scalar.indexCast arg10
  let c0_54 : Index := 0#32
  let c0_55 : Index := 0#32
  ![0, v116.toNat, 0, 0]
def k0_mult11 (i : grid0.Coords) (k0_t3 : Fin (k0_t3_loop i).trips) : BitVec 32 :=
  let c0_i32_14 : BitVec 32 := 0#32
  let c1_i32_15 : BitVec 32 := 1#32
  let arg10 : BitVec 32 := Scf.iv c0_i32_14 c1_i32_15 k0_t3
  let c4096_i32 : BitVec 32 := 4096#32
  let v115 : BitVec 32 := Scalar.muli arg10 c4096_i32
  v115
def k0_off22 (i : grid0.Coords) (k0_t3 : Fin (k0_t3_loop i).trips) : Fin 3 → Nat :=
  let c0_56 : Index := 0#32
  let c0_i32_14 : BitVec 32 := 0#32
  let c1_i32_15 : BitVec 32 := 1#32
  let arg10 : BitVec 32 := Scf.iv c0_i32_14 c1_i32_15 k0_t3
  let c4096_i32 : BitVec 32 := 4096#32
  let v115 : BitVec 32 := Scalar.muli arg10 c4096_i32
  let v119 : BitVec 32 := v115
  let v120 : Index := Scalar.indexCast v119
  let c0_57 : Index := 0#32
  ![0, v120.toNat, 0]
@[reducible] def k0_t4_loop (i : grid0.Coords) : Scf.Loop 32 :=
  let c0_i32_14 : BitVec 32 := 0#32
  let arg1 : BitVec 32 := BitVec.ofNat 32 (i 1).val
  let c3_i32 : BitVec 32 := 3#32
  let v10 : BitVec 32 := Scalar.shrui arg1 c3_i32
  let v27 : BitVec 32 := Scalar.subi v10 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let v28 : BitVec 32 := Scalar.addi c0_i32_14 v27
  let c1_i32_16 : BitVec 32 := 1#32
  ⟨v31, v28, c1_i32_16⟩
def k0_off23 (i : grid0.Coords) (k0_t4 : Fin (k0_t4_loop i).trips) : Fin 4 → Nat :=
  let c0_53 : Index := 0#32
  let c0_i32_14 : BitVec 32 := 0#32
  let arg1 : BitVec 32 := BitVec.ofNat 32 (i 1).val
  let c3_i32 : BitVec 32 := 3#32
  let v10 : BitVec 32 := Scalar.shrui arg1 c3_i32
  let v27 : BitVec 32 := Scalar.subi v10 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t4
  let v116 : Index := Scalar.indexCast arg10
  let c0_54 : Index := 0#32
  let c0_55 : Index := 0#32
  ![0, v116.toNat, 0, 0]
def k0_mult12 (i : grid0.Coords) (k0_t4 : Fin (k0_t4_loop i).trips) : BitVec 32 :=
  let c0_i32_14 : BitVec 32 := 0#32
  let arg1 : BitVec 32 := BitVec.ofNat 32 (i 1).val
  let c3_i32 : BitVec 32 := 3#32
  let v10 : BitVec 32 := Scalar.shrui arg1 c3_i32
  let v27 : BitVec 32 := Scalar.subi v10 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t4
  let c4096_i32 : BitVec 32 := 4096#32
  let v115 : BitVec 32 := Scalar.muli arg10 c4096_i32
  v115
def k0_off24 (i : grid0.Coords) (k0_t4 : Fin (k0_t4_loop i).trips) : Fin 3 → Nat :=
  let c0_56 : Index := 0#32
  let c0_i32_14 : BitVec 32 := 0#32
  let arg1 : BitVec 32 := BitVec.ofNat 32 (i 1).val
  let c3_i32 : BitVec 32 := 3#32
  let v10 : BitVec 32 := Scalar.shrui arg1 c3_i32
  let v27 : BitVec 32 := Scalar.subi v10 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t4
  let c4096_i32 : BitVec 32 := 4096#32
  let v115 : BitVec 32 := Scalar.muli arg10 c4096_i32
  let v119 : BitVec 32 := v115
  let v120 : Index := Scalar.indexCast v119
  let c0_57 : Index := 0#32
  ![0, v120.toNat, 0]
def k0_cond11 (i : grid0.Coords) : BitVec 1 :=
  let arg1 : BitVec 32 := BitVec.ofNat 32 (i 1).val
  let c7_i32 : BitVec 32 := 7#32
  let v11 : BitVec 32 := Scalar.andi arg1 c7_i32
  let c0_i32_17 : BitVec 32 := 0#32
  let v32 : BitVec 1 := Scalar.cmpi .eq v11 c0_i32_17
  let v33 : BitVec 32 := Scalar.extui v32
  let c0_i32_18 : BitVec 32 := 0#32
  let v34 : BitVec 1 := Scalar.cmpi .ne v33 c0_i32_18
  v34

def k0_off25 (i : grid0.Coords) : Fin 4 → Nat :=
  let c0_53 : Index := 0#32
  let arg1 : BitVec 32 := BitVec.ofNat 32 (i 1).val
  let c3_i32 : BitVec 32 := 3#32
  let v10 : BitVec 32 := Scalar.shrui arg1 c3_i32
  let v116 : Index := Scalar.indexCast v10
  let c0_54 : Index := 0#32
  let c0_55 : Index := 0#32
  ![0, v116.toNat, 0, 0]
def k0_mult13 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  v115
def k0_off26 (i : grid0.Coords) : Fin 3 → Nat :=
  let c0_56 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  let v119 : BitVec 32 := v115
  let v120 : Index := Scalar.indexCast v119
  let c0_57 : Index := 0#32
  ![0, v120.toNat, 0]
def k0_cond12 (i : grid0.Coords) : BitVec 1 :=
  let arg1 : BitVec 32 := BitVec.ofNat 32 (i 1).val
  let c7_i32 : BitVec 32 := 7#32
  let v11 : BitVec 32 := Scalar.andi arg1 c7_i32
  let c1_i32_19 : BitVec 32 := 1#32
  let v35 : BitVec 1 := Scalar.cmpi .eq v11 c1_i32_19
  let v36 : BitVec 32 := Scalar.extui v35
  let c0_i32_20 : BitVec 32 := 0#32
  let v37 : BitVec 1 := Scalar.cmpi .ne v36 c0_i32_20
  v37

def k0_off27 (i : grid0.Coords) : Fin 4 → Nat :=
  let c0_53 : Index := 0#32
  let arg1 : BitVec 32 := BitVec.ofNat 32 (i 1).val
  let c3_i32 : BitVec 32 := 3#32
  let v10 : BitVec 32 := Scalar.shrui arg1 c3_i32
  let v116 : Index := Scalar.indexCast v10
  let c0_54 : Index := 0#32
  let c0_55 : Index := 0#32
  ![0, v116.toNat, 0, 0]
def k0_mult14 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  v115
def k0_off28 (i : grid0.Coords) : Fin 3 → Nat :=
  let c0_56 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  let v119 : BitVec 32 := v115
  let v120 : Index := Scalar.indexCast v119
  let c0_57 : Index := 0#32
  ![0, v120.toNat, 0]
def k0_cond13 (i : grid0.Coords) : BitVec 1 :=
  let arg1 : BitVec 32 := BitVec.ofNat 32 (i 1).val
  let c7_i32 : BitVec 32 := 7#32
  let v11 : BitVec 32 := Scalar.andi arg1 c7_i32
  let c2_i32 : BitVec 32 := 2#32
  let v38 : BitVec 1 := Scalar.cmpi .eq v11 c2_i32
  let v39 : BitVec 32 := Scalar.extui v38
  let c0_i32_21 : BitVec 32 := 0#32
  let v40 : BitVec 1 := Scalar.cmpi .ne v39 c0_i32_21
  v40

def k0_off29 (i : grid0.Coords) : Fin 4 → Nat :=
  let c0_53 : Index := 0#32
  let arg1 : BitVec 32 := BitVec.ofNat 32 (i 1).val
  let c3_i32 : BitVec 32 := 3#32
  let v10 : BitVec 32 := Scalar.shrui arg1 c3_i32
  let v116 : Index := Scalar.indexCast v10
  let c0_54 : Index := 0#32
  let c0_55 : Index := 0#32
  ![0, v116.toNat, 0, 0]
def k0_mult15 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  v115
def k0_off30 (i : grid0.Coords) : Fin 3 → Nat :=
  let c0_56 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  let v119 : BitVec 32 := v115
  let v120 : Index := Scalar.indexCast v119
  let c0_57 : Index := 0#32
  ![0, v120.toNat, 0]
def k0_cond14 (i : grid0.Coords) : BitVec 1 :=
  let arg1 : BitVec 32 := BitVec.ofNat 32 (i 1).val
  let c7_i32 : BitVec 32 := 7#32
  let v11 : BitVec 32 := Scalar.andi arg1 c7_i32
  let c3_i32_22 : BitVec 32 := 3#32
  let v41 : BitVec 1 := Scalar.cmpi .eq v11 c3_i32_22
  let v42 : BitVec 32 := Scalar.extui v41
  let c0_i32_23 : BitVec 32 := 0#32
  let v43 : BitVec 1 := Scalar.cmpi .ne v42 c0_i32_23
  v43

def k0_off31 (i : grid0.Coords) : Fin 4 → Nat :=
  let c0_53 : Index := 0#32
  let arg1 : BitVec 32 := BitVec.ofNat 32 (i 1).val
  let c3_i32 : BitVec 32 := 3#32
  let v10 : BitVec 32 := Scalar.shrui arg1 c3_i32
  let v116 : Index := Scalar.indexCast v10
  let c0_54 : Index := 0#32
  let c0_55 : Index := 0#32
  ![0, v116.toNat, 0, 0]
def k0_mult16 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  v115
def k0_off32 (i : grid0.Coords) : Fin 3 → Nat :=
  let c0_56 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  let v119 : BitVec 32 := v115
  let v120 : Index := Scalar.indexCast v119
  let c0_57 : Index := 0#32
  ![0, v120.toNat, 0]
def k0_cond15 (i : grid0.Coords) : BitVec 1 :=
  let arg1 : BitVec 32 := BitVec.ofNat 32 (i 1).val
  let c7_i32 : BitVec 32 := 7#32
  let v11 : BitVec 32 := Scalar.andi arg1 c7_i32
  let c4_i32 : BitVec 32 := 4#32
  let v44 : BitVec 1 := Scalar.cmpi .eq v11 c4_i32
  let v45 : BitVec 32 := Scalar.extui v44
  let c0_i32_24 : BitVec 32 := 0#32
  let v46 : BitVec 1 := Scalar.cmpi .ne v45 c0_i32_24
  v46

def k0_off33 (i : grid0.Coords) : Fin 4 → Nat :=
  let c0_53 : Index := 0#32
  let arg1 : BitVec 32 := BitVec.ofNat 32 (i 1).val
  let c3_i32 : BitVec 32 := 3#32
  let v10 : BitVec 32 := Scalar.shrui arg1 c3_i32
  let v116 : Index := Scalar.indexCast v10
  let c0_54 : Index := 0#32
  let c0_55 : Index := 0#32
  ![0, v116.toNat, 0, 0]
def k0_mult17 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  v115
def k0_off34 (i : grid0.Coords) : Fin 3 → Nat :=
  let c0_56 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  let v119 : BitVec 32 := v115
  let v120 : Index := Scalar.indexCast v119
  let c0_57 : Index := 0#32
  ![0, v120.toNat, 0]
def k0_cond16 (i : grid0.Coords) : BitVec 1 :=
  let arg1 : BitVec 32 := BitVec.ofNat 32 (i 1).val
  let c7_i32 : BitVec 32 := 7#32
  let v11 : BitVec 32 := Scalar.andi arg1 c7_i32
  let c5_i32 : BitVec 32 := 5#32
  let v47 : BitVec 1 := Scalar.cmpi .eq v11 c5_i32
  let v48 : BitVec 32 := Scalar.extui v47
  let c0_i32_25 : BitVec 32 := 0#32
  let v49 : BitVec 1 := Scalar.cmpi .ne v48 c0_i32_25
  v49

def k0_off35 (i : grid0.Coords) : Fin 4 → Nat :=
  let c0_53 : Index := 0#32
  let arg1 : BitVec 32 := BitVec.ofNat 32 (i 1).val
  let c3_i32 : BitVec 32 := 3#32
  let v10 : BitVec 32 := Scalar.shrui arg1 c3_i32
  let v116 : Index := Scalar.indexCast v10
  let c0_54 : Index := 0#32
  let c0_55 : Index := 0#32
  ![0, v116.toNat, 0, 0]
def k0_mult18 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  v115
def k0_off36 (i : grid0.Coords) : Fin 3 → Nat :=
  let c0_56 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  let v119 : BitVec 32 := v115
  let v120 : Index := Scalar.indexCast v119
  let c0_57 : Index := 0#32
  ![0, v120.toNat, 0]
def k0_cond17 (i : grid0.Coords) : BitVec 1 :=
  let arg1 : BitVec 32 := BitVec.ofNat 32 (i 1).val
  let c7_i32 : BitVec 32 := 7#32
  let v11 : BitVec 32 := Scalar.andi arg1 c7_i32
  let c6_i32 : BitVec 32 := 6#32
  let v50 : BitVec 1 := Scalar.cmpi .eq v11 c6_i32
  let v51 : BitVec 32 := Scalar.extui v50
  let c0_i32_26 : BitVec 32 := 0#32
  let v52 : BitVec 1 := Scalar.cmpi .ne v51 c0_i32_26
  v52

def k0_off37 (i : grid0.Coords) : Fin 4 → Nat :=
  let c0_53 : Index := 0#32
  let arg1 : BitVec 32 := BitVec.ofNat 32 (i 1).val
  let c3_i32 : BitVec 32 := 3#32
  let v10 : BitVec 32 := Scalar.shrui arg1 c3_i32
  let v116 : Index := Scalar.indexCast v10
  let c0_54 : Index := 0#32
  let c0_55 : Index := 0#32
  ![0, v116.toNat, 0, 0]
def k0_mult19 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  v115
def k0_off38 (i : grid0.Coords) : Fin 3 → Nat :=
  let c0_56 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  let v119 : BitVec 32 := v115
  let v120 : Index := Scalar.indexCast v119
  let c0_57 : Index := 0#32
  ![0, v120.toNat, 0]
def k0_cond18 (i : grid0.Coords) : BitVec 1 :=
  let arg1 : BitVec 32 := BitVec.ofNat 32 (i 1).val
  let c7_i32 : BitVec 32 := 7#32
  let v11 : BitVec 32 := Scalar.andi arg1 c7_i32
  let c7_i32_27 : BitVec 32 := 7#32
  let v53 : BitVec 1 := Scalar.cmpi .eq v11 c7_i32_27
  let v54 : BitVec 32 := Scalar.extui v53
  let c0_i32_28 : BitVec 32 := 0#32
  let v55 : BitVec 1 := Scalar.cmpi .ne v54 c0_i32_28
  v55

def k0_off39 (i : grid0.Coords) : Fin 4 → Nat :=
  let c0_53 : Index := 0#32
  let arg1 : BitVec 32 := BitVec.ofNat 32 (i 1).val
  let c3_i32 : BitVec 32 := 3#32
  let v10 : BitVec 32 := Scalar.shrui arg1 c3_i32
  let v116 : Index := Scalar.indexCast v10
  let c0_54 : Index := 0#32
  let c0_55 : Index := 0#32
  ![0, v116.toNat, 0, 0]
def k0_mult20 (i : grid0.Coords) : BitVec 32 :=
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  v115
def k0_off40 (i : grid0.Coords) : Fin 3 → Nat :=
  let c0_56 : Index := 0#32
  let arg1 : BitVec 32 := BitVec.ofNat 32 (i 1).val
  let c3_i32 : BitVec 32 := 3#32
  let v10 : BitVec 32 := Scalar.shrui arg1 c3_i32
  let c4096_i32 : BitVec 32 := 4096#32
  let v115 : BitVec 32 := Scalar.muli v10 c4096_i32
  let v119 : BitVec 32 := v115
  let v120 : Index := Scalar.indexCast v119
  let c0_57 : Index := 0#32
  ![0, v120.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x80x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S16x16384x64 : Shape := ⟨3, ![16, 16384, 64]⟩
abbrev S16x16384 : Shape := ⟨2, ![16, 16384]⟩
abbrev S1x64 : Shape := ⟨2, ![1, 64]⟩
abbrev S16384 : Shape := ⟨1, ![16384]⟩
abbrev S16x16384x16384 : Shape := ⟨3, ![16, 16384, 16384]⟩
abbrev S_ : Shape := ⟨0, ![]⟩
abbrev S16x16384x1 : Shape := ⟨3, ![16, 16384, 1]⟩
abbrev S16x1x16384 : Shape := ⟨3, ![16, 1, 16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 43
  | .vmem => 0
  | .smem => 0
  | _ => 0

abbrev bufTy : (tb : Table) → Fin (tcTables nBuf tb) → BufTy
  | .hbm, ⟨0, _⟩ => ⟨S16x16384x64, .f32⟩
  | .hbm, ⟨1, _⟩ => ⟨S16x16384x64, .f32⟩
  | .hbm, ⟨2, _⟩ => ⟨S16x16384x64, .f32⟩
  | .hbm, ⟨3, _⟩ => ⟨S16x16384, .f32⟩
  | .hbm, ⟨4, _⟩ => ⟨S1x64, .f32⟩
  | .hbm, ⟨5, _⟩ => ⟨S1x64, .f32⟩
  | .hbm, ⟨6, _⟩ => ⟨S16384, .i32⟩
  | .hbm, ⟨7, _⟩ => ⟨S16x16384x16384, .f32⟩
  | .hbm, ⟨8, _⟩ => ⟨S_, .f32⟩
  | .hbm, ⟨9, _⟩ => ⟨S16x16384x16384, .f32⟩
  | .hbm, ⟨10, _⟩ => ⟨S16x16384x16384, .f32⟩
  | .hbm, ⟨11, _⟩ => ⟨S16x16384x1, .f32⟩
  | .hbm, ⟨12, _⟩ => ⟨S16x16384x16384, .f32⟩
  | .hbm, ⟨13, _⟩ => ⟨S16x16384x16384, .f32⟩
  | .hbm, ⟨14, _⟩ => ⟨S16x1x16384, .f32⟩
  | .hbm, ⟨15, _⟩ => ⟨S16x16384x16384, .f32⟩
  | .hbm, ⟨16, _⟩ => ⟨S16x16384x16384, .f32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S_, .f32⟩
  | .hbm, ⟨23, _⟩ => ⟨S_, .f32⟩
  | .hbm, ⟨24, _⟩ => ⟨S16x16384x16384, .i1⟩
  | .hbm, ⟨25, _⟩ => ⟨S16x16384x16384, .f32⟩
  | .hbm, ⟨26, _⟩ => ⟨S16x16384x16384, .f32⟩
  | .hbm, ⟨27, _⟩ => ⟨S_, .f32⟩
  | .hbm, ⟨28, _⟩ => ⟨S16x16384, .f32⟩
  | .hbm, ⟨29, _⟩ => ⟨S16x16384x1, .f32⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S_, .f32⟩
  | .hbm, ⟨34, _⟩ => ⟨S16x16384, .f32⟩
  | .hbm, ⟨35, _⟩ => ⟨S16x16384x1, .f32⟩
  | .hbm, ⟨36, _⟩ => ⟨S16x16384x16384, .f32⟩
  | .hbm, ⟨37, _⟩ => ⟨S16x16384x16384, .f32⟩
  | .hbm, ⟨38, _⟩ => ⟨S16x16384x64, .f32⟩
  | .hbm, ⟨39, _⟩ => ⟨S16x16384x1, .f32⟩
  | .hbm, ⟨40, _⟩ => ⟨S16x16384x1, .f32⟩
  | .hbm, ⟨41, _⟩ => ⟨S16x16384, .f32⟩
  | .hbm, ⟨42, _⟩ => ⟨S16x16384, .f32⟩
  | _, _ => ⟨S16x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Proof.KI.Step.lean ====
/-
  The arithmetic of one grid point of the attention's backward pass, as plain functions of vectors: the three
  accumulators (the head's query gradient, and the transposed key and value gradients of the point's key tile), the
  masked step on the diagonal (its height depends on the tile's place in its group of four), the unmasked steps of
  2048 rows below it, and what the point leaves.  Nothing here mentions memory.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.VecWindow

@[expose] public section

noncomputable section

namespace Cert.KernelIdeal.Hand

open Cert.KernelIdeal Cert.KernelIdeal.Gen
open Idealize.ShloMosaic Idealize.ShloMosaic.TcCoe

variable {F : FTy → Type} [FloatOps F] [Named F]

/-- The three accumulators of a point: the head's query gradient, the tile's key and value gradients (transposed). -/
structure Acc (F : FTy → Type) where
  dq : Vec F S16384x128 .f32
  dk : Vec F S128x512 .f32
  dv : Vec F S128x512 .f32

/-- The masked step over four tiles of rows (the tile is the first of its group). -/
def diag1 (i : grid0.Coords) (h : k0_cond2 i = 1#1) (Q D : Vec F S1x16384x128 .bf16) (K V : FVec F S512x128 .bf16) (s : Acc F) : Acc F :=
  let q : Vec F S1x2048x128 .bf16 := VecWindow.window Q (k0_off1 i) S1x2048x128.size (k0_off1_inb i h)
  let d : Vec F S1x2048x128 .bf16 := VecWindow.window D (k0_off1 i) S1x2048x128.size (k0_off1_inb i h)
  { dq := VecWindow.put s.dq (k0_off2 i) S2048x128.size
      (k0_pay9 K V q d (VecWindow.window s.dq (k0_off2 i) S2048x128.size (k0_off2_inb i h)))
    dk := k0_pay52 (k0_pay11 K V q d s.dk)
    dv := k0_pay10 K q d s.dv }

/-- The masked step over three tiles of rows. -/
def diag2 (i : grid0.Coords) (h : k0_cond3 i = 1#1) (Q D : Vec F S1x16384x128 .bf16) (K V : FVec F S512x128 .bf16) (s : Acc F) : Acc F :=
  let q : Vec F S1x1536x128 .bf16 := VecWindow.window Q (k0_off3 i) S1x1536x128.size (k0_off3_inb i h)
  let d : Vec F S1x1536x128 .bf16 := VecWindow.window D (k0_off3 i) S1x1536x128.size (k0_off3_inb i h)
  { dq := VecWindow.put s.dq (k0_off4 i) S1536x128.size
      (k0_pay16 K V q d (VecWindow.window s.dq (k0_off4 i) S1536x128.size (k0_off4_inb i h)))
    dk := k0_pay53 (k0_pay18 K V q d s.dk)
    dv := k0_pay17 K q d s.dv }

/-- The masked step over two tiles of rows. -/
def diag3 (i : grid0.Coords) (h : k0_cond4 i = 1#1) (Q D : Vec F S1x16384x128 .bf16) (K V : FVec F S512x128 .bf16) (s : Acc F) : Acc F :=
  let q : Vec F S1x1024x128 .bf16 := VecWindow.window Q (k0_off5 i) S1x1024x128.size (k0_off5_inb i h)
  let d : Vec F S1x1024x128 .bf16 := VecWindow.window D (k0_off5 i) S1x1024x128.size (k0_off5_inb i h)
  { dq := VecWindow.put s.dq (k0_off6 i) S1024x128.size
      (k0_pay23 K V q d (VecWindow.window s.dq (k0_off6 i) S1024x128.size (k0_off6_inb i h)))
    dk := k0_pay1 (k0_pay25 K V q d s.dk)
    dv := k0_pay24 K q d s.dv }

/-- The masked step over one tile of rows (the tile is the last of its group). -/
def diag4 (i : grid0.Coords) (h : k0_cond5 i = 1#1) (Q D : Vec F S1x16384x128 .bf16) (K V : FVec F S512x128 .bf16) (s : Acc F) : Acc F :=
  let q : Vec F S1x512x128 .bf16 := VecWindow.window Q (k0_off7 i) S1x512x128.size (k0_off7_inb i h)
  let d : Vec F S1x512x128 .bf16 := VecWindow.window D (k0_off7 i) S1x512x128.size (k0_off7_inb i h)
  { dq := VecWindow.put s.dq (k0_off8 i) S512x128.size
      (k0_pay30 K V q d (VecWindow.window s.dq (k0_off8 i) S512x128.size (k0_off8_inb i h)))
    dk := k0_pay2 (k0_pay32 K V q d s.dk)
    dv := k0_pay31 K q d s.dv }

/-- One unmasked step of 2048 rows. -/
def trip (i : grid0.Coords) (k : Fin (k0_t1_loop i).trips) (Q D : Vec F S1x16384x128 .bf16) (K V : FVec F S512x128 .bf16) (s : Acc F) : Acc F :=
  let q : Vec F S1x2048x128 .bf16 := VecWindow.window Q (k0_off9 i k) S1x2048x128.size (k0_off9_inb i k)
  let d : Vec F S1x2048x128 .bf16 := VecWindow.window D (k0_off9 i k) S1x2048x128.size (k0_off9_inb i k)
  { dq := VecWindow.put s.dq (k0_off10 i k) S2048x128.size
      (k0_pay37 K V q d (VecWindow.window s.dq (k0_off10 i k) S2048x128.size (k0_off10_inb i k)))
    dk := k0_pay39 K V q d s.dk
    dv := k0_pay38 K q d s.dv }

/-- The accumulators after `n` unmasked steps. -/
def trips (i : grid0.Coords) (Q D : Vec F S1x16384x128 .bf16) (K V : FVec F S512x128 .bf16) (s : Acc F) : ℕ → Acc F
  | 0 => s
  | n + 1 => if h : n < (k0_t1_loop i).trips then trip i ⟨n, h⟩ Q D K V (trips i Q D K V s n) else trips i Q D K V s n

theorem trips_succ (i : grid0.Coords) (Q D : Vec F S1x16384x128 .bf16) (K V : FVec F S512x128 .bf16) (s : Acc F) (k : Fin (k0_t1_loop i).trips) :
    trips i Q D K V s (k.val + 1) = trip i k Q D K V (trips i Q D K V s k.val) := dif_pos k.isLt

/-- The masked step the point takes. -/
def diag (i : grid0.Coords) (Q D : Vec F S1x16384x128 .bf16) (K V : FVec F S512x128 .bf16) (s : Acc F) : Acc F :=
  if h : k0_cond2 i = 1#1 then diag1 i h Q D K V s
  else if h : k0_cond3 i = 1#1 then diag2 i h Q D K V s
  else if h : k0_cond4 i = 1#1 then diag3 i h Q D K V s
  else if h : k0_cond5 i = 1#1 then diag4 i h Q D K V s
  else s

/-- The accumulators at the point's end, from the head's query gradient `x` at its beginning. -/
def pointAcc (i : grid0.Coords) (Q D : Vec F S1x16384x128 .bf16) (K V : Vec F S1x1x512x128 .bf16) (x : Vec F S16384x128 .f32) : Acc F :=
  trips i Q D (k0_pay50 K) (k0_pay51 V) (diag i Q D (k0_pay50 K) (k0_pay51 V) ⟨x, k0_pay48, k0_pay49⟩) (k0_t1_loop i).trips

end Cert.KernelIdeal.Hand
-- ==== Proof.KI.Loop.lean ====
/-
  The two counted loops of the backward kernel by their invariants: before trip `k` of the first the accumulators hold
  `Hand.trips … k` of what they held at the loop's entry; the second loop takes no trip at any grid point.
-/
module

public import proofs.«01_k».proof.Proof.KI.Step
public import Idealize.ShloMosaic.Lib.Pipeline.FrameBody
public import Idealize.ShloMosaic.Lib.Pipeline.FrameSuffixV
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the run: the pipeline's beside the transfers' counters. -/
local notation "𝕄" => MT nD τ sig Unit (Elt F) ℕ (Pipeline.UD sig nD τ) ℕ

/-- What the accumulators hold before trip `k`, the buffers' contents at the loop's entry being `G9`, `G10`, `G11`. -/
abbrev held (i : grid0.Coords) (arg2 arg3 : Memref sig .tc .vmem S1x16384x128 .bf16) (arg9 : Memref sig .tc .vmem S16384x128 .f32)
    (arg10 arg11 : Memref sig .tc .vmem S128x512 .f32) (v12 v14 : FVec F S512x128 .bf16)
    (X2 : BufTy.Contents (Elt F) arg2.view.ty) (X3 : BufTy.Contents (Elt F) arg3.view.ty) (G9 : BufTy.Contents (Elt F) arg9.view.ty)
    (G10 : BufTy.Contents (Elt F) arg10.view.ty) (G11 : BufTy.Contents (Elt F) arg11.view.ty) (k : ℕ) : Acc F :=
  trips i (arg2.view.read (Elt F) X2) (arg3.view.read (Elt F) X3) v12 v14
    ⟨arg9.view.read (Elt F) G9, arg10.view.read (Elt F) G10, arg11.view.read (Elt F) G11⟩ k

/-- Before trip `k`: the operands as they were, the accumulators at `held … k`. -/
abbrev inv1 (c : Dev nD) (i : grid0.Coords) (arg2 arg3 : Memref sig .tc .vmem S1x16384x128 .bf16) (arg9 : Memref sig .tc .vmem S16384x128 .f32)
    (arg10 arg11 : Memref sig .tc .vmem S128x512 .f32) (v12 v14 : FVec F S512x128 .bf16)
    (X2 : BufTy.Contents (Elt F) arg2.view.ty) (X3 : BufTy.Contents (Elt F) arg3.view.ty) (G9 : BufTy.Contents (Elt F) arg9.view.ty)
    (G10 : BufTy.Contents (Elt F) arg10.view.ty) (G11 : BufTy.Contents (Elt F) arg11.view.ty) (k : ℕ) : sProp 𝕄 :=
  iprop((arg2.view.loc (c : Thread nD τ) ↦[arg2.view.set]{fullShare} X2) ∗ (arg3.view.loc (c : Thread nD τ) ↦[arg3.view.set]{fullShare} X3)
    ∗ (∃ f, (arg9.view.loc (c : Thread nD τ) ↦[arg9.view.set]{fullShare} f) ∗ ⌜arg9.view.read (Elt F) f = (held i arg2 arg3 arg9 arg10 arg11 v12 v14 X2 X3 G9 G10 G11 k).dq⌝)
    ∗ (∃ f, (arg10.view.loc (c : Thread nD τ) ↦[arg10.view.set]{fullShare} f) ∗ ⌜arg10.view.read (Elt F) f = (held i arg2 arg3 arg9 arg10 arg11 v12 v14 X2 X3 G9 G10 G11 k).dk⌝)
    ∗ (∃ f, (arg11.view.loc (c : Thread nD τ) ↦[arg11.view.set]{fullShare} f) ∗ ⌜arg11.view.read (Elt F) f = (held i arg2 arg3 arg9 arg10 arg11 v12 v14 X2 X3 G9 G10 G11 k).dv⌝))

set_option warn.classDefReducibility false in
/-- The loop of unmasked steps. -/
def loop1 (𝒱 : Variants) (c : Dev nD) (bd : Option 𝒱.V) (E : Set ℕ) (i : grid0.Coords) (arg2 : Memref sig .tc .vmem S1x16384x128 .bf16) (harg2 : arg2.IsWhole) (arg3 : Memref sig .tc .vmem S1x16384x128 .bf16) (harg3 : arg3.IsWhole) (arg4 : Memref sig .tc .vmem S1x1x512x128 .bf16) (harg4 : arg4.IsWhole) (arg5 : Memref sig .tc .vmem S1x1x512x128 .bf16) (harg5 : arg5.IsWhole) (arg6 : Memref sig .tc .hbm S16x16384x128 .f32) (harg6 : arg6.IsWhole) (arg7 : Memref sig .tc .vmem S1x512x128 .f32) (harg7 : arg7.IsWhole) (arg8 : Memref sig .tc .vmem S1x512x128 .bf16) (harg8 : arg8.IsWhole) (arg9 : Memref sig .tc .vmem S16384x128 .f32) (harg9 : arg9.IsWhole) (arg10 : Memref sig .tc .vmem S128x512 .f32) (harg10 : arg10.IsWhole) (arg11 : Memref sig .tc .vmem S128x512 .f32) (harg11 : arg11.IsWhole) (arg12 : DmaSems sig S_) (v12 : FVec F S512x128 .bf16) (v14 : FVec F S512x128 .bf16) (v32 : BitVec 32)
    (X2 : BufTy.Contents (Elt F) arg2.view.ty) (X3 : BufTy.Contents (Elt F) arg3.view.ty) (G9 : BufTy.Contents (Elt F) arg9.view.ty)
    (G10 : BufTy.Contents (Elt F) arg10.view.ty) (G11 : BufTy.Contents (Elt F) arg11.view.ty) :
    LoopInv (M := 𝕄) Idealize.ShloMosaic.frame (wpE (defs₀ (F := F)) 𝒱 (c : Thread nD τ) bd) E
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg12 v12 v14 v32) where
  inv k _ := inv1 c i arg2 arg3 arg9 arg10 arg11 v12 v14 X2 X3 G9 G10 G11 k
  step k acc := by
    unfold k0_t1_body inv1 held
    rw [trips_succ]
    generalize trips i _ _ v12 v14 _ k.val = s
    iintro ⟨H2, H3, ⟨%f9, H9, %h9⟩, ⟨%f10, H10, %h10⟩, ⟨%f11, H11, %h11⟩⟩
    sl_exec
    sl_step
    isplitl [H2]; · iexact H2
    isplitl [H3]; · iexact H3
    isplitl [H9]
    · iexists _; isplitl [H9]; · iexact H9
      ipureintro
      rw [View.read_writes_cons_put _ _ _ _ _ rfl, View.writes_nil, h9]
      unfold trip
      refine congrArg _ ?_
      rw [← h9]; rfl
    isplitl [H10]
    · iexists _; isplitl [H10]; · iexact H10
      ipureintro
      rw [View.read_writes_full]
      unfold trip
      dsimp only
      rw [← h10]
      exact congrArg (k0_pay39 v12 v14 _ _) (View.readAt_full arg10.view f10 inb_S128x512_S128x512_0_0)
    iexists _; isplitl [H11]; · iexact H11
    ipureintro
    rw [View.read_writes_full]
    unfold trip
    dsimp only
    rw [← h11]
    exact congrArg (k0_pay38 v12 _ _) (View.readAt_full arg11.view f11 inb_S128x512_S128x512_0_0)

/-- The loop of unmasked steps at the head of a program. -/
theorem loop1_run (𝒱 : Variants) (c : Dev nD) (bd : Option 𝒱.V) (E : Set ℕ) (i : grid0.Coords) (arg2 : Memref sig .tc .vmem S1x16384x128 .bf16) (harg2 : arg2.IsWhole) (arg3 : Memref sig .tc .vmem S1x16384x128 .bf16) (harg3 : arg3.IsWhole) (arg4 : Memref sig .tc .vmem S1x1x512x128 .bf16) (harg4 : arg4.IsWhole) (arg5 : Memref sig .tc .vmem S1x1x512x128 .bf16) (harg5 : arg5.IsWhole) (arg6 : Memref sig .tc .hbm S16x16384x128 .f32) (harg6 : arg6.IsWhole) (arg7 : Memref sig .tc .vmem S1x512x128 .f32) (harg7 : arg7.IsWhole) (arg8 : Memref sig .tc .vmem S1x512x128 .bf16) (harg8 : arg8.IsWhole) (arg9 : Memref sig .tc .vmem S16384x128 .f32) (harg9 : arg9.IsWhole) (arg10 : Memref sig .tc .vmem S128x512 .f32) (harg10 : arg10.IsWhole) (arg11 : Memref sig .tc .vmem S128x512 .f32) (harg11 : arg11.IsWhole) (arg12 : DmaSems sig S_) (v12 : FVec F S512x128 .bf16) (v14 : FVec F S512x128 .bf16) (v32 : BitVec 32)
    (X2 : BufTy.Contents (Elt F) arg2.view.ty) (X3 : BufTy.Contents (Elt F) arg3.view.ty) (G9 : BufTy.Contents (Elt F) arg9.view.ty)
    (G10 : BufTy.Contents (Elt F) arg10.view.ty) (G11 : BufTy.Contents (Elt F) arg11.view.ty) (kk : Unit → Prog (TpuEff nD τ sig (Elt F) Λ₀ .tc) PUnit) (R : PUnit → sProp 𝕄) :
    iprop((arg2.view.loc (c : Thread nD τ) ↦[arg2.view.set]{fullShare} X2) ∗ (arg3.view.loc (c : Thread nD τ) ↦[arg3.view.set]{fullShare} X3)
      ∗ (arg9.view.loc (c : Thread nD τ) ↦[arg9.view.set]{fullShare} G9) ∗ (arg10.view.loc (c : Thread nD τ) ↦[arg10.view.set]{fullShare} G10)
      ∗ (arg11.view.loc (c : Thread nD τ) ↦[arg11.view.set]{fullShare} G11)) ⊢ iprop(
      (∀ acc, inv1 c i arg2 arg3 arg9 arg10 arg11 v12 v14 X2 X3 G9 G10 G11 (k0_t1_loop i).trips -∗ wp Idealize.ShloMosaic.frame (wpE (defs₀ (F := F)) 𝒱 (c : Thread nD τ) bd) E (kk acc) R)
      -∗ wp Idealize.ShloMosaic.frame (wpE (defs₀ (F := F)) 𝒱 (c : Thread nD τ) bd) E
        (Scf.Loop.for (k0_t1_loop i) (k0_t1_ok i) () (k0_t1_body (F := F) i arg2 harg2 arg3 harg3 arg4 harg4 arg5 harg5 arg6 harg6 arg7 harg7 arg8 harg8 arg9 harg9 arg10 harg10 arg11 harg11 arg12 v12 v14 v32) >>= kk) R) := by
  refine BI.BIBase.Entails.trans ?_ (exec_loop Idealize.ShloMosaic.frame (wpE (defs₀ (F := F)) 𝒱 (c : Thread nD τ) bd) E _ _ _ _ _ _
      (loop1 𝒱 c bd E i arg2 harg2 arg3 harg3 arg4 harg4 arg5 harg5 arg6 harg6 arg7 harg7 arg8 harg8 arg9 harg9 arg10 harg10 arg11 harg11 arg12 v12 v14 v32 X2 X3 G9 G10 G11))
  show _ ⊢ inv1 c i arg2 arg3 arg9 arg10 arg11 v12 v14 X2 X3 G9 G10 G11 0
  unfold inv1
  iintro ⟨H2, H3, H9, H10, H11⟩
  isplitl [H2]; · iexact H2
  isplitl [H3]; · iexact H3
  isplitl [H9]
  · iexists _; isplitl [H9]; · iexact H9
    ipureintro; rfl
  isplitl [H10]
  · iexists _; isplitl [H10]; · iexact H10
    ipureintro; rfl
  iexists _; isplitl [H11]; · iexact H11
  ipureintro; rfl

/-- The second loop's bounds meet at every grid point. -/
theorem no_trips : ∀ i : grid0.Coords, (k0_t2_loop i).trips = 0 := by decide +kernel

set_option warn.classDefReducibility false in
/-- The loop that takes no trip. -/
@[sl_loop] def loop2 (𝒱 : Variants) (c : Dev nD) (bd : Option 𝒱.V) (E : Set ℕ) (i : grid0.Coords) (arg2 : Memref sig .tc .vmem S1x16384x128 .bf16) (harg2 : arg2.IsWhole) (arg3 : Memref sig .tc .vmem S1x16384x128 .bf16) (harg3 : arg3.IsWhole) (arg4 : Memref sig .tc .vmem S1x1x512x128 .bf16) (harg4 : arg4.IsWhole) (arg5 : Memref sig .tc .vmem S1x1x512x128 .bf16) (harg5 : arg5.IsWhole) (arg6 : Memref sig .tc .hbm S16x16384x128 .f32) (harg6 : arg6.IsWhole) (arg7 : Memref sig .tc .vmem S1x512x128 .f32) (harg7 : arg7.IsWhole) (arg8 : Memref sig .tc .vmem S1x512x128 .bf16) (harg8 : arg8.IsWhole) (arg9 : Memref sig .tc .vmem S16384x128 .f32) (harg9 : arg9.IsWhole) (arg10 : Memref sig .tc .vmem S128x512 .f32) (harg10 : arg10.IsWhole) (arg11 : Memref sig .tc .vmem S128x512 .f32) (harg11 : arg11.IsWhole) (arg12 : DmaSems sig S_) (v12 : FVec F S512x128 .bf16) (v14 : FVec F S512x128 .bf16) (v37 : BitVec 32) :
    LoopInv (M := 𝕄) Idealize.ShloMosaic.frame (wpE (defs₀ (F := F)) 𝒱 (c : Thread nD τ) bd) E
      (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 arg11 harg11 arg12 v12 v14 v37) where
  inv k _ := iprop(emp)
  step k acc := absurd k.isLt (by
    have h : Scf.trips (k0_t2_loop i).lb (k0_t2_loop i).ub (k0_t2_loop i).st = 0 := no_trips i
    omega)

end Cert.KernelIdeal.Hand
-- ==== Proof.KI.Body.lean ====
/-
  The backward kernel run at one grid point.  The grid meets six combinations of the body's conditionals: the first key
  tile of a head clears the query gradient, the last one sends it to the array in HBM, and a tile's place in its group of
  four says how many rows the masked step has.  One theorem per combination, each the body run once; all say the same:
  the operands as they were, the tile's key and value gradients in the two result blocks, the query gradient advanced by
  this tile, the cell back at zero.
-/
module

public import proofs.«01_k».proof.Proof.KI.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The query gradient's accumulator, the two of the tile, and the array the query gradient goes to. -/
abbrev sc0 : Memref sig .tc .vmem S16384x128 .f32 := Memref.whole cc0_scratch0
abbrev sc1 : Memref sig .tc .vmem S128x512 .f32 := Memref.whole cc0_scratch1
abbrev sc2 : Memref sig .tc .vmem S128x512 .f32 := Memref.whole cc0_scratch2
abbrev hb : Memref sig .tc .hbm S16x16384x128 .f32 := Memref.whole main_v99_0

/-- The head of the array the point's transfer writes. -/
abbrev headOf (i : grid0.Coords) (h : k0_cond6 i = 1#1) : Memref sig .tc .hbm S16384x128 .f32 :=
  (hb.slice (Rect.unit (s := S16x16384x128) (k0_off13 i) S1x16384x128.size (k0_off13_inb i h)) (fun _ => rfl)).squeeze S16384x128 squeezes_S1x16384x128_S16384x128

/-- The array after the point: its head replaced at a head's last tile, itself before. -/
def putHead (i : grid0.Coords) (G : Vec F S16x16384x128 .f32) (x : Vec F S16384x128 .f32) : Vec F S16x16384x128 .f32 :=
  if h : k0_cond6 i = 1#1 then (headOf i h).view.write (Elt F) G x Finset.univ else G

/-- The query gradient a point begins with: zeros at a head's first tile. -/
def begins (i : grid0.Coords) (x : Vec F S16384x128 .f32) : Vec F S16384x128 .f32 :=
  if Scalar.cmpi .ne (Scalar.extui (Scalar.cmpi .eq (BitVec.ofNat 32 (i 1).val) 0#32)) 0#32 = 1#1 then k0_pay47 else x

/-- Accumulators equal to `S'` are its three parts. -/
theorem Acc.eq_of (S S' : Acc F) (h : S = S') : S = ⟨S'.dq, S'.dk, S'.dv⟩ := h

/-- What a point's kernel starts with. -/
def pre (c : Dev nD) (arg2 arg3 : Memref sig .tc .vmem S1x16384x128 .bf16) (arg4 arg5 : Memref sig .tc .vmem S1x1x512x128 .bf16)
    (arg7 : Memref sig .tc .vmem S1x512x128 .f32) (arg8 : Memref sig .tc .vmem S1x512x128 .bf16)
    (Q D : Vec F S1x16384x128 .bf16) (K V : Vec F S1x1x512x128 .bf16) (x : Vec F S16384x128 .f32)
    (G : Vec F S16x16384x128 .f32) (W : Waits sig Unit) : sProp 𝕄 :=
  iprop(owns (c : Thread nD τ) arg2 fullShare Q ∗ owns (c : Thread nD τ) arg3 fullShare D
    ∗ owns (c : Thread nD τ) arg4 fullShare K ∗ owns (c : Thread nD τ) arg5 fullShare V
    ∗ (∃ d, owns (c : Thread nD τ) arg7 fullShare d) ∗ (∃ d, owns (c : Thread nD τ) arg8 fullShare d)
    ∗ owns (c : Thread nD τ) sc0 fullShare x
    ∗ (∃ d, owns (c : Thread nD τ) sc1 fullShare d) ∗ (∃ d, owns (c : Thread nD τ) sc2 fullShare d)
    ∗ (hb.view.loc (c : Thread nD τ) ↦{fullShare} G)
    ∗ semVal ((c : Thread nD τ), SemLoc.dma 12) 0 ∗ owes (c : Thread nD τ) 0 W)

/-- What it ends with, the accumulators at `A`, the array at `G`. -/
def post (c : Dev nD) (arg2 arg3 : Memref sig .tc .vmem S1x16384x128 .bf16) (arg4 arg5 : Memref sig .tc .vmem S1x1x512x128 .bf16)
    (arg7 : Memref sig .tc .vmem S1x512x128 .f32) (arg8 : Memref sig .tc .vmem S1x512x128 .bf16)
    (Q D : Vec F S1x16384x128 .bf16) (K V : Vec F S1x1x512x128 .bf16) (A : Acc F)
    (G : Vec F S16x16384x128 .f32) : sProp 𝕄 :=
  iprop(owns (c : Thread nD τ) arg2 fullShare Q ∗ owns (c : Thread nD τ) arg3 fullShare D
    ∗ owns (c : Thread nD τ) arg4 fullShare K ∗ owns (c : Thread nD τ) arg5 fullShare V
    ∗ owns (c : Thread nD τ) arg7 fullShare (k0_pay3 A.dk) ∗ owns (c : Thread nD τ) arg8 fullShare (k0_pay4 A.dv)
    ∗ owns (c : Thread nD τ) sc0 fullShare A.dq
    ∗ (∃ d, owns (c : Thread nD τ) sc1 fullShare d) ∗ (∃ d, owns (c : Thread nD τ) sc2 fullShare d)
    ∗ (hb.view.loc (c : Thread nD τ) ↦{fullShare} G)
    ∗ semVal ((c : Thread nD τ), SemLoc.dma 12) 0 ∗ (∃ W', owes (c : Thread nD τ) 0 W'))

/-- The point's run: from `pre` the kernel reaches `post` at this tile's accumulators. -/
abbrev Runs (c : Dev nD) (i : grid0.Coords) (arg2 : Memref sig .tc .vmem S1x16384x128 .bf16) (harg2 : arg2.IsWhole) (arg3 : Memref sig .tc .vmem S1x16384x128 .bf16) (harg3 : arg3.IsWhole) (arg4 : Memref sig .tc .vmem S1x1x512x128 .bf16) (harg4 : arg4.IsWhole) (arg5 : Memref sig .tc .vmem S1x1x512x128 .bf16) (harg5 : arg5.IsWhole) (arg7 : Memref sig .tc .vmem S1x512x128 .f32) (harg7 : arg7.IsWhole) (arg8 : Memref sig .tc .vmem S1x512x128 .bf16) (harg8 : arg8.IsWhole)
    (Q D : Vec F S1x16384x128 .bf16) (K V : Vec F S1x1x512x128 .bf16) (x : Vec F S16384x128 .f32)
    (G : Vec F S16x16384x128 .f32) : Prop :=
  ∀ (W : Waits sig Unit) (R : PUnit → sProp 𝕄),
    iprop(pre c arg2 arg3 arg4 arg5 arg7 arg8 Q D K V x G W
      ∗ (post c arg2 arg3 arg4 arg5 arg7 arg8 Q D K V (pointAcc i Q D K V (begins i x)) (putHead i G (pointAcc i Q D K V (begins i x)).dq) -∗ R ⟨⟩))
    ⊢ wp frame (wpE (defs₀ (F := F)) Variants.none (c : Thread nD τ) none) Set.univ (cc0_flash_bwd (F := F) i arg2 harg2 arg3 harg3 arg4 harg4 arg5 harg5 hb (Memref.isWhole_whole _) arg7 harg7 arg8 harg8 sc0 (Memref.isWhole_whole _) sc1 (Memref.isWhole_whole _) sc2 (Memref.isWhole_whole _) cc0_scratch3) R

variable (c : Dev nD) (i : grid0.Coords) (arg2 : Memref sig .tc .vmem S1x16384x128 .bf16) (harg2 : arg2.IsWhole) (arg3 : Memref sig .tc .vmem S1x16384x128 .bf16) (harg3 : arg3.IsWhole) (arg4 : Memref sig .tc .vmem S1x1x512x128 .bf16) (harg4 : arg4.IsWhole) (arg5 : Memref sig .tc .vmem S1x1x512x128 .bf16) (harg5 : arg5.IsWhole) (arg7 : Memref sig .tc .vmem S1x512x128 .f32) (harg7 : arg7.IsWhole) (arg8 : Memref sig .tc .vmem S1x512x128 .bf16) (harg8 : arg8.IsWhole)
    (Q D : Vec F S1x16384x128 .bf16) (K V : Vec F S1x1x512x128 .bf16) (x : Vec F S16384x128 .f32) (G : Vec F S16x16384x128 .f32)

/-- A buffer held, as a block of what it reads. -/
theorem own_read {sp : Space} {s : Shape} {e : EltTy} (a : Memref sig .tc sp s e) (f : BufTy.Contents (Elt F) a.view.ty) :
    iprop(a.view.loc (c : Thread nD τ) ↦[a.view.set]{fullShare} f : sProp 𝕄) ⊢ owns (c : Thread nD τ) a fullShare (a.view.read (Elt F) f) := by
  unfold owns
  iintro H
  iexists _; isplitr; swap; (iexact H); ipureintro; rfl

/-- A buffer held, as a block of something. -/
theorem own_some {sp : Space} {s : Shape} {e : EltTy} (a : Memref sig .tc sp s e) (f : BufTy.Contents (Elt F) a.view.ty) :
    iprop(a.view.loc (c : Thread nD τ) ↦[a.view.set]{fullShare} f : sProp 𝕄) ⊢ iprop(∃ d, owns (c : Thread nD τ) a fullShare d) := by
  iintro H
  iexists _
  iapply own_read; iexact H

/-- A tile read whole. -/
theorem tile_read (a : Memref sig .tc .vmem S1x1x512x128 .bf16) (f : BufTy.Contents (Elt F) a.view.ty) :
    a.view.readAt (Elt F) (Rect.unit (s := S1x1x512x128) ![0, 0, 0, 0] S1x1x512x128.size inb_S1x1x512x128_S1x1x512x128_0_0_0_0).toLoadRect f = a.view.read (Elt F) f :=
  View.readAt_full _ _ _

/-- The first tile of a head. -/
theorem run_first
    (h1 : Scalar.cmpi .ne (Scalar.extui (Scalar.cmpi .eq (BitVec.ofNat 32 (i 1).val) 0#32)) 0#32 = 1#1)
    (h2 : k0_cond2 i = 1#1) (h3 : ¬ k0_cond3 i = 1#1) (h4 : ¬ k0_cond4 i = 1#1) (h5 : ¬ k0_cond5 i = 1#1) (h6 : ¬ k0_cond6 i = 1#1) :
    Runs c i arg2 harg2 arg3 harg3 arg4 harg4 arg5 harg5 arg7 harg7 arg8 harg8 Q D K V x G := by
  intro W R
  simp only [cc0_flash_bwd_eq_skeleton]; unfold cc0_flash_bwd_skel
  unfold pre owns
  iintro ⟨⟨⟨%f2, %e2, H2⟩, ⟨%f3, %e3, H3⟩, ⟨%f4, %e4, H4⟩, ⟨%f5, %e5, H5⟩, ⟨%d7, %f7, -, H7⟩, ⟨%d8, %f8, -, H8⟩, ⟨%f9, %e9, H9⟩, ⟨%d10, %f10, -, H10⟩, ⟨%d11, %f11, -, H11⟩, Hh, Hs, HW⟩, Hk⟩
  sl_exec
  iapply (loop1_run (F := F)) $$ [H2 H3 H9 H10 H11]
  · isplitl [H2]; · iexact H2
    isplitl [H3]; · iexact H3
    isplitl [H9]; · iexact H9
    isplitl [H10]; · iexact H10
    iexact H11
  iintro %acc ⟨H2, H3, ⟨%f9', H9, %h9⟩, ⟨%f10', H10, %h10⟩, ⟨%f11', H11, %h11⟩⟩
  sl_exec
  sl_step
  subst e2 e3 e4 e5 e9
  have e4 := tile_read arg4 f4
  have e5 := tile_read arg5 f5
  have hA : pointAcc i (arg2.view.read (Elt F) f2) (arg3.view.read (Elt F) f3) (arg4.view.read (Elt F) f4) (arg5.view.read (Elt F) f5) (begins i (sc0.view.read (Elt F) f9))
      = ⟨sc0.view.read (Elt F) f9', sc1.view.read (Elt F) f10', sc2.view.read (Elt F) f11'⟩ := by
    rw [h9, h10, h11]
    refine Acc.eq_of _ _ ?_
    unfold held pointAcc
    rw [← e4, ← e5]
    refine congrArg (fun s => trips i (arg2.view.read (Elt F) f2) (arg3.view.read (Elt F) f3)
      (k0_pay50 (arg4.view.readAt (Elt F) (Rect.unit (s := S1x1x512x128) ![0, 0, 0, 0] S1x1x512x128.size inb_S1x1x512x128_S1x1x512x128_0_0_0_0).toLoadRect f4))
      (k0_pay51 (arg5.view.readAt (Elt F) (Rect.unit (s := S1x1x512x128) ![0, 0, 0, 0] S1x1x512x128.size inb_S1x1x512x128_S1x1x512x128_0_0_0_0).toLoadRect f5)) s (k0_t1_loop i).trips) ?_
    unfold diag begins
    rw [ dif_pos h2, if_pos h1]
    unfold diag1
    dsimp only
    rw [Acc.mk.injEq]
    refine ⟨?_, ?_, ?_⟩
    · symm
      rw [View.read_writes_cons_put _ _ _ _ _ rfl]
      have hz : sc0.view.read (Elt F) (sc0.view.writes (Elt F) sc0.view.junk [⟨Rect.unit (s := S16384x128) ![0, 0] S16384x128.size inb_S16384x128_S16384x128_0_0, k0_pay47 (F := F)⟩]) = k0_pay47 := View.read_writes_full _ _ _ _ _
      conv_rhs => rw [← hz]
      rfl
    · symm
      refine (View.read_writes_full _ _ _ _ _).trans ?_
      refine congrArg (fun z => k0_pay52 (k0_pay11 _ _ _ _ z)) ?_
      exact View.readCov_full _ _ _ _ _
    · symm
      refine (View.read_writes_full _ _ _ _ _).trans ?_
      refine congrArg (fun z => k0_pay10 _ _ _ z) ?_
      exact View.readCov_full _ _ _ _ _
  iapply Hk
  unfold post
  rw [hA]
  dsimp only
  isplitl [H2]; · iapply own_read; iexact H2
  isplitl [H3]; · iapply own_read; iexact H3
  isplitl [H4]; · iapply own_read; iexact H4
  isplitl [H5]; · iapply own_read; iexact H5
  isplitl [H7]
  · unfold owns; iexists _; isplitr; swap; (iexact H7); ipureintro
    rw [View.read_writes_full]
    exact congrArg k0_pay3 (View.readAt_full _ _ _)
  isplitl [H8]
  · unfold owns; iexists _; isplitr; swap; (iexact H8); ipureintro
    rw [View.read_writes_full]
    exact congrArg k0_pay4 (View.readAt_full _ _ _)
  isplitl [H9]; · iapply own_read; iexact H9
  isplitl [H10]; · iapply own_some; iexact H10
  isplitl [H11]; · iapply own_some; iexact H11
  unfold putHead
  rw [dif_neg h6]
  isplitl [Hh]; · iexact Hh
  isplitl [Hs]; · iexact Hs
  iexists _; iexact HW

/-- The first tile of a group. -/
theorem run_0
    (h1 : ¬ Scalar.cmpi .ne (Scalar.extui (Scalar.cmpi .eq (BitVec.ofNat 32 (i 1).val) 0#32)) 0#32 = 1#1)
    (h2 : k0_cond2 i = 1#1) (h3 : ¬ k0_cond3 i = 1#1) (h4 : ¬ k0_cond4 i = 1#1) (h5 : ¬ k0_cond5 i = 1#1) (h6 : ¬ k0_cond6 i = 1#1) :
    Runs c i arg2 harg2 arg3 harg3 arg4 harg4 arg5 harg5 arg7 harg7 arg8 harg8 Q D K V x G := by
  intro W R
  simp only [cc0_flash_bwd_eq_skeleton]; unfold cc0_flash_bwd_skel
  unfold pre owns
  iintro ⟨⟨⟨%f2, %e2, H2⟩, ⟨%f3, %e3, H3⟩, ⟨%f4, %e4, H4⟩, ⟨%f5, %e5, H5⟩, ⟨%d7, %f7, -, H7⟩, ⟨%d8, %f8, -, H8⟩, ⟨%f9, %e9, H9⟩, ⟨%d10, %f10, -, H10⟩, ⟨%d11, %f11, -, H11⟩, Hh, Hs, HW⟩, Hk⟩
  sl_exec
  iapply (loop1_run (F := F)) $$ [H2 H3 H9 H10 H11]
  · isplitl [H2]; · iexact H2
    isplitl [H3]; · iexact H3
    isplitl [H9]; · iexact H9
    isplitl [H10]; · iexact H10
    iexact H11
  iintro %acc ⟨H2, H3, ⟨%f9', H9, %h9⟩, ⟨%f10', H10, %h10⟩, ⟨%f11', H11, %h11⟩⟩
  sl_exec
  sl_step
  subst e2 e3 e4 e5 e9
  have e4 := tile_read arg4 f4
  have e5 := tile_read arg5 f5
  have hA : pointAcc i (arg2.view.read (Elt F) f2) (arg3.view.read (Elt F) f3) (arg4.view.read (Elt F) f4) (arg5.view.read (Elt F) f5) (begins i (sc0.view.read (Elt F) f9))
      = ⟨sc0.view.read (Elt F) f9', sc1.view.read (Elt F) f10', sc2.view.read (Elt F) f11'⟩ := by
    rw [h9, h10, h11]
    refine Acc.eq_of _ _ ?_
    unfold held pointAcc
    rw [← e4, ← e5]
    refine congrArg (fun s => trips i (arg2.view.read (Elt F) f2) (arg3.view.read (Elt F) f3)
      (k0_pay50 (arg4.view.readAt (Elt F) (Rect.unit (s := S1x1x512x128) ![0, 0, 0, 0] S1x1x512x128.size inb_S1x1x512x128_S1x1x512x128_0_0_0_0).toLoadRect f4))
      (k0_pay51 (arg5.view.readAt (Elt F) (Rect.unit (s := S1x1x512x128) ![0, 0, 0, 0] S1x1x512x128.size inb_S1x1x512x128_S1x1x512x128_0_0_0_0).toLoadRect f5)) s (k0_t1_loop i).trips) ?_
    unfold diag begins
    rw [ dif_pos h2, if_neg h1]
    unfold diag1
    dsimp only
    rw [Acc.mk.injEq]
    refine ⟨?_, ?_, ?_⟩
    · symm
      rw [View.read_writes_cons_put _ _ _ _ _ rfl, View.writes_nil]
      rfl
    · symm
      refine (View.read_writes_full _ _ _ _ _).trans ?_
      refine congrArg (fun z => k0_pay52 (k0_pay11 _ _ _ _ z)) ?_
      exact View.readCov_full _ _ _ _ _
    · symm
      refine (View.read_writes_full _ _ _ _ _).trans ?_
      refine congrArg (fun z => k0_pay10 _ _ _ z) ?_
      exact View.readCov_full _ _ _ _ _
  iapply Hk
  unfold post
  rw [hA]
  dsimp only
  isplitl [H2]; · iapply own_read; iexact H2
  isplitl [H3]; · iapply own_read; iexact H3
  isplitl [H4]; · iapply own_read; iexact H4
  isplitl [H5]; · iapply own_read; iexact H5
  isplitl [H7]
  · unfold owns; iexists _; isplitr; swap; (iexact H7); ipureintro
    rw [View.read_writes_full]
    exact congrArg k0_pay3 (View.readAt_full _ _ _)
  isplitl [H8]
  · unfold owns; iexists _; isplitr; swap; (iexact H8); ipureintro
    rw [View.read_writes_full]
    exact congrArg k0_pay4 (View.readAt_full _ _ _)
  isplitl [H9]; · iapply own_read; iexact H9
  isplitl [H10]; · iapply own_some; iexact H10
  isplitl [H11]; · iapply own_some; iexact H11
  unfold putHead
  rw [dif_neg h6]
  isplitl [Hh]; · iexact Hh
  isplitl [Hs]; · iexact Hs
  iexists _; iexact HW

/-- The second tile of a group. -/
theorem run_1
    (h1 : ¬ Scalar.cmpi .ne (Scalar.extui (Scalar.cmpi .eq (BitVec.ofNat 32 (i 1).val) 0#32)) 0#32 = 1#1)
    (h2 : ¬ k0_cond2 i = 1#1) (h3 : k0_cond3 i = 1#1) (h4 : ¬ k0_cond4 i = 1#1) (h5 : ¬ k0_cond5 i = 1#1) (h6 : ¬ k0_cond6 i = 1#1) :
    Runs c i arg2 harg2 arg3 harg3 arg4 harg4 arg5 harg5 arg7 harg7 arg8 harg8 Q D K V x G := by
  intro W R
  simp only [cc0_flash_bwd_eq_skeleton]; unfold cc0_flash_bwd_skel
  unfold pre owns
  iintro ⟨⟨⟨%f2, %e2, H2⟩, ⟨%f3, %e3, H3⟩, ⟨%f4, %e4, H4⟩, ⟨%f5, %e5, H5⟩, ⟨%d7, %f7, -, H7⟩, ⟨%d8, %f8, -, H8⟩, ⟨%f9, %e9, H9⟩, ⟨%d10, %f10, -, H10⟩, ⟨%d11, %f11, -, H11⟩, Hh, Hs, HW⟩, Hk⟩
  sl_exec
  iapply (loop1_run (F := F)) $$ [H2 H3 H9 H10 H11]
  · isplitl [H2]; · iexact H2
    isplitl [H3]; · iexact H3
    isplitl [H9]; · iexact H9
    isplitl [H10]; · iexact H10
    iexact H11
  iintro %acc ⟨H2, H3, ⟨%f9', H9, %h9⟩, ⟨%f10', H10, %h10⟩, ⟨%f11', H11, %h11⟩⟩
  sl_exec
  sl_step
  subst e2 e3 e4 e5 e9
  have e4 := tile_read arg4 f4
  have e5 := tile_read arg5 f5
  have hA : pointAcc i (arg2.view.read (Elt F) f2) (arg3.view.read (Elt F) f3) (arg4.view.read (Elt F) f4) (arg5.view.read (Elt F) f5) (begins i (sc0.view.read (Elt F) f9))
      = ⟨sc0.view.read (Elt F) f9', sc1.view.read (Elt F) f10', sc2.view.read (Elt F) f11'⟩ := by
    rw [h9, h10, h11]
    refine Acc.eq_of _ _ ?_
    unfold held pointAcc
    rw [← e4, ← e5]
    refine congrArg (fun s => trips i (arg2.view.read (Elt F) f2) (arg3.view.read (Elt F) f3)
      (k0_pay50 (arg4.view.readAt (Elt F) (Rect.unit (s := S1x1x512x128) ![0, 0, 0, 0] S1x1x512x128.size inb_S1x1x512x128_S1x1x512x128_0_0_0_0).toLoadRect f4))
      (k0_pay51 (arg5.view.readAt (Elt F) (Rect.unit (s := S1x1x512x128) ![0, 0, 0, 0] S1x1x512x128.size inb_S1x1x512x128_S1x1x512x128_0_0_0_0).toLoadRect f5)) s (k0_t1_loop i).trips) ?_
    unfold diag begins
    rw [dif_neg h2, dif_pos h3, if_neg h1]
    unfold diag2
    dsimp only
    rw [Acc.mk.injEq]
    refine ⟨?_, ?_, ?_⟩
    · symm
      rw [View.read_writes_cons_put _ _ _ _ _ rfl, View.writes_nil]
      rfl
    · symm
      refine (View.read_writes_full _ _ _ _ _).trans ?_
      refine congrArg (fun z => k0_pay53 (k0_pay18 _ _ _ _ z)) ?_
      exact View.readCov_full _ _ _ _ _
    · symm
      refine (View.read_writes_full _ _ _ _ _).trans ?_
      refine congrArg (fun z => k0_pay17 _ _ _ z) ?_
      exact View.readCov_full _ _ _ _ _
  iapply Hk
  unfold post
  rw [hA]
  dsimp only
  isplitl [H2]; · iapply own_read; iexact H2
  isplitl [H3]; · iapply own_read; iexact H3
  isplitl [H4]; · iapply own_read; iexact H4
  isplitl [H5]; · iapply own_read; iexact H5
  isplitl [H7]
  · unfold owns; iexists _; isplitr; swap; (iexact H7); ipureintro
    rw [View.read_writes_full]
    exact congrArg k0_pay3 (View.readAt_full _ _ _)
  isplitl [H8]
  · unfold owns; iexists _; isplitr; swap; (iexact H8); ipureintro
    rw [View.read_writes_full]
    exact congrArg k0_pay4 (View.readAt_full _ _ _)
  isplitl [H9]; · iapply own_read; iexact H9
  isplitl [H10]; · iapply own_some; iexact H10
  isplitl [H11]; · iapply own_some; iexact H11
  unfold putHead
  rw [dif_neg h6]
  isplitl [Hh]; · iexact Hh
  isplitl [Hs]; · iexact Hs
  iexists _; iexact HW

/-- The third tile of a group. -/
theorem run_2
    (h1 : ¬ Scalar.cmpi .ne (Scalar.extui (Scalar.cmpi .eq (BitVec.ofNat 32 (i 1).val) 0#32)) 0#32 = 1#1)
    (h2 : ¬ k0_cond2 i = 1#1) (h3 : ¬ k0_cond3 i = 1#1) (h4 : k0_cond4 i = 1#1) (h5 : ¬ k0_cond5 i = 1#1) (h6 : ¬ k0_cond6 i = 1#1) :
    Runs c i arg2 harg2 arg3 harg3 arg4 harg4 arg5 harg5 arg7 harg7 arg8 harg8 Q D K V x G := by
  intro W R
  simp only [cc0_flash_bwd_eq_skeleton]; unfold cc0_flash_bwd_skel
  unfold pre owns
  iintro ⟨⟨⟨%f2, %e2, H2⟩, ⟨%f3, %e3, H3⟩, ⟨%f4, %e4, H4⟩, ⟨%f5, %e5, H5⟩, ⟨%d7, %f7, -, H7⟩, ⟨%d8, %f8, -, H8⟩, ⟨%f9, %e9, H9⟩, ⟨%d10, %f10, -, H10⟩, ⟨%d11, %f11, -, H11⟩, Hh, Hs, HW⟩, Hk⟩
  sl_exec
  iapply (loop1_run (F := F)) $$ [H2 H3 H9 H10 H11]
  · isplitl [H2]; · iexact H2
    isplitl [H3]; · iexact H3
    isplitl [H9]; · iexact H9
    isplitl [H10]; · iexact H10
    iexact H11
  iintro %acc ⟨H2, H3, ⟨%f9', H9, %h9⟩, ⟨%f10', H10, %h10⟩, ⟨%f11', H11, %h11⟩⟩
  sl_exec
  sl_step
  subst e2 e3 e4 e5 e9
  have e4 := tile_read arg4 f4
  have e5 := tile_read arg5 f5
  have hA : pointAcc i (arg2.view.read (Elt F) f2) (arg3.view.read (Elt F) f3) (arg4.view.read (Elt F) f4) (arg5.view.read (Elt F) f5) (begins i (sc0.view.read (Elt F) f9))
      = ⟨sc0.view.read (Elt F) f9', sc1.view.read (Elt F) f10', sc2.view.read (Elt F) f11'⟩ := by
    rw [h9, h10, h11]
    refine Acc.eq_of _ _ ?_
    unfold held pointAcc
    rw [← e4, ← e5]
    refine congrArg (fun s => trips i (arg2.view.read (Elt F) f2) (arg3.view.read (Elt F) f3)
      (k0_pay50 (arg4.view.readAt (Elt F) (Rect.unit (s := S1x1x512x128) ![0, 0, 0, 0] S1x1x512x128.size inb_S1x1x512x128_S1x1x512x128_0_0_0_0).toLoadRect f4))
      (k0_pay51 (arg5.view.readAt (Elt F) (Rect.unit (s := S1x1x512x128) ![0, 0, 0, 0] S1x1x512x128.size inb_S1x1x512x128_S1x1x512x128_0_0_0_0).toLoadRect f5)) s (k0_t1_loop i).trips) ?_
    unfold diag begins
    rw [dif_neg h2, dif_neg h3, dif_pos h4, if_neg h1]
    unfold diag3
    dsimp only
    rw [Acc.mk.injEq]
    refine ⟨?_, ?_, ?_⟩
    · symm
      rw [View.read_writes_cons_put _ _ _ _ _ rfl, View.writes_nil]
      rfl
    · symm
      refine (View.read_writes_full _ _ _ _ _).trans ?_
      refine congrArg (fun z => k0_pay1 (k0_pay25 _ _ _ _ z)) ?_
      exact View.readCov_full _ _ _ _ _
    · symm
      refine (View.read_writes_full _ _ _ _ _).trans ?_
      refine congrArg (fun z => k0_pay24 _ _ _ z) ?_
      exact View.readCov_full _ _ _ _ _
  iapply Hk
  unfold post
  rw [hA]
  dsimp only
  isplitl [H2]; · iapply own_read; iexact H2
  isplitl [H3]; · iapply own_read; iexact H3
  isplitl [H4]; · iapply own_read; iexact H4
  isplitl [H5]; · iapply own_read; iexact H5
  isplitl [H7]
  · unfold owns; iexists _; isplitr; swap; (iexact H7); ipureintro
    rw [View.read_writes_full]
    exact congrArg k0_pay3 (View.readAt_full _ _ _)
  isplitl [H8]
  · unfold owns; iexists _; isplitr; swap; (iexact H8); ipureintro
    rw [View.read_writes_full]
    exact congrArg k0_pay4 (View.readAt_full _ _ _)
  isplitl [H9]; · iapply own_read; iexact H9
  isplitl [H10]; · iapply own_some; iexact H10
  isplitl [H11]; · iapply own_some; iexact H11
  unfold putHead
  rw [dif_neg h6]
  isplitl [Hh]; · iexact Hh
  isplitl [Hs]; · iexact Hs
  iexists _; iexact HW

/-- The fourth tile of a group. -/
theorem run_3
    (h1 : ¬ Scalar.cmpi .ne (Scalar.extui (Scalar.cmpi .eq (BitVec.ofNat 32 (i 1).val) 0#32)) 0#32 = 1#1)
    (h2 : ¬ k0_cond2 i = 1#1) (h3 : ¬ k0_cond3 i = 1#1) (h4 : ¬ k0_cond4 i = 1#1) (h5 : k0_cond5 i = 1#1) (h6 : ¬ k0_cond6 i = 1#1) :
    Runs c i arg2 harg2 arg3 harg3 arg4 harg4 arg5 harg5 arg7 harg7 arg8 harg8 Q D K V x G := by
  intro W R
  simp only [cc0_flash_bwd_eq_skeleton]; unfold cc0_flash_bwd_skel
  unfold pre owns
  iintro ⟨⟨⟨%f2, %e2, H2⟩, ⟨%f3, %e3, H3⟩, ⟨%f4, %e4, H4⟩, ⟨%f5, %e5, H5⟩, ⟨%d7, %f7, -, H7⟩, ⟨%d8, %f8, -, H8⟩, ⟨%f9, %e9, H9⟩, ⟨%d10, %f10, -, H10⟩, ⟨%d11, %f11, -, H11⟩, Hh, Hs, HW⟩, Hk⟩
  sl_exec
  iapply (loop1_run (F := F)) $$ [H2 H3 H9 H10 H11]
  · isplitl [H2]; · iexact H2
    isplitl [H3]; · iexact H3
    isplitl [H9]; · iexact H9
    isplitl [H10]; · iexact H10
    iexact H11
  iintro %acc ⟨H2, H3, ⟨%f9', H9, %h9⟩, ⟨%f10', H10, %h10⟩, ⟨%f11', H11, %h11⟩⟩
  sl_exec
  sl_step
  subst e2 e3 e4 e5 e9
  have e4 := tile_read arg4 f4
  have e5 := tile_read arg5 f5
  have hA : pointAcc i (arg2.view.read (Elt F) f2) (arg3.view.read (Elt F) f3) (arg4.view.read (Elt F) f4) (arg5.view.read (Elt F) f5) (begins i (sc0.view.read (Elt F) f9))
      = ⟨sc0.view.read (Elt F) f9', sc1.view.read (Elt F) f10', sc2.view.read (Elt F) f11'⟩ := by
    rw [h9, h10, h11]
    refine Acc.eq_of _ _ ?_
    unfold held pointAcc
    rw [← e4, ← e5]
    refine congrArg (fun s => trips i (arg2.view.read (Elt F) f2) (arg3.view.read (Elt F) f3)
      (k0_pay50 (arg4.view.readAt (Elt F) (Rect.unit (s := S1x1x512x128) ![0, 0, 0, 0] S1x1x512x128.size inb_S1x1x512x128_S1x1x512x128_0_0_0_0).toLoadRect f4))
      (k0_pay51 (arg5.view.readAt (Elt F) (Rect.unit (s := S1x1x512x128) ![0, 0, 0, 0] S1x1x512x128.size inb_S1x1x512x128_S1x1x512x128_0_0_0_0).toLoadRect f5)) s (k0_t1_loop i).trips) ?_
    unfold diag begins
    rw [dif_neg h2, dif_neg h3, dif_neg h4, dif_pos h5, if_neg h1]
    unfold diag4
    dsimp only
    rw [Acc.mk.injEq]
    refine ⟨?_, ?_, ?_⟩
    · symm
      rw [View.read_writes_cons_put _ _ _ _ _ rfl, View.writes_nil]
      rfl
    · symm
      refine (View.read_writes_full _ _ _ _ _).trans ?_
      refine congrArg (fun z => k0_pay2 (k0_pay32 _ _ _ _ z)) ?_
      exact View.readCov_full _ _ _ _ _
    · symm
      refine (View.read_writes_full _ _ _ _ _).trans ?_
      refine congrArg (fun z => k0_pay31 _ _ _ z) ?_
      exact View.readCov_full _ _ _ _ _
  iapply Hk
  unfold post
  rw [hA]
  dsimp only
  isplitl [H2]; · iapply own_read; iexact H2
  isplitl [H3]; · iapply own_read; iexact H3
  isplitl [H4]; · iapply own_read; iexact H4
  isplitl [H5]; · iapply own_read; iexact H5
  isplitl [H7]
  · unfold owns; iexists _; isplitr; swap; (iexact H7); ipureintro
    rw [View.read_writes_full]
    exact congrArg k0_pay3 (View.readAt_full _ _ _)
  isplitl [H8]
  · unfold owns; iexists _; isplitr; swap; (iexact H8); ipureintro
    rw [View.read_writes_full]
    exact congrArg k0_pay4 (View.readAt_full _ _ _)
  isplitl [H9]; · iapply own_read; iexact H9
  isplitl [H10]; · iapply own_some; iexact H10
  isplitl [H11]; · iapply own_some; iexact H11
  unfold putHead
  rw [dif_neg h6]
  isplitl [Hh]; · iexact Hh
  isplitl [Hs]; · iexact Hs
  iexists _; iexact HW

/-- The last tile of a head. -/
theorem run_last
    (h1 : ¬ Scalar.cmpi .ne (Scalar.extui (Scalar.cmpi .eq (BitVec.ofNat 32 (i 1).val) 0#32)) 0#32 = 1#1)
    (h2 : ¬ k0_cond2 i = 1#1) (h3 : ¬ k0_cond3 i = 1#1) (h4 : ¬ k0_cond4 i = 1#1) (h5 : k0_cond5 i = 1#1) (h6 : k0_cond6 i = 1#1) :
    Runs c i arg2 harg2 arg3 harg3 arg4 harg4 arg5 harg5 arg7 harg7 arg8 harg8 Q D K V x G := by
  intro W R
  simp only [cc0_flash_bwd_eq_skeleton]; unfold cc0_flash_bwd_skel
  unfold pre owns
  iintro ⟨⟨⟨%f2, %e2, H2⟩, ⟨%f3, %e3, H3⟩, ⟨%f4, %e4, H4⟩, ⟨%f5, %e5, H5⟩, ⟨%d7, %f7, -, H7⟩, ⟨%d8, %f8, -, H8⟩, ⟨%f9, %e9, H9⟩, ⟨%d10, %f10, -, H10⟩, ⟨%d11, %f11, -, H11⟩, Hh, Hs, HW⟩, Hk⟩
  sl_exec
  iapply (loop1_run (F := F)) $$ [H2 H3 H9 H10 H11]
  · isplitl [H2]; · iexact H2
    isplitl [H3]; · iexact H3
    isplitl [H9]; · iexact H9
    isplitl [H10]; · iexact H10
    iexact H11
  iintro %acc ⟨H2, H3, ⟨%f9', H9, %h9⟩, ⟨%f10', H10, %h10⟩, ⟨%f11', H11, %h11⟩⟩
  sl_exec
  sl_step
  subst e2 e3 e4 e5 e9
  have e4 := tile_read arg4 f4
  have e5 := tile_read arg5 f5
  have hA : pointAcc i (arg2.view.read (Elt F) f2) (arg3.view.read (Elt F) f3) (arg4.view.read (Elt F) f4) (arg5.view.read (Elt F) f5) (begins i (sc0.view.read (Elt F) f9))
      = ⟨sc0.view.read (Elt F) f9', sc1.view.read (Elt F) f10', sc2.view.read (Elt F) f11'⟩ := by
    rw [h9, h10, h11]
    refine Acc.eq_of _ _ ?_
    unfold held pointAcc
    rw [← e4, ← e5]
    refine congrArg (fun s => trips i (arg2.view.read (Elt F) f2) (arg3.view.read (Elt F) f3)
      (k0_pay50 (arg4.view.readAt (Elt F) (Rect.unit (s := S1x1x512x128) ![0, 0, 0, 0] S1x1x512x128.size inb_S1x1x512x128_S1x1x512x128_0_0_0_0).toLoadRect f4))
      (k0_pay51 (arg5.view.readAt (Elt F) (Rect.unit (s := S1x1x512x128) ![0, 0, 0, 0] S1x1x512x128.size inb_S1x1x512x128_S1x1x512x128_0_0_0_0).toLoadRect f5)) s (k0_t1_loop i).trips) ?_
    unfold diag begins
    rw [dif_neg h2, dif_neg h3, dif_neg h4, dif_pos h5, if_neg h1]
    unfold diag4
    dsimp only
    rw [Acc.mk.injEq]
    refine ⟨?_, ?_, ?_⟩
    · symm
      rw [View.read_writes_cons_put _ _ _ _ _ rfl, View.writes_nil]
      rfl
    · symm
      refine (View.read_writes_full _ _ _ _ _).trans ?_
      refine congrArg (fun z => k0_pay2 (k0_pay32 _ _ _ _ z)) ?_
      exact View.readCov_full _ _ _ _ _
    · symm
      refine (View.read_writes_full _ _ _ _ _).trans ?_
      refine congrArg (fun z => k0_pay31 _ _ _ z) ?_
      exact View.readCov_full _ _ _ _ _
  iapply Hk
  unfold post
  rw [hA]
  dsimp only
  isplitl [H2]; · iapply own_read; iexact H2
  isplitl [H3]; · iapply own_read; iexact H3
  isplitl [H4]; · iapply own_read; iexact H4
  isplitl [H5]; · iapply own_read; iexact H5
  isplitl [H7]
  · unfold owns; iexists _; isplitr; swap; (iexact H7); ipureintro
    rw [View.read_writes_full]
    exact congrArg k0_pay3 (View.readAt_full _ _ _)
  isplitl [H8]
  · unfold owns; iexists _; isplitr; swap; (iexact H8); ipureintro
    rw [View.read_writes_full]
    exact congrArg k0_pay4 (View.readAt_full _ _ _)
  isplitl [H9]; · iapply own_read; iexact H9
  isplitl [H10]; · iapply own_some; iexact H10
  isplitl [H11]; · iapply own_some; iexact H11
  unfold putHead
  rw [dif_pos h6]
  isplitl [Hh]; · iexact Hh
  isplitl [Hs]; · iexact Hs
  iexists _; iexact HW

end Cert.KernelIdeal.Hand
-- ==== Proof.KI.Frame.lean ====
/-
  The backward kernel's run over the whole grid, and what its program ends with.  Between points the invariant holds the
  query gradient's accumulator at `dqAt`, the array of query gradients at `headsAt`; the two result blocks of a point are
  the key and value gradients of its tile.
-/
module

public import proofs.«01_k».proof.Proof.KI.Body
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The state between points -/

/-- The accumulators at point `t`'s end, from the query gradient `x` before it. -/
def accAt (c : Dev nD) (t : Fin cfg0.N) (x : Vec F S16384x128 .f32) : Acc F :=
  pointAcc (grid0.coords t) (iblk m c 0 t) (iblk m c 1 t) (iblk m c 2 t) (iblk m c 3 t) (begins (grid0.coords t) x)

/-- The query gradient's accumulator after `n` points. -/
def dqAt (c : Dev nD) : ℕ → Vec F S16384x128 .f32
  | 0 => k0_pay47
  | n + 1 => if h : n < cfg0.N then (accAt m c ⟨n, h⟩ (dqAt c n)).dq else dqAt c n

/-- The array of query gradients after `n` points. -/
def headsAt (c : Dev nD) : ℕ → Vec F S16x16384x128 .f32
  | 0 => V m c main_v99_0
  | n + 1 => if h : n < cfg0.N then putHead (grid0.coords ⟨n, h⟩) (headsAt c n) (dqAt m c (n + 1)) else headsAt c n

theorem dqAt_succ (c : Dev nD) (t : Fin cfg0.N) : dqAt m c (t.val + 1) = (accAt m c t (dqAt m c t.val)).dq := dif_pos t.isLt
theorem headsAt_succ (c : Dev nD) (t : Fin cfg0.N) : headsAt m c (t.val + 1) = putHead (grid0.coords t) (headsAt m c t.val) (dqAt m c (t.val + 1)) := dif_pos t.isLt

/-! ## Every point is of one of the six kinds -/

/-- A head's first tile. -/
abbrev isFirst (i : grid0.Coords) : Prop := Scalar.cmpi .ne (Scalar.extui (Scalar.cmpi .eq (BitVec.ofNat 32 (i 1).val) 0#32)) 0#32 = 1#1

theorem kinds : ∀ t : Fin grid0.N,
    (isFirst (grid0.coords t) ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1)
    ∨ (¬ isFirst (grid0.coords t) ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1)
    ∨ (¬ isFirst (grid0.coords t) ∧ ¬ k0_cond2 (grid0.coords t) = 1#1 ∧ k0_cond3 (grid0.coords t) = 1#1 ∧ ¬ k0_cond4 (grid0.coords t) = 1#1 ∧ ¬ k0_cond5 (grid0.coords t) = 1#1 ∧ ¬ k0_cond6 (grid0.coords t) = 1#1)
    ∨ (¬ isFirst (grid0.coords t) ∧ ¬ k0_cond2 (grid0.coords t) = 1#1 ∧ ¬ k0_cond3 (grid0.coords t) = 1#1 ∧ k0_cond4 (grid0.coords t) = 1#1 ∧ ¬ k0_cond5 (grid0.coords t) = 1#1 ∧ ¬ k0_cond6 (grid0.coords t) = 1#1)
    ∨ (¬ isFirst (grid0.coords t) ∧ ¬ k0_cond2 (grid0.coords t) = 1#1 ∧ ¬ k0_cond3 (grid0.coords t) = 1#1 ∧ ¬ k0_cond4 (grid0.coords t) = 1#1 ∧ k0_cond5 (grid0.coords t) = 1#1 ∧ ¬ k0_cond6 (grid0.coords t) = 1#1)
    ∨ (¬ isFirst (grid0.coords t) ∧ ¬ k0_cond2 (grid0.coords t) = 1#1 ∧ ¬ k0_cond3 (grid0.coords t) = 1#1 ∧ ¬ k0_cond4 (grid0.coords t) = 1#1 ∧ k0_cond5 (grid0.coords t) = 1#1 ∧ k0_cond6 (grid0.coords t) = 1#1) := by
  decide +kernel

theorem first_zero : ∀ t : Fin grid0.N, t.val = 0 → isFirst (grid0.coords t) := by decide +kernel

/-- The stages of point `t`. -/
theorem runs (c : Dev nD) (t : Fin cfg0.N) (Q D : Vec F S1x16384x128 .bf16) (K V : Vec F S1x1x512x128 .bf16) (x : Vec F S16384x128 .f32) (G : Vec F S16x16384x128 .f32) :
    Runs c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5)) Q D K V x G := by
  rcases kinds t with ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩
  · exact run_first c _ _ _ _ _ _ _ _ _ _ _ _ _ Q D K V x G h1 h2 h3 h4 h5 h6
  · exact run_0 c _ _ _ _ _ _ _ _ _ _ _ _ _ Q D K V x G h1 h2 h3 h4 h5 h6
  · exact run_1 c _ _ _ _ _ _ _ _ _ _ _ _ _ Q D K V x G h1 h2 h3 h4 h5 h6
  · exact run_2 c _ _ _ _ _ _ _ _ _ _ _ _ _ Q D K V x G h1 h2 h3 h4 h5 h6
  · exact run_3 c _ _ _ _ _ _ _ _ _ _ _ _ _ Q D K V x G h1 h2 h3 h4 h5 h6
  · exact run_last c _ _ _ _ _ _ _ _ _ _ _ _ _ Q D K V x G h1 h2 h3 h4 h5 h6

/-! ## The proof data -/

/-- What is held between points. -/
def Inv (c : Dev nD) (n : ℕ) : sProp 𝕄 :=
  iprop((∃ x, ⌜n ≠ 0 → x = dqAt m c n⌝ ∗ owns (c : Thread nD τ) sc0 fullShare x)
    ∗ (∃ d, owns (c : Thread nD τ) sc1 fullShare d) ∗ (∃ d, owns (c : Thread nD τ) sc2 fullShare d)
    ∗ semVal ((c : Thread nD τ), SemLoc.dma 12) 0 ∗ (hb.view.loc (c : Thread nD τ) ↦{fullShare} headsAt m c n))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (accAt m c t (dqAt m c t.val)).dk
    | ⟨5, _⟩ => k0_pay4 (accAt m c t (dqAt m c t.val)).dv
  Φ t := Inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay3 (accAt m c t (dqAt m c t.val)).dk := by dsimp only [dats]
theorem after_5 (c : Dev nD) (t : Fin cfg0.N) : (dats m 0 c).after 5 t = k0_pay4 (accAt m c t (dqAt m c t.val)).dv := by dsimp only [dats]

/-! An operand's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Inv m c (t.val + 1) from rfl, show (dats m 0 c).Φ t.castSucc = Inv m c t.val from rfl]
  rw [after_0, after_1, after_2, after_3, after_4, after_5]
  unfold Dat.owesAt Pipeline.owesWithin
  rw [show (dats m 0 c).owed t.castSucc = 0 from rfl, show (dats m 0 c).owed t.succ = 0 from rfl]
  unfold Inv
  simp only [before_0, before_1, before_2, before_3]
  iintro ⟨⟨⟨%x, %hx, S0⟩, S1, S2, Hs, Hh⟩, ⟨%W, -, HW⟩, ⟨%d0, H0⟩, ⟨%d1, H1⟩, ⟨%d2, H2⟩, ⟨%d3, H3⟩, ⟨%d4, H4⟩, ⟨%d5, H5⟩⟩
  have hb : begins (grid0.coords t) x = begins (grid0.coords t) (dqAt m c t.val) := by
    by_cases h0 : t.val = 0
    · unfold begins; rw [if_pos (first_zero t h0), if_pos (first_zero t h0)]
    · rw [hx h0]
  have hA : pointAcc (grid0.coords t) (iblk m c 0 t) (iblk m c 1 t) (iblk m c 2 t) (iblk m c 3 t) (begins (grid0.coords t) x) = accAt m c t (dqAt m c t.val) := by
    unfold accAt; rw [hb]
  iapply (runs c t (iblk m c 0 t) (iblk m c 1 t) (iblk m c 2 t) (iblk m c 3 t) x (headsAt m c t.val) W _)
  rw [hA, headsAt_succ, dqAt_succ]
  unfold pre post
  isplitl [S0 S1 S2 Hs Hh HW H0 H1 H2 H3 H4 H5]
  · isplitl [H0]; · iexact H0
    isplitl [H1]; · iexact H1
    isplitl [H2]; · iexact H2
    isplitl [H3]; · iexact H3
    isplitl [H4]; · iexists _; iexact H4
    isplitl [H5]; · iexists _; iexact H5
    isplitl [S0]; · iexact S0
    isplitl [S1]; · iexact S1
    isplitl [S2]; · iexact S2
    isplitl [Hh]; · iexact Hh
    isplitl [Hs]; · iexact Hs
    iexact HW
  iintro ⟨H0, H1, H2, H3, H4, H5, S0, S1, S2, Hh, Hs, ⟨%W', HW'⟩⟩
  isplitl [S0 S1 S2 Hh Hs]
  · isplitl [S0]
    · iexists _; isplitr; swap; · iexact S0
      ipureintro; exact fun _ => rfl
    isplitl [S1]; · iexact S1
    isplitl [S2]; · iexact S2
    isplitl [Hs]; · iexact Hs
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

abbrev osem0 : Fin 1 → SemLoc sig := fun j => (![SemLoc.dma 12] : Fin 1 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 12) 0 := by
  rw [Pipeline.ownSems0_eq_of_list c osem0 [0] (by decide) (by decide)]; rfl

/-- The one array the body writes itself. -/
def R0 : Finset (Ref sig .tc) := {main_v99_0}
theorem R0_sub : R0 ⊆ Pipeline.restRefs sig spec0 \ ∅ := by decide

/-- Its final contents. -/
def finalG (c : Dev nD) (b : Ref sig .tc) : Buf (Elt F) ((c : Thread nD τ).loc b) :=
  if h : b = main_v99_0 then h ▸ headsAt m c cfg0.N else V m c b
theorem finalG_eq (c : Dev nD) : finalG m c main_v99_0 = headsAt m c cfg0.N := dif_pos rfl

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

theorem PhiDRV_eq (c : Dev nD) (G : (c : Dev nD) → (b : Ref sig .tc) → Buf (Elt F) ((c : Thread nD τ).loc b)) :
    (Pipeline.ΦDRV osem0 spec0 ∅ R0 (V m) G c : sProp 𝕄)
      = iprop(iprop((∃ d, owns (c : Thread nD τ) sc0 fullShare d) ∗ (∃ d, owns (c : Thread nD τ) sc1 fullShare d) ∗ (∃ d, owns (c : Thread nD τ) sc2 fullShare d))
          ∗ semVal ((c : Thread nD τ), SemLoc.dma 12) 0 ∗ iprop(emp) ∗ (hb.view.loc (c : Thread nD τ) ↦{fullShare} G c main_v99_0)) := by
  unfold Pipeline.ΦDRV
  rw [scopedRest0_eq, ownSems0_eq, BI.bigSep_empty, BI.bigSep_eq_bigSepL_of_eq (S := R0) [main_v99_0] (by decide) (by decide)]
  simp only [sc0, sc1, sc2, owns_whole]; rfl

/-- What the program's run ends with: the pipeline's arrays, every other buffer through the host lines after the kernel, and every cell at zero. -/
def Ends (r : PUnit × MemSt nD τ sig (Elt F)) : Prop :=
  (∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b)
        = StableHlo.after hostOps1 (Pipeline.withArrays spec0 c (Pipeline.withR (V0 m c) R0 c (finalG m c)) fun w => (dats m 0 c).arrAt w cfg0.N) (Proc.devRef .tc b))
  ∧ r.2.sem = fun _ => 0

set_option backward.isDefEq.respectTransparency.types false in
theorem run_main : θ_run defs (onTc (τ := τ) (main (F := F))) (s₀ m ρ) (Ends m) :=
  Pipeline.θ_run_frame_dmaR_aroundV cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := finalG m)
    (hmain := hmainD m Variants.none) (hA := A_eq m)
    (hin := fun c => by
      rw [PhiDRV_eq, show (dats m 0 c).Φ 0 = Inv m c 0 from rfl]
      unfold Inv
      iintro ⟨⟨⟨%x, S0⟩, S1, S2⟩, Hs, -, Hh⟩
      isplitl [S0]
      · iexists _; isplitr; swap; · iexact S0
        ipureintro; exact fun h => absurd rfl h
      isplitl [S1]; · iexact S1
      isplitl [S2]; · iexact S2
      isplitl [Hs]; · iexact Hs
      iexact Hh)
    (hout := fun c => by
      rw [PhiDRV_eq, show (dats m 0 c).Φ (Fin.last (cfgs 0).N) = Inv m c cfg0.N from rfl, finalG_eq]
      unfold Inv
      iintro ⟨⟨%x, -, S0⟩, S1, S2, Hs, Hh⟩
      isplitl [S0 S1 S2]
      · isplitl [S0]; · iexists _; iexact S0
        isplitl [S1]; · iexact S1
        iexact S2
      isplitl [Hs]; · iexact Hs
      isplitr; · iempintro
      iexact Hh)
    (Q' := Ends m) (hQ' := fun r h => by
      refine ⟨fun c => ⟨(h.1 c).1, fun b hb => ?_⟩, h.2⟩
      have := (h.1 c).2 b hb
      simpa using this)

/-- A buffer that neither the host lines after the kernel nor the kernel itself writes keeps what it held before the kernel. -/
theorem after_keep (c : Dev nD) (b : Ref sig .tc) (hb : ∀ w, Pipeline.arrRef spec0 w ≠ b) (hR : b ∉ R0)
    (hw : (hostOps1 : List (HloOp τ sig (Elt F))).Forall fun op => Proc.devRef .tc b ∉ op.writes) :
    StableHlo.after hostOps1 (Pipeline.withArrays spec0 c (Pipeline.withR (V0 m c) R0 c (finalG m c)) fun w => (dats m 0 c).arrAt w cfg0.N) (Proc.devRef .tc b)
      = V m c b := by
  rw [StableHlo.after_of_forall_not_mem (b := Proc.devRef .tc b) _ _ (List.forall_iff_forall_mem.mp hw),
    Pipeline.withArrays_of_ne _ c _ _ b hb, Pipeline.withR_of_not_mem _ _ _ _ b hR]

/-- At the end the five arguments are as launched. -/
theorem ends_args {r : PUnit × MemSt nD τ sig (Elt F)} (h : Ends m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) ∧ r.2.mem ((c.tc : Thread nD τ).loc main_arg2) = m ((c.tc : Thread nD τ).loc main_arg2)
    ∧ r.2.mem ((c.tc : Thread nD τ).loc main_arg3) = m ((c.tc : Thread nD τ).loc main_arg3) ∧ r.2.mem ((c.tc : Thread nD τ).loc main_arg4) = m ((c.tc : Thread nD τ).loc main_arg4) := by
  refine ⟨?_, ?_, ?_, ?_, ?_⟩
  · refine ((h.1 c).2 main_arg0 (Pipeline.mem_restRefs_of main_arg0 (by decide) (by decide))).trans ((after_keep m c main_arg0 (by decide) (by decide) ?_).trans (V_main_arg0 m c))
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)
  · refine ((h.1 c).2 main_arg1 (Pipeline.mem_restRefs_of main_arg1 (by decide) (by decide))).trans ((after_keep m c main_arg1 (by decide) (by decide) ?_).trans (V_main_arg1 m c))
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)
  · refine ((h.1 c).2 main_arg2 (Pipeline.mem_restRefs_of main_arg2 (by decide) (by decide))).trans ((after_keep m c main_arg2 (by decide) (by decide) ?_).trans (V_main_arg2 m c))
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)
  · refine ((h.1 c).2 main_arg3 (Pipeline.mem_restRefs_of main_arg3 (by decide) (by decide))).trans ((after_keep m c main_arg3 (by decide) (by decide) ?_).trans (V_main_arg3 m c))
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)
  · refine ((h.1 c).2 main_arg4 (Pipeline.mem_restRefs_of main_arg4 (by decide) (by decide))).trans ((after_keep m c main_arg4 (by decide) (by decide) ?_).trans (V_main_arg4 m c))
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- The kernel's program leaves its five arguments as launched and every cell at zero. -/
theorem frame : θ_run defs (onTc (τ := τ) (main (F := F))) (s₀ m ρ) (fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1) ∧ r.2.mem ((c.tc : Thread nD τ).loc main_arg2) = m ((c.tc : Thread nD τ).loc main_arg2)
    ∧ r.2.mem ((c.tc : Thread nD τ).loc main_arg3) = m ((c.tc : Thread nD τ).loc main_arg3) ∧ r.2.mem ((c.tc : Thread nD τ).loc main_arg4) = m ((c.tc : Thread nD τ).loc main_arg4))
    ∧ r.2.sem = fun _ => 0) :=
  (θ_run defs _ _).mono (fun _ h => ⟨ends_args m h, h.2⟩) (run_main m ρ)

end Cert.KernelIdeal.Hand
-- ==== Proof.KI.Tile.lean ====
/-
  The products of one step of the attention's backward pass over the extended reals, read at an entry, when what the
  step reads are real numbers: the probabilities, the score gradients, and the three updates are real numbers, given
  by plain finite sums.
-/
module

public import proofs.«01_k».proof.Proof.Gen.KernelIdeal.Skeleton
public import Idealize.ShloMosaic.Lib.Pointwise
public import Idealize.ShloMosaic.Lib.IdealHost
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe

/-- A finite sum of real numbers is the same over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The probability of a row (query lanes `q`) for a key (lanes `k`): zero where the key is masked. -/
def prob (b : Prop) [Decidable b] (q k : Fin 128 → ℝ) : ℝ := if b then Real.exp (∑ l, q l * k l) else 0

/-- The score gradient: the probability times the product of the two other lane vectors. -/
def grad (b : Prop) [Decidable b] (q k d v : Fin 128 → ℝ) : ℝ := prob b q k * ∑ l, d l * v l

/-- The mask constant is minus infinity. -/
theorem mask_bot : (Named.named κ "mask" 0xF149F2CA#32 : Ideal .f32) = (⊥ : EReal) := rfl

/-- The exponential of a masked score is the probability. -/
theorem exp_masked {n m : ℕ} (t : Fin n) (r : Fin m) (hn : n ≤ 2048) (hm : m ≤ 2048) (q k : Fin 128 → ℝ) :
    Ideal.exp (Scalar.select (IntOp.cmpi CmpIPredicate.sle (BitVec.ofNat 32 t.val) (BitVec.ofNat 32 r.val))
      (∑ l, (q l : EReal) * (k l : EReal)) (Named.named (F := Ideal) κ "mask" 0xF149F2CA#32 : Ideal .f32)) = ((prob (t.val ≤ r.val) q k : ℝ) : EReal) := by
  have h1 := t.isLt
  have h2 := r.isLt
  rw [mask_bot]
  simp only [← EReal.coe_mul, ← coe_sum]
  have h : IntOp.cmpi CmpIPredicate.sle (BitVec.ofNat 32 t.val) (BitVec.ofNat 32 r.val) = BitVec.ofBool (decide (t.val ≤ r.val)) := by
    exact WordCmp.cmpi_sle_ofNat (w := 32) (by norm_num; omega) (by norm_num; omega)
  rw [h]
  unfold prob
  by_cases hb : t.val ≤ r.val
  · simp [hb, Scalar.select]
  · simp [hb, Scalar.select]

/-- The exponential of an unmasked score is the probability. -/
theorem exp_open (q k : Fin 128 → ℝ) : Ideal.exp (∑ l, (q l : EReal) * (k l : EReal)) = ((prob True q k : ℝ) : EReal) := by
  simp only [← EReal.coe_mul, ← coe_sum]
  simp [prob]

section
variable (K V : FVec Ideal S512x128 .bf16) (q d : Vec Ideal S1x2048x128 .bf16) (k v : Fin 512 → Fin 128 → ℝ) (qr dr : Fin 2048 → Fin 128 → ℝ)
  (hK : ∀ t l, K (ix2 t l) = ((k t l : ℝ) : EReal)) (hV : ∀ t l, V (ix2 t l) = ((v t l : ℝ) : EReal))
  (hq : ∀ r l, q (ix3 0 r l) = ((qr r l : ℝ) : EReal)) (hd : ∀ r l, d (ix3 0 r l) = ((dr r l : ℝ) : EReal))

include hK hq in
/-- Four masked tiles: the probabilities. -/
theorem pay7_at (r : Fin 2048) (t : Fin 512) : k0_pay7 (F := Ideal) K q (ix2 r t) = ((prob (t.val ≤ r.val) (qr r) (k t) : ℝ) : EReal) := by
  pointwise [k0_pay7, k0_pay5, hK, hq]
  exact exp_masked t r (by decide) (by decide) (qr r) (k t)

include hK hV hq hd in
/-- Four masked tiles: the score gradients. -/
theorem pay8_at (r : Fin 2048) (t : Fin 512) : k0_pay8 (F := Ideal) K V q d (ix2 r t) = ((grad (t.val ≤ r.val) (qr r) (k t) (dr r) (v t) : ℝ) : EReal) := by
  pointwise [k0_pay8, k0_pay6, hV, hd, pay7_at K q k qr hK hq]
  simp only [grad, EReal.coe_mul, coe_sum]

include hK hV hq hd in
/-- Four masked tiles: the query gradient's update. -/
theorem pay9_at (x : Vec Ideal S2048x128 .f32) (r : Fin 2048) (l : Fin 128) (y : ℝ) (hx : x (ix2 r l) = (y : EReal)) :
    k0_pay9 (F := Ideal) K V q d x (ix2 r l) = ((y + ∑ t, grad (t.val ≤ r.val) (qr r) (k t) (dr r) (v t) * k t l : ℝ) : EReal) := by
  pointwise [k0_pay9, hK, hx, pay8_at K V q d k v qr dr hK hV hq hd]
  simp only [EReal.coe_add, EReal.coe_mul, coe_sum]

include hK hq hd in
/-- Four masked tiles: the value gradient's update. -/
theorem pay10_at (x : Vec Ideal S128x512 .f32) (l : Fin 128) (t : Fin 512) (y : ℝ) (hx : x (ix2 l t) = (y : EReal)) :
    k0_pay10 (F := Ideal) K q d x (ix2 l t) = ((y + ∑ r, dr r l * prob (t.val ≤ r.val) (qr r) (k t) : ℝ) : EReal) := by
  pointwise [k0_pay10, k0_pay6, hd, hx, pay7_at K q k qr hK hq]
  simp only [EReal.coe_add, EReal.coe_mul, coe_sum]

include hK hV hq hd in
/-- Four masked tiles: the key gradient's update. -/
theorem pay11_at (x : Vec Ideal S128x512 .f32) (l : Fin 128) (t : Fin 512) (y : ℝ) (hx : x (ix2 l t) = (y : EReal)) :
    k0_pay52 (F := Ideal) (k0_pay11 K V q d x) (ix2 l t) = ((y + ∑ r, qr r l * grad (t.val ≤ r.val) (qr r) (k t) (dr r) (v t) : ℝ) : EReal) := by
  pointwise [k0_pay52, k0_pay11, k0_pay5, hq, hx, pay8_at K V q d k v qr dr hK hV hq hd]
  simp only [EReal.coe_add, EReal.coe_mul, coe_sum]
end

section
variable (K V : FVec Ideal S512x128 .bf16) (q d : Vec Ideal S1x1536x128 .bf16) (k v : Fin 512 → Fin 128 → ℝ) (qr dr : Fin 1536 → Fin 128 → ℝ)
  (hK : ∀ t l, K (ix2 t l) = ((k t l : ℝ) : EReal)) (hV : ∀ t l, V (ix2 t l) = ((v t l : ℝ) : EReal))
  (hq : ∀ r l, q (ix3 0 r l) = ((qr r l : ℝ) : EReal)) (hd : ∀ r l, d (ix3 0 r l) = ((dr r l : ℝ) : EReal))

include hK hq in
/-- Three masked tiles: the probabilities. -/
theorem pay14_at (r : Fin 1536) (t : Fin 512) : k0_pay14 (F := Ideal) K q (ix2 r t) = ((prob (t.val ≤ r.val) (qr r) (k t) : ℝ) : EReal) := by
  pointwise [k0_pay14, k0_pay12, hK, hq]
  exact exp_masked t r (by decide) (by decide) (qr r) (k t)

include hK hV hq hd in
/-- Three masked tiles: the score gradients. -/
theorem pay15_at (r : Fin 1536) (t : Fin 512) : k0_pay15 (F := Ideal) K V q d (ix2 r t) = ((grad (t.val ≤ r.val) (qr r) (k t) (dr r) (v t) : ℝ) : EReal) := by
  pointwise [k0_pay15, k0_pay13, hV, hd, pay14_at K q k qr hK hq]
  simp only [grad, EReal.coe_mul, coe_sum]

include hK hV hq hd in
/-- Three masked tiles: the query gradient's update. -/
theorem pay16_at (x : Vec Ideal S1536x128 .f32) (r : Fin 1536) (l : Fin 128) (y : ℝ) (hx : x (ix2 r l) = (y : EReal)) :
    k0_pay16 (F := Ideal) K V q d x (ix2 r l) = ((y + ∑ t, grad (t.val ≤ r.val) (qr r) (k t) (dr r) (v t) * k t l : ℝ) : EReal) := by
  pointwise [k0_pay16, hK, hx, pay15_at K V q d k v qr dr hK hV hq hd]
  simp only [EReal.coe_add, EReal.coe_mul, coe_sum]

include hK hq hd in
/-- Three masked tiles: the value gradient's update. -/
theorem pay17_at (x : Vec Ideal S128x512 .f32) (l : Fin 128) (t : Fin 512) (y : ℝ) (hx : x (ix2 l t) = (y : EReal)) :
    k0_pay17 (F := Ideal) K q d x (ix2 l t) = ((y + ∑ r, dr r l * prob (t.val ≤ r.val) (qr r) (k t) : ℝ) : EReal) := by
  pointwise [k0_pay17, k0_pay13, hd, hx, pay14_at K q k qr hK hq]
  simp only [EReal.coe_add, EReal.coe_mul, coe_sum]

include hK hV hq hd in
/-- Three masked tiles: the key gradient's update. -/
theorem pay18_at (x : Vec Ideal S128x512 .f32) (l : Fin 128) (t : Fin 512) (y : ℝ) (hx : x (ix2 l t) = (y : EReal)) :
    k0_pay53 (F := Ideal) (k0_pay18 K V q d x) (ix2 l t) = ((y + ∑ r, qr r l * grad (t.val ≤ r.val) (qr r) (k t) (dr r) (v t) : ℝ) : EReal) := by
  pointwise [k0_pay53, k0_pay18, k0_pay12, hq, hx, pay15_at K V q d k v qr dr hK hV hq hd]
  simp only [EReal.coe_add, EReal.coe_mul, coe_sum]
end

section
variable (K V : FVec Ideal S512x128 .bf16) (q d : Vec Ideal S1x1024x128 .bf16) (k v : Fin 512 → Fin 128 → ℝ) (qr dr : Fin 1024 → Fin 128 → ℝ)
  (hK : ∀ t l, K (ix2 t l) = ((k t l : ℝ) : EReal)) (hV : ∀ t l, V (ix2 t l) = ((v t l : ℝ) : EReal))
  (hq : ∀ r l, q (ix3 0 r l) = ((qr r l : ℝ) : EReal)) (hd : ∀ r l, d (ix3 0 r l) = ((dr r l : ℝ) : EReal))

include hK hq in
/-- Two masked tiles: the probabilities. -/
theorem pay21_at (r : Fin 1024) (t : Fin 512) : k0_pay21 (F := Ideal) K q (ix2 r t) = ((prob (t.val ≤ r.val) (qr r) (k t) : ℝ) : EReal) := by
  pointwise [k0_pay21, k0_pay19, hK, hq]
  exact exp_masked t r (by decide) (by decide) (qr r) (k t)

include hK hV hq hd in
/-- Two masked tiles: the score gradients. -/
theorem pay22_at (r : Fin 1024) (t : Fin 512) : k0_pay22 (F := Ideal) K V q d (ix2 r t) = ((grad (t.val ≤ r.val) (qr r) (k t) (dr r) (v t) : ℝ) : EReal) := by
  pointwise [k0_pay22, k0_pay20, hV, hd, pay21_at K q k qr hK hq]
  simp only [grad, EReal.coe_mul, coe_sum]

include hK hV hq hd in
/-- Two masked tiles: the query gradient's update. -/
theorem pay23_at (x : Vec Ideal S1024x128 .f32) (r : Fin 1024) (l : Fin 128) (y : ℝ) (hx : x (ix2 r l) = (y : EReal)) :
    k0_pay23 (F := Ideal) K V q d x (ix2 r l) = ((y + ∑ t, grad (t.val ≤ r.val) (qr r) (k t) (dr r) (v t) * k t l : ℝ) : EReal) := by
  pointwise [k0_pay23, hK, hx, pay22_at K V q d k v qr dr hK hV hq hd]
  simp only [EReal.coe_add, EReal.coe_mul, coe_sum]

include hK hq hd in
/-- Two masked tiles: the value gradient's update. -/
theorem pay24_at (x : Vec Ideal S128x512 .f32) (l : Fin 128) (t : Fin 512) (y : ℝ) (hx : x (ix2 l t) = (y : EReal)) :
    k0_pay24 (F := Ideal) K q d x (ix2 l t) = ((y + ∑ r, dr r l * prob (t.val ≤ r.val) (qr r) (k t) : ℝ) : EReal) := by
  pointwise [k0_pay24, k0_pay20, hd, hx, pay21_at K q k qr hK hq]
  simp only [EReal.coe_add, EReal.coe_mul, coe_sum]

include hK hV hq hd in
/-- Two masked tiles: the key gradient's update. -/
theorem pay25_at (x : Vec Ideal S128x512 .f32) (l : Fin 128) (t : Fin 512) (y : ℝ) (hx : x (ix2 l t) = (y : EReal)) :
    k0_pay1 (F := Ideal) (k0_pay25 K V q d x) (ix2 l t) = ((y + ∑ r, qr r l * grad (t.val ≤ r.val) (qr r) (k t) (dr r) (v t) : ℝ) : EReal) := by
  pointwise [k0_pay1, k0_pay25, k0_pay19, hq, hx, pay22_at K V q d k v qr dr hK hV hq hd]
  simp only [EReal.coe_add, EReal.coe_mul, coe_sum]
end

section
variable (K V : FVec Ideal S512x128 .bf16) (q d : Vec Ideal S1x512x128 .bf16) (k v : Fin 512 → Fin 128 → ℝ) (qr dr : Fin 512 → Fin 128 → ℝ)
  (hK : ∀ t l, K (ix2 t l) = ((k t l : ℝ) : EReal)) (hV : ∀ t l, V (ix2 t l) = ((v t l : ℝ) : EReal))
  (hq : ∀ r l, q (ix3 0 r l) = ((qr r l : ℝ) : EReal)) (hd : ∀ r l, d (ix3 0 r l) = ((dr r l : ℝ) : EReal))

include hK hq in
/-- One masked tile: the probabilities. -/
theorem pay28_at (r : Fin 512) (t : Fin 512) : k0_pay28 (F := Ideal) K q (ix2 r t) = ((prob (t.val ≤ r.val) (qr r) (k t) : ℝ) : EReal) := by
  pointwise [k0_pay28, k0_pay26, hK, hq]
  exact exp_masked t r (by decide) (by decide) (qr r) (k t)

include hK hV hq hd in
/-- One masked tile: the score gradients. -/
theorem pay29_at (r : Fin 512) (t : Fin 512) : k0_pay29 (F := Ideal) K V q d (ix2 r t) = ((grad (t.val ≤ r.val) (qr r) (k t) (dr r) (v t) : ℝ) : EReal) := by
  pointwise [k0_pay29, k0_pay27, hV, hd, pay28_at K q k qr hK hq]
  simp only [grad, EReal.coe_mul, coe_sum]

include hK hV hq hd in
/-- One masked tile: the query gradient's update. -/
theorem pay30_at (x : Vec Ideal S512x128 .f32) (r : Fin 512) (l : Fin 128) (y : ℝ) (hx : x (ix2 r l) = (y : EReal)) :
    k0_pay30 (F := Ideal) K V q d x (ix2 r l) = ((y + ∑ t, grad (t.val ≤ r.val) (qr r) (k t) (dr r) (v t) * k t l : ℝ) : EReal) := by
  pointwise [k0_pay30, hK, hx, pay29_at K V q d k v qr dr hK hV hq hd]
  simp only [EReal.coe_add, EReal.coe_mul, coe_sum]

include hK hq hd in
/-- One masked tile: the value gradient's update. -/
theorem pay31_at (x : Vec Ideal S128x512 .f32) (l : Fin 128) (t : Fin 512) (y : ℝ) (hx : x (ix2 l t) = (y : EReal)) :
    k0_pay31 (F := Ideal) K q d x (ix2 l t) = ((y + ∑ r, dr r l * prob (t.val ≤ r.val) (qr r) (k t) : ℝ) : EReal) := by
  pointwise [k0_pay31, k0_pay27, hd, hx, pay28_at K q k qr hK hq]
  simp only [EReal.coe_add, EReal.coe_mul, coe_sum]

include hK hV hq hd in
/-- One masked tile: the key gradient's update. -/
theorem pay32_at (x : Vec Ideal S128x512 .f32) (l : Fin 128) (t : Fin 512) (y : ℝ) (hx : x (ix2 l t) = (y : EReal)) :
    k0_pay2 (F := Ideal) (k0_pay32 K V q d x) (ix2 l t) = ((y + ∑ r, qr r l * grad (t.val ≤ r.val) (qr r) (k t) (dr r) (v t) : ℝ) : EReal) := by
  pointwise [k0_pay2, k0_pay32, k0_pay26, hq, hx, pay29_at K V q d k v qr dr hK hV hq hd]
  simp only [EReal.coe_add, EReal.coe_mul, coe_sum]
end

section
variable (K V : FVec Ideal S512x128 .bf16) (q d : Vec Ideal S1x2048x128 .bf16) (k v : Fin 512 → Fin 128 → ℝ) (qr dr : Fin 2048 → Fin 128 → ℝ)
  (hK : ∀ t l, K (ix2 t l) = ((k t l : ℝ) : EReal)) (hV : ∀ t l, V (ix2 t l) = ((v t l : ℝ) : EReal))
  (hq : ∀ r l, q (ix3 0 r l) = ((qr r l : ℝ) : EReal)) (hd : ∀ r l, d (ix3 0 r l) = ((dr r l : ℝ) : EReal))

include hK hq in
/-- Four open tiles: the probabilities. -/
theorem pay35_at (r : Fin 2048) (t : Fin 512) : k0_pay35 (F := Ideal) K q (ix2 r t) = ((prob (True) (qr r) (k t) : ℝ) : EReal) := by
  pointwise [k0_pay35, k0_pay33, hK, hq]
  exact exp_open (qr r) (k t)

include hK hV hq hd in
/-- Four open tiles: the score gradients. -/
theorem pay36_at (r : Fin 2048) (t : Fin 512) : k0_pay36 (F := Ideal) K V q d (ix2 r t) = ((grad (True) (qr r) (k t) (dr r) (v t) : ℝ) : EReal) := by
  pointwise [k0_pay36, k0_pay34, hV, hd, pay35_at K q k qr hK hq]
  simp only [grad, EReal.coe_mul, coe_sum]

include hK hV hq hd in
/-- Four open tiles: the query gradient's update. -/
theorem pay37_at (x : Vec Ideal S2048x128 .f32) (r : Fin 2048) (l : Fin 128) (y : ℝ) (hx : x (ix2 r l) = (y : EReal)) :
    k0_pay37 (F := Ideal) K V q d x (ix2 r l) = ((y + ∑ t, grad (True) (qr r) (k t) (dr r) (v t) * k t l : ℝ) : EReal) := by
  pointwise [k0_pay37, hK, hx, pay36_at K V q d k v qr dr hK hV hq hd]
  simp only [EReal.coe_add, EReal.coe_mul, coe_sum]

include hK hq hd in
/-- Four open tiles: the value gradient's update. -/
theorem pay38_at (x : Vec Ideal S128x512 .f32) (l : Fin 128) (t : Fin 512) (y : ℝ) (hx : x (ix2 l t) = (y : EReal)) :
    k0_pay38 (F := Ideal) K q d x (ix2 l t) = ((y + ∑ r, dr r l * prob (True) (qr r) (k t) : ℝ) : EReal) := by
  pointwise [k0_pay38, k0_pay34, hd, hx, pay35_at K q k qr hK hq]
  simp only [EReal.coe_add, EReal.coe_mul, coe_sum]

include hK hV hq hd in
/-- Four open tiles: the key gradient's update. -/
theorem pay39_at (x : Vec Ideal S128x512 .f32) (l : Fin 128) (t : Fin 512) (y : ℝ) (hx : x (ix2 l t) = (y : EReal)) :
    k0_pay39 (F := Ideal) K V q d x (ix2 l t) = ((y + ∑ r, qr r l * grad (True) (qr r) (k t) (dr r) (v t) : ℝ) : EReal) := by
  pointwise [k0_pay39, k0_pay33, hq, hx, pay36_at K V q d k v qr dr hK hV hq hd]
  simp only [EReal.coe_add, EReal.coe_mul, coe_sum]
end

end Cert.KernelIdeal.Hand
-- ==== Proof.KI.Point.lean ====
/-
  One grid point over the extended reals, when the head's rows and the tile's keys are real numbers: the point adds to the
  query gradient the products of the tile's score gradients with its keys, and leaves in the tile's key and value
  gradients the sums over all rows.  The masked step and the unmasked steps cover disjoint ranges of rows one after
  another; the rows above the tile have probability zero.
-/
module

public import proofs.«01_k».proof.Proof.KI.Step
public import proofs.«01_k».proof.Proof.KI.Tile

@[expose] public section

set_option maxRecDepth 16384

noncomputable section

namespace Cert.KernelIdeal.Hand

open Cert.KernelIdeal Cert.KernelIdeal.Gen
open Idealize.ShloMosaic Idealize.ShloMosaic.TcCoe

/-- A probability depends on its condition only up to equivalence. -/
theorem prob_congr {b b' : Prop} [Decidable b] [Decidable b'] (h : b ↔ b') (q k : Fin 128 → ℝ) : prob b q k = prob b' q k := by
  unfold prob; by_cases hb : b
  · rw [if_pos hb, if_pos (h.1 hb)]
  · rw [if_neg hb, if_neg (fun h' => hb (h.2 h'))]

/-- So does a score gradient. -/
theorem grad_congr {b b' : Prop} [Decidable b] [Decidable b'] (h : b ↔ b') (q k d v : Fin 128 → ℝ) : grad b q k d v = grad b' q k d v := by
  unfold grad; rw [prob_congr h]

/-- A sum over the first `b + n` rows is the sum over the first `b` and the sum over the `n` that follow. -/
theorem sum_rows {N n : ℕ} (b : ℕ) (h : b + n ≤ N) (f : Fin N → ℝ) :
    (∑ r : Fin N, if r.val < b + n then f r else 0) = (∑ r : Fin N, if r.val < b then f r else 0) + ∑ r : Fin n, f ⟨b + r.val, by omega⟩ := by
  have e : (∑ r : Fin n, f ⟨b + r.val, by omega⟩) = ∑ r : Fin N, if b ≤ r.val ∧ r.val < b + n then f r else 0 := by
    refine Finset.sum_of_injOn (fun r : Fin n => (⟨b + r.val, by omega⟩ : Fin N)) ?_ (fun _ _ => Finset.mem_coe.2 (Finset.mem_univ _)) ?_ ?_
    · intro a _ a' _ h'
      have := congrArg Fin.val h'
      exact Fin.ext (by simpa using this)
    · intro r _ hr
      refine if_neg fun h' => hr ⟨⟨r.val - b, by omega⟩, Finset.mem_coe.2 (Finset.mem_univ _), Fin.ext ?_⟩
      show b + (r.val - b) = r.val
      omega
    · intro r _
      have := r.isLt
      exact (if_pos ⟨by simp, by simp⟩).symm
  rw [e, ← Finset.sum_add_distrib]
  refine Finset.sum_congr rfl fun r _ => ?_
  by_cases h1 : r.val < b
  · rw [if_pos (by omega), if_pos h1, if_neg (by omega), add_zero]
  · by_cases h2 : r.val < b + n
    · rw [if_pos h2, if_neg h1, if_pos (by omega), zero_add]
    · rw [if_neg h2, if_neg h1, if_neg (by omega), add_zero]

/-- A window of rows of the head's lanes, read at an entry. -/
theorem window_rows {n b : ℕ} (Q : Vec Ideal S1x16384x128 .bf16) (off : Fin 3 → ℕ) (h : off = ![0, b, 0])
    (inb : ∀ a, off a + (⟨3, ![1, n, 128]⟩ : Shape).size a ≤ S1x16384x128.size a) (r : Fin n) (l : Fin 128) (hb : b + n ≤ 16384) :
    (VecWindow.window Q off (⟨3, ![1, n, 128]⟩ : Shape).size inb : (⟨3, ![1, n, 128]⟩ : Shape).Idx → _) (ix3 0 r l) = Q (ix3 0 ⟨b + r.val, by omega⟩ l) := by
  subst h
  refine congrArg Q (funext fun a => Fin.ext ?_)
  fin_cases a
  · show 0 + 1 * 0 = 0; rfl
  · show b + 1 * r.val = b + r.val; omega
  · show 0 + 1 * l.val = l.val; omega

/-- A window of rows of the query gradient, read at an entry. -/
theorem window_dq {n b : ℕ} (X : Vec Ideal S16384x128 .f32) (off : Fin 2 → ℕ) (h : off = ![b, 0])
    (inb : ∀ a, off a + (⟨2, ![n, 128]⟩ : Shape).size a ≤ S16384x128.size a) (r : Fin n) (l : Fin 128) (hb : b + n ≤ 16384) :
    (VecWindow.window X off (⟨2, ![n, 128]⟩ : Shape).size inb : (⟨2, ![n, 128]⟩ : Shape).Idx → _) (ix2 r l) = X (ix2 ⟨b + r.val, by omega⟩ l) := by
  subst h
  refine congrArg X (funext fun a => Fin.ext ?_)
  fin_cases a
  · show b + 1 * r.val = b + r.val; omega
  · show 0 + 1 * l.val = l.val; omega

/-- The query gradient with a window of rows replaced, read at an entry. -/
theorem put_dq {n b : ℕ} (X : Vec Ideal S16384x128 .f32) (off : Fin 2 → ℕ) (h : off = ![b, 0])
    (W : Vec Ideal (⟨2, ![n, 128]⟩ : Shape) .f32) (r : Fin 16384) (l : Fin 128) :
    VecWindow.put X off (⟨2, ![n, 128]⟩ : Shape).size W (ix2 r l)
      = if h : b ≤ r.val ∧ r.val < b + n then W (ix2 ⟨r.val - b, by omega⟩ l) else X (ix2 r l) := by
  subst h
  unfold VecWindow.put
  by_cases hr : b ≤ r.val ∧ r.val < b + n
  · have hall : ∀ a : Fin 2, (![b, 0] : Fin 2 → ℕ) a ≤ ((ix2 r l : S16384x128.Idx) a).val ∧ ((ix2 r l : S16384x128.Idx) a).val < (![b, 0] : Fin 2 → ℕ) a + (⟨2, ![n, 128]⟩ : Shape).size a := by
      intro a; fin_cases a
      · exact hr
      · exact ⟨Nat.zero_le _, by show l.val < 0 + 128; have := l.isLt; omega⟩
    rw [dif_pos hr, dif_pos hall]
    refine congrArg W (funext fun a => Fin.ext ?_)
    fin_cases a
    · show (r.val - b) = r.val - b; rfl
    · show l.val - 0 = l.val; omega
  · rw [dif_neg hr, dif_neg fun hall => hr (hall 0)]

/-- The masked step's rows start at the tile's first row; which height it has is the tile's place in its group of four. -/
theorem diag_offs : ∀ t : Fin grid0.N,
    (k0_cond2 (grid0.coords t) = 1#1 ↔ t.val % 4 = 0) ∧ (k0_cond3 (grid0.coords t) = 1#1 ↔ t.val % 4 = 1)
    ∧ (k0_cond4 (grid0.coords t) = 1#1 ↔ t.val % 4 = 2) ∧ (k0_cond5 (grid0.coords t) = 1#1 ↔ t.val % 4 = 3)
    ∧ k0_off1 (grid0.coords t) = ![0, t.val % 32 * 512, 0] ∧ k0_off2 (grid0.coords t) = ![t.val % 32 * 512, 0]
    ∧ k0_off3 (grid0.coords t) = ![0, t.val % 32 * 512, 0] ∧ k0_off4 (grid0.coords t) = ![t.val % 32 * 512, 0]
    ∧ k0_off5 (grid0.coords t) = ![0, t.val % 32 * 512, 0] ∧ k0_off6 (grid0.coords t) = ![t.val % 32 * 512, 0]
    ∧ k0_off7 (grid0.coords t) = ![0, t.val % 32 * 512, 0] ∧ k0_off8 (grid0.coords t) = ![t.val % 32 * 512, 0] := by
  decide +kernel

/-- The unmasked steps' rows follow the tile's group, 2048 at a time. -/
theorem trip_offs : ∀ t : Fin grid0.N, (k0_t1_loop (grid0.coords t)).trips = 7 - t.val % 32 / 4
    ∧ ∀ n : Fin (k0_t1_loop (grid0.coords t)).trips,
      k0_off9 (grid0.coords t) n = ![0, (t.val % 32 / 4 + 1) * 2048 + n.val * 2048, 0] ∧ k0_off10 (grid0.coords t) n = ![(t.val % 32 / 4 + 1) * 2048 + n.val * 2048, 0] := by
  decide +kernel

section
variable (x q d : Fin 16384 → Fin 128 → ℝ) (k v : Fin 512 → Fin 128 → ℝ) (o : ℕ)

/-- The accumulators once the rows below `b` are done (`o` is the tile's first row, `x` the query gradient before). -/
structure Done (b : ℕ) (s : Acc Ideal) : Prop where
  dq : ∀ r l, s.dq (ix2 r l) = ((x r l + (if r.val < b then ∑ t : Fin 512, grad (o + t.val ≤ r.val) (q r) (k t) (d r) (v t) * k t l else 0) : ℝ) : EReal)
  dk : ∀ l t, s.dk (ix2 l t) = ((∑ r : Fin 16384, (if r.val < b then q r l * grad (o + t.val ≤ r.val) (q r) (k t) (d r) (v t) else 0) : ℝ) : EReal)
  dv : ∀ l t, s.dv (ix2 l t) = ((∑ r : Fin 16384, (if r.val < b then d r l * prob (o + t.val ≤ r.val) (q r) (k t) else 0) : ℝ) : EReal)

/-- A step over the rows from `b` to `b + n`. -/
theorem Done.step {b n : ℕ} (hn : b + n ≤ 16384) {s s' : Acc Ideal} (hs : Done x q d k v o b s)
    (hq : ∀ (r : Fin n) (l : Fin 128) (y : ℝ), s.dq (ix2 ⟨b + r.val, by omega⟩ l) = (y : EReal) →
      s'.dq (ix2 ⟨b + r.val, by omega⟩ l) = ((y + ∑ t : Fin 512, grad (o + t.val ≤ b + r.val) (q ⟨b + r.val, by omega⟩) (k t) (d ⟨b + r.val, by omega⟩) (v t) * k t l : ℝ) : EReal))
    (hq' : ∀ (r : Fin 16384) (l : Fin 128), ¬ (b ≤ r.val ∧ r.val < b + n) → s'.dq (ix2 r l) = s.dq (ix2 r l))
    (hk : ∀ (l : Fin 128) (t : Fin 512) (y : ℝ), s.dk (ix2 l t) = (y : EReal) →
      s'.dk (ix2 l t) = ((y + ∑ r : Fin n, q ⟨b + r.val, by omega⟩ l * grad (o + t.val ≤ b + r.val) (q ⟨b + r.val, by omega⟩) (k t) (d ⟨b + r.val, by omega⟩) (v t) : ℝ) : EReal))
    (hv : ∀ (l : Fin 128) (t : Fin 512) (y : ℝ), s.dv (ix2 l t) = (y : EReal) →
      s'.dv (ix2 l t) = ((y + ∑ r : Fin n, d ⟨b + r.val, by omega⟩ l * prob (o + t.val ≤ b + r.val) (q ⟨b + r.val, by omega⟩) (k t) : ℝ) : EReal)) :
    Done x q d k v o (b + n) s' where
  dq r l := by
    by_cases hr : b ≤ r.val ∧ r.val < b + n
    · have e : (⟨b + (r.val - b), by omega⟩ : Fin 16384) = r := Fin.ext (by show b + (r.val - b) = r.val; omega)
      have h1 := hq ⟨r.val - b, by omega⟩ l (x r l) (by
        show s.dq (ix2 ⟨b + (r.val - b), by omega⟩ l) = _
        rw [e, hs.dq, if_neg (by omega), add_zero])
      simp only [e] at h1
      rw [h1, if_pos hr.2]
      simp only [show b + (r.val - b) = r.val by omega]
    · rw [hq' r l hr, hs.dq]
      by_cases h1 : r.val < b
      · rw [if_pos h1, if_pos (by omega)]
      · rw [if_neg h1, if_neg (by omega)]
  dk l t := by rw [hk l t _ (hs.dk l t), sum_rows b hn]
  dv l t := by rw [hv l t _ (hs.dv l t), sum_rows b hn]

/-- Before the masked step: the rows above the tile have probability zero. -/
theorem Done.start {s : Acc Ideal} (hq : ∀ r l, s.dq (ix2 r l) = ((x r l : ℝ) : EReal)) (hk : ∀ l t, s.dk (ix2 l t) = (0 : EReal))
    (hv : ∀ l t, s.dv (ix2 l t) = (0 : EReal)) : Done x q d k v o o s where
  dq r l := by
    rw [hq]; congr 1
    by_cases h : r.val < o
    · rw [if_pos h, Finset.sum_eq_zero, add_zero]
      intro t _
      rw [grad, prob, if_neg (by omega), zero_mul, zero_mul]
    · rw [if_neg h, add_zero]
  dk l t := by
    rw [hk, Finset.sum_eq_zero, EReal.coe_zero]
    intro r _
    by_cases h : r.val < o
    · rw [if_pos h, grad, prob, if_neg (by omega), zero_mul, mul_zero]
    · rw [if_neg h]
  dv l t := by
    rw [hv, Finset.sum_eq_zero, EReal.coe_zero]
    intro r _
    by_cases h : r.val < o
    · rw [if_pos h, prob, if_neg (by omega), mul_zero]
    · rw [if_neg h]

variable (Q D : Vec Ideal S1x16384x128 .bf16) (K V : FVec Ideal S512x128 .bf16)
  (hQ : ∀ r l, Q (ix3 0 r l) = ((q r l : ℝ) : EReal)) (hD : ∀ r l, D (ix3 0 r l) = ((d r l : ℝ) : EReal))
  (hK : ∀ t l, K (ix2 t l) = ((k t l : ℝ) : EReal)) (hV : ∀ t l, V (ix2 t l) = ((v t l : ℝ) : EReal))

include hQ hD hK hV in
/-- The masked step over 2048 rows. -/
theorem diag1_inv (i : grid0.Coords) (h : k0_cond2 i = 1#1) (h1 : k0_off1 i = ![0, o, 0]) (h2 : k0_off2 i = ![o, 0]) (hn : o + 2048 ≤ 16384)
    {s : Acc Ideal} (hs : Done x q d k v o o s) : Done x q d k v o (o + 2048) (diag1 i h Q D K V s) := by
  have hq' : ∀ (r : Fin 2048) l, (VecWindow.window Q (k0_off1 i) S1x2048x128.size (k0_off1_inb i h) : Vec Ideal S1x2048x128 .bf16) (ix3 0 r l) = ((q ⟨o + r.val, by omega⟩ l : ℝ) : EReal) :=
    fun r l => (window_rows (n := 2048) Q _ h1 (k0_off1_inb i h) r l hn).trans (hQ _ _)
  have hd' : ∀ (r : Fin 2048) l, (VecWindow.window D (k0_off1 i) S1x2048x128.size (k0_off1_inb i h) : Vec Ideal S1x2048x128 .bf16) (ix3 0 r l) = ((d ⟨o + r.val, by omega⟩ l : ℝ) : EReal) :=
    fun r l => (window_rows (n := 2048) D _ h1 (k0_off1_inb i h) r l hn).trans (hD _ _)
  refine Done.step x q d k v o hn hs (fun r l y hy => ?_) (fun r l hr => ?_) (fun l t y hy => ?_) (fun l t y hy => ?_)
  · refine (put_dq (n := 2048) s.dq _ h2 _ _ l).trans ?_
    have hr : o ≤ o + r.val ∧ o + r.val < o + 2048 := by omega
    rw [dif_pos hr]
    have e : (⟨o + r.val - o, by omega⟩ : Fin 2048) = r := Fin.ext (by show o + r.val - o = r.val; omega)
    have hx := (window_dq (n := 2048) s.dq _ h2 (k0_off2_inb i h) r l hn).trans hy
    have := pay9_at K V _ _ k v _ _ hK hV hq' hd' _ r l y hx
    simp only [e]
    refine this.trans ?_
    refine congrArg (fun z : ℝ => (z : EReal)) (congrArg (y + ·) (Finset.sum_congr rfl fun t _ => ?_))
    rw [grad_congr (b' := o + t.val ≤ o + r.val) (by omega)]
  · exact (put_dq (n := 2048) s.dq _ h2 _ r l).trans (dif_neg hr)
  · refine (pay11_at K V _ _ k v _ _ hK hV hq' hd' s.dk l t y hy).trans ?_
    refine congrArg (fun z : ℝ => (z : EReal)) (congrArg (y + ·) (Finset.sum_congr rfl fun r _ => ?_))
    rw [grad_congr (b' := o + t.val ≤ o + r.val) (by omega)]
  · refine (pay10_at K _ _ k _ _ hK hq' hd' s.dv l t y hy).trans ?_
    refine congrArg (fun z : ℝ => (z : EReal)) (congrArg (y + ·) (Finset.sum_congr rfl fun r _ => ?_))
    rw [prob_congr (b' := o + t.val ≤ o + r.val) (by omega)]

include hQ hD hK hV in
/-- The masked step over 1536 rows. -/
theorem diag2_inv (i : grid0.Coords) (h : k0_cond3 i = 1#1) (h1 : k0_off3 i = ![0, o, 0]) (h2 : k0_off4 i = ![o, 0]) (hn : o + 1536 ≤ 16384)
    {s : Acc Ideal} (hs : Done x q d k v o o s) : Done x q d k v o (o + 1536) (diag2 i h Q D K V s) := by
  have hq' : ∀ (r : Fin 1536) l, (VecWindow.window Q (k0_off3 i) S1x1536x128.size (k0_off3_inb i h) : Vec Ideal S1x1536x128 .bf16) (ix3 0 r l) = ((q ⟨o + r.val, by omega⟩ l : ℝ) : EReal) :=
    fun r l => (window_rows (n := 1536) Q _ h1 (k0_off3_inb i h) r l hn).trans (hQ _ _)
  have hd' : ∀ (r : Fin 1536) l, (VecWindow.window D (k0_off3 i) S1x1536x128.size (k0_off3_inb i h) : Vec Ideal S1x1536x128 .bf16) (ix3 0 r l) = ((d ⟨o + r.val, by omega⟩ l : ℝ) : EReal) :=
    fun r l => (window_rows (n := 1536) D _ h1 (k0_off3_inb i h) r l hn).trans (hD _ _)
  refine Done.step x q d k v o hn hs (fun r l y hy => ?_) (fun r l hr => ?_) (fun l t y hy => ?_) (fun l t y hy => ?_)
  · refine (put_dq (n := 1536) s.dq _ h2 _ _ l).trans ?_
    have hr : o ≤ o + r.val ∧ o + r.val < o + 1536 := by omega
    rw [dif_pos hr]
    have e : (⟨o + r.val - o, by omega⟩ : Fin 1536) = r := Fin.ext (by show o + r.val - o = r.val; omega)
    have hx := (window_dq (n := 1536) s.dq _ h2 (k0_off4_inb i h) r l hn).trans hy
    have := pay16_at K V _ _ k v _ _ hK hV hq' hd' _ r l y hx
    simp only [e]
    refine this.trans ?_
    refine congrArg (fun z : ℝ => (z : EReal)) (congrArg (y + ·) (Finset.sum_congr rfl fun t _ => ?_))
    rw [grad_congr (b' := o + t.val ≤ o + r.val) (by omega)]
  · exact (put_dq (n := 1536) s.dq _ h2 _ r l).trans (dif_neg hr)
  · refine (pay18_at K V _ _ k v _ _ hK hV hq' hd' s.dk l t y hy).trans ?_
    refine congrArg (fun z : ℝ => (z : EReal)) (congrArg (y + ·) (Finset.sum_congr rfl fun r _ => ?_))
    rw [grad_congr (b' := o + t.val ≤ o + r.val) (by omega)]
  · refine (pay17_at K _ _ k _ _ hK hq' hd' s.dv l t y hy).trans ?_
    refine congrArg (fun z : ℝ => (z : EReal)) (congrArg (y + ·) (Finset.sum_congr rfl fun r _ => ?_))
    rw [prob_congr (b' := o + t.val ≤ o + r.val) (by omega)]

include hQ hD hK hV in
/-- The masked step over 1024 rows. -/
theorem diag3_inv (i : grid0.Coords) (h : k0_cond4 i = 1#1) (h1 : k0_off5 i = ![0, o, 0]) (h2 : k0_off6 i = ![o, 0]) (hn : o + 1024 ≤ 16384)
    {s : Acc Ideal} (hs : Done x q d k v o o s) : Done x q d k v o (o + 1024) (diag3 i h Q D K V s) := by
  have hq' : ∀ (r : Fin 1024) l, (VecWindow.window Q (k0_off5 i) S1x1024x128.size (k0_off5_inb i h) : Vec Ideal S1x1024x128 .bf16) (ix3 0 r l) = ((q ⟨o + r.val, by omega⟩ l : ℝ) : EReal) :=
    fun r l => (window_rows (n := 1024) Q _ h1 (k0_off5_inb i h) r l hn).trans (hQ _ _)
  have hd' : ∀ (r : Fin 1024) l, (VecWindow.window D (k0_off5 i) S1x1024x128.size (k0_off5_inb i h) : Vec Ideal S1x1024x128 .bf16) (ix3 0 r l) = ((d ⟨o + r.val, by omega⟩ l : ℝ) : EReal) :=
    fun r l => (window_rows (n := 1024) D _ h1 (k0_off5_inb i h) r l hn).trans (hD _ _)
  refine Done.step x q d k v o hn hs (fun r l y hy => ?_) (fun r l hr => ?_) (fun l t y hy => ?_) (fun l t y hy => ?_)
  · refine (put_dq (n := 1024) s.dq _ h2 _ _ l).trans ?_
    have hr : o ≤ o + r.val ∧ o + r.val < o + 1024 := by omega
    rw [dif_pos hr]
    have e : (⟨o + r.val - o, by omega⟩ : Fin 1024) = r := Fin.ext (by show o + r.val - o = r.val; omega)
    have hx := (window_dq (n := 1024) s.dq _ h2 (k0_off6_inb i h) r l hn).trans hy
    have := pay23_at K V _ _ k v _ _ hK hV hq' hd' _ r l y hx
    simp only [e]
    refine this.trans ?_
    refine congrArg (fun z : ℝ => (z : EReal)) (congrArg (y + ·) (Finset.sum_congr rfl fun t _ => ?_))
    rw [grad_congr (b' := o + t.val ≤ o + r.val) (by omega)]
  · exact (put_dq (n := 1024) s.dq _ h2 _ r l).trans (dif_neg hr)
  · refine (pay25_at K V _ _ k v _ _ hK hV hq' hd' s.dk l t y hy).trans ?_
    refine congrArg (fun z : ℝ => (z : EReal)) (congrArg (y + ·) (Finset.sum_congr rfl fun r _ => ?_))
    rw [grad_congr (b' := o + t.val ≤ o + r.val) (by omega)]
  · refine (pay24_at K _ _ k _ _ hK hq' hd' s.dv l t y hy).trans ?_
    refine congrArg (fun z : ℝ => (z : EReal)) (congrArg (y + ·) (Finset.sum_congr rfl fun r _ => ?_))
    rw [prob_congr (b' := o + t.val ≤ o + r.val) (by omega)]

include hQ hD hK hV in
/-- The masked step over 512 rows. -/
theorem diag4_inv (i : grid0.Coords) (h : k0_cond5 i = 1#1) (h1 : k0_off7 i = ![0, o, 0]) (h2 : k0_off8 i = ![o, 0]) (hn : o + 512 ≤ 16384)
    {s : Acc Ideal} (hs : Done x q d k v o o s) : Done x q d k v o (o + 512) (diag4 i h Q D K V s) := by
  have hq' : ∀ (r : Fin 512) l, (VecWindow.window Q (k0_off7 i) S1x512x128.size (k0_off7_inb i h) : Vec Ideal S1x512x128 .bf16) (ix3 0 r l) = ((q ⟨o + r.val, by omega⟩ l : ℝ) : EReal) :=
    fun r l => (window_rows (n := 512) Q _ h1 (k0_off7_inb i h) r l hn).trans (hQ _ _)
  have hd' : ∀ (r : Fin 512) l, (VecWindow.window D (k0_off7 i) S1x512x128.size (k0_off7_inb i h) : Vec Ideal S1x512x128 .bf16) (ix3 0 r l) = ((d ⟨o + r.val, by omega⟩ l : ℝ) : EReal) :=
    fun r l => (window_rows (n := 512) D _ h1 (k0_off7_inb i h) r l hn).trans (hD _ _)
  refine Done.step x q d k v o hn hs (fun r l y hy => ?_) (fun r l hr => ?_) (fun l t y hy => ?_) (fun l t y hy => ?_)
  · refine (put_dq (n := 512) s.dq _ h2 _ _ l).trans ?_
    have hr : o ≤ o + r.val ∧ o + r.val < o + 512 := by omega
    rw [dif_pos hr]
    have e : (⟨o + r.val - o, by omega⟩ : Fin 512) = r := Fin.ext (by show o + r.val - o = r.val; omega)
    have hx := (window_dq (n := 512) s.dq _ h2 (k0_off8_inb i h) r l hn).trans hy
    have := pay30_at K V _ _ k v _ _ hK hV hq' hd' _ r l y hx
    simp only [e]
    refine this.trans ?_
    refine congrArg (fun z : ℝ => (z : EReal)) (congrArg (y + ·) (Finset.sum_congr rfl fun t _ => ?_))
    rw [grad_congr (b' := o + t.val ≤ o + r.val) (by omega)]
  · exact (put_dq (n := 512) s.dq _ h2 _ r l).trans (dif_neg hr)
  · refine (pay32_at K V _ _ k v _ _ hK hV hq' hd' s.dk l t y hy).trans ?_
    refine congrArg (fun z : ℝ => (z : EReal)) (congrArg (y + ·) (Finset.sum_congr rfl fun r _ => ?_))
    rw [grad_congr (b' := o + t.val ≤ o + r.val) (by omega)]
  · refine (pay31_at K _ _ k _ _ hK hq' hd' s.dv l t y hy).trans ?_
    refine congrArg (fun z : ℝ => (z : EReal)) (congrArg (y + ·) (Finset.sum_congr rfl fun r _ => ?_))
    rw [prob_congr (b' := o + t.val ≤ o + r.val) (by omega)]

include hQ hD hK hV in
/-- An unmasked step. -/
theorem trip_inv (b : ℕ) (hob : o + 512 ≤ b) (i : grid0.Coords) (h : Fin (k0_t1_loop i).trips) (h1 : k0_off9 i h = ![0, b, 0]) (h2 : k0_off10 i h = ![b, 0]) (hn : b + 2048 ≤ 16384)
    {s : Acc Ideal} (hs : Done x q d k v o b s) : Done x q d k v o (b + 2048) (trip i h Q D K V s) := by
  have hq' : ∀ (r : Fin 2048) l, (VecWindow.window Q (k0_off9 i h) S1x2048x128.size (k0_off9_inb i h) : Vec Ideal S1x2048x128 .bf16) (ix3 0 r l) = ((q ⟨b + r.val, by omega⟩ l : ℝ) : EReal) :=
    fun r l => (window_rows (n := 2048) Q _ h1 (k0_off9_inb i h) r l hn).trans (hQ _ _)
  have hd' : ∀ (r : Fin 2048) l, (VecWindow.window D (k0_off9 i h) S1x2048x128.size (k0_off9_inb i h) : Vec Ideal S1x2048x128 .bf16) (ix3 0 r l) = ((d ⟨b + r.val, by omega⟩ l : ℝ) : EReal) :=
    fun r l => (window_rows (n := 2048) D _ h1 (k0_off9_inb i h) r l hn).trans (hD _ _)
  refine Done.step x q d k v o hn hs (fun r l y hy => ?_) (fun r l hr => ?_) (fun l t y hy => ?_) (fun l t y hy => ?_)
  · refine (put_dq (n := 2048) s.dq _ h2 _ _ l).trans ?_
    have hr : b ≤ b + r.val ∧ b + r.val < b + 2048 := by omega
    rw [dif_pos hr]
    have e : (⟨b + r.val - b, by omega⟩ : Fin 2048) = r := Fin.ext (by show b + r.val - b = r.val; omega)
    have hx := (window_dq (n := 2048) s.dq _ h2 (k0_off10_inb i h) r l hn).trans hy
    have := pay37_at K V _ _ k v _ _ hK hV hq' hd' _ r l y hx
    simp only [e]
    refine this.trans ?_
    refine congrArg (fun z : ℝ => (z : EReal)) (congrArg (y + ·) (Finset.sum_congr rfl fun t _ => ?_))
    rw [grad_congr (b' := o + t.val ≤ b + r.val) ⟨fun _ => by omega, fun _ => trivial⟩]
  · exact (put_dq (n := 2048) s.dq _ h2 _ r l).trans (dif_neg hr)
  · refine (pay39_at K V _ _ k v _ _ hK hV hq' hd' s.dk l t y hy).trans ?_
    refine congrArg (fun z : ℝ => (z : EReal)) (congrArg (y + ·) (Finset.sum_congr rfl fun r _ => ?_))
    rw [grad_congr (b' := o + t.val ≤ b + r.val) ⟨fun _ => by omega, fun _ => trivial⟩]
  · refine (pay38_at K _ _ k _ _ hK hq' hd' s.dv l t y hy).trans ?_
    refine congrArg (fun z : ℝ => (z : EReal)) (congrArg (y + ·) (Finset.sum_congr rfl fun r _ => ?_))
    rw [prob_congr (b' := o + t.val ≤ b + r.val) ⟨fun _ => by omega, fun _ => trivial⟩]

include hQ hD hK hV in
/-- The masked step of a point covers the rows from the tile's first to the end of its group. -/
theorem diag_inv (t : Fin grid0.N) {s : Acc Ideal} (hs : Done x q d k v (t.val % 32 * 512) (t.val % 32 * 512) s) :
    Done x q d k v (t.val % 32 * 512) ((t.val % 32 / 4 + 1) * 2048) (diag (grid0.coords t) Q D K V s) := by
  obtain ⟨c2, c3, c4, c5, o1, o2, o3, o4, o5, o6, o7, o8⟩ := diag_offs t
  have ht : t.val % 4 = 0 ∨ t.val % 4 = 1 ∨ t.val % 4 = 2 ∨ t.val % 4 = 3 := by omega
  unfold diag
  rcases ht with h | h | h | h
  · rw [dif_pos (c2.2 h), show (t.val % 32 / 4 + 1) * 2048 = t.val % 32 * 512 + 2048 by omega]
    exact diag1_inv x q d k v _ Q D K V hQ hD hK hV _ _ o1 o2 (by omega) hs
  · rw [dif_neg (fun e => by have := c2.1 e; omega), dif_pos (c3.2 h), show (t.val % 32 / 4 + 1) * 2048 = t.val % 32 * 512 + 1536 by omega]
    exact diag2_inv x q d k v _ Q D K V hQ hD hK hV _ _ o3 o4 (by omega) hs
  · rw [dif_neg (fun e => by have := c2.1 e; omega), dif_neg (fun e => by have := c3.1 e; omega), dif_pos (c4.2 h), show (t.val % 32 / 4 + 1) * 2048 = t.val % 32 * 512 + 1024 by omega]
    exact diag3_inv x q d k v _ Q D K V hQ hD hK hV _ _ o5 o6 (by omega) hs
  · rw [dif_neg (fun e => by have := c2.1 e; omega), dif_neg (fun e => by have := c3.1 e; omega), dif_neg (fun e => by have := c4.1 e; omega), dif_pos (c5.2 h), show (t.val % 32 / 4 + 1) * 2048 = t.val % 32 * 512 + 512 by omega]
    exact diag4_inv x q d k v _ Q D K V hQ hD hK hV _ _ o7 o8 (by omega) hs

include hQ hD hK hV in
/-- After `n` unmasked steps the rows of `n` more groups are done. -/
theorem trips_inv (t : Fin grid0.N) {s : Acc Ideal} (hs : Done x q d k v (t.val % 32 * 512) ((t.val % 32 / 4 + 1) * 2048) s) :
    ∀ n, n ≤ (k0_t1_loop (grid0.coords t)).trips →
      Done x q d k v (t.val % 32 * 512) ((t.val % 32 / 4 + 1) * 2048 + n * 2048) (trips (grid0.coords t) Q D K V s n)
  | 0, _ => by simpa [trips] using hs
  | n + 1, h => by
    have ih := trips_inv t hs n (by omega)
    obtain ⟨h1, h2⟩ := trip_offs t
    have hh : n < (k0_t1_loop (grid0.coords t)).trips := h
    rw [trips_succ (grid0.coords t) Q D K V s ⟨n, hh⟩, show (t.val % 32 / 4 + 1) * 2048 + (n + 1) * 2048 = (t.val % 32 / 4 + 1) * 2048 + n * 2048 + 2048 by omega]
    exact trip_inv x q d k v _ Q D K V hQ hD hK hV _ (by omega) _ ⟨n, hh⟩ (h2 ⟨n, hh⟩).1 (h2 ⟨n, hh⟩).2 (by omega) ih

variable (K4 V4 : Vec Ideal S1x1x512x128 .bf16)
  (hK4 : ∀ t l, K4 (ix4 0 0 t l) = ((k t l : ℝ) : EReal)) (hV4 : ∀ t l, V4 (ix4 0 0 t l) = ((v t l : ℝ) : EReal))

include hQ hD hK4 hV4 in
/-- The whole point: all rows are done. -/
theorem point_inv (t : Fin grid0.N) (X : Vec Ideal S16384x128 .f32) (hX : ∀ r l, X (ix2 r l) = ((x r l : ℝ) : EReal)) :
    Done x q d k v (t.val % 32 * 512) 16384 (pointAcc (grid0.coords t) Q D K4 V4 X) := by
  have hK : ∀ t l, k0_pay50 (F := Ideal) K4 (ix2 t l) = ((k t l : ℝ) : EReal) := fun t l => by pointwise [k0_pay50, hK4]
  have hV : ∀ t l, k0_pay51 (F := Ideal) V4 (ix2 t l) = ((v t l : ℝ) : EReal) := fun t l => by pointwise [k0_pay51, hV4]
  have h0 : Done x q d k v (t.val % 32 * 512) (t.val % 32 * 512) (⟨X, k0_pay48 (F := Ideal), k0_pay49 (F := Ideal)⟩ : Acc Ideal) :=
    Done.start x q d k v _ hX (fun l t => by show k0_pay48 (F := Ideal) (ix2 l t) = _; pointwise [k0_pay48]) (fun l t => by show k0_pay49 (F := Ideal) (ix2 l t) = _; pointwise [k0_pay49])
  have h1 := trips_inv x q d k v Q D _ _ hQ hD hK hV t (diag_inv x q d k v Q D _ _ hQ hD hK hV t h0) _ le_rfl
  rw [show (t.val % 32 / 4 + 1) * 2048 + (k0_t1_loop (grid0.coords t)).trips * 2048 = 16384 by rw [(trip_offs t).1]; omega] at h1
  exact h1

end

end Cert.KernelIdeal.Hand
-- ==== Proof.KI.Blocks.lean ====
/-
  Where the blocks of a grid point lie in their arrays.
-/
module

public import proofs.«01_k».proof.Proof.KI.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

/-- The blocks of a point: the head's rows, the head's tile of keys. -/
theorem idx : ∀ t : Fin cfg0.N, win0_0.index t = ![t.val / 32, 0, 0] ∧ win0_1.index t = ![t.val / 32, 0, 0]
    ∧ win0_2.index t = ![t.val / 32, t.val % 32, 0, 0] ∧ win0_3.index t = ![t.val / 32, t.val % 32, 0, 0]
    ∧ win0_4.index t = ![t.val / 32, t.val % 32, 0] ∧ win0_5.index t = ![t.val / 32, t.val % 32, 0] ∧ t.val / 32 < 16 :=
  (by decide +kernel : ∀ t : Fin grid0.N, _)

/-- A head's transfer writes at its own head. -/
theorem off13 : ∀ t : Fin grid0.N, k0_off13 (grid0.coords t) = ![t.val / 32, 0, 0] := by decide +kernel

/-- Which points begin a head, which end one, and which head it is. -/
theorem ends_of : ∀ t : Fin grid0.N, (isFirst (grid0.coords t) ↔ t.val % 32 = 0) ∧ (k0_cond6 (grid0.coords t) = 1#1 ↔ t.val % 32 = 31)
    ∧ (grid0.coords t 0).val = t.val / 32 := by
  decide +kernel

/-- The head of a point. -/
def headAt (t : Fin cfg0.N) : Fin 16 := ⟨t.val / 32, (idx t).2.2.2.2.2.2⟩
/-- The tile of a point. -/
def tileAt (t : Fin cfg0.N) : Fin 32 := ⟨t.val % 32, by omega⟩
/-- A key of a point's tile. -/
def keyAt (t : Fin cfg0.N) (s : Fin 512) : Fin 16384 := ⟨t.val % 32 * 512 + s.val, by have := s.isLt; omega⟩

theorem emb_0 (t : Fin cfg0.N) (r : Fin 16384) (l : Fin 128) : ((cfg0.win 0).blk t).view.emb (ix3 0 r l : S1x16384x128.Idx) = (ix3 (headAt t) r l : S16x16384x128.Idx) := by
  blk_ext [idx t, headAt]
/-- An entry of the block of window 0. -/
theorem read_0 (X : FVec Ideal S16x16384x128 .bf16) (t : Fin cfg0.N) (r : Fin 16384) (l : Fin 128) :
    ((cfg0.win 0).blk t).view.read (Elt Ideal) X (ix3 0 r l : S1x16384x128.Idx) = X (ix3 (headAt t) r l) := congrArg X (emb_0 t r l)

theorem emb_1 (t : Fin cfg0.N) (r : Fin 16384) (l : Fin 128) : ((cfg0.win 1).blk t).view.emb (ix3 0 r l : S1x16384x128.Idx) = (ix3 (headAt t) r l : S16x16384x128.Idx) := by
  blk_ext [idx t, headAt]
/-- An entry of the block of window 1. -/
theorem read_1 (X : FVec Ideal S16x16384x128 .bf16) (t : Fin cfg0.N) (r : Fin 16384) (l : Fin 128) :
    ((cfg0.win 1).blk t).view.read (Elt Ideal) X (ix3 0 r l : S1x16384x128.Idx) = X (ix3 (headAt t) r l) := congrArg X (emb_1 t r l)

theorem emb_2 (t : Fin cfg0.N) (s : Fin 512) (l : Fin 128) : ((cfg0.win 2).blk t).view.emb (ix4 0 0 s l : S1x1x512x128.Idx) = (ix4 (headAt t) (tileAt t) s l : S16x32x512x128.Idx) := by
  blk_ext [idx t, headAt, tileAt]
/-- An entry of the block of window 2. -/
theorem read_2 (X : FVec Ideal S16x32x512x128 .bf16) (t : Fin cfg0.N) (s : Fin 512) (l : Fin 128) :
    ((cfg0.win 2).blk t).view.read (Elt Ideal) X (ix4 0 0 s l : S1x1x512x128.Idx) = X (ix4 (headAt t) (tileAt t) s l) := congrArg X (emb_2 t s l)

theorem emb_3 (t : Fin cfg0.N) (s : Fin 512) (l : Fin 128) : ((cfg0.win 3).blk t).view.emb (ix4 0 0 s l : S1x1x512x128.Idx) = (ix4 (headAt t) (tileAt t) s l : S16x32x512x128.Idx) := by
  blk_ext [idx t, headAt, tileAt]
/-- An entry of the block of window 3. -/
theorem read_3 (X : FVec Ideal S16x32x512x128 .bf16) (t : Fin cfg0.N) (s : Fin 512) (l : Fin 128) :
    ((cfg0.win 3).blk t).view.read (Elt Ideal) X (ix4 0 0 s l : S1x1x512x128.Idx) = X (ix4 (headAt t) (tileAt t) s l) := congrArg X (emb_3 t s l)

/-- Where an entry of the block of window 4 lies in its array. -/
theorem emb_4 (t : Fin cfg0.N) (s : Fin 512) (l : Fin 128) : ((cfg0.win 4).blk t).view.emb (ix3 0 s l : S1x512x128.Idx) = (ix3 (headAt t) (keyAt t s) l : S16x16384x128.Idx) := by
  blk_ext [idx t, headAt, keyAt]
/-- The blocks of window 4 cover its array. -/
theorem covers_4 : (cfg0.win 4).Covers := by decide +kernel

/-- Where an entry of the block of window 5 lies in its array. -/
theorem emb_5 (t : Fin cfg0.N) (s : Fin 512) (l : Fin 128) : ((cfg0.win 5).blk t).view.emb (ix3 0 s l : S1x512x128.Idx) = (ix3 (headAt t) (keyAt t s) l : S16x16384x128.Idx) := by
  blk_ext [idx t, headAt, keyAt]
/-- The blocks of window 5 cover its array. -/
theorem covers_5 : (cfg0.win 5).Covers := by decide +kernel

end Cert.KernelIdeal.Hand
-- ==== Proof.KI.Arrays.lean ====
/-
  The kernel's three arrays over the extended reals when the arrays of lanes it reads hold real numbers: every entry of
  the query gradients is the sum over all keys, every entry of the key and value gradients the sum over all rows.
-/
module

public import proofs.«01_k».proof.Proof.KI.Frame
public import proofs.«01_k».proof.Proof.KI.Point
public import proofs.«01_k».proof.Proof.KI.Blocks
public import Idealize.ShloMosaic.Lib.ValueLayout
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

/-- The head a point's transfer writes, placed in the array of heads. -/
theorem emb_head (t : Fin cfg0.N) (h : k0_cond6 (grid0.coords t) = 1#1) (r : Fin 16384) (l : Fin 128) :
    (headOf (grid0.coords t) h).view.emb (ix2 r l : S16384x128.Idx) = (ix3 (headAt t) r l : S16x16384x128.Idx) := by
  have h13 := off13 t
  show (Rect.unit (s := S16x16384x128) (k0_off13 (grid0.coords t)) S1x16384x128.size (k0_off13_inb (grid0.coords t) h)).emb
    (Shape.reshapeEquiv squeezes_S1x16384x128_S16384x128.numel_eq (ix2 r l)) = _
  have e : Shape.reshapeEquiv squeezes_S1x16384x128_S16384x128.numel_eq (ix2 r l : S16384x128.Idx) = (ix3 0 r l : S1x16384x128.Idx) :=
    ValueIdx.reshapeEquiv_ix2_1ab squeezes_S1x16384x128_S16384x128.numel_eq r l
  rw [e]
  blk_ext [h13, headAt]

/-- A tile's key. -/
def keyOf (j : Fin 32) (t : Fin 512) : Fin 16384 := ⟨j.val * 512 + t.val, by have := j.isLt; have := t.isLt; omega⟩

section
variable (m : (ℓ : Loc nD τ sig) → Buf (Elt Ideal) ℓ) (c : Dev nD)
variable (q d k v : Fin 16 → Fin 16384 → Fin 128 → ℝ)
  (hQ : ∀ h r l, (V m c main_v97 : FVec Ideal S16x16384x128 .bf16) (ix3 h r l) = ((q h r l : ℝ) : EReal))
  (hD : ∀ h r l, (V m c main_v98 : FVec Ideal S16x16384x128 .bf16) (ix3 h r l) = ((d h r l : ℝ) : EReal))
  (hK : ∀ h (j : Fin 32) (t : Fin 512) l, (V m c main_v95 : FVec Ideal S16x32x512x128 .bf16) (ix4 h j t l) = ((k h (keyOf j t) l : ℝ) : EReal))
  (hV : ∀ h (j : Fin 32) (t : Fin 512) l, (V m c main_v96 : FVec Ideal S16x32x512x128 .bf16) (ix4 h j t l) = ((v h (keyOf j t) l : ℝ) : EReal))

omit hD hK hV in
include hQ in
theorem blk_q (t : Fin cfg0.N) (r : Fin 16384) (l : Fin 128) : iblk m c 0 t (ix3 0 r l : S1x16384x128.Idx) = ((q (headAt t) r l : ℝ) : EReal) :=
  (read_0 (V m c main_v97) t r l).trans (hQ (headAt t) r l)
omit hQ hK hV in
include hD in
theorem blk_d (t : Fin cfg0.N) (r : Fin 16384) (l : Fin 128) : iblk m c 1 t (ix3 0 r l : S1x16384x128.Idx) = ((d (headAt t) r l : ℝ) : EReal) :=
  (read_1 (V m c main_v98) t r l).trans (hD (headAt t) r l)
omit hQ hD hV in
include hK in
theorem blk_k (t : Fin cfg0.N) (s : Fin 512) (l : Fin 128) : iblk m c 2 t (ix4 0 0 s l : S1x1x512x128.Idx) = ((k (headAt t) (keyAt t s) l : ℝ) : EReal) :=
  (read_2 (V m c main_v95) t s l).trans (hK (headAt t) (tileAt t) s l)
omit hQ hD hK in
include hV in
theorem blk_v (t : Fin cfg0.N) (s : Fin 512) (l : Fin 128) : iblk m c 3 t (ix4 0 0 s l : S1x1x512x128.Idx) = ((v (headAt t) (keyAt t s) l : ℝ) : EReal) :=
  (read_3 (V m c main_v96) t s l).trans (hV (headAt t) (tileAt t) s l)

include hQ hD hK hV in
/-- What one point leaves in its accumulators. -/
theorem acc_inv (t : Fin cfg0.N) (X : Vec Ideal S16384x128 .f32) (x : Fin 16384 → Fin 128 → ℝ)
    (hX : ∀ r l, begins (grid0.coords t) X (ix2 r l) = ((x r l : ℝ) : EReal)) :
    Done x (q (headAt t)) (d (headAt t)) (fun s => k (headAt t) (keyAt t s)) (fun s => v (headAt t) (keyAt t s)) (t.val % 32 * 512) 16384
      (accAt m c t X) :=
  point_inv x (q (headAt t)) (d (headAt t)) (fun s => k (headAt t) (keyAt t s)) (fun s => v (headAt t) (keyAt t s)) _ _
    (blk_q m c q hQ t) (blk_d m c d hD t) _ _ (blk_k m c k hK t) (blk_v m c v hV t) t _ hX

/-- The query gradient of a head once its keys below `n` are summed. -/
def dqSum (n : ℕ) (h : Fin 16) (r : Fin 16384) (l : Fin 128) : ℝ :=
  ∑ j : Fin 16384, if j.val < n then grad (j.val ≤ r.val) (q h r) (k h j) (d h r) (v h j) * k h j l else 0

omit hQ hD hK hV in
theorem dqSum_zero (h r l) : dqSum q d k v 0 h r l = 0 := by simp [dqSum]

omit hQ hD hK hV in
/-- The sum grows by a tile. -/
theorem dqSum_tile (t : Fin cfg0.N) (r l) :
    dqSum q d k v (t.val % 32 * 512) (headAt t) r l
      + ∑ s : Fin 512, grad (t.val % 32 * 512 + s.val ≤ r.val) (q (headAt t) r) (k (headAt t) (keyAt t s)) (d (headAt t) r) (v (headAt t) (keyAt t s)) * k (headAt t) (keyAt t s) l
    = dqSum q d k v ((t.val % 32 + 1) * 512) (headAt t) r l := by
  unfold dqSum
  rw [show (t.val % 32 + 1) * 512 = t.val % 32 * 512 + 512 by ring, sum_rows (N := 16384) (n := 512) (t.val % 32 * 512) (by omega)]
  rfl

omit hQ hD hK hV in
/-- The zeros a head begins with. -/
theorem zeros_at (r : Fin 16384) (l : Fin 128) : k0_pay47 (F := Ideal) (ix2 r l) = ((0 : ℝ) : EReal) := by
  pointwise [k0_pay47]
  exact EReal.coe_zero.symm

include hQ hD hK hV in
/-- One point: from the sum before its tile to the sum after it. -/
theorem dq_step (t : Fin cfg0.N) (h : t.val % 32 ≠ 0 → ∀ r l, dqAt m c t.val (ix2 r l) = ((dqSum q d k v (t.val % 32 * 512) (headAt t) r l : ℝ) : EReal)) (r : Fin 16384) (l : Fin 128) :
    dqAt m c (t.val + 1) (ix2 r l) = ((dqSum q d k v ((t.val % 32 + 1) * 512) (headAt t) r l : ℝ) : EReal) := by
  have hX : ∀ r l, begins (grid0.coords t) (dqAt m c t.val) (ix2 r l) = ((dqSum q d k v (t.val % 32 * 512) (headAt t) r l : ℝ) : EReal) := by
    intro r l
    unfold begins
    by_cases h0 : t.val % 32 = 0
    · rw [if_pos ((ends_of t).1.2 h0), zeros_at, h0, Nat.zero_mul, dqSum_zero]
    · rw [if_neg (fun hh => h0 ((ends_of t).1.1 hh)), h h0]
  have := (acc_inv m c q d k v hQ hD hK hV t (dqAt m c t.val) _ hX).dq r l
  rw [if_pos r.isLt] at this
  rw [dqAt_succ, this, dqSum_tile]

include hQ hD hK hV in
/-- The query gradient after a point. -/
theorem dq_after (t : ℕ) (ht : t < cfg0.N) (r : Fin 16384) (l : Fin 128) :
    dqAt m c (t + 1) (ix2 r l) = ((dqSum q d k v ((t % 32 + 1) * 512) (headAt ⟨t, ht⟩) r l : ℝ) : EReal) := by
  induction t generalizing r l with
  | zero => exact dq_step m c q d k v hQ hD hK hV ⟨0, ht⟩ (fun h => absurd rfl h) r l
  | succ n ih =>
    refine dq_step m c q d k v hQ hD hK hV ⟨n + 1, ht⟩ (fun h r l => ?_) r l
    have h' : (n + 1) % 32 ≠ 0 := h
    refine (ih (by omega) r l).trans ?_
    have e1 : n % 32 + 1 = (n + 1) % 32 := by omega
    have e2 : headAt ⟨n, by omega⟩ = headAt ⟨n + 1, ht⟩ := by
      unfold headAt; ext; show n / 32 = (n + 1) / 32; omega
    rw [e1, e2]

include hQ hD hK hV in
/-- The array of heads after `n` points: the heads whose last tile is done hold their query gradients. -/
theorem heads_after (n : ℕ) (hn : n ≤ cfg0.N) (h : Fin 16) (hh : (h.val + 1) * 32 ≤ n) (r : Fin 16384) (l : Fin 128) :
    (headsAt m c n : Vec Ideal S16x16384x128 .f32) (ix3 h r l) = ((dqSum q d k v 16384 h r l : ℝ) : EReal) := by
  induction n with
  | zero => omega
  | succ n ih =>
    have hs := headsAt_succ m c ⟨n, hn⟩
    have hd := dq_after m c q d k v hQ hD hK hV n hn
    have hN : cfg0.N = 512 := rfl
    refine (congrFun hs (ix3 h r l)).trans ?_
    unfold putHead
    by_cases hc : k0_cond6 (grid0.coords ⟨n, hn⟩) = 1#1
    · rw [dif_pos hc]
      have h31 : n % 32 = 31 := (ends_of ⟨n, hn⟩).2.1.1 hc
      by_cases he : h = headAt ⟨n, hn⟩
      · have hw := (headOf (grid0.coords ⟨n, hn⟩) hc).view.write_emb_of_mem (Val := Elt Ideal) (headsAt m c n) (dqAt m c (n + 1)) (Finset.mem_univ (ix2 r l : S16384x128.Idx))
        rw [emb_head ⟨n, hn⟩ hc r l, ← he] at hw
        refine hw.trans ?_
        refine (hd r l).trans ?_
        rw [h31, ← he]
      · rw [View.write_of_not_mem]
        · refine ih (by omega) ?_
          have : h.val ≠ n / 32 := fun e => he (Fin.ext e)
          omega
        · intro hm
          obtain ⟨y, -, hy⟩ := Finset.mem_map.1 hm
          revert hy
          idx_vars y
          intro hy
          rw [emb_head ⟨n, hn⟩ hc] at hy
          exact he (congrFun hy 0).symm
    · rw [dif_neg hc]
      have h31 : n % 32 ≠ 31 := fun e => hc ((ends_of ⟨n, hn⟩).2.1.2 e)
      exact ih (by omega) (by omega)

include hQ hD hK hV in
/-- The array of query gradients the kernel leaves. -/
theorem dq_array (h : Fin 16) (r : Fin 16384) (l : Fin 128) :
    (headsAt m c cfg0.N : Vec Ideal S16x16384x128 .f32) (ix3 h r l)
      = ((∑ j : Fin 16384, grad (j.val ≤ r.val) (q h r) (k h j) (d h r) (v h j) * k h j l : ℝ) : EReal) := by
  have hN : cfg0.N = 512 := rfl
  rw [heads_after m c q d k v hQ hD hK hV cfg0.N le_rfl h (by omega) r l]
  exact congrArg (fun x : ℝ => (x : EReal)) (Finset.sum_congr rfl fun j _ => if_pos j.isLt)

omit hQ hD hK hV in
theorem pay3_at (A : Vec Ideal S128x512 .f32) (s : Fin 512) (l : Fin 128) : k0_pay3 A (ix3 0 s l : S1x512x128.Idx) = A (ix2 l s) := by
  pointwise [k0_pay3]
omit hQ hD hK hV in
theorem pay4_at (A : Vec Ideal S128x512 .f32) (s : Fin 512) (l : Fin 128) : k0_pay4 A (ix3 0 s l : S1x512x128.Idx) = A (ix2 l s) := by
  pointwise [k0_pay4]

omit hQ hD hK hV in
/-- An index of a block of one row. -/
theorem unit_idx (y : S1x512x128.Idx) : ∃ (s : Fin 512) (l : Fin 128), y = ix3 (0 : Fin 1) s l :=
  ⟨y 1, y 2, (eq_ix3 y).trans (congrArg (fun z : Fin 1 => (ix3 z (y 1) (y 2) : S1x512x128.Idx)) (Subsingleton.elim _ _))⟩

/-- The key gradients, all rows summed. -/
def dkSum (h : Fin 16) (j : Fin 16384) (l : Fin 128) : ℝ := ∑ r : Fin 16384, q h r l * grad (j.val ≤ r.val) (q h r) (k h j) (d h r) (v h j)
/-- The value gradients, all rows summed. -/
def dvSum (h : Fin 16) (j : Fin 16384) (l : Fin 128) : ℝ := ∑ r : Fin 16384, d h r l * prob (j.val ≤ r.val) (q h r) (k h j)

include hQ hD hK hV in
/-- What one point leaves, its query gradients aside. -/
theorem acc_of (t : Fin cfg0.N) : ∃ x, Done x (q (headAt t)) (d (headAt t)) (fun s => k (headAt t) (keyAt t s)) (fun s => v (headAt t) (keyAt t s)) (t.val % 32 * 512) 16384
      (accAt m c t (dqAt m c t.val)) := by
  refine ⟨dqSum q d k v (t.val % 32 * 512) (headAt t), acc_inv m c q d k v hQ hD hK hV t _ _ fun r l => ?_⟩
  unfold begins
  by_cases h0 : t.val % 32 = 0
  · rw [if_pos ((ends_of t).1.2 h0), zeros_at, h0, Nat.zero_mul, dqSum_zero]
  · rw [if_neg (fun hh => h0 ((ends_of t).1.1 hh))]
    obtain ⟨n, hn⟩ := t
    cases n with
    | zero => exact absurd rfl h0
    | succ n =>
      have h' : (n + 1) % 32 ≠ 0 := h0
      refine (dq_after m c q d k v hQ hD hK hV n (by omega) r l).trans ?_
      have e1 : n % 32 + 1 = (n + 1) % 32 := by omega
      have e2 : headAt ⟨n, by omega⟩ = headAt ⟨n + 1, hn⟩ := by
        unfold headAt; ext; show n / 32 = (n + 1) / 32; omega
      rw [e1, e2]

include hQ hD hK hV in
/-- The array of key gradients the kernel leaves. -/
theorem dk_array : (dats m 0 c).arrAt 4 cfg0.N
    = (fun i => ((dkSum q d k v (i 0) (i 1) (i 2) : ℝ) : EReal) : FVec Ideal S16x16384x128 .f32) := by
  refine Dat.arrAt_eq_of_covers _ 4 _ covers_4 fun t _ (y : S1x512x128.Idx) => ?_
  obtain ⟨s, l, rfl⟩ := unit_idx y
  refine Eq.trans ?_ (congrArg (fun i : S16x16384x128.Idx => ((dkSum q d k v (i 0) (i 1) (i 2) : ℝ) : EReal)) (emb_4 t s l).symm)
  rw [after_4]
  refine (pay3_at _ s l).trans ?_
  obtain ⟨x, hx⟩ := acc_of m c q d k v hQ hD hK hV t
  refine (hx.dk l s).trans ?_
  exact congrArg (fun x : ℝ => (x : EReal)) (Finset.sum_congr rfl fun j _ => if_pos j.isLt)

include hQ hD hK hV in
/-- The array of value gradients the kernel leaves. -/
theorem dv_array : (dats m 0 c).arrAt 5 cfg0.N
    = (fun i => ((dvSum q d k (i 0) (i 1) (i 2) : ℝ) : EReal) : FVec Ideal S16x16384x128 .bf16) := by
  refine Dat.arrAt_eq_of_covers _ 5 _ covers_5 fun t _ (y : S1x512x128.Idx) => ?_
  obtain ⟨s, l, rfl⟩ := unit_idx y
  refine Eq.trans ?_ (congrArg (fun i : S16x16384x128.Idx => ((dvSum q d k (i 0) (i 1) (i 2) : ℝ) : EReal)) (emb_5 t s l).symm)
  rw [after_5]
  refine (pay4_at _ s l).trans ?_
  obtain ⟨x, hx⟩ := acc_of m c q d k v hQ hD hK hV t
  refine (hx.dv l s).trans ?_
  exact congrArg (fun x : ℝ => (x : EReal)) (Finset.sum_congr rfl fun j _ => if_pos j.isLt)

end

end Cert.KernelIdeal.Hand
-- ==== Proof.KI.Host.lean ====
/-
  What the host prepares for the backward kernel, as plain functions of the arguments: the masked scores, each row's
  log-sum and output, and the four arrays of 128 lanes the kernel reads.
-/
module

public import proofs.«01_k».proof.Proof.Gen.KernelIdeal.Frame
public import Idealize.ShloMosaic.Lib.Claim
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F] [Named F]

/-- The scores less each key's own `c`, masked above the diagonal. -/
def hScores (q k : FVec F S16x16384x64 .f32) (c : FVec F S16x16384 .f32) : FVec F S16x16384x16384 .f32 :=
  select (broadcastInDim S16x16384x16384 ![0, 1, 2] bcast_S1x16384x16384_S16x16384x16384_0_1_2
      (cmpi .sle
        (broadcastInDim S1x16384x16384 ![0, 1, 2] bcast_S1x1x16384_S1x16384x16384_0_1_2 (broadcastInDim S1x1x16384 ![2] bcast_S16384_S1x1x16384_2 (iotaInDim S16384 32 0)))
        (broadcastInDim S1x16384x16384 ![0, 1, 2] bcast_S1x16384x1_S1x16384x16384_0_1_2 (broadcastInDim S1x16384x1 ![1] bcast_S16384_S1x16384x1_1 (iotaInDim S16384 32 0)))))
    (subf
      (mulf (Host.dotGeneral dot_S16x16384x64_S16x16384x64_S16x16384x16384_2_2_1_1_0_0 none q k)
        (broadcastInDim S16x16384x16384 ![] bcast_S_S16x16384x16384 (constant S_ .f32 0x3E000000#32)))
      (broadcastInDim S16x16384x16384 ![0, 1, 2] bcast_S16x1x16384_S16x16384x16384_0_1_2 (broadcastInDim S16x1x16384 ![0, 2] bcast_S16x16384_S16x1x16384_0_2 c)))
    (broadcastInDim S16x16384x16384 ![] bcast_S_S16x16384x16384 (constant S_ .f32 0xFF800000#32))

/-- Each row's largest score. -/
def hMax (z : FVec F S16x16384x16384 .f32) : FVec F S16x16384 .f32 :=
  Host.reduce FloatOps.maximumf z (constant S_ .f32 0xFF800000#32) reducesTo_S16x16384x16384_S16x16384_d2 h_S_

/-- The exponentials less the row's largest score. -/
def hExp (z : FVec F S16x16384x16384 .f32) (mx : FVec F S16x16384 .f32) : FVec F S16x16384x16384 .f32 :=
  Host.exp (subf z (broadcastInDim S16x16384x16384 ![0, 1, 2] bcast_S16x16384x1_S16x16384x16384_0_1_2 (broadcastInDim S16x16384x1 ![0, 1] bcast_S16x16384_S16x16384x1_0_1 mx)))

/-- Their row sums. -/
def hSum (e : FVec F S16x16384x16384 .f32) : FVec F S16x16384 .f32 :=
  Host.reduceAdd e (constant S_ .f32 0x00000000#32) reducesTo_S16x16384x16384_S16x16384_d2 h_S_

/-- Each row's log-sum. -/
def hLse (z : FVec F S16x16384x16384 .f32) : FVec F S16x16384 .f32 := addf (hMax z) (Host.log (hSum (hExp z (hMax z))))

/-- The attention's output. -/
def hOut (e : FVec F S16x16384x16384 .f32) (v : FVec F S16x16384x64 .f32) : FVec F S16x16384x64 .f32 :=
  Host.divf (Host.dotGeneral dot_S16x16384x16384_S16x16384x64_S16x16384x64_2_1_1_2_0_0 none e v)
    (broadcastInDim S16x16384x64 ![0, 1, 2] bcast_S16x16384x1_S16x16384x64_0_1_2 (broadcastInDim S16x16384x1 ![0, 1] bcast_S16x16384_S16x16384x1_0_1 (hSum e)))

/-- The product of each row's cotangent with its output. -/
def hDelta (e : FVec F S16x16384x16384 .f32) (v ct : FVec F S16x16384x64 .f32) : FVec F S16x16384 .f32 :=
  Host.reduceAdd (mulf ct (hOut e v)) (constant S_ .f32 0x00000000#32) reducesTo_S16x16384x64_S16x16384_d2 h_S_

/-- What rounding leaves. -/
def hRest (x : FVec F S16x16384 .f32) : FVec F S16x16384 .f32 := subf x (extf .f32 (truncf .bf16 x bitsLt_bf16_f32) bitsLt_bf16_f32)

/-- A column of lanes. -/
def hCol (x : FVec F S16x16384 .f32) : FVec F S16x16384x1 .bf16 :=
  broadcastInDim S16x16384x1 ![0, 1] bcast_S16x16384_S16x16384x1_0_1 (truncf .bf16 x bitsLt_bf16_f32)

/-- All ones. -/
def hOne : FVec F S16x16384 .f32 := broadcastInDim S16x16384 ![] bcast_S_S16x16384 (constant S_ .f32 0x3F800000#32)

/-- The 128 lanes of an array with three columns beside its features. -/
def hLanes3 (x : FVec F S16x16384x64 .f32) (a b e : FVec F S16x16384 .f32) : FVec F S16x16384x128 .bf16 :=
  concatenate S16x16384x128 2 [⟨S16x16384x64, truncf .bf16 x bitsLt_bf16_f32⟩, ⟨S16x16384x1, hCol a⟩, ⟨S16x16384x1, hCol b⟩, ⟨S16x16384x1, hCol e⟩,
    ⟨S16x16384x61, broadcastInDim S16x16384x61 ![] bcast_S_S16x16384x61 (constant S_ .bf16 0x0000#16)⟩]
    concatenates_S16x16384x64_S16x16384x1_S16x16384x1_S16x16384x1_S16x16384x61_S16x16384x128_d2

/-- The 128 lanes of an array with six columns beside its features. -/
def hLanes6 (x : FVec F S16x16384x64 .f32) (a b e f g h : FVec F S16x16384 .f32) : FVec F S16x16384x128 .bf16 :=
  concatenate S16x16384x128 2 [⟨S16x16384x64, truncf .bf16 x bitsLt_bf16_f32⟩, ⟨S16x16384x1, hCol a⟩, ⟨S16x16384x1, hCol b⟩, ⟨S16x16384x1, hCol e⟩,
    ⟨S16x16384x1, hCol f⟩, ⟨S16x16384x1, hCol g⟩, ⟨S16x16384x1, hCol h⟩,
    ⟨S16x16384x58, broadcastInDim S16x16384x58 ![] bcast_S_S16x16384x58 (constant S_ .bf16 0x0000#16)⟩]
    concatenates_S16x16384x64_S16x16384x1_S16x16384x1_S16x16384x1_S16x16384x1_S16x16384x1_S16x16384x1_S16x16384x58_S16x16384x128_d2

/-- The query lanes. -/
def hQab (q : FVec F S16x16384x64 .f32) (lse : FVec F S16x16384 .f32) : FVec F S16x16384x128 .bf16 :=
  hLanes6 (mulf q (broadcastInDim S16x16384x64 ![] bcast_S_S16x16384x64 (constant S_ .f32 0x3E000000#32))) hOne hOne hOne
    (Host.negf lse) (hRest (Host.negf lse)) (hRest (hRest (Host.negf lse)))

/-- The key lanes. -/
def hKa (k : FVec F S16x16384x64 .f32) (c : FVec F S16x16384 .f32) : FVec F S16x16384x128 .bf16 :=
  hLanes6 k (Host.negf c) (hRest (Host.negf c)) (hRest (hRest (Host.negf c))) hOne hOne hOne

/-- The value lanes. -/
def hVa (v : FVec F S16x16384x64 .f32) : FVec F S16x16384x128 .bf16 := hLanes3 v hOne hOne hOne

/-- The cotangent lanes. -/
def hDoa (ct : FVec F S16x16384x64 .f32) (delta : FVec F S16x16384 .f32) : FVec F S16x16384x128 .bf16 :=
  hLanes3 ct (Host.negf delta) (hRest (Host.negf delta)) (hRest (hRest (Host.negf delta)))

variable (W : Valuation τ sig (Elt F))

/-- The values' lanes. -/
theorem W_va : after hostOps0_2 W (Proc.devRef .tc main_v78) = hVa (W (Proc.devRef .tc main_arg2) : FVec F S16x16384x64 .f32) := by
  after_reads_simp
  have e0 : upto hostOps0_2 W 73 (Proc.devRef .tc main_v76) = (truncf .bf16 (W (Proc.devRef .tc main_arg2) : FVec F S16x16384x64 .f32) bitsLt_bf16_f32 : FVec F S16x16384x64 .bf16) := by after_reads_simp
  have e1 : upto hostOps0_2 W 73 (Proc.devRef .tc main_v71) = (hCol hOne : FVec F S16x16384x1 .bf16) := by after_reads_simp; rfl
  have e2 : upto hostOps0_2 W 73 (Proc.devRef .tc main_v73) = (hCol hOne : FVec F S16x16384x1 .bf16) := by after_reads_simp; rfl
  have e3 : upto hostOps0_2 W 73 (Proc.devRef .tc main_v75) = (hCol hOne : FVec F S16x16384x1 .bf16) := by after_reads_simp; rfl
  have e4 : upto hostOps0_2 W 73 (Proc.devRef .tc main_v77) = (broadcastInDim S16x16384x61 ![] bcast_S_S16x16384x61 (constant S_ .bf16 0x0000#16) : FVec F S16x16384x61 .bf16) := by after_reads_simp
  dsimp only [Matrix.cons_val]
  rw [e0, e1, e2, e3, e4]
  rfl

/-- The cotangents' lanes. -/
theorem W_doa : after hostOps0_2 W (Proc.devRef .tc main_v92) = hDoa (W (Proc.devRef .tc main_arg4) : FVec F S16x16384x64 .f32) (hDelta (hExp (W (Proc.devRef .tc main_v12) : FVec F S16x16384x16384 .f32) (hMax (W (Proc.devRef .tc main_v12) : FVec F S16x16384x16384 .f32))) (W (Proc.devRef .tc main_arg2) : FVec F S16x16384x64 .f32) (W (Proc.devRef .tc main_arg4) : FVec F S16x16384x64 .f32)) := by
  after_reads_simp
  have e0 : upto hostOps0_2 W 88 (Proc.devRef .tc main_v90) = (truncf .bf16 (W (Proc.devRef .tc main_arg4) : FVec F S16x16384x64 .f32) bitsLt_bf16_f32 : FVec F S16x16384x64 .bf16) := by after_reads_simp
  have e1 : upto hostOps0_2 W 88 (Proc.devRef .tc main_v87) = (hCol (Host.negf (hDelta (hExp (W (Proc.devRef .tc main_v12) : FVec F S16x16384x16384 .f32) (hMax (W (Proc.devRef .tc main_v12) : FVec F S16x16384x16384 .f32))) (W (Proc.devRef .tc main_arg2) : FVec F S16x16384x64 .f32) (W (Proc.devRef .tc main_arg4) : FVec F S16x16384x64 .f32))) : FVec F S16x16384x1 .bf16) := by after_reads_simp; rfl
  have e2 : upto hostOps0_2 W 88 (Proc.devRef .tc main_v88) = (hCol (hRest (Host.negf (hDelta (hExp (W (Proc.devRef .tc main_v12) : FVec F S16x16384x16384 .f32) (hMax (W (Proc.devRef .tc main_v12) : FVec F S16x16384x16384 .f32))) (W (Proc.devRef .tc main_arg2) : FVec F S16x16384x64 .f32) (W (Proc.devRef .tc main_arg4) : FVec F S16x16384x64 .f32)))) : FVec F S16x16384x1 .bf16) := by after_reads_simp; rfl
  have e3 : upto hostOps0_2 W 88 (Proc.devRef .tc main_v89) = (hCol (hRest (hRest (Host.negf (hDelta (hExp (W (Proc.devRef .tc main_v12) : FVec F S16x16384x16384 .f32) (hMax (W (Proc.devRef .tc main_v12) : FVec F S16x16384x16384 .f32))) (W (Proc.devRef .tc main_arg2) : FVec F S16x16384x64 .f32) (W (Proc.devRef .tc main_arg4) : FVec F S16x16384x64 .f32))))) : FVec F S16x16384x1 .bf16) := by after_reads_simp; rfl
  have e4 : upto hostOps0_2 W 88 (Proc.devRef .tc main_v91) = (broadcastInDim S16x16384x61 ![] bcast_S_S16x16384x61 (constant S_ .bf16 0x0000#16) : FVec F S16x16384x61 .bf16) := by after_reads_simp
  dsimp only [Matrix.cons_val]
  rw [e0, e1, e2, e3, e4]
  rfl

/-- The keys' lanes. -/
theorem W_ka : after hostOps0_2 W (Proc.devRef .tc main_v69) = hKa (W (Proc.devRef .tc main_arg1) : FVec F S16x16384x64 .f32) (W (Proc.devRef .tc main_arg3) : FVec F S16x16384 .f32) := by
  after_reads_simp
  have e0 : upto hostOps0_2 W 63 (Proc.devRef .tc main_v67) = (truncf .bf16 (W (Proc.devRef .tc main_arg1) : FVec F S16x16384x64 .f32) bitsLt_bf16_f32 : FVec F S16x16384x64 .bf16) := by after_reads_simp
  have e1 : upto hostOps0_2 W 63 (Proc.devRef .tc main_v58) = (hCol (Host.negf (W (Proc.devRef .tc main_arg3) : FVec F S16x16384 .f32)) : FVec F S16x16384x1 .bf16) := by after_reads_simp; rfl
  have e2 : upto hostOps0_2 W 63 (Proc.devRef .tc main_v59) = (hCol (hRest (Host.negf (W (Proc.devRef .tc main_arg3) : FVec F S16x16384 .f32))) : FVec F S16x16384x1 .bf16) := by after_reads_simp; rfl
  have e3 : upto hostOps0_2 W 63 (Proc.devRef .tc main_v60) = (hCol (hRest (hRest (Host.negf (W (Proc.devRef .tc main_arg3) : FVec F S16x16384 .f32)))) : FVec F S16x16384x1 .bf16) := by after_reads_simp; rfl
  have e4 : upto hostOps0_2 W 63 (Proc.devRef .tc main_v62) = (hCol hOne : FVec F S16x16384x1 .bf16) := by after_reads_simp; rfl
  have e5 : upto hostOps0_2 W 63 (Proc.devRef .tc main_v64) = (hCol hOne : FVec F S16x16384x1 .bf16) := by after_reads_simp; rfl
  have e6 : upto hostOps0_2 W 63 (Proc.devRef .tc main_v66) = (hCol hOne : FVec F S16x16384x1 .bf16) := by after_reads_simp; rfl
  have e7 : upto hostOps0_2 W 63 (Proc.devRef .tc main_v68) = (broadcastInDim S16x16384x58 ![] bcast_S_S16x16384x58 (constant S_ .bf16 0x0000#16) : FVec F S16x16384x58 .bf16) := by after_reads_simp
  dsimp only [Matrix.cons_val]
  rw [e0, e1, e2, e3, e4, e5, e6, e7]
  rfl

/-- The queries' lanes. -/
theorem W_qab : after hostOps0_2 W (Proc.devRef .tc main_v49) = hQab (W (Proc.devRef .tc main_arg0) : FVec F S16x16384x64 .f32) (hLse (W (Proc.devRef .tc main_v12) : FVec F S16x16384x16384 .f32)) := by
  after_reads_simp
  have e0 : upto hostOps0_2 W 42 (Proc.devRef .tc main_v47) = (truncf .bf16 (mulf (W (Proc.devRef .tc main_arg0) : FVec F S16x16384x64 .f32) (broadcastInDim S16x16384x64 ![] bcast_S_S16x16384x64 (constant S_ .f32 0x3E000000#32))) bitsLt_bf16_f32 : FVec F S16x16384x64 .bf16) := by after_reads_simp
  have e1 : upto hostOps0_2 W 42 (Proc.devRef .tc main_v39) = (hCol hOne : FVec F S16x16384x1 .bf16) := by after_reads_simp; rfl
  have e2 : upto hostOps0_2 W 42 (Proc.devRef .tc main_v41) = (hCol hOne : FVec F S16x16384x1 .bf16) := by after_reads_simp; rfl
  have e3 : upto hostOps0_2 W 42 (Proc.devRef .tc main_v43) = (hCol hOne : FVec F S16x16384x1 .bf16) := by after_reads_simp; rfl
  have e4 : upto hostOps0_2 W 42 (Proc.devRef .tc main_v44) = (hCol (Host.negf (hLse (W (Proc.devRef .tc main_v12) : FVec F S16x16384x16384 .f32))) : FVec F S16x16384x1 .bf16) := by after_reads_simp; rfl
  have e5 : upto hostOps0_2 W 42 (Proc.devRef .tc main_v45) = (hCol (hRest (Host.negf (hLse (W (Proc.devRef .tc main_v12) : FVec F S16x16384x16384 .f32)))) : FVec F S16x16384x1 .bf16) := by after_reads_simp; rfl
  have e6 : upto hostOps0_2 W 42 (Proc.devRef .tc main_v46) = (hCol (hRest (hRest (Host.negf (hLse (W (Proc.devRef .tc main_v12) : FVec F S16x16384x16384 .f32))))) : FVec F S16x16384x1 .bf16) := by after_reads_simp; rfl
  have e7 : upto hostOps0_2 W 42 (Proc.devRef .tc main_v48) = (broadcastInDim S16x16384x58 ![] bcast_S_S16x16384x58 (constant S_ .bf16 0x0000#16) : FVec F S16x16384x58 .bf16) := by after_reads_simp
  dsimp only [Matrix.cons_val]
  rw [e0, e1, e2, e3, e4, e5, e6, e7]
  rfl

/-- The scores, from the arguments. -/
theorem W_scores (U : Valuation τ sig (Elt F)) : after hostOps0_1 (after hostOps0 U) (Proc.devRef .tc main_v12)
    = hScores (U (Proc.devRef .tc main_arg0)) (U (Proc.devRef .tc main_arg1)) (U (Proc.devRef .tc main_arg3)) := by
  simp only [hostOps0_1, TRef.unary, TRef.ternary, TRef.toBuf, TRef.ofBuf, cast_eq]
  after_reads_simp
  rfl

/-- The first lines leave the arguments alone. -/
theorem W_args (U : Valuation τ sig (Elt F)) :
    after hostOps0_1 (after hostOps0 U) (Proc.devRef .tc main_arg0) = U (Proc.devRef .tc main_arg0)
    ∧ after hostOps0_1 (after hostOps0 U) (Proc.devRef .tc main_arg1) = U (Proc.devRef .tc main_arg1)
    ∧ after hostOps0_1 (after hostOps0 U) (Proc.devRef .tc main_arg2) = U (Proc.devRef .tc main_arg2)
    ∧ after hostOps0_1 (after hostOps0 U) (Proc.devRef .tc main_arg3) = U (Proc.devRef .tc main_arg3)
    ∧ after hostOps0_1 (after hostOps0 U) (Proc.devRef .tc main_arg4) = U (Proc.devRef .tc main_arg4) := by
  simp only [hostOps0_1, TRef.unary, TRef.ternary, TRef.toBuf, TRef.ofBuf, cast_eq]
  refine ⟨?_, ?_, ?_, ?_, ?_⟩ <;> after_reads_simp

/-- The four reshaped arrays. -/
theorem W_tiles :
    after hostOps0_2 W (Proc.devRef .tc main_v97) = shapeCast S16x16384x128 (shapeCast S16x32x512x128 (after hostOps0_2 W (Proc.devRef .tc main_v49) : FVec F S16x16384x128 .bf16) shapeCasts_S16x16384x128_S16x32x512x128) shapeCasts_S16x32x512x128_S16x16384x128
    ∧ after hostOps0_2 W (Proc.devRef .tc main_v98) = shapeCast S16x16384x128 (shapeCast S16x32x512x128 (after hostOps0_2 W (Proc.devRef .tc main_v92) : FVec F S16x16384x128 .bf16) shapeCasts_S16x16384x128_S16x32x512x128) shapeCasts_S16x32x512x128_S16x16384x128
    ∧ after hostOps0_2 W (Proc.devRef .tc main_v95) = shapeCast S16x32x512x128 (after hostOps0_2 W (Proc.devRef .tc main_v69) : FVec F S16x16384x128 .bf16) shapeCasts_S16x16384x128_S16x32x512x128
    ∧ after hostOps0_2 W (Proc.devRef .tc main_v96) = shapeCast S16x32x512x128 (after hostOps0_2 W (Proc.devRef .tc main_v78) : FVec F S16x16384x128 .bf16) shapeCasts_S16x16384x128_S16x32x512x128 := by
  refine ⟨?_, ?_, ?_, ?_⟩ <;> after_reads_simp <;> rfl

variable (m : (ℓ : Loc nD τ sig) → Buf (Elt F) ℓ) (c : Dev nD)

/-- The line before the kernel, in its three parts. -/
theorem V_eq (b : Ref sig .tc) : V m c b = after hostOps0_2 (after hostOps0_1 (after hostOps0 (fun b => m (c, b)))) (Proc.devRef .tc b) := by
  show after (List.flatten [hostOps0, hostOps0_1, hostOps0_2]) _ _ = _
  rw [List.flatten_cons, List.flatten_cons, List.flatten_cons, List.flatten_nil, List.append_nil, after_append, after_append]

end Cert.KernelIdeal.Hand
-- ==== Proof.Attn.lean ====
/-
  The attention with a forget gate over the real numbers: scores less each key's cumulative log-forget, the causal softmax,
  its output, and the gradients of the four arguments for a given cotangent.
-/
module

public import Mathlib.Analysis.SpecialFunctions.Log.Basic

@[expose] public section

noncomputable section

namespace Cert.Attn

variable (q k v ct : Fin 16 → Fin 16384 → Fin 64 → ℝ) (c : Fin 16 → Fin 16384 → ℝ)

/-- The score of a key for a row, less the key's cumulative log-forget (the row's own shifts all its scores alike). -/
def score (h : Fin 16) (i j : Fin 16384) : ℝ := (∑ l, q h i l * k h j l) * (1 / 8) - c h j
/-- Its exponential, zero for a later key. -/
def weight (h : Fin 16) (i j : Fin 16384) : ℝ := if j.val ≤ i.val then Real.exp (score q k c h i j) else 0
/-- A row's sum of weights. -/
def rowSum (h : Fin 16) (i : Fin 16384) : ℝ := ∑ j, weight q k c h i j
/-- The softmax. -/
def share (h : Fin 16) (i j : Fin 16384) : ℝ := weight q k c h i j / rowSum q k c h i
/-- The output. -/
def out (h : Fin 16) (i : Fin 16384) (l : Fin 64) : ℝ := ∑ j, share q k c h i j * v h j l
/-- The product of a row's cotangent with its output. -/
def delta (h : Fin 16) (i : Fin 16384) : ℝ := ∑ l, ct h i l * out q k v c h i l
/-- The gradient of a score. -/
def dscore (h : Fin 16) (i j : Fin 16384) : ℝ := share q k c h i j * ((∑ l, ct h i l * v h j l) - delta q k v ct c h i)
/-- The queries' gradient. -/
def gq (h : Fin 16) (i : Fin 16384) (l : Fin 64) : ℝ := (∑ j, dscore q k v ct c h i j * k h j l) * (1 / 8)
/-- The keys' gradient. -/
def gk (h : Fin 16) (j : Fin 16384) (l : Fin 64) : ℝ := (∑ i, dscore q k v ct c h i j * q h i l) * (1 / 8)
/-- The values' gradient. -/
def gv (h : Fin 16) (j : Fin 16384) (l : Fin 64) : ℝ := ∑ i, share q k c h i j * ct h i l
/-- The cumulative log-forget's gradient: a position counts as a row and, negated, as a key. -/
def gc (h : Fin 16) (n : Fin 16384) : ℝ := (∑ j, dscore q k v ct c h n j) - ∑ i, dscore q k v ct c h i n

theorem weight_nonneg (h i j) : 0 ≤ weight q k c h i j := by
  unfold weight; split_ifs
  · exact (Real.exp_pos _).le
  · exact le_rfl

theorem rowSum_pos (h i) : 0 < rowSum q k c h i := by
  refine Finset.sum_pos' (fun j _ => weight_nonneg q k c h i j) ⟨i, Finset.mem_univ i, ?_⟩
  unfold weight; rw [if_pos le_rfl]; exact Real.exp_pos _

/-- Scores shifted by one number: every weight is scaled by its exponential. -/
theorem weight_shift (a : ℝ) (h i j) : (if j.val ≤ i.val then Real.exp (score q k c h i j + a) else 0) = weight q k c h i j * Real.exp a := by
  unfold weight; split_ifs
  · exact Real.exp_add _ _
  · rw [zero_mul]

theorem rowSum_shift (a : ℝ) (h i) : (∑ j : Fin 16384, if j.val ≤ i.val then Real.exp (score q k c h i j + a) else 0) = rowSum q k c h i * Real.exp a := by
  unfold rowSum; rw [Finset.sum_mul]; exact Finset.sum_congr rfl fun j _ => weight_shift q k c a h i j

/-- The softmax does not see the shift. -/
theorem share_shift (a : ℝ) (h i j) :
    weight q k c h i j * Real.exp a / (rowSum q k c h i * Real.exp a) = share q k c h i j := by
  unfold share; rw [mul_div_mul_right _ _ (Real.exp_pos a).ne']

/-- Less the log of the row's sum, a score's exponential is its share. -/
theorem share_exp (h i j) (s : ℝ) (hs : Real.exp s = rowSum q k c h i) :
    (if j.val ≤ i.val then Real.exp (score q k c h i j - s) else 0) = share q k c h i j := by
  unfold share weight; split_ifs
  · rw [Real.exp_sub, hs]
  · rw [zero_div]

/-- The largest score taken out and put back, the log of the sum is the log of the row's sum. -/
theorem exp_lse (a : ℝ) (h i) : Real.exp (-a + Real.log (rowSum q k c h i * Real.exp a)) = rowSum q k c h i := by
  rw [Real.exp_add, Real.exp_log (mul_pos (rowSum_pos q k c h i) (Real.exp_pos a)), mul_comm (rowSum q k c h i), ← mul_assoc, ← Real.exp_add,
    neg_add_cancel, Real.exp_zero, one_mul]

/-- A row's shares times its values, over a shifted sum. -/
theorem out_shift (a : ℝ) (h i l) :
    (∑ j, weight q k c h i j * Real.exp a * v h j l) * (1 / (rowSum q k c h i * Real.exp a)) = out q k v c h i l := by
  unfold out; rw [Finset.sum_mul]
  refine Finset.sum_congr rfl fun j _ => ?_
  rw [← share_shift q k c a h i j]; ring

/-- The shares' product with the cotangent's product with the values, summed over the keys. -/
theorem delta_eq (h i) : delta q k v ct c h i = ∑ j, share q k c h i j * ∑ l, ct h i l * v h j l := by
  unfold delta out
  simp only [Finset.mul_sum]
  rw [Finset.sum_comm]
  exact Finset.sum_congr rfl fun j _ => Finset.sum_congr rfl fun l _ => by ring

end Cert.Attn
-- ==== Proof.Ext.lean ====
/-
  Numbers read as extended reals: the largest of finitely many masked reals, and a masked row's exponentials.
-/
module

public import proofs.«01_k».proof.Proof.Attn
public import Idealize.ShloMosaic.Lib.IdealHost
public import Idealize.ShloMosaic.Lib.WordCmp
public import Idealize.ShloMosaic.Lib.Pointwise

@[expose] public section

noncomputable section

namespace Cert.Attn

open Idealize.ShloMosaic

/-- A sum of reals, read as extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- One eighth. -/
theorem eighth : Ideal.ofBits .f32 0x3E000000#32 = ((1 / 8 : ℝ) : EReal) := by
  simp [Ideal.ofBits, Ideal.ieee, -EReal.coe_mul]; norm_num

/-- Minus infinity. -/
theorem bottom : Ideal.ofBits .f32 0xFF800000#32 = (⊥ : EReal) := by
  simp [Ideal.ofBits, Ideal.ieee]

/-- The causal mask: a choice by a comparison of a key's number with a row's. -/
theorem causal {α : Type} (i j : Fin 16384) (a b : α) :
    Scalar.select (IntOp.cmpi CmpIPredicate.sle (BitVec.ofNat 32 j.val) (BitVec.ofNat 32 i.val)) a b = if j.val ≤ i.val then a else b := by
  have h1 := i.isLt
  have h2 := j.isLt
  rw [WordCmp.cmpi_sle_ofNat (w := 32) (by norm_num; omega) (by norm_num; omega)]
  by_cases h : j.val ≤ i.val
  · simp [Scalar.select, h]
  · simp [Scalar.select, h]

/-- The largest of finitely many masked reals, one of them open, is a real. -/
theorem fold_max_real {n : ℕ} (p : Fin n → Prop) [DecidablePred p] (s : Fin n → ℝ) (i : Fin n) (hi : p i) :
    ∃ M : ℝ, Finset.univ.fold max (⊥ : EReal) (fun j => if p j then (s j : EReal) else ⊥) = (M : EReal) := by
  refine ⟨_, (EReal.coe_toReal ?_ ?_).symm⟩
  · refine ((Finset.fold_max_lt (⊤ : EReal)).2 ⟨bot_lt_top, fun j _ => ?_⟩).ne
    split_ifs
    · exact EReal.coe_lt_top _
    · exact bot_lt_top
  · refine (lt_of_lt_of_le (EReal.bot_lt_coe (s i)) ((Finset.le_fold_max _).2 (Or.inr ⟨i, Finset.mem_univ i, ?_⟩))).ne'
    rw [if_pos hi]

/-- The exponential of a masked score less a real. -/
theorem exp_mask (p : Prop) [Decidable p] (s M : ℝ) :
    Ideal.exp ((if p then (s : EReal) else ⊥) - (M : EReal)) = ((if p then Real.exp (s - M) else 0 : ℝ) : EReal) := by
  split_ifs
  · rw [← EReal.coe_sub, Ideal.exp_coe]
  · rw [EReal.bot_sub, Ideal.exp_bot, EReal.coe_zero]

/-- The logarithm of a positive real. -/
theorem log_pos (x : ℝ) (hx : 0 < x) : Ideal.log (x : EReal) = ((Real.log x : ℝ) : EReal) := by
  rw [Ideal.log_coe, if_neg (not_le.2 hx)]

end Cert.Attn
-- ==== Proof.KI.HostReal.lean ====
/-
  The host lines before the kernel over the extended reals, at real arguments: the causal scores, their rows' largest and
  log-sums, the products of the cotangents with the outputs.
-/
module

public import proofs.«01_k».proof.Proof.KI.Host
public import proofs.«01_k».proof.Proof.KI.Tile
public import proofs.«01_k».proof.Proof.Ext
public import Idealize.ShloMosaic.Lib.Pointwise

@[expose] public section

set_option maxRecDepth 16384

noncomputable section

namespace Cert.KernelIdeal.Hand

open Cert.KernelIdeal Cert.KernelIdeal.Gen Cert.Attn
open Idealize.ShloMosaic Idealize.ShloMosaic.TcCoe

variable (Q K V CT : FVec Ideal S16x16384x64 .f32) (C : FVec Ideal S16x16384 .f32)
variable (q k v ct : Fin 16 → Fin 16384 → Fin 64 → ℝ) (c : Fin 16 → Fin 16384 → ℝ)
  (hq : ∀ h i l, Q (ix3 h i l) = ((q h i l : ℝ) : EReal)) (hk : ∀ h i l, K (ix3 h i l) = ((k h i l : ℝ) : EReal))
  (hv : ∀ h i l, V (ix3 h i l) = ((v h i l : ℝ) : EReal)) (hct : ∀ h i l, CT (ix3 h i l) = ((ct h i l : ℝ) : EReal))
  (hc : ∀ h i, C (ix2 h i) = ((c h i : ℝ) : EReal))

include hq hk hc in
/-- A score. -/
theorem scores_at (h : Fin 16) (i j : Fin 16384) :
    hScores Q K C (ix3 h i j) = if j.val ≤ i.val then ((score q k c h i j : ℝ) : EReal) else ⊥ := by
  pointwise [hScores, hq, hk, hc, eighth, bottom]
  rw [causal]
  simp only [← EReal.coe_mul, sum_coe, ← EReal.coe_sub]
  rfl

include hq hk hc in
/-- A row's largest score is a number. -/
theorem max_at : ∃ M : Fin 16 → Fin 16384 → ℝ, ∀ h i, hMax (hScores Q K C) (ix2 h i) = ((M h i : ℝ) : EReal) := by
  have hm : ∀ h i, ∃ M : ℝ, hMax (hScores Q K C) (ix2 h i) = (M : EReal) := by
    intro h i
    obtain ⟨M, hM⟩ := fold_max_real (fun j : Fin 16384 => j.val ≤ i.val) (fun j => score q k c h i j) i le_rfl
    refine ⟨M, ?_⟩
    rw [← hM]
    pointwise [hMax, bottom]
    simp only [scores_at Q K C q k c hq hk hc]
  choose M hM using hm
  exact ⟨M, hM⟩

variable (z : FVec Ideal S16x16384x16384 .f32) (mx : FVec Ideal S16x16384 .f32)

theorem exp_at (h : Fin 16) (i j : Fin 16384) : hExp z mx (ix3 h i j) = Ideal.exp (z (ix3 h i j) - mx (ix2 h i)) := by
  unfold hExp
  pointwise []

theorem sum_at (h : Fin 16) (i : Fin 16384) : hSum z (ix2 h i) = ∑ j, z (ix3 h i j) := by
  pointwise [hSum]

theorem out_at (V : FVec Ideal S16x16384x64 .f32) (h : Fin 16) (i : Fin 16384) (l : Fin 64) :
    hOut z V (ix3 h i l) = Ideal.div (∑ j, z (ix3 h i j) * V (ix3 h j l)) (hSum z (ix2 h i)) := by
  pointwise [hOut]

theorem delta_at (V CT : FVec Ideal S16x16384x64 .f32) (h : Fin 16) (i : Fin 16384) :
    hDelta z V CT (ix2 h i) = ∑ l, CT (ix3 h i l) * hOut z V (ix3 h i l) := by
  pointwise [hDelta]

theorem log_at (a b : FVec Ideal S16x16384 .f32) (h : Fin 16) (i : Fin 16384) :
    addf a (Host.log b) (ix2 h i) = a (ix2 h i) + Ideal.log (b (ix2 h i)) := by
  pointwise []

/-- The exponentials are the weights scaled. -/
theorem exps (M : Fin 16 → Fin 16384 → ℝ) (hz : ∀ h i j, z (ix3 h i j) = if j.val ≤ i.val then ((score q k c h i j : ℝ) : EReal) else ⊥)
    (hm : ∀ h i, mx (ix2 h i) = ((M h i : ℝ) : EReal)) (h : Fin 16) (i j : Fin 16384) :
    hExp z mx (ix3 h i j) = ((weight q k c h i j * Real.exp (-M h i) : ℝ) : EReal) := by
  rw [exp_at, hz, hm, exp_mask, ← weight_shift]
  rfl

/-- Their sums are the rows' sums scaled. -/
theorem sums (M : Fin 16 → Fin 16384 → ℝ) (hz : ∀ h i j, z (ix3 h i j) = ((weight q k c h i j * Real.exp (-M h i) : ℝ) : EReal)) (h : Fin 16) (i : Fin 16384) :
    hSum z (ix2 h i) = ((rowSum q k c h i * Real.exp (-M h i) : ℝ) : EReal) := by
  rw [sum_at]
  simp only [hz, sum_coe]
  unfold rowSum; rw [Finset.sum_mul]

include hq hk hc in
/-- A row's log-sum. -/
theorem lse_real : ∃ s : Fin 16 → Fin 16384 → ℝ, (∀ h i, Real.exp (s h i) = rowSum q k c h i)
    ∧ ∀ h i, hLse (hScores Q K C) (ix2 h i) = ((s h i : ℝ) : EReal) := by
  obtain ⟨M, hM⟩ := max_at Q K C q k c hq hk hc
  refine ⟨fun h i => M h i + Real.log (rowSum q k c h i * Real.exp (-M h i)), fun h i => ?_, fun h i => ?_⟩
  · have := exp_lse q k c (-M h i) h i
    rwa [neg_neg] at this
  · unfold hLse
    rw [log_at, hM, sums q k c _ M (exps q k c _ _ M (scores_at Q K C q k c hq hk hc) hM), log_pos _ (mul_pos (rowSum_pos q k c h i) (Real.exp_pos _)),
      ← EReal.coe_add]

include hq hk hv hct hc in
/-- The product of a row's cotangent with its output. -/
theorem delta_real (h : Fin 16) (i : Fin 16384) :
    hDelta (hExp (hScores Q K C) (hMax (hScores Q K C))) V CT (ix2 h i) = ((delta q k v ct c h i : ℝ) : EReal) := by
  obtain ⟨M, hM⟩ := max_at Q K C q k c hq hk hc
  have he := exps q k c _ _ M (scores_at Q K C q k c hq hk hc) hM
  rw [delta_at]
  have ho : ∀ l, hOut (hExp (hScores Q K C) (hMax (hScores Q K C))) V (ix3 h i l) = ((out q k v c h i l : ℝ) : EReal) := by
    intro l
    rw [out_at, sums q k c _ M he, Ideal.div_coe (mul_pos (rowSum_pos q k c h i) (Real.exp_pos _)).ne']
    simp only [he, hv, ← EReal.coe_mul, sum_coe]
    rw [out_shift]
  simp only [ho, hct, ← EReal.coe_mul, sum_coe]
  rfl

end Cert.KernelIdeal.Hand
-- ==== Proof.KI.Lanes.lean ====
/-
  The four arrays of 128 lanes over the extended reals, at real arguments, and the products of their lanes: the scores less
  the log-sums, and the products of the cotangents with the values less the rows' own.
-/
module

public import proofs.«01_k».proof.Proof.KI.HostReal

@[expose] public section

set_option maxRecDepth 16384

noncomputable section

namespace Cert.KernelIdeal.Hand

open Cert.KernelIdeal Cert.KernelIdeal.Gen Cert.Attn
open Idealize.ShloMosaic Idealize.ShloMosaic.TcCoe

variable (q k v ct : Fin 16 → Fin 16384 → Fin 64 → ℝ) (c lse dl : Fin 16 → Fin 16384 → ℝ)

/-- The query lanes: an eighth of the query, three ones, the log-sum negated. -/
def qlane (h : Fin 16) (i : Fin 16384) (l : Fin 128) : ℝ :=
  if hl : l.val < 64 then q h i ⟨l.val, hl⟩ * (1 / 8) else if l.val < 67 then 1 else if l.val = 67 then -lse h i else 0
/-- The key lanes: the key, its cumulative log-forget negated, three ones. -/
def klane (h : Fin 16) (i : Fin 16384) (l : Fin 128) : ℝ :=
  if hl : l.val < 64 then k h i ⟨l.val, hl⟩ else if l.val = 64 then -c h i else if l.val < 67 then 0 else if l.val < 70 then 1 else 0
/-- The value lanes: the value, three ones. -/
def vlane (h : Fin 16) (i : Fin 16384) (l : Fin 128) : ℝ :=
  if hl : l.val < 64 then v h i ⟨l.val, hl⟩ else if l.val < 67 then 1 else 0
/-- The cotangent lanes: the cotangent, its product with the output negated. -/
def dlane (h : Fin 16) (i : Fin 16384) (l : Fin 128) : ℝ :=
  if hl : l.val < 64 then ct h i ⟨l.val, hl⟩ else if l.val = 64 then -dl h i else 0

section
variable (Q : FVec Ideal S16x16384x64 .f32) (a b e f g o : FVec Ideal S16x16384 .f32)

theorem lanes3_at (h : Fin 16) (i : Fin 16384) (l : Fin 128) : hLanes3 Q a b e (ix3 h i l)
    = if hl : l.val < 64 then Q (ix3 h i ⟨l.val, hl⟩) else if l.val = 64 then a (ix2 h i) else if l.val = 65 then b (ix2 h i) else if l.val = 66 then e (ix2 h i) else 0 := by
  pointwise [hLanes3, hCol]
  by_cases hl : l.val < 64
  · simp only [dif_pos hl]
  · simp only [dif_neg hl]
    have e1 : (l.val - 64 < 1) = (l.val = 64) := propext (by omega)
    by_cases h1 : l.val = 64
    · simp [h1]
    by_cases h2 : l.val = 65
    · simp [h2]
    by_cases h3 : l.val = 66
    · simp [h3]
    · rw [dif_neg (by omega), dif_neg (by omega), dif_neg (by omega)]
      simp [h1, h2, h3]

theorem lanes6_at (h : Fin 16) (i : Fin 16384) (l : Fin 128) : hLanes6 Q a b e f g o (ix3 h i l)
    = if hl : l.val < 64 then Q (ix3 h i ⟨l.val, hl⟩) else if l.val = 64 then a (ix2 h i) else if l.val = 65 then b (ix2 h i) else if l.val = 66 then e (ix2 h i)
      else if l.val = 67 then f (ix2 h i) else if l.val = 68 then g (ix2 h i) else if l.val = 69 then o (ix2 h i) else 0 := by
  pointwise [hLanes6, hCol]
  by_cases hl : l.val < 64
  · simp only [dif_pos hl]
  · simp only [dif_neg hl]
    by_cases h1 : l.val = 64
    · simp [h1]
    by_cases h2 : l.val = 65
    · simp [h2]
    by_cases h3 : l.val = 66
    · simp [h3]
    by_cases h4 : l.val = 67
    · simp [h4]
    by_cases h5 : l.val = 68
    · simp [h5]
    by_cases h6 : l.val = 69
    · simp [h6]
    · rw [dif_neg (by omega), dif_neg (by omega), dif_neg (by omega), dif_neg (by omega), dif_neg (by omega), dif_neg (by omega)]
      simp [h1, h2, h3, h4, h5, h6]

/-- Of a real nothing is left by rounding. -/
theorem rest_at (x : Fin 16 → Fin 16384 → ℝ) (ha : ∀ h i, a (ix2 h i) = ((x h i : ℝ) : EReal)) (h : Fin 16) (i : Fin 16384) : hRest a (ix2 h i) = ((0 : ℝ) : EReal) := by
  pointwise [hRest]
  rw [ha, ← EReal.coe_sub, sub_self]

theorem one_at (h : Fin 16) (i : Fin 16384) : hOne (F := Ideal) (ix2 h i) = ((1 : ℝ) : EReal) := by
  pointwise [hOne]
  exact EReal.coe_one.symm

theorem neg_at (x : Fin 16 → Fin 16384 → ℝ) (ha : ∀ h i, a (ix2 h i) = ((x h i : ℝ) : EReal)) (h : Fin 16) (i : Fin 16384) : Host.negf a (ix2 h i) = ((-x h i : ℝ) : EReal) := by
  pointwise []
  rw [ha, EReal.coe_neg]

theorem qab_at (hq : ∀ h i l, Q (ix3 h i l) = ((q h i l : ℝ) : EReal)) (ha : ∀ h i, a (ix2 h i) = ((lse h i : ℝ) : EReal)) (h : Fin 16) (i : Fin 16384) (l : Fin 128) :
    hQab Q a (ix3 h i l) = ((qlane q lse h i l : ℝ) : EReal) := by
  have hn := neg_at a lse ha
  have hr := rest_at (Host.negf a) _ hn
  have hr' := rest_at (hRest (Host.negf a)) _ hr
  have hm : ∀ l : Fin 64, mulf Q (broadcastInDim S16x16384x64 ![] bcast_S_S16x16384x64 (constant S_ .f32 0x3E000000#32)) (ix3 h i l) = ((q h i l * (1 / 8) : ℝ) : EReal) := by
    intro l
    pointwise [hq, eighth]
    rw [← EReal.coe_mul]
  unfold hQab
  rw [lanes6_at]
  unfold qlane
  simp only [hn, hr, hr', hm, one_at]
  by_cases hl : l.val < 64
  · simp only [dif_pos hl]
  · simp only [dif_neg hl]
    split_ifs <;> first | rfl | (exfalso; omega)

theorem ka_at (hk : ∀ h i l, Q (ix3 h i l) = ((k h i l : ℝ) : EReal)) (ha : ∀ h i, a (ix2 h i) = ((c h i : ℝ) : EReal)) (h : Fin 16) (i : Fin 16384) (l : Fin 128) :
    hKa Q a (ix3 h i l) = ((klane k c h i l : ℝ) : EReal) := by
  have hn := neg_at a c ha
  have hr := rest_at (Host.negf a) _ hn
  have hr' := rest_at (hRest (Host.negf a)) _ hr
  unfold hKa
  rw [lanes6_at]
  unfold klane
  simp only [hn, hr, hr', hk, one_at]
  by_cases hl : l.val < 64
  · simp only [dif_pos hl]
  · simp only [dif_neg hl]
    split_ifs <;> first | rfl | (exfalso; omega)

theorem va_at (hv : ∀ h i l, Q (ix3 h i l) = ((v h i l : ℝ) : EReal)) (h : Fin 16) (i : Fin 16384) (l : Fin 128) :
    hVa Q (ix3 h i l) = ((vlane v h i l : ℝ) : EReal) := by
  unfold hVa
  rw [lanes3_at]
  unfold vlane
  simp only [hv, one_at]
  by_cases hl : l.val < 64
  · simp only [dif_pos hl]
  · simp only [dif_neg hl]
    split_ifs <;> first | rfl | (exfalso; omega)

theorem doa_at (hct : ∀ h i l, Q (ix3 h i l) = ((ct h i l : ℝ) : EReal)) (ha : ∀ h i, a (ix2 h i) = ((dl h i : ℝ) : EReal)) (h : Fin 16) (i : Fin 16384) (l : Fin 128) :
    hDoa Q a (ix3 h i l) = ((dlane ct dl h i l : ℝ) : EReal) := by
  have hn := neg_at a dl ha
  have hr := rest_at (Host.negf a) _ hn
  have hr' := rest_at (hRest (Host.negf a)) _ hr
  unfold hDoa
  rw [lanes3_at]
  unfold dlane
  simp only [hn, hr, hr', hct]
  by_cases hl : l.val < 64
  · simp only [dif_pos hl]
  · simp only [dif_neg hl]
    split_ifs <;> first | rfl | (exfalso; omega)

end

/-- A sum over the lanes is the sum over the features and the sum over the others. -/
theorem sum_lanes (f : Fin 128 → ℝ) : ∑ l, f l = (∑ l : Fin 64, f ⟨l.val, by omega⟩) + ∑ l : Fin 64, f ⟨64 + l.val, by omega⟩ :=
  Fin.sum_univ_add (a := 64) (b := 64) f

/-- The product of query and key lanes: the score less the log-sum. -/
theorem dot_qk (h : Fin 16) (i j : Fin 16384) : ∑ l, qlane q lse h i l * klane k c h j l = score q k c h i j - lse h i := by
  rw [sum_lanes]
  have e1 : ∀ l : Fin 64, qlane q lse h i ⟨l.val, by omega⟩ * klane k c h j ⟨l.val, by omega⟩ = q h i l * k h j l * (1 / 8) := by
    intro l
    have := l.isLt
    unfold qlane klane
    simp only [dif_pos this]
    ring
  have e2 : ∀ l : Fin 64, qlane q lse h i ⟨64 + l.val, by omega⟩ * klane k c h j ⟨64 + l.val, by omega⟩
      = (if l = 0 then -c h j else 0) + (if l = 3 then -lse h i else 0) := by
    intro l
    have := l.isLt
    have n0 : (l = 0) = (l.val = 0) := propext Fin.ext_iff
    have n3 : (l = 3) = (l.val = 3) := propext Fin.ext_iff
    unfold qlane klane
    simp only [n0, n3]
    rw [dif_neg (by show ¬ 64 + l.val < 64; omega), dif_neg (by show ¬ 64 + l.val < 64; omega)]
    show (if 64 + l.val < 67 then (1 : ℝ) else if 64 + l.val = 67 then -lse h i else 0) * (if 64 + l.val = 64 then -c h j else if 64 + l.val < 67 then 0 else if 64 + l.val < 70 then 1 else 0) = _
    split_ifs <;> first | (exfalso; omega) | ring
  simp only [e1, e2, Finset.sum_add_distrib, Finset.sum_ite_eq', Finset.mem_univ, if_true, ← Finset.sum_mul]
  unfold score
  ring

/-- The product of cotangent and value lanes: the product of the two less the row's own. -/
theorem dot_dv (h : Fin 16) (i j : Fin 16384) : ∑ l, dlane ct dl h i l * vlane v h j l = (∑ l, ct h i l * v h j l) - dl h i := by
  rw [sum_lanes]
  have e1 : ∀ l : Fin 64, dlane ct dl h i ⟨l.val, by omega⟩ * vlane v h j ⟨l.val, by omega⟩ = ct h i l * v h j l := by
    intro l
    have := l.isLt
    unfold dlane vlane
    simp only [dif_pos this]
  have e2 : ∀ l : Fin 64, dlane ct dl h i ⟨64 + l.val, by omega⟩ * vlane v h j ⟨64 + l.val, by omega⟩ = if l = 0 then -dl h i else 0 := by
    intro l
    have := l.isLt
    have n0 : (l = 0) = (l.val = 0) := propext Fin.ext_iff
    unfold dlane vlane
    simp only [n0]
    rw [dif_neg (by show ¬ 64 + l.val < 64; omega), dif_neg (by show ¬ 64 + l.val < 64; omega)]
    show (if 64 + l.val = 64 then -dl h i else 0) * (if 64 + l.val < 67 then (1 : ℝ) else 0) = _
    split_ifs <;> first | (exfalso; omega) | ring
  simp only [e1, e2, Finset.sum_ite_eq', Finset.mem_univ, if_true]
  ring

/-- The kernel's probability is the softmax. -/
theorem prob_share (hl : ∀ h i, Real.exp (lse h i) = rowSum q k c h i) (h : Fin 16) (i j : Fin 16384) :
    prob (j.val ≤ i.val) (qlane q lse h i) (klane k c h j) = share q k c h i j := by
  unfold prob
  rw [dot_qk, share_exp q k c h i j (lse h i) (hl h i)]

/-- The kernel's score gradient is the score's gradient. -/
theorem grad_dscore (hl : ∀ h i, Real.exp (lse h i) = rowSum q k c h i) (h : Fin 16) (i j : Fin 16384) :
    grad (j.val ≤ i.val) (qlane q lse h i) (klane k c h j) (dlane ct (delta q k v ct c) h i) (vlane v h j) = dscore q k v ct c h i j := by
  unfold grad dscore
  rw [prob_share q k c lse hl, dot_dv]

end Cert.KernelIdeal.Hand
-- ==== Proof.KI.Result.lean ====
/-
  The kernel's four results over the extended reals at real arguments: the gradients of the attention's queries, keys,
  values and cumulative log-forget.
-/
module

public import proofs.«01_k».proof.Proof.KI.Arrays
public import proofs.«01_k».proof.Proof.KI.Lanes

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.StableHlo
open Idealize.ShloMosaic.Pipeline (Dat)

/-- Cut into tiles and put together again. -/
theorem tiles_back (X : FVec Ideal S16x16384x128 .bf16) (h : Fin 16) (r : Fin 16384) (l : Fin 128) :
    shapeCast S16x16384x128 (shapeCast S16x32x512x128 X shapeCasts_S16x16384x128_S16x32x512x128) shapeCasts_S16x32x512x128_S16x16384x128 (ix3 h r l) = X (ix3 h r l) := by
  pointwise []

/-- An entry of a tile. -/
theorem tile_at (X : FVec Ideal S16x16384x128 .bf16) (h : Fin 16) (j : Fin 32) (t : Fin 512) (l : Fin 128) :
    shapeCast S16x32x512x128 X shapeCasts_S16x16384x128_S16x32x512x128 (ix4 h j t l) = X (ix3 h (keyOf j t) l) := by
  pointwise [keyOf]

section
variable (W : Valuation τ sig (Elt Ideal))

/-- The last lines: the queries' gradient. -/
theorem S_dq (A : FVec Ideal S16x16384x128 .f32) (hA : W (Proc.devRef .tc main_v99_0) = A) (h : Fin 16) (i : Fin 16384) (l : Fin 64) : (after hostOps1 W (Proc.devRef .tc main_v102) : FVec Ideal S16x16384x64 .f32) (ix3 h i l)
    = A (ix3 h i ⟨l.val, by omega⟩) * ((1 / 8 : ℝ) : EReal) := by
  after_reads_simp
  rw [hA]
  pointwise [eighth]

/-- The keys' gradient. -/
theorem S_dk (A : FVec Ideal S16x16384x128 .f32) (hA : W (Proc.devRef .tc main_v99_1) = A) (h : Fin 16) (i : Fin 16384) (l : Fin 64) : (after hostOps1 W (Proc.devRef .tc main_v103) : FVec Ideal S16x16384x64 .f32) (ix3 h i l)
    = A (ix3 h i ⟨l.val, by omega⟩) := by
  after_reads_simp
  rw [hA]
  pointwise []

/-- The values' gradient. -/
theorem S_dv (A : FVec Ideal S16x16384x128 .bf16) (hA : W (Proc.devRef .tc main_v99_2) = A) (h : Fin 16) (i : Fin 16384) (l : Fin 64) : (after hostOps1 W (Proc.devRef .tc main_v105) : FVec Ideal S16x16384x64 .f32) (ix3 h i l)
    = A (ix3 h i ⟨l.val, by omega⟩) := by
  after_reads_simp
  rw [hA]
  pointwise []

/-- The cumulative log-forget's gradient. -/
theorem S_dc (A B : FVec Ideal S16x16384x128 .f32) (hA : W (Proc.devRef .tc main_v99_0) = A) (hB : W (Proc.devRef .tc main_v99_1) = B) (h : Fin 16) (i : Fin 16384) : (after hostOps1 W (Proc.devRef .tc main_v110) : FVec Ideal S16x16384 .f32) (ix2 h i)
    = A (ix3 h i 67) - B (ix3 h i 64) := by
  after_reads_simp
  rw [hA, hB]
  pointwise []

end

end Cert.KernelIdeal.Hand
-- ==== Proof.KI.Final.lean ====
/-
  What the kernel's program leaves in its four results over the extended reals, at real arguments.
-/
module

public import proofs.«01_k».proof.Proof.KI.Result

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.StableHlo
open Idealize.ShloMosaic.Pipeline (Dat)

variable (m : (ℓ : Loc nD τ sig) → Buf (Elt Ideal) ℓ) (c : Dev nD)

/-- A device's memory when the last lines begin. -/
def Wf : Valuation τ sig (Elt Ideal) :=
  Pipeline.withArrays spec0 c (Pipeline.withR (V0 m c) R0 c (finalG m c)) fun w => (dats m 0 c).arrAt w cfg0.N

theorem Wf_0 : Wf m c (Proc.devRef .tc main_v99_0) = headsAt m c cfg0.N := by
  unfold Wf
  rw [Pipeline.withArrays_of_ne _ c _ _ main_v99_0 (by decide), Pipeline.withR_of_mem _ _ _ _ main_v99_0 (by decide), finalG_eq]

theorem arr_inj : Function.Injective (Pipeline.arrRef spec0) := by decide

theorem Wf_1 : Wf m c (Proc.devRef .tc main_v99_1) = (dats m 0 c).arrAt 4 cfg0.N :=
  Pipeline.withArrays_arr spec0 arr_inj c _ (fun w => (dats m 0 c).arrAt w cfg0.N) 4

theorem Wf_2 : Wf m c (Proc.devRef .tc main_v99_2) = (dats m 0 c).arrAt 5 cfg0.N :=
  Pipeline.withArrays_arr spec0 arr_inj c _ (fun w => (dats m 0 c).arrAt w cfg0.N) 5

variable (q k v ct : Fin 16 → Fin 16384 → Fin 64 → ℝ) (cs : Fin 16 → Fin 16384 → ℝ)

/-- A device's arguments are real. -/
structure Args : Prop where
  hq : ∀ h i l, (m (c, Proc.devRef .tc main_arg0) : FVec Ideal S16x16384x64 .f32) (ix3 h i l) = ((q h i l : ℝ) : EReal)
  hk : ∀ h i l, (m (c, Proc.devRef .tc main_arg1) : FVec Ideal S16x16384x64 .f32) (ix3 h i l) = ((k h i l : ℝ) : EReal)
  hv : ∀ h i l, (m (c, Proc.devRef .tc main_arg2) : FVec Ideal S16x16384x64 .f32) (ix3 h i l) = ((v h i l : ℝ) : EReal)
  hc : ∀ h i, (m (c, Proc.devRef .tc main_arg3) : FVec Ideal S16x16384 .f32) (ix2 h i) = ((cs h i : ℝ) : EReal)
  hct : ∀ h i l, (m (c, Proc.devRef .tc main_arg4) : FVec Ideal S16x16384x64 .f32) (ix3 h i l) = ((ct h i l : ℝ) : EReal)

variable {m c q k v ct cs} (H : Args m c q k v ct cs)

include H in
/-- The array of query lanes the kernel reads, for some log-sums. -/
theorem V_q : ∃ s : Fin 16 → Fin 16384 → ℝ, (∀ h i, Real.exp (s h i) = rowSum q k cs h i)
    ∧ ∀ h r l, (V m c main_v97 : FVec Ideal S16x16384x128 .bf16) (ix3 h r l) = ((qlane q s h r l : ℝ) : EReal) := by
  obtain ⟨s, hs, hl⟩ := lse_real (m (c, Proc.devRef .tc main_arg0)) (m (c, Proc.devRef .tc main_arg1)) (m (c, Proc.devRef .tc main_arg3)) q k cs H.hq H.hk H.hc
  refine ⟨s, hs, fun h r l => ?_⟩
  rw [V_eq, (W_tiles _).1, tiles_back, W_qab, W_scores, (W_args _).1]
  exact qab_at q s _ _ H.hq hl h r l

include H in
theorem V_d (h : Fin 16) (r : Fin 16384) (l : Fin 128) : (V m c main_v98 : FVec Ideal S16x16384x128 .bf16) (ix3 h r l) = ((dlane ct (delta q k v ct cs) h r l : ℝ) : EReal) := by
  rw [V_eq, (W_tiles _).2.1, tiles_back, W_doa, W_scores, (W_args _).2.2.1, (W_args _).2.2.2.2]
  exact doa_at ct (delta q k v ct cs) _ _ H.hct
    (delta_real _ _ _ _ _ q k v ct cs H.hq H.hk H.hv H.hct H.hc) h r l

include H in
theorem V_k (h : Fin 16) (j : Fin 32) (t : Fin 512) (l : Fin 128) : (V m c main_v95 : FVec Ideal S16x32x512x128 .bf16) (ix4 h j t l)
    = ((klane k cs h (keyOf j t) l : ℝ) : EReal) := by
  rw [V_eq, (W_tiles _).2.2.1, tile_at, W_ka, (W_args _).2.1, (W_args _).2.2.2.1]
  exact ka_at k cs _ _ H.hk H.hc h _ l

include H in
theorem V_v (h : Fin 16) (j : Fin 32) (t : Fin 512) (l : Fin 128) : (V m c main_v96 : FVec Ideal S16x32x512x128 .bf16) (ix4 h j t l)
    = ((vlane v h (keyOf j t) l : ℝ) : EReal) := by
  rw [V_eq, (W_tiles _).2.2.2, tile_at, W_va, (W_args _).2.2.1]
  exact va_at v _ H.hv h _ l

include H in
/-- The queries' gradient. -/
theorem out_dq (h : Fin 16) (i : Fin 16384) (l : Fin 64) :
    (after hostOps1 (Wf m c) (Proc.devRef .tc main_v102) : FVec Ideal S16x16384x64 .f32) (ix3 h i l) = ((gq q k v ct cs h i l : ℝ) : EReal) := by
  obtain ⟨s, hs, hQ⟩ := V_q H
  rw [S_dq (Wf m c) (headsAt m c cfg0.N) (Wf_0 m c), dq_array m c _ _ _ _ hQ (V_d H) (V_k H) (V_v H), ← EReal.coe_mul]
  unfold gq
  refine congrArg (fun x : ℝ => ((x * (1 / 8) : ℝ) : EReal)) (Finset.sum_congr rfl fun j _ => ?_)
  rw [grad_dscore q k v ct cs s hs]
  unfold klane
  rw [dif_pos (show (⟨l.val, by omega⟩ : Fin 128).val < 64 from l.isLt)]

include H in
/-- The keys' gradient. -/
theorem out_dk (h : Fin 16) (i : Fin 16384) (l : Fin 64) :
    (after hostOps1 (Wf m c) (Proc.devRef .tc main_v103) : FVec Ideal S16x16384x64 .f32) (ix3 h i l) = ((gk q k v ct cs h i l : ℝ) : EReal) := by
  obtain ⟨s, hs, hQ⟩ := V_q H
  rw [S_dk (Wf m c) _ ((Wf_1 m c).trans (dk_array m c _ _ _ _ hQ (V_d H) (V_k H) (V_v H)))]
  unfold gk
  show ((dkSum _ _ _ _ h i ⟨l.val, _⟩ : ℝ) : EReal) = _
  unfold dkSum
  rw [Finset.sum_mul]
  refine congrArg (fun x : ℝ => ((x : ℝ) : EReal)) (Finset.sum_congr rfl fun j _ => ?_)
  rw [grad_dscore q k v ct cs s hs]
  unfold qlane
  rw [dif_pos (show (⟨l.val, by omega⟩ : Fin 128).val < 64 from l.isLt)]
  ring

include H in
/-- The values' gradient. -/
theorem out_dv (h : Fin 16) (i : Fin 16384) (l : Fin 64) :
    (after hostOps1 (Wf m c) (Proc.devRef .tc main_v105) : FVec Ideal S16x16384x64 .f32) (ix3 h i l) = ((gv q k ct cs h i l : ℝ) : EReal) := by
  obtain ⟨s, hs, hQ⟩ := V_q H
  rw [S_dv (Wf m c) _ ((Wf_2 m c).trans (dv_array m c _ _ _ _ hQ (V_d H) (V_k H) (V_v H)))]
  unfold gv
  show ((dvSum _ _ _ h i ⟨l.val, _⟩ : ℝ) : EReal) = _
  unfold dvSum
  refine congrArg (fun x : ℝ => ((x : ℝ) : EReal)) (Finset.sum_congr rfl fun j _ => ?_)
  rw [prob_share q k cs s hs]
  unfold dlane
  rw [dif_pos (show (⟨l.val, by omega⟩ : Fin 128).val < 64 from l.isLt), mul_comm]

include H in
/-- The cumulative log-forget's gradient. -/
theorem out_dc (h : Fin 16) (i : Fin 16384) :
    (after hostOps1 (Wf m c) (Proc.devRef .tc main_v110) : FVec Ideal S16x16384 .f32) (ix2 h i) = ((gc q k v ct cs h i : ℝ) : EReal) := by
  obtain ⟨s, hs, hQ⟩ := V_q H
  rw [S_dc (Wf m c) (headsAt m c cfg0.N) _ (Wf_0 m c) ((Wf_1 m c).trans (dk_array m c _ _ _ _ hQ (V_d H) (V_k H) (V_v H))),
    dq_array m c _ _ _ _ hQ (V_d H) (V_k H) (V_v H)]
  show _ - ((dkSum _ _ _ _ h i 64 : ℝ) : EReal) = _
  rw [← EReal.coe_sub]
  unfold gc dkSum
  refine congrArg (fun x : ℝ => ((x : ℝ) : EReal)) (congrArg₂ (· - ·) (Finset.sum_congr rfl fun j _ => ?_) (Finset.sum_congr rfl fun j _ => ?_))
  · rw [grad_dscore q k v ct cs s hs]
    have e : klane k cs h j 67 = 1 := by unfold klane; simp
    rw [e, mul_one]
  · rw [grad_dscore q k v ct cs s hs]
    have e : qlane q s h j 64 = 1 := by unfold qlane; simp
    rw [e, one_mul]

end Cert.KernelIdeal.Hand
-- ==== Proof.KI.Run.lean ====
/-
  The kernel's program at real arguments ends with the four gradients in its result buffers.
-/
module

public import proofs.«01_k».proof.Proof.KI.Final

@[expose] public section

set_option maxRecDepth 16384

noncomputable section

namespace Cert.KernelIdeal.Hand

open Cert.KernelIdeal Cert.KernelIdeal.Gen Cert.Attn
open Idealize.ShloMosaic Idealize.ShloMosaic.TcCoe Idealize.SL.Sem

variable (m : (ℓ : Loc nD τ sig) → Buf (Elt Ideal) ℓ) (ρ : Dev nD → PrngReg)
variable (q k v ct : Dev nD → Fin 16 → Fin 16384 → Fin 64 → ℝ) (cs : Dev nD → Fin 16 → Fin 16384 → ℝ)

/-- A real function of head, row and lane as an array. -/
def cube (f : Fin 16 → Fin 16384 → Fin 64 → ℝ) : FVec Ideal S16x16384x64 .f32 := fun i => ((f (i 0) (i 1) (i 2) : ℝ) : EReal)

/-- A real function of head and row as an array. -/
def plane (f : Fin 16 → Fin 16384 → ℝ) : FVec Ideal S16x16384 .f32 := fun i => ((f (i 0) (i 1) : ℝ) : EReal)

theorem eq_cube (A : FVec Ideal S16x16384x64 .f32) (f : Fin 16 → Fin 16384 → Fin 64 → ℝ)
    (h : ∀ a b d, A (ix3 a b d) = ((f a b d : ℝ) : EReal)) : A = cube f :=
  funext fun i => (congrArg A (ValueIdx.eq_ix3 i)).trans (h (i 0) (i 1) (i 2))

theorem eq_plane (A : FVec Ideal S16x16384 .f32) (f : Fin 16 → Fin 16384 → ℝ)
    (h : ∀ a b, A (ix2 a b) = ((f a b : ℝ) : EReal)) : A = plane f :=
  funext fun i => (congrArg A (ValueIdx.eq_ix2 i)).trans (h (i 0) (i 1))

/-- Run on real arguments, the kernel's program ends with the four gradients in its results and its arguments as launched. -/
theorem run_values (H : ∀ c, Args m c (q c) (k c) (v c) (ct c) (cs c)) :
    θ_run defs (onTc (τ := τ) (main (F := Ideal))) ⟨m, fun _ => 0, ρ⟩ (fun r => ∀ c : Dev nD,
      r.2.mem ((c.tc : Thread nD τ).loc main_v102) = cube (gq (q c) (k c) (v c) (ct c) (cs c))
      ∧ r.2.mem ((c.tc : Thread nD τ).loc main_v103) = cube (gk (q c) (k c) (v c) (ct c) (cs c))
      ∧ r.2.mem ((c.tc : Thread nD τ).loc main_v105) = cube (gv (q c) (k c) (ct c) (cs c))
      ∧ r.2.mem ((c.tc : Thread nD τ).loc main_v110) = plane (gc (q c) (k c) (v c) (ct c) (cs c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    refine ⟨?_, ?_, ?_, ?_, ends_args m h c⟩
    · exact ((h.1 c).2 main_v102 (Pipeline.mem_restRefs_of main_v102 (by decide) (by decide))).trans (eq_cube _ _ (out_dq (H c)))
    · exact ((h.1 c).2 main_v103 (Pipeline.mem_restRefs_of main_v103 (by decide) (by decide))).trans (eq_cube _ _ (out_dk (H c)))
    · exact ((h.1 c).2 main_v105 (Pipeline.mem_restRefs_of main_v105 (by decide) (by decide))).trans (eq_cube _ _ (out_dv (H c)))
    · exact ((h.1 c).2 main_v110 (Pipeline.mem_restRefs_of main_v110 (by decide) (by decide))).trans (eq_plane _ _ (out_dc (H c)))) (run_main m ρ)

end Cert.KernelIdeal.Hand
-- ==== Proof.Ref.lean ====
/-
  The reference over the extended reals, at real arguments: its stages one after another, up to the four gradients.
-/
module

public import proofs.«01_k».proof.Proof.Gen.ReferenceIdeal.Read
public import proofs.«01_k».proof.Proof.Ext
public import Idealize.ShloMosaic.Lib.Pointwise

@[expose] public section

set_option maxRecDepth 16384

noncomputable section

namespace Cert.ReferenceIdeal.Hand

open Cert.ReferenceIdeal Cert.ReferenceIdeal.Read Cert.Attn
open Idealize.ShloMosaic Idealize.ShloMosaic.TcCoe

variable (Q K V CT : FVec Ideal S16x16384x64 .f32) (C : FVec Ideal S16x16384 .f32)
variable (q k v ct : Fin 16 → Fin 16384 → Fin 64 → ℝ) (c : Fin 16 → Fin 16384 → ℝ)
  (hq : ∀ h i l, Q (ix3 h i l) = ((q h i l : ℝ) : EReal)) (hk : ∀ h i l, K (ix3 h i l) = ((k h i l : ℝ) : EReal))
  (hv : ∀ h i l, V (ix3 h i l) = ((v h i l : ℝ) : EReal)) (hct : ∀ h i l, CT (ix3 h i l) = ((ct h i l : ℝ) : EReal))
  (hc : ∀ h i, C (ix2 h i) = ((c h i : ℝ) : EReal))

include hq hk in
/-- A product of a query with a key. -/
theorem dots_at (h : Fin 16) (i j : Fin 16384) :
    val_main_v1 (F := Ideal) Q K (ix3 h i j) = ((∑ l, q h i l * k h j l : ℝ) : EReal) := by
  pointwise [val_main_v1, hq, hk]
  simp only [← EReal.coe_mul, sum_coe]

include hq hk hc in
/-- A score with the query's own offset, which the softmax does not see. -/
theorem scores_at (h : Fin 16) (i j : Fin 16384) :
    val_main_v9 (F := Ideal) Q K C (ix3 h i j) = ((score q k c h i j + c h i : ℝ) : EReal) := by
  have h1 := dots_at Q K q k hq hk
  pointwise [val_main_v9, val_main_v8, val_main_v7, val_main_v6, val_main_v5, val_main_v4, val_main_v3, val_main_v2, val_main_cst, h1, hc, eighth]
  simp only [← EReal.coe_mul, ← EReal.coe_add, ← EReal.coe_sub]
  refine congrArg (fun x : ℝ => (x : EReal)) ?_
  unfold score; ring

include hq hk hc in
/-- A masked score. -/
theorem masked_at (h : Fin 16) (i j : Fin 16384) :
    val_main_v15_0 (F := Ideal) Q K C (ix3 h i j) = if j.val ≤ i.val then ((score q k c h i j + c h i : ℝ) : EReal) else ⊥ := by
  have h1 := scores_at Q K C q k c hq hk hc
  pointwise [val_main_v15_0, val_main_v15_1, val_main_call0_v2, val_main_call0_v0, val_main_cst_0, val_main_v14, val_main_v13, val_main_v12, val_main_v11, val_main_v10, val_main_v0, h1]
  rw [causal]
  exact if_congr Iff.rfl rfl bottom

include hq hk hc in
/-- A row's largest score is a number. -/
theorem max_at : ∃ M : Fin 16 → Fin 16384 → ℝ, ∀ h i, val_main_v16 (F := Ideal) Q K C (ix2 h i) = ((M h i : ℝ) : EReal) := by
  have h1 := masked_at Q K C q k c hq hk hc
  have hm : ∀ h i, ∃ M : ℝ, val_main_v16 (F := Ideal) Q K C (ix2 h i) = (M : EReal) := by
    intro h i
    obtain ⟨M, hM⟩ := fold_max_real (fun j : Fin 16384 => j.val ≤ i.val) (fun j => score q k c h i j + c h i) i le_rfl
    refine ⟨M, ?_⟩
    rw [← hM]
    pointwise [val_main_v16, val_main_cst_1, bottom, h1]
  choose M hM using hm
  exact ⟨M, hM⟩

include hq hk hc in
/-- An exponential: the weight, scaled by one number a row. -/
theorem exp_at : ∃ a : Fin 16 → Fin 16384 → ℝ, ∀ h i j,
    val_main_v25 (F := Ideal) Q K C (ix3 h i j) = ((weight q k c h i j * Real.exp (a h i) : ℝ) : EReal) := by
  obtain ⟨M, hM⟩ := max_at Q K C q k c hq hk hc
  have h1 := masked_at Q K C q k c hq hk hc
  refine ⟨fun h i => c h i - M h i, fun h i j => ?_⟩
  have e : val_main_v25 (F := Ideal) Q K C (ix3 h i j)
      = Ideal.exp ((if j.val ≤ i.val then ((score q k c h i j + c h i : ℝ) : EReal) else ⊥) - ((M h i : ℝ) : EReal)) := by
    pointwise [val_main_v25, val_main_v24, val_main_v23, val_main_v22, h1, hM]
  rw [e, exp_mask, ← weight_shift]
  refine congrArg (fun x : ℝ => (x : EReal)) ?_
  split_ifs
  · congr 1; ring
  · rfl

section scaled

variable (a : Fin 16 → Fin 16384 → ℝ)
  (he : ∀ h i j, val_main_v25 (F := Ideal) Q K C (ix3 h i j) = ((weight q k c h i j * Real.exp (a h i) : ℝ) : EReal))

include he in
/-- A row's sum. -/
theorem sum_at (h : Fin 16) (i : Fin 16384) :
    val_main_v26 (F := Ideal) Q K C (ix2 h i) = ((rowSum q k c h i * Real.exp (a h i) : ℝ) : EReal) := by
  pointwise [val_main_v26, val_main_cst_3, he]
  simp only [sum_coe]
  refine congrArg (fun x : ℝ => (x : EReal)) ?_
  unfold rowSum; rw [Finset.sum_mul]

/-- The sums are positive. -/
theorem scaled_ne (h : Fin 16) (i : Fin 16384) : rowSum q k c h i * Real.exp (a h i) ≠ 0 :=
  (mul_pos (rowSum_pos q k c h i) (Real.exp_pos _)).ne'

include he in
/-- A share. -/
theorem share_at (h : Fin 16) (i j : Fin 16384) :
    val_main_v29 (F := Ideal) Q K C (ix3 h i j) = ((share q k c h i j : ℝ) : EReal) := by
  have h1 := sum_at Q K C q k c a he
  pointwise [val_main_v29, val_main_v28, val_main_v27, he, h1]
  rw [Ideal.div_coe (scaled_ne q k c a h i), ← EReal.coe_mul]
  refine congrArg (fun x : ℝ => (x : EReal)) ?_
  rw [← share_shift q k c (a h i), mul_one_div]

include he in
/-- One over a row's sum squared. -/
theorem square_at (h : Fin 16) (i : Fin 16384) :
    val_main_v32 (F := Ideal) Q K C (ix3 h i (0 : Fin 1))
      = ((1 / (rowSum q k c h i * Real.exp (a h i) * (rowSum q k c h i * Real.exp (a h i))) : ℝ) : EReal) := by
  have h1 := sum_at Q K C q k c a he
  pointwise [val_main_v32, val_main_v31, val_main_v30, val_main_v27, val_main_cst_4, h1]
  rw [← EReal.coe_mul, Ideal.div_coe (mul_ne_zero (scaled_ne q k c a h i) (scaled_ne q k c a h i))]
  simp

include he hct in
/-- The value gradient. -/
theorem gv_at (h : Fin 16) (j : Fin 16384) (l : Fin 64) :
    val_main_v35 (F := Ideal) Q K C CT (ix3 h j l) = ((gv q k ct c h j l : ℝ) : EReal) := by
  have h1 := share_at Q K C q k c a he
  pointwise [val_main_v35, val_main_v34, hct, h1]
  simp only [← EReal.coe_mul, sum_coe]
  refine congrArg (fun x : ℝ => (x : EReal)) ?_
  unfold gv; exact Finset.sum_congr rfl fun i _ => mul_comm _ _

include hv hct in
/-- A product of a cotangent with a value. -/
theorem ctv_at (h : Fin 16) (i j : Fin 16384) :
    val_main_v36 (F := Ideal) V CT (ix3 h i j) = ((∑ l, ct h i l * v h j l : ℝ) : EReal) := by
  pointwise [val_main_v36, hv, hct]
  simp only [← EReal.coe_mul, sum_coe]

include hv hct he in
/-- The gradient of a row's sum. -/
theorem rowGrad_at (h : Fin 16) (i : Fin 16384) :
    val_main_v40 (F := Ideal) Q K V C CT (ix2 h i)
      = ((delta q k v ct c h i * (1 / (rowSum q k c h i * Real.exp (a h i))) : ℝ) : EReal) := by
  have h1 := square_at Q K C q k c a he
  have h2 := ctv_at V CT v ct hv hct
  pointwise [val_main_v40, val_main_v39, val_main_v38, val_main_v37, val_main_cst_5, h1, h2, he]
  simp only [← EReal.coe_mul, sum_coe]
  refine congrArg (fun x : ℝ => (x : EReal)) ?_
  rw [delta_eq, Finset.sum_mul]
  refine Finset.sum_congr rfl fun j _ => ?_
  rw [← share_shift q k c (a h i)]
  have := scaled_ne q k c a h i
  field_simp

include hv hct he in
/-- The gradient of a score. -/
theorem dscore_at (h : Fin 16) (i j : Fin 16384) :
    val_main_v49 (F := Ideal) Q K V C CT (ix3 h i j) = ((dscore q k v ct c h i j : ℝ) : EReal) := by
  have h1 := sum_at Q K C q k c a he
  have h2 := ctv_at V CT v ct hv hct
  have h3 := rowGrad_at Q K V CT C q k v ct c hv hct a he
  have e : val_main_v48 (F := Ideal) Q K V C CT (ix3 h i j) = ((dscore q k v ct c h i j : ℝ) : EReal) := by
    pointwise [val_main_v48, val_main_v47, val_main_v46, val_main_v45, val_main_v44, val_main_v43, val_main_v42, val_main_v41, val_main_v27, val_main_cst_6, h1, h2, h3, he]
    rw [Ideal.div_coe (scaled_ne q k c a h i)]
    simp only [← EReal.coe_mul, ← EReal.coe_neg, ← EReal.coe_add, sum_coe]
    refine congrArg (fun x : ℝ => (x : EReal)) ?_
    simp only [Finset.univ_unique, Finset.sum_const, Finset.card_singleton, one_smul]
    unfold dscore
    rw [← share_shift q k c (a h i)]
    have := scaled_ne q k c a h i
    field_simp
    ring
  pointwise [val_main_v49, val_main_v15_1, val_main_v15_2, val_main_call0_cst, val_main_call1_v0, val_main_call1_cst, val_main_v14, val_main_v13, val_main_v12, val_main_v11, val_main_v10, val_main_v0, e]
  rw [causal]
  split_ifs with hj
  · rfl
  · have : dscore q k v ct c h i j = 0 := by unfold dscore share weight; rw [if_neg hj]; simp
    rw [this]; rfl

end scaled

section grads

variable (hd : ∀ h i j, val_main_v49 (F := Ideal) Q K V C CT (ix3 h i j) = ((dscore q k v ct c h i j : ℝ) : EReal))

include hd in
/-- A score's gradient, scaled. -/
theorem scaled_at (h : Fin 16) (i j : Fin 16384) :
    val_main_v59 (F := Ideal) Q K V C CT (ix3 h i j) = ((dscore q k v ct c h i j * (1 / 8) : ℝ) : EReal) := by
  pointwise [val_main_v59, val_main_v58, val_main_cst_11, hd, eighth]
  rw [← EReal.coe_mul]

include hd hk in
/-- The query gradient. -/
theorem gq_at (h : Fin 16) (i : Fin 16384) (l : Fin 64) :
    val_main_v61 (F := Ideal) Q K V C CT (ix3 h i l) = ((gq q k v ct c h i l : ℝ) : EReal) := by
  have h1 := scaled_at Q K V CT C q k v ct c hd
  pointwise [val_main_v61, h1, hk]
  simp only [← EReal.coe_mul, sum_coe]
  refine congrArg (fun x : ℝ => (x : EReal)) ?_
  unfold gq; rw [Finset.sum_mul]; exact Finset.sum_congr rfl fun j _ => by ring

include hd hq in
/-- The key gradient. -/
theorem gk_at (h : Fin 16) (j : Fin 16384) (l : Fin 64) :
    val_main_v60 (F := Ideal) Q K V C CT (ix3 h j l) = ((gk q k v ct c h j l : ℝ) : EReal) := by
  have h1 := scaled_at Q K V CT C q k v ct c hd
  pointwise [val_main_v60, h1, hq]
  simp only [← EReal.coe_mul, sum_coe]
  refine congrArg (fun x : ℝ => (x : EReal)) ?_
  unfold gk; rw [Finset.sum_mul]; exact Finset.sum_congr rfl fun i _ => by ring

include hd in
/-- The offset gradient. -/
theorem gc_at (h : Fin 16) (n : Fin 16384) :
    val_main_v57 (F := Ideal) Q K V C CT (ix2 h n) = ((gc q k v ct c h n : ℝ) : EReal) := by
  pointwise [val_main_v57, val_main_v56, val_main_v55, val_main_v54, val_main_v53, val_main_v52, val_main_v51, val_main_v50, val_main_cst_7, val_main_cst_8, val_main_cst_9, val_main_cst_10, hd]
  simp only [← EReal.coe_mul, ← EReal.coe_neg, ← EReal.coe_add, sum_coe]
  refine congrArg (fun x : ℝ => (x : EReal)) ?_
  simp only [Finset.univ_unique, Finset.sum_const, Finset.card_singleton, one_smul]
  unfold gc; rw [Finset.sum_neg_distrib]; ring

end grads

/-- The reference's four results at real arguments. -/
theorem results
    (hq : ∀ h i l, Q (ix3 h i l) = ((q h i l : ℝ) : EReal)) (hk : ∀ h i l, K (ix3 h i l) = ((k h i l : ℝ) : EReal))
    (hv : ∀ h i l, V (ix3 h i l) = ((v h i l : ℝ) : EReal)) (hc : ∀ h i, C (ix2 h i) = ((c h i : ℝ) : EReal))
    (hct : ∀ h i l, CT (ix3 h i l) = ((ct h i l : ℝ) : EReal)) :
    (∀ h i l, val_main_v61 (F := Ideal) Q K V C CT (ix3 h i l) = ((gq q k v ct c h i l : ℝ) : EReal))
      ∧ (∀ h i l, val_main_v60 (F := Ideal) Q K V C CT (ix3 h i l) = ((gk q k v ct c h i l : ℝ) : EReal))
      ∧ (∀ h i l, val_main_v35 (F := Ideal) Q K C CT (ix3 h i l) = ((gv q k ct c h i l : ℝ) : EReal))
      ∧ ∀ h i, val_main_v57 (F := Ideal) Q K V C CT (ix2 h i) = ((gc q k v ct c h i : ℝ) : EReal) := by
  obtain ⟨a, he⟩ := exp_at Q K C q k c hq hk hc
  have hd := dscore_at Q K V CT C q k v ct c hv hct a he
  exact ⟨gq_at Q K V CT C q k v ct c hk hd, gk_at Q K V CT C q k v ct c hq hd,
    gv_at Q K CT C q k ct c hct a he, gc_at Q K V CT C q k v ct c hd⟩

end Cert.ReferenceIdeal.Hand
-- ==== Proof.Finite.lean ====
/-
  The precondition: every entry of every argument is a number.
-/
module

public import proofs.«01_k».proof.Pre_finite
public import Idealize.ShloMosaic.Lib.ReduceAll
public import Idealize.ShloMosaic.Lib.IdealHost
public import Idealize.ShloMosaic.Lib.Pointwise

@[expose] public section

noncomputable section

namespace Cert.Pre_finite

open Idealize.ShloMosaic

/-- The shapes the precondition's lines take. -/
instance facts : Facts where
  bcast_S_S16x16384x64 := by decide
  reducesTo_S16x16384x64_S_d0_1_2 := by decide
  h_S_ := by decide
  bcast_S_S16x16384 := by decide
  reducesTo_S16x16384_S_d0_1 := by decide

/-- Infinity. -/
theorem infinity : Ideal.ofBits .f32 0x7F800000#32 = (⊤ : EReal) := by
  simp [Ideal.ofBits, Ideal.ieee]

/-- An extended real whose absolute value is below infinity is a real. -/
theorem real_of_lt (x : EReal) (h : BitVec.ofBool (decide (max x (-x) < (⊤ : EReal))) = 1#1) : ∃ r : ℝ, x = (r : EReal) := by
  have hlt : max x (-x) < ⊤ := by
    by_contra hn
    rw [decide_eq_false hn] at h
    exact absurd h (by decide)
  obtain ⟨h1, h2⟩ := max_lt_iff.1 hlt
  refine ⟨x.toReal, (EReal.coe_toReal h1.ne fun hb => ?_).symm⟩
  rw [hb, EReal.neg_bot] at h2
  exact h2.ne rfl

/-- All entries of an array below infinity. -/
theorem real_of_all {s : Shape} {axes : List (Fin s.rank)} (x : FVec Ideal s .f32) (b : FVec Ideal s .f32) (hb : ∀ i, b i = (⊤ : EReal))
    (hs : s.ReducesTo axes S_) (hu : 0 < S_.numel) (j : S_.Idx)
    (e : Host.reduce IntOp.andi (cmpf .olt (Host.absf x) b) (constantI S_ 1 1#1) hs hu j = 1#1) (i : s.Idx) : ∃ r : ℝ, x i = (r : EReal) := by
  haveI : Subsingleton S_.Idx := ⟨fun a b => funext fun a => a.elim0⟩
  have h := Host.reduce_andi_all _ _ _ _ _ e i
  refine real_of_lt (x i) ?_
  rw [← hb i]
  exact h

variable (q k v ct : FVec Ideal S16x16384x64 .f32) (c : FVec Ideal S16x16384 .f32)

/-- Under the precondition every entry is real. -/
theorem real_of_fn (h : fn (F := Ideal) q k v c ct = fun _ => 1#1) :
    (∀ i, ∃ r : ℝ, q i = (r : EReal)) ∧ (∀ i, ∃ r : ℝ, k i = (r : EReal)) ∧ (∀ i, ∃ r : ℝ, v i = (r : EReal))
      ∧ (∀ i, ∃ r : ℝ, c i = (r : EReal)) ∧ (∀ i, ∃ r : ℝ, ct i = (r : EReal)) := by
  have h0 := congrFun h (fun a => a.elim0)
  unfold fn fn_part1 at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨real_of_all q _ (fun _ => infinity) _ _ _ e0, real_of_all k _ (fun _ => infinity) _ _ _ e1, real_of_all v _ (fun _ => infinity) _ _ _ e2,
    real_of_all c _ (fun _ => infinity) _ _ _ e3, real_of_all ct _ (fun _ => infinity) _ _ _ e4⟩

end Cert.Pre_finite
-- ==== Proof.K2I.Step.lean ====
/-
  The arithmetic of one grid point of the attention's forward pass, as plain functions of vectors: a query tile of 512
  rows meets the keys before it in unmasked steps of 4096 keys and one masked step whose height depends on the tile's
  place in its group of eight.  The first four definitions are the steps under a known bound of the scores (one
  accumulator), the next four the steps with a running maximum (the maximum beside the accumulator).
-/
module

public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.VecWindow

@[expose] public section

noncomputable section

namespace Cert.Kernel2Ideal.Hand

open Cert.Kernel2Ideal Cert.Kernel2Ideal.Gen
open Idealize.ShloMosaic Idealize.ShloMosaic.TcCoe

variable {F : FTy → Type} [FloatOps F] [Named F]

/-- The running maximum and the accumulator (64 rows of values, one of weights, in 128). -/
structure St (F : FTy → Type) where
  mx : Vec F S1x512 .f32
  acc : Vec F S128x512 .f32

/-- The accumulator's rows in use. -/
def top (a : Vec F S128x512 .f32) : Vec F S80x512 .f32 := VecWindow.window a ![0, 0] S80x512.size inb_S128x512_S80x512_0_0

/-- The masked step over 512 keys under a known bound. -/
def bdiag0 (i : grid0.Coords) (h : k0_cond2 i = 1#1) (q : Vec F S1x1x512x128 .bf16) (K : Vec F S1x16384x128 .bf16) (T : Vec F S1x4x80x4096 .bf16) (a : Vec F S128x512 .f32) : Vec F S128x512 .f32 :=
  VecWindow.put a ![0, 0] S80x512.size (k0_pay9 q (VecWindow.window T (k0_off5 i) S1x1x80x512.size (k0_off5_inb i h))
    (VecWindow.window K (k0_off6 i) S1x512x128.size (k0_off6_inb i h)) (top a))

/-- The masked step over 1024 keys under a known bound. -/
def bdiag1 (i : grid0.Coords) (h : k0_cond3 i = 1#1) (q : Vec F S1x1x512x128 .bf16) (K : Vec F S1x16384x128 .bf16) (T : Vec F S1x4x80x4096 .bf16) (a : Vec F S128x512 .f32) : Vec F S128x512 .f32 :=
  VecWindow.put a ![0, 0] S80x512.size (k0_pay10 q (VecWindow.window T (k0_off7 i) S1x1x80x1024.size (k0_off7_inb i h))
    (VecWindow.window K (k0_off8 i) S1x1024x128.size (k0_off8_inb i h)) (top a))

/-- The masked step over 1536 keys under a known bound. -/
def bdiag2 (i : grid0.Coords) (h : k0_cond4 i = 1#1) (q : Vec F S1x1x512x128 .bf16) (K : Vec F S1x16384x128 .bf16) (T : Vec F S1x4x80x4096 .bf16) (a : Vec F S128x512 .f32) : Vec F S128x512 .f32 :=
  VecWindow.put a ![0, 0] S80x512.size (k0_pay11 q (VecWindow.window T (k0_off9 i) S1x1x80x1536.size (k0_off9_inb i h))
    (VecWindow.window K (k0_off10 i) S1x1536x128.size (k0_off10_inb i h)) (top a))

/-- The masked step over 2048 keys under a known bound. -/
def bdiag3 (i : grid0.Coords) (h : k0_cond5 i = 1#1) (q : Vec F S1x1x512x128 .bf16) (K : Vec F S1x16384x128 .bf16) (T : Vec F S1x4x80x4096 .bf16) (a : Vec F S128x512 .f32) : Vec F S128x512 .f32 :=
  VecWindow.put a ![0, 0] S80x512.size (k0_pay12 q (VecWindow.window T (k0_off11 i) S1x1x80x2048.size (k0_off11_inb i h))
    (VecWindow.window K (k0_off12 i) S1x2048x128.size (k0_off12_inb i h)) (top a))

/-- The masked step over 2560 keys under a known bound. -/
def bdiag4 (i : grid0.Coords) (h : k0_cond6 i = 1#1) (q : Vec F S1x1x512x128 .bf16) (K : Vec F S1x16384x128 .bf16) (T : Vec F S1x4x80x4096 .bf16) (a : Vec F S128x512 .f32) : Vec F S128x512 .f32 :=
  VecWindow.put a ![0, 0] S80x512.size (k0_pay13 q (VecWindow.window T (k0_off13 i) S1x1x80x2560.size (k0_off13_inb i h))
    (VecWindow.window K (k0_off14 i) S1x2560x128.size (k0_off14_inb i h)) (top a))

/-- The masked step over 3072 keys under a known bound. -/
def bdiag5 (i : grid0.Coords) (h : k0_cond7 i = 1#1) (q : Vec F S1x1x512x128 .bf16) (K : Vec F S1x16384x128 .bf16) (T : Vec F S1x4x80x4096 .bf16) (a : Vec F S128x512 .f32) : Vec F S128x512 .f32 :=
  VecWindow.put a ![0, 0] S80x512.size (k0_pay14 q (VecWindow.window T (k0_off15 i) S1x1x80x3072.size (k0_off15_inb i h))
    (VecWindow.window K (k0_off16 i) S1x3072x128.size (k0_off16_inb i h)) (top a))

/-- The masked step over 3584 keys under a known bound. -/
def bdiag6 (i : grid0.Coords) (h : k0_cond8 i = 1#1) (q : Vec F S1x1x512x128 .bf16) (K : Vec F S1x16384x128 .bf16) (T : Vec F S1x4x80x4096 .bf16) (a : Vec F S128x512 .f32) : Vec F S128x512 .f32 :=
  VecWindow.put a ![0, 0] S80x512.size (k0_pay15 q (VecWindow.window T (k0_off17 i) S1x1x80x3584.size (k0_off17_inb i h))
    (VecWindow.window K (k0_off18 i) S1x3584x128.size (k0_off18_inb i h)) (top a))

/-- The masked step over 4096 keys under a known bound. -/
def bdiag7 (i : grid0.Coords) (h : k0_cond9 i = 1#1) (q : Vec F S1x1x512x128 .bf16) (K : Vec F S1x16384x128 .bf16) (T : Vec F S1x4x80x4096 .bf16) (a : Vec F S128x512 .f32) : Vec F S128x512 .f32 :=
  VecWindow.put a ![0, 0] S80x512.size (k0_pay16 (k0_pay6 q) (VecWindow.window T (k0_off19 i) S1x1x80x4096.size (k0_off19_inb i h))
    (VecWindow.window K (k0_off20 i) S1x4096x128.size (k0_off20_inb i h)) (top a))

/-- One unmasked step under a known bound. -/
def btrip (i : grid0.Coords) (k : Fin (k0_t1_loop i).trips) (q : Vec F S1x1x512x128 .bf16) (K : Vec F S1x16384x128 .bf16) (T : Vec F S1x4x80x4096 .bf16) (a : Vec F S128x512 .f32) : Vec F S128x512 .f32 :=
  VecWindow.put a ![0, 0] S80x512.size (k0_pay7 q (VecWindow.window T (k0_off1 i k) S1x1x80x4096.size (k0_off1_inb i k))
    (VecWindow.window K (k0_off2 i k) S1x4096x128.size (k0_off2_inb i k)) (top a))

/-- The accumulator after `n` unmasked steps. -/
def btrips (i : grid0.Coords) (q : Vec F S1x1x512x128 .bf16) (K : Vec F S1x16384x128 .bf16) (T : Vec F S1x4x80x4096 .bf16) (a : Vec F S128x512 .f32) : ℕ → Vec F S128x512 .f32
  | 0 => a
  | n + 1 => if h : n < (k0_t1_loop i).trips then btrip i ⟨n, h⟩ q K T (btrips i q K T a n) else btrips i q K T a n

theorem btrips_succ (i : grid0.Coords) (q : Vec F S1x1x512x128 .bf16) (K : Vec F S1x16384x128 .bf16) (T : Vec F S1x4x80x4096 .bf16) (a : Vec F S128x512 .f32) (k : Fin (k0_t1_loop i).trips) :
    btrips i q K T a (k.val + 1) = btrip i k q K T (btrips i q K T a k.val) := dif_pos k.isLt

/-- The masked step the point takes under a known bound. -/
def bdiag (i : grid0.Coords) (q : Vec F S1x1x512x128 .bf16) (K : Vec F S1x16384x128 .bf16) (T : Vec F S1x4x80x4096 .bf16) (a : Vec F S128x512 .f32) : Vec F S128x512 .f32 :=
  if h : k0_cond2 i = 1#1 then bdiag0 i h q K T a
  else if h : k0_cond3 i = 1#1 then bdiag1 i h q K T a
  else if h : k0_cond4 i = 1#1 then bdiag2 i h q K T a
  else if h : k0_cond5 i = 1#1 then bdiag3 i h q K T a
  else if h : k0_cond6 i = 1#1 then bdiag4 i h q K T a
  else if h : k0_cond7 i = 1#1 then bdiag5 i h q K T a
  else if h : k0_cond8 i = 1#1 then bdiag6 i h q K T a
  else if h : k0_cond9 i = 1#1 then bdiag7 i h q K T a
  else a

/-- The masked step over 512 keys with a running maximum. -/
def udiag0 (i : grid0.Coords) (h : k0_cond11 i = 1#1) (q : Vec F S1x1x512x128 .bf16) (K : Vec F S1x16384x128 .bf16) (T : Vec F S1x4x80x4096 .bf16) (s : St F) : St F :=
  { mx := k0_pay40 k0_pay1 q (VecWindow.window K (k0_off26 i) S1x512x128.size (k0_off26_inb i h)) s.mx
    acc := VecWindow.put s.acc ![0, 0] S80x512.size (k0_pay39 k0_pay1 q (VecWindow.window T (k0_off25 i) S1x1x80x512.size (k0_off25_inb i h))
      (VecWindow.window K (k0_off26 i) S1x512x128.size (k0_off26_inb i h)) s.mx (top s.acc)) }

/-- The masked step over 1024 keys with a running maximum. -/
def udiag1 (i : grid0.Coords) (h : k0_cond12 i = 1#1) (q : Vec F S1x1x512x128 .bf16) (K : Vec F S1x16384x128 .bf16) (T : Vec F S1x4x80x4096 .bf16) (s : St F) : St F :=
  { mx := k0_pay44 k0_pay1 q (VecWindow.window K (k0_off28 i) S1x1024x128.size (k0_off28_inb i h)) s.mx
    acc := VecWindow.put s.acc ![0, 0] S80x512.size (k0_pay43 k0_pay1 q (VecWindow.window T (k0_off27 i) S1x1x80x1024.size (k0_off27_inb i h))
      (VecWindow.window K (k0_off28 i) S1x1024x128.size (k0_off28_inb i h)) s.mx (top s.acc)) }

/-- The masked step over 1536 keys with a running maximum. -/
def udiag2 (i : grid0.Coords) (h : k0_cond13 i = 1#1) (q : Vec F S1x1x512x128 .bf16) (K : Vec F S1x16384x128 .bf16) (T : Vec F S1x4x80x4096 .bf16) (s : St F) : St F :=
  { mx := k0_pay48 k0_pay1 q (VecWindow.window K (k0_off30 i) S1x1536x128.size (k0_off30_inb i h)) s.mx
    acc := VecWindow.put s.acc ![0, 0] S80x512.size (k0_pay47 k0_pay1 q (VecWindow.window T (k0_off29 i) S1x1x80x1536.size (k0_off29_inb i h))
      (VecWindow.window K (k0_off30 i) S1x1536x128.size (k0_off30_inb i h)) s.mx (top s.acc)) }

/-- The masked step over 2048 keys with a running maximum. -/
def udiag3 (i : grid0.Coords) (h : k0_cond14 i = 1#1) (q : Vec F S1x1x512x128 .bf16) (K : Vec F S1x16384x128 .bf16) (T : Vec F S1x4x80x4096 .bf16) (s : St F) : St F :=
  { mx := k0_pay52 k0_pay1 q (VecWindow.window K (k0_off32 i) S1x2048x128.size (k0_off32_inb i h)) s.mx
    acc := VecWindow.put s.acc ![0, 0] S80x512.size (k0_pay51 k0_pay1 q (VecWindow.window T (k0_off31 i) S1x1x80x2048.size (k0_off31_inb i h))
      (VecWindow.window K (k0_off32 i) S1x2048x128.size (k0_off32_inb i h)) s.mx (top s.acc)) }

/-- The masked step over 2560 keys with a running maximum. -/
def udiag4 (i : grid0.Coords) (h : k0_cond15 i = 1#1) (q : Vec F S1x1x512x128 .bf16) (K : Vec F S1x16384x128 .bf16) (T : Vec F S1x4x80x4096 .bf16) (s : St F) : St F :=
  { mx := k0_pay56 k0_pay1 q (VecWindow.window K (k0_off34 i) S1x2560x128.size (k0_off34_inb i h)) s.mx
    acc := VecWindow.put s.acc ![0, 0] S80x512.size (k0_pay55 k0_pay1 q (VecWindow.window T (k0_off33 i) S1x1x80x2560.size (k0_off33_inb i h))
      (VecWindow.window K (k0_off34 i) S1x2560x128.size (k0_off34_inb i h)) s.mx (top s.acc)) }

/-- The masked step over 3072 keys with a running maximum. -/
def udiag5 (i : grid0.Coords) (h : k0_cond16 i = 1#1) (q : Vec F S1x1x512x128 .bf16) (K : Vec F S1x16384x128 .bf16) (T : Vec F S1x4x80x4096 .bf16) (s : St F) : St F :=
  { mx := k0_pay60 (k0_pay27 k0_pay1 q) (VecWindow.window K (k0_off36 i) S1x3072x128.size (k0_off36_inb i h)) s.mx
    acc := VecWindow.put s.acc ![0, 0] S80x512.size (k0_pay59 (k0_pay27 k0_pay1 q) (VecWindow.window T (k0_off35 i) S1x1x80x3072.size (k0_off35_inb i h))
      (VecWindow.window K (k0_off36 i) S1x3072x128.size (k0_off36_inb i h)) s.mx (top s.acc)) }

/-- The masked step over 3584 keys with a running maximum. -/
def udiag6 (i : grid0.Coords) (h : k0_cond17 i = 1#1) (q : Vec F S1x1x512x128 .bf16) (K : Vec F S1x16384x128 .bf16) (T : Vec F S1x4x80x4096 .bf16) (s : St F) : St F :=
  { mx := k0_pay64 (k0_pay27 k0_pay1 q) (VecWindow.window K (k0_off38 i) S1x3584x128.size (k0_off38_inb i h)) s.mx
    acc := VecWindow.put s.acc ![0, 0] S80x512.size (k0_pay63 (k0_pay27 k0_pay1 q) (VecWindow.window T (k0_off37 i) S1x1x80x3584.size (k0_off37_inb i h))
      (VecWindow.window K (k0_off38 i) S1x3584x128.size (k0_off38_inb i h)) s.mx (top s.acc)) }

/-- The masked step over 4096 keys with a running maximum. -/
def udiag7 (i : grid0.Coords) (h : k0_cond18 i = 1#1) (q : Vec F S1x1x512x128 .bf16) (K : Vec F S1x16384x128 .bf16) (T : Vec F S1x4x80x4096 .bf16) (s : St F) : St F :=
  { mx := k0_pay68 (k0_pay27 k0_pay1 q) (VecWindow.window K (k0_off40 i) S1x4096x128.size (k0_off40_inb i h)) s.mx
    acc := VecWindow.put s.acc ![0, 0] S80x512.size (k0_pay67 (k0_pay27 k0_pay1 q) (VecWindow.window T (k0_off39 i) S1x1x80x4096.size (k0_off39_inb i h))
      (VecWindow.window K (k0_off40 i) S1x4096x128.size (k0_off40_inb i h)) s.mx (top s.acc)) }

/-- One unmasked step with a running maximum. -/
def utrip (i : grid0.Coords) (k : Fin (k0_t3_loop i).trips) (q : Vec F S1x1x512x128 .bf16) (K : Vec F S1x16384x128 .bf16) (T : Vec F S1x4x80x4096 .bf16) (s : St F) : St F :=
  { mx := k0_pay32 k0_pay1 q (VecWindow.window K (k0_off22 i k) S1x4096x128.size (k0_off22_inb i k)) s.mx
    acc := VecWindow.put s.acc ![0, 0] S80x512.size (k0_pay31 k0_pay1 q (VecWindow.window T (k0_off21 i k) S1x1x80x4096.size (k0_off21_inb i k))
      (VecWindow.window K (k0_off22 i k) S1x4096x128.size (k0_off22_inb i k)) s.mx (top s.acc)) }

/-- The maximum and the accumulator after `n` unmasked steps. -/
def utrips (i : grid0.Coords) (q : Vec F S1x1x512x128 .bf16) (K : Vec F S1x16384x128 .bf16) (T : Vec F S1x4x80x4096 .bf16) (s : St F) : ℕ → St F
  | 0 => s
  | n + 1 => if h : n < (k0_t3_loop i).trips then utrip i ⟨n, h⟩ q K T (utrips i q K T s n) else utrips i q K T s n

theorem utrips_succ (i : grid0.Coords) (q : Vec F S1x1x512x128 .bf16) (K : Vec F S1x16384x128 .bf16) (T : Vec F S1x4x80x4096 .bf16) (s : St F) (k : Fin (k0_t3_loop i).trips) :
    utrips i q K T s (k.val + 1) = utrip i k q K T (utrips i q K T s k.val) := dif_pos k.isLt

/-- The masked step the point takes with a running maximum. -/
def udiag (i : grid0.Coords) (q : Vec F S1x1x512x128 .bf16) (K : Vec F S1x16384x128 .bf16) (T : Vec F S1x4x80x4096 .bf16) (s : St F) : St F :=
  if h : k0_cond11 i = 1#1 then udiag0 i h q K T s
  else if h : k0_cond12 i = 1#1 then udiag1 i h q K T s
  else if h : k0_cond13 i = 1#1 then udiag2 i h q K T s
  else if h : k0_cond14 i = 1#1 then udiag3 i h q K T s
  else if h : k0_cond15 i = 1#1 then udiag4 i h q K T s
  else if h : k0_cond16 i = 1#1 then udiag5 i h q K T s
  else if h : k0_cond17 i = 1#1 then udiag6 i h q K T s
  else if h : k0_cond18 i = 1#1 then udiag7 i h q K T s
  else s

/-- The accumulator at the end of a point under a known bound. -/
def bpoint (i : grid0.Coords) (q : Vec F S1x1x512x128 .bf16) (K : Vec F S1x16384x128 .bf16) (T : Vec F S1x4x80x4096 .bf16) : Vec F S128x512 .f32 :=
  bdiag i q K T (btrips i q K T k0_pay2 (k0_t1_loop i).trips)

/-- The maximum and the accumulator at the end of a point's steps with a running maximum. -/
def upoint (i : grid0.Coords) (q : Vec F S1x1x512x128 .bf16) (K : Vec F S1x16384x128 .bf16) (T : Vec F S1x4x80x4096 .bf16) : St F :=
  udiag i q K T (utrips i q K T ⟨k0_pay28, k0_pay2⟩ (k0_t3_loop i).trips)

/-- The accumulator with the maximum put in the row after the weights'. -/
def uend (s : St F) : Vec F S128x512 .f32 := VecWindow.put s.acc ![65, 0] S1x512.size (k0_pay69 s.mx)

/-- The lane numbers. -/
def lanes : IVec S512x128 32 := iota .tc S512x128 32 [1] iota_S512x128_d1_w32

/-- The first comparison of the body: the bound holds. -/
def bounded (x : Elt F .f32) : Prop := Scalar.cmpi .ne (Scalar.extui (Scalar.cmpf .ogt x (Scalar.ofBits .f32 0x3F000000#32))) 0#32 = 1#1
/-- The second: it does not. -/
def unbounded (x : Elt F .f32) : Prop := Scalar.cmpi .ne (Scalar.extui (Scalar.xori (Scalar.cmpf .ogt x (Scalar.ofBits .f32 0x3F000000#32)) 1#1)) 0#32 = 1#1

instance (x : Elt F .f32) : Decidable (bounded x) := inferInstanceAs (Decidable (_ = _))

theorem unbounded_iff (x : Elt F .f32) : unbounded x ↔ ¬ bounded x := by
  unfold bounded unbounded
  generalize Scalar.cmpf .ogt x (Scalar.ofBits .f32 0x3F000000#32) = b
  revert b; decide

/-- The tile of the first result: the averages and the logarithms of the sums, side by side. -/
def outO (x : Elt F .f32) (i : grid0.Coords) (q : Vec F S1x1x512x128 .bf16) (K : Vec F S1x16384x128 .bf16) (T : Vec F S1x4x80x4096 .bf16) : Vec F S1x1x512x128 .f32 :=
  if bounded x then k0_pay20 lanes k0_pay1 (k0_pay6 q) (bpoint i q K T) else k0_pay4 (k0_pay73 lanes (uend (upoint i q K T)))

/-- The tile of the second: the query tile with the logarithms, negated, in its three lanes. -/
def outQ (x : Elt F .f32) (i : grid0.Coords) (q : Vec F S1x1x512x128 .bf16) (K : Vec F S1x16384x128 .bf16) (T : Vec F S1x4x80x4096 .bf16) : Vec F S1x1x512x128 .bf16 :=
  if bounded x then
    k0_pay3 (k0_pay22 lanes k0_pay1 (k0_pay6 q) (bpoint i q K T)) (k0_pay24 lanes k0_pay1 (k0_pay6 q) (bpoint i q K T))
      (k0_pay25 lanes k0_pay1 (k0_pay6 q) (bpoint i q K T)) (k0_pay26 lanes) q
  else k0_pay5 (k0_pay72 lanes (uend (upoint i q K T))) q

end Cert.Kernel2Ideal.Hand
-- ==== Proof.K2I.Loop.lean ====
/-
  The counted loops of the forward kernel by their invariants: before trip `k` of each mode's first loop the
  accumulator (and the running maximum) holds what `k` steps make of what it held at the loop's entry; the second loop
  takes no trip at any grid point.
-/
module

public import proofs.«01_k».proof.Proof.K2I.Step
public import Idealize.ShloMosaic.Lib.Pipeline.FrameBody
public import Idealize.ShloMosaic.Lib.Pipeline.FrameSuffixV
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the run. -/
local notation "𝕄" => MT nD τ sig Unit (Elt F) ℕ (UR sig nD τ) ℕ

/-- Before trip `k` under a known bound: the operands as they were, the accumulator after `k` steps. -/
abbrev binv (c : Dev nD) (i : grid0.Coords) (arg4 : Memref sig .tc .vmem S1x16384x128 .bf16) (arg5 : Memref sig .tc .vmem S1x4x80x4096 .bf16)
    (arg9 : Memref sig .tc .vmem S128x512 .f32) (q : Vec F S1x1x512x128 .bf16)
    (X4 : BufTy.Contents (Elt F) arg4.view.ty) (X5 : BufTy.Contents (Elt F) arg5.view.ty) (G9 : BufTy.Contents (Elt F) arg9.view.ty) (k : ℕ) : sProp 𝕄 :=
  iprop((arg4.view.loc (c : Thread nD τ) ↦[arg4.view.set]{fullShare} X4) ∗ (arg5.view.loc (c : Thread nD τ) ↦[arg5.view.set]{fullShare} X5)
    ∗ (∃ f, (arg9.view.loc (c : Thread nD τ) ↦[arg9.view.set]{fullShare} f)
      ∗ ⌜arg9.view.read (Elt F) f = btrips i q (arg4.view.read (Elt F) X4) (arg5.view.read (Elt F) X5) (arg9.view.read (Elt F) G9) k⌝))

/-- Before trip `k` with a running maximum. -/
abbrev uinv (c : Dev nD) (i : grid0.Coords) (arg4 : Memref sig .tc .vmem S1x16384x128 .bf16) (arg5 : Memref sig .tc .vmem S1x4x80x4096 .bf16)
    (arg8 : Memref sig .tc .vmem S1x512 .f32) (arg9 : Memref sig .tc .vmem S128x512 .f32) (q : Vec F S1x1x512x128 .bf16)
    (X4 : BufTy.Contents (Elt F) arg4.view.ty) (X5 : BufTy.Contents (Elt F) arg5.view.ty) (G8 : BufTy.Contents (Elt F) arg8.view.ty) (G9 : BufTy.Contents (Elt F) arg9.view.ty) (k : ℕ) : sProp 𝕄 :=
  iprop((arg4.view.loc (c : Thread nD τ) ↦[arg4.view.set]{fullShare} X4) ∗ (arg5.view.loc (c : Thread nD τ) ↦[arg5.view.set]{fullShare} X5)
    ∗ (∃ f, (arg8.view.loc (c : Thread nD τ) ↦[arg8.view.set]{fullShare} f)
      ∗ ⌜arg8.view.read (Elt F) f = (utrips i q (arg4.view.read (Elt F) X4) (arg5.view.read (Elt F) X5) ⟨arg8.view.read (Elt F) G8, arg9.view.read (Elt F) G9⟩ k).mx⌝)
    ∗ (∃ f, (arg9.view.loc (c : Thread nD τ) ↦[arg9.view.set]{fullShare} f)
      ∗ ⌜arg9.view.read (Elt F) f = (utrips i q (arg4.view.read (Elt F) X4) (arg5.view.read (Elt F) X5) ⟨arg8.view.read (Elt F) G8, arg9.view.read (Elt F) G9⟩ k).acc⌝))

section loops
variable (𝒱 : Variants) (c : Dev nD) (bd : Option 𝒱.V) (E : Set ℕ) (i : grid0.Coords) (arg2 : Memref sig .tc .smem S1x1 .f32) (harg2 : arg2.IsWhole) (arg3 : Memref sig .tc .vmem S1x1x512x128 .bf16) (harg3 : arg3.IsWhole) (arg4 : Memref sig .tc .vmem S1x16384x128 .bf16) (harg4 : arg4.IsWhole) (arg5 : Memref sig .tc .vmem S1x4x80x4096 .bf16) (harg5 : arg5.IsWhole) (arg6 : Memref sig .tc .vmem S1x1x512x128 .f32) (harg6 : arg6.IsWhole) (arg7 : Memref sig .tc .vmem S1x1x512x128 .bf16) (harg7 : arg7.IsWhole) (arg8 : Memref sig .tc .vmem S1x512 .f32) (harg8 : arg8.IsWhole) (arg9 : Memref sig .tc .vmem S128x512 .f32) (harg9 : arg9.IsWhole) (v10 v11 : BitVec 32) (v19 : Vec F S1x1x512x128 .bf16)

set_option warn.classDefReducibility false in
/-- The loop of unmasked steps under a known bound. -/
def bloop (X4 : BufTy.Contents (Elt F) arg4.view.ty) (X5 : BufTy.Contents (Elt F) arg5.view.ty) (G9 : BufTy.Contents (Elt F) arg9.view.ty) :
    LoopInv (M := 𝕄) Idealize.ShloMosaic.frame (wpE (defs₀ (F := F)) 𝒱 (c : Thread nD τ) bd) E
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 v10 v11 v19) where
  inv k _ := binv c i arg4 arg5 arg9 v19 X4 X5 G9 k
  step k acc := by
    unfold k0_t1_body binv
    rw [btrips_succ]
    generalize btrips (F := F) i _ _ _ _ k.val = s
    iintro ⟨H4, H5, ⟨%f9, H9, %h9⟩⟩
    sl_exec
    sl_step
    isplitl [H4]; · iexact H4
    isplitl [H5]; · iexact H5
    iexists _; isplitl [H9]; · iexact H9
    ipureintro
    rw [View.read_writes_cons_put _ _ _ _ _ rfl, View.writes_nil, h9]
    unfold btrip
    refine congrArg _ ?_
    rw [← h9]; rfl

/-- That loop at the head of a program. -/
theorem bloop_run (X4 : BufTy.Contents (Elt F) arg4.view.ty) (X5 : BufTy.Contents (Elt F) arg5.view.ty) (G9 : BufTy.Contents (Elt F) arg9.view.ty)
    {α : Type} (kk : Unit → Prog (TpuEff nD τ sig (Elt F) Λ₀ .tc) α) (R : α → sProp 𝕄) :
    iprop((arg4.view.loc (c : Thread nD τ) ↦[arg4.view.set]{fullShare} X4) ∗ (arg5.view.loc (c : Thread nD τ) ↦[arg5.view.set]{fullShare} X5)
      ∗ (arg9.view.loc (c : Thread nD τ) ↦[arg9.view.set]{fullShare} G9)) ⊢ iprop(
      (∀ acc, binv c i arg4 arg5 arg9 v19 X4 X5 G9 (k0_t1_loop i).trips -∗ wp Idealize.ShloMosaic.frame (wpE (defs₀ (F := F)) 𝒱 (c : Thread nD τ) bd) E (kk acc) R)
      -∗ wp Idealize.ShloMosaic.frame (wpE (defs₀ (F := F)) 𝒱 (c : Thread nD τ) bd) E
        (Scf.Loop.for (k0_t1_loop i) (k0_t1_ok i) () (k0_t1_body (F := F) i arg2 harg2 arg3 harg3 arg4 harg4 arg5 harg5 arg6 harg6 arg7 harg7 arg8 harg8 arg9 harg9 v10 v11 v19) >>= kk) R) := by
  refine BI.BIBase.Entails.trans ?_ (exec_loop Idealize.ShloMosaic.frame (wpE (defs₀ (F := F)) 𝒱 (c : Thread nD τ) bd) E _ _ _ _ _ _
      (bloop 𝒱 c bd E i arg2 harg2 arg3 harg3 arg4 harg4 arg5 harg5 arg6 harg6 arg7 harg7 arg8 harg8 arg9 harg9 v10 v11 v19 X4 X5 G9))
  show _ ⊢ binv c i arg4 arg5 arg9 v19 X4 X5 G9 0
  unfold binv
  iintro ⟨H4, H5, H9⟩
  isplitl [H4]; · iexact H4
  isplitl [H5]; · iexact H5
  iexists _; isplitl [H9]; · iexact H9
  ipureintro; rfl

/-- The second loop's bounds meet at every grid point. -/
theorem b_no_trips : ∀ i : grid0.Coords, (k0_t2_loop i).trips = 0 := by decide +kernel

set_option warn.classDefReducibility false in
/-- The loop that takes no trip. -/
@[sl_loop] def bloop2 :
    LoopInv (M := 𝕄) Idealize.ShloMosaic.frame (wpE (defs₀ (F := F)) 𝒱 (c : Thread nD τ) bd) E
      (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 v10 v11 v19) where
  inv k _ := iprop(emp)
  step k acc := absurd k.isLt (by
    have h : Scf.trips (k0_t2_loop i).lb (k0_t2_loop i).ub (k0_t2_loop i).st = 0 := b_no_trips i
    omega)

set_option warn.classDefReducibility false in
/-- The loop of unmasked steps with a running maximum. -/
def uloop (X4 : BufTy.Contents (Elt F) arg4.view.ty) (X5 : BufTy.Contents (Elt F) arg5.view.ty) (G8 : BufTy.Contents (Elt F) arg8.view.ty) (G9 : BufTy.Contents (Elt F) arg9.view.ty) :
    LoopInv (M := 𝕄) Idealize.ShloMosaic.frame (wpE (defs₀ (F := F)) 𝒱 (c : Thread nD τ) bd) E
      (k0_t3_loop i).lb (k0_t3_loop i).ub (k0_t3_loop i).st (k0_t3_ok i) () (k0_t3_body (F := F) i arg2 harg2 arg3 harg3 arg4 harg4 arg5 harg5 arg6 harg6 arg7 harg7 arg8 harg8 arg9 harg9 k0_pay1 v10 v11 v19) where
  inv k _ := uinv c i arg4 arg5 arg8 arg9 v19 X4 X5 G8 G9 k
  step k acc := by
    unfold k0_t3_body uinv
    rw [utrips_succ]
    generalize utrips (F := F) i _ _ _ _ k.val = s
    iintro ⟨H4, H5, ⟨%f8, H8, %h8⟩, ⟨%f9, H9, %h9⟩⟩
    sl_exec
    sl_step
    isplitl [H4]; · iexact H4
    isplitl [H5]; · iexact H5
    isplitl [H8]
    · iexists _; isplitl [H8]; · iexact H8
      ipureintro
      rw [View.read_writes_full]
      unfold utrip
      dsimp only
      rw [← h8]
      exact congrArg (k0_pay32 k0_pay1 v19 _) (View.readAt_full arg8.view f8 inb_S1x512_S1x512_0_0)
    iexists _; isplitl [H9]; · iexact H9
    ipureintro
    rw [View.read_writes_cons_put _ _ _ _ _ rfl, View.writes_nil, h9]
    unfold utrip
    refine congrArg _ ?_
    rw [← h9, ← h8]
    exact congrArg (fun z => k0_pay31 k0_pay1 v19 _ _ z _) (View.readAt_full arg8.view f8 inb_S1x512_S1x512_0_0)

/-- That loop at the head of a program. -/
theorem uloop_run (X4 : BufTy.Contents (Elt F) arg4.view.ty) (X5 : BufTy.Contents (Elt F) arg5.view.ty) (G8 : BufTy.Contents (Elt F) arg8.view.ty) (G9 : BufTy.Contents (Elt F) arg9.view.ty)
    {α : Type} (kk : Unit → Prog (TpuEff nD τ sig (Elt F) Λ₀ .tc) α) (R : α → sProp 𝕄) :
    iprop((arg4.view.loc (c : Thread nD τ) ↦[arg4.view.set]{fullShare} X4) ∗ (arg5.view.loc (c : Thread nD τ) ↦[arg5.view.set]{fullShare} X5)
      ∗ (arg8.view.loc (c : Thread nD τ) ↦[arg8.view.set]{fullShare} G8) ∗ (arg9.view.loc (c : Thread nD τ) ↦[arg9.view.set]{fullShare} G9)) ⊢ iprop(
      (∀ acc, uinv c i arg4 arg5 arg8 arg9 v19 X4 X5 G8 G9 (k0_t3_loop i).trips -∗ wp Idealize.ShloMosaic.frame (wpE (defs₀ (F := F)) 𝒱 (c : Thread nD τ) bd) E (kk acc) R)
      -∗ wp Idealize.ShloMosaic.frame (wpE (defs₀ (F := F)) 𝒱 (c : Thread nD τ) bd) E
        (Scf.Loop.for (k0_t3_loop i) (k0_t3_ok i) () (k0_t3_body (F := F) i arg2 harg2 arg3 harg3 arg4 harg4 arg5 harg5 arg6 harg6 arg7 harg7 arg8 harg8 arg9 harg9 k0_pay1 v10 v11 v19) >>= kk) R) := by
  refine BI.BIBase.Entails.trans ?_ (exec_loop Idealize.ShloMosaic.frame (wpE (defs₀ (F := F)) 𝒱 (c : Thread nD τ) bd) E _ _ _ _ _ _
      (uloop 𝒱 c bd E i arg2 harg2 arg3 harg3 arg4 harg4 arg5 harg5 arg6 harg6 arg7 harg7 arg8 harg8 arg9 harg9 v10 v11 v19 X4 X5 G8 G9))
  show _ ⊢ uinv c i arg4 arg5 arg8 arg9 v19 X4 X5 G8 G9 0
  unfold uinv
  iintro ⟨H4, H5, H8, H9⟩
  isplitl [H4]; · iexact H4
  isplitl [H5]; · iexact H5
  isplitl [H8]
  · iexists _; isplitl [H8]; · iexact H8
    ipureintro; rfl
  iexists _; isplitl [H9]; · iexact H9
  ipureintro; rfl

/-- The second loop's bounds meet at every grid point. -/
theorem u_no_trips : ∀ i : grid0.Coords, (k0_t4_loop i).trips = 0 := by decide +kernel

set_option warn.classDefReducibility false in
/-- The loop that takes no trip. -/
@[sl_loop] def uloop2 (𝒱 : Variants) (c : Dev nD) (bd : Option 𝒱.V) (E : Set ℕ) (i : grid0.Coords) (arg2 : Memref sig .tc .smem S1x1 .f32) (harg2 : arg2.IsWhole) (arg3 : Memref sig .tc .vmem S1x1x512x128 .bf16) (harg3 : arg3.IsWhole) (arg4 : Memref sig .tc .vmem S1x16384x128 .bf16) (harg4 : arg4.IsWhole) (arg5 : Memref sig .tc .vmem S1x4x80x4096 .bf16) (harg5 : arg5.IsWhole) (arg6 : Memref sig .tc .vmem S1x1x512x128 .f32) (harg6 : arg6.IsWhole) (arg7 : Memref sig .tc .vmem S1x1x512x128 .bf16) (harg7 : arg7.IsWhole) (arg8 : Memref sig .tc .vmem S1x512 .f32) (harg8 : arg8.IsWhole) (arg9 : Memref sig .tc .vmem S128x512 .f32) (harg9 : arg9.IsWhole) (v5 : IVec S512x128 1) (v10 v11 : BitVec 32) (v19 : Vec F S1x1x512x128 .bf16) :
    LoopInv (M := 𝕄) Idealize.ShloMosaic.frame (wpE (defs₀ (F := F)) 𝒱 (c : Thread nD τ) bd) E
      (k0_t4_loop i).lb (k0_t4_loop i).ub (k0_t4_loop i).st (k0_t4_ok i) () (k0_t4_body (F := F) i arg2 harg2 arg3 harg3 arg4 harg4 arg5 harg5 arg6 harg6 arg7 harg7 arg8 harg8 arg9 harg9 v5 v10 v11 v19) where
  inv k _ := iprop(emp)
  step k acc := absurd k.isLt (by
    have h : Scf.trips (k0_t4_loop i).lb (k0_t4_loop i).ub (k0_t4_loop i).st = 0 := u_no_trips i
    omega)

end loops

end Cert.Kernel2Ideal.Hand
-- ==== Proof.K2I.Point.lean ====
/-
  The forward kernel at one grid point: what a run starts with and ends with.  Whether the bound holds and the tile's place in its group of eight decide the
  body's conditionals; under each the body runs once, and all say the same: the operands as they were, the two result
  blocks at this tile's results.
-/
module

public import proofs.«01_k».proof.Proof.K2I.Loop
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The running maximum and the accumulator. -/
abbrev sc0 : Memref sig .tc .vmem S1x512 .f32 := Memref.whole cc0_scratch0
abbrev sc1 : Memref sig .tc .vmem S128x512 .f32 := Memref.whole cc0_scratch1

/-- The word of a one-word block. -/
def word (X : Vec F S1x1 .f32) : Elt F .f32 := X (ix2 0 0)

theorem word_at (arg2 : Memref sig .tc .smem S1x1 .f32) (f : BufTy.Contents (Elt F) arg2.view.ty) :
    arg2.view.readAt (Elt F) (Rect.unit (s := S1x1) ![0, 0] S1x1.size inb_S1x1_S1x1_0_0).toLoadRect f (Shape.Idx.first (by decide)) = word (arg2.view.read (Elt F) f) := by
  unfold word
  rw [View.readAt_full]
  congr 1
  funext a
  fin_cases a <;> exact Subsingleton.elim (α := Fin 1) _ _

/-- What a point's kernel starts with. -/
def pre (c : Dev nD) (arg2 : Memref sig .tc .smem S1x1 .f32) (arg3 : Memref sig .tc .vmem S1x1x512x128 .bf16) (arg4 : Memref sig .tc .vmem S1x16384x128 .bf16) (arg5 : Memref sig .tc .vmem S1x4x80x4096 .bf16) (arg6 : Memref sig .tc .vmem S1x1x512x128 .f32) (arg7 : Memref sig .tc .vmem S1x1x512x128 .bf16) (X : Vec F S1x1 .f32) (Q : Vec F S1x1x512x128 .bf16) (K : Vec F S1x16384x128 .bf16) (T : Vec F S1x4x80x4096 .bf16) (W : Waits sig Unit) : sProp 𝕄 :=
  iprop(owns (c : Thread nD τ) arg2 fullShare X ∗ owns (c : Thread nD τ) arg3 fullShare Q ∗ owns (c : Thread nD τ) arg4 fullShare K ∗ owns (c : Thread nD τ) arg5 fullShare T
    ∗ (∃ d, owns (c : Thread nD τ) arg6 fullShare d) ∗ (∃ d, owns (c : Thread nD τ) arg7 fullShare d)
    ∗ (∃ d, owns (c : Thread nD τ) sc0 fullShare d) ∗ (∃ d, owns (c : Thread nD τ) sc1 fullShare d) ∗ owes (c : Thread nD τ) 0 W)

/-- What it ends with. -/
def post (c : Dev nD) (arg2 : Memref sig .tc .smem S1x1 .f32) (arg3 : Memref sig .tc .vmem S1x1x512x128 .bf16) (arg4 : Memref sig .tc .vmem S1x16384x128 .bf16) (arg5 : Memref sig .tc .vmem S1x4x80x4096 .bf16) (arg6 : Memref sig .tc .vmem S1x1x512x128 .f32) (arg7 : Memref sig .tc .vmem S1x1x512x128 .bf16) (X : Vec F S1x1 .f32) (Q : Vec F S1x1x512x128 .bf16) (K : Vec F S1x16384x128 .bf16) (T : Vec F S1x4x80x4096 .bf16) (O : Vec F S1x1x512x128 .f32) (R : Vec F S1x1x512x128 .bf16) (W : Waits sig Unit) : sProp 𝕄 :=
  iprop(owns (c : Thread nD τ) arg2 fullShare X ∗ owns (c : Thread nD τ) arg3 fullShare Q ∗ owns (c : Thread nD τ) arg4 fullShare K ∗ owns (c : Thread nD τ) arg5 fullShare T
    ∗ owns (c : Thread nD τ) arg6 fullShare O ∗ owns (c : Thread nD τ) arg7 fullShare R
    ∗ (∃ d, owns (c : Thread nD τ) sc0 fullShare d) ∗ (∃ d, owns (c : Thread nD τ) sc1 fullShare d) ∗ owes (c : Thread nD τ) 0 W)

/-- The point's run: from `pre` the kernel reaches `post` at this tile's results. -/
abbrev Runs (c : Dev nD) (i : grid0.Coords) (arg2 : Memref sig .tc .smem S1x1 .f32) (harg2 : arg2.IsWhole) (arg3 : Memref sig .tc .vmem S1x1x512x128 .bf16) (harg3 : arg3.IsWhole) (arg4 : Memref sig .tc .vmem S1x16384x128 .bf16) (harg4 : arg4.IsWhole) (arg5 : Memref sig .tc .vmem S1x4x80x4096 .bf16) (harg5 : arg5.IsWhole) (arg6 : Memref sig .tc .vmem S1x1x512x128 .f32) (harg6 : arg6.IsWhole) (arg7 : Memref sig .tc .vmem S1x1x512x128 .bf16) (harg7 : arg7.IsWhole)  (X : Vec F S1x1 .f32) (Q : Vec F S1x1x512x128 .bf16) (K : Vec F S1x16384x128 .bf16) (T : Vec F S1x4x80x4096 .bf16) : Prop :=
  ∀ (W : Waits sig Unit) (R : PUnit → sProp 𝕄),
    iprop(pre c arg2 arg3 arg4 arg5 arg6 arg7 X Q K T W
      ∗ (post c arg2 arg3 arg4 arg5 arg6 arg7 X Q K T (outO (word X) i Q K T) (outQ (word X) i Q K T) W -∗ R ⟨⟩))
    ⊢ wp frame (wpE (defs₀ (F := F)) Variants.none (c : Thread nD τ) none) Set.univ (cc0_flash_fwd (F := F) i arg2 harg2 arg3 harg3 arg4 harg4 arg5 harg5 arg6 harg6 arg7 harg7  sc0 (Memref.isWhole_whole _) sc1 (Memref.isWhole_whole _)) R

/-- The conditional of place `n` of the group holds and no other. -/
def placeB (i : grid0.Coords) (n : ℕ) : Prop :=
  (k0_cond2 i = 1#1 ↔ n = 0) ∧ (k0_cond3 i = 1#1 ↔ n = 1) ∧ (k0_cond4 i = 1#1 ↔ n = 2) ∧ (k0_cond5 i = 1#1 ↔ n = 3) ∧ (k0_cond6 i = 1#1 ↔ n = 4) ∧ (k0_cond7 i = 1#1 ↔ n = 5) ∧ (k0_cond8 i = 1#1 ↔ n = 6) ∧ (k0_cond9 i = 1#1 ↔ n = 7)
def placeU (i : grid0.Coords) (n : ℕ) : Prop :=
  (k0_cond11 i = 1#1 ↔ n = 0) ∧ (k0_cond12 i = 1#1 ↔ n = 1) ∧ (k0_cond13 i = 1#1 ↔ n = 2) ∧ (k0_cond14 i = 1#1 ↔ n = 3) ∧ (k0_cond15 i = 1#1 ↔ n = 4) ∧ (k0_cond16 i = 1#1 ↔ n = 5) ∧ (k0_cond17 i = 1#1 ↔ n = 6) ∧ (k0_cond18 i = 1#1 ↔ n = 7)

instance (i : grid0.Coords) (n : ℕ) : Decidable (placeB i n) := by unfold placeB; infer_instance
instance (i : grid0.Coords) (n : ℕ) : Decidable (placeU i n) := by unfold placeU; infer_instance

/-- A buffer held, as a block of what it reads. -/
theorem own_read {sp : Space} {s : Shape} {e : EltTy} (c : Dev nD) (a : Memref sig .tc sp s e) (f : BufTy.Contents (Elt F) a.view.ty) :
    iprop(a.view.loc (c : Thread nD τ) ↦[a.view.set]{fullShare} f : sProp 𝕄) ⊢ owns (c : Thread nD τ) a fullShare (a.view.read (Elt F) f) := by
  unfold owns
  iintro H
  iexists _; isplitr; swap; (iexact H); ipureintro; rfl

/-- A buffer held, as a block of something. -/
theorem own_some {sp : Space} {s : Shape} {e : EltTy} (c : Dev nD) (a : Memref sig .tc sp s e) (f : BufTy.Contents (Elt F) a.view.ty) :
    iprop(a.view.loc (c : Thread nD τ) ↦[a.view.set]{fullShare} f : sProp 𝕄) ⊢ iprop(∃ d, owns (c : Thread nD τ) a fullShare d) := by
  iintro H
  iexists _
  iapply own_read; iexact H

/-- A query tile read whole. -/
theorem q_read (arg3 : Memref sig .tc .vmem S1x1x512x128 .bf16) (f3 : BufTy.Contents (Elt F) arg3.view.ty) :
    arg3.view.readAt (Elt F) (Rect.unit (s := S1x1x512x128) ![0, 0, 0, 0] S1x1x512x128.size inb_S1x1x512x128_S1x1x512x128_0_0_0_0).toLoadRect f3 = arg3.view.read (Elt F) f3 := View.readAt_full _ _ _

/-- The accumulator cleared. -/
theorem z_read (f9 : BufTy.Contents (Elt F) sc1.view.ty) :
    View.read (Elt F) sc1.view ((View.whole cc0_scratch1).writes (Elt F) f9 [⟨Rect.unit (s := S128x512) ![0, 0] S128x512.size inb_S128x512_S128x512_0_0, k0_pay2 (F := F)⟩]) = k0_pay2 := View.read_writes_full _ _ _ _ _

/-- The running maximum cleared. -/
theorem m_read (f8 : BufTy.Contents (Elt F) sc0.view.ty) :
    View.read (Elt F) sc0.view ((View.whole cc0_scratch0).writes (Elt F) f8 [⟨Rect.unit (s := S1x512) ![0, 0] S1x512.size inb_S1x512_S1x512_0_0, k0_pay28 (F := F)⟩]) = k0_pay28 := View.read_writes_full _ _ _ _ _

/-- The running maximum read whole. -/
theorem m_whole (f8 : BufTy.Contents (Elt F) sc0.view.ty) :
    sc0.view.readAt (Elt F) (Rect.unit (s := S1x512) ![0, 0] S1x512.size inb_S1x512_S1x512_0_0).toLoadRect f8 = sc0.view.read (Elt F) f8 := View.readAt_full _ _ _

/-- The accumulator after the whole groups, under a known bound. -/
theorem b_end {i : grid0.Coords} {q q' : Vec F S1x1x512x128 .bf16} {K : Vec F S1x16384x128 .bf16} {T : Vec F S1x4x80x4096 .bf16} {z z' A : Vec F S128x512 .f32}
    (e : q = q') (hz : z = z') (h : A = btrips i q K T z (k0_t1_loop i).trips) : btrips i q' K T z' (k0_t1_loop i).trips = A := by
  subst e hz; exact h.symm

/-- The maximum and the accumulator after the whole groups. -/
theorem u_end {i : grid0.Coords} {q q' : Vec F S1x1x512x128 .bf16} {K : Vec F S1x16384x128 .bf16} {T : Vec F S1x4x80x4096 .bf16} {y y' M : Vec F S1x512 .f32} {z z' A : Vec F S128x512 .f32}
    (e : q = q') (hy : y = y') (hz : z = z') (h8 : M = (utrips i q K T ⟨y, z⟩ (k0_t3_loop i).trips).mx) (h9 : A = (utrips i q K T ⟨y, z⟩ (k0_t3_loop i).trips).acc) :
    utrips i q' K T ⟨y', z'⟩ (k0_t3_loop i).trips = ⟨M, A⟩ := by
  subst e hy hz h8 h9; rfl

end Cert.Kernel2Ideal.Hand
-- ==== Proof.K2I.BodyB.lean ====
/-
  The forward kernel run at one grid point under a known bound.  The tile's place in its group of eight decides the rest
  of the body's conditionals; each place's run ends with this tile's results.
-/
module

public import proofs.«01_k».proof.Proof.K2I.Point
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .smem S1x1 .f32) (harg2 : arg2.IsWhole) (arg3 : Memref sig .tc .vmem S1x1x512x128 .bf16) (harg3 : arg3.IsWhole) (arg4 : Memref sig .tc .vmem S1x16384x128 .bf16) (harg4 : arg4.IsWhole) (arg5 : Memref sig .tc .vmem S1x4x80x4096 .bf16) (harg5 : arg5.IsWhole) (arg6 : Memref sig .tc .vmem S1x1x512x128 .f32) (harg6 : arg6.IsWhole) (arg7 : Memref sig .tc .vmem S1x1x512x128 .bf16) (harg7 : arg7.IsWhole)  (X : Vec F S1x1 .f32) (Q : Vec F S1x1x512x128 .bf16) (K : Vec F S1x16384x128 .bf16) (T : Vec F S1x4x80x4096 .bf16)

set_option maxHeartbeats 400000 in
/-- Place 0 of the group, under a known bound. -/
theorem run_b0 (hb : bounded (word X)) (hp : placeB i 0) :
    Runs c i arg2 harg2 arg3 harg3 arg4 harg4 arg5 harg5 arg6 harg6 arg7 harg7  X Q K T := by
  intro W R
  simp only [placeB, Nat.reduceEqDiff, iff_true, iff_false] at hp
  obtain ⟨h0, h1, h2, h3, h4, h5, h6, h7⟩ := hp
  have hu : ¬ unbounded (word X) := fun h => (unbounded_iff _).1 h hb
  unfold outO outQ
  rw [if_pos hb, if_pos hb]
  unfold bpoint bdiag
  rw [dif_pos h0]
  unfold bdiag0
  simp only [cc0_flash_fwd_eq_skeleton]; unfold cc0_flash_fwd_skel
  simp only [k0_part1_eq_skeleton, k0_part2_eq_skeleton]; unfold k0_part1_skel k0_part2_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_b0.sl.r c arg2 f2 = word (arg2.view.read (Elt F) f2) from word_at arg2 f2]
  sl_exec
  simp only [bind_assoc]
  iapply (bloop_run (F := F)) $$ [H4 H5 H9]
  · isplitl [H4]; · iexact H4
    isplitl [H5]; · iexact H5
    iexact H9
  iintro %acc HI
  unfold binv
  icases HI with ⟨H4, H5, %f9', H9, %h9⟩
  sl_exec
  sl_step
  have e3 := q_read arg3 f3
  have hB := b_end e3 (z_read f9) h9
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg₂ (fun a b => k0_pay20 lanes k0_pay1 (k0_pay6 a) b) e3 ((View.readAt_full _ _ _).trans ?_)
    unfold run_b0.sl.H9_1_1
    rw [View.read_writes_cons_put _ _ _ _ _ rfl, View.writes_nil, e3]
    rfl
  isplitl [H7]
  · unfold owns; iexists _; isplitr; swap; (iexact H7); ipureintro
    rw [View.read_writes_full, hB]
    refine congrArg₂ (fun a b => k0_pay3 (k0_pay22 lanes k0_pay1 (k0_pay6 a) b) (k0_pay24 lanes k0_pay1 (k0_pay6 a) b) (k0_pay25 lanes k0_pay1 (k0_pay6 a) b) (k0_pay26 lanes) a) e3 ((View.readAt_full _ _ _).trans ?_)
    unfold run_b0.sl.H9_1_1
    rw [View.read_writes_cons_put _ _ _ _ _ rfl, View.writes_nil, e3]
    rfl
  isplitl [H8]; · iapply own_some; iexact H8
  isplitl [H9]; · iapply own_some; iexact H9
  iexact HW

set_option maxHeartbeats 400000 in
/-- Place 1 of the group, under a known bound. -/
theorem run_b1 (hb : bounded (word X)) (hp : placeB i 1) :
    Runs c i arg2 harg2 arg3 harg3 arg4 harg4 arg5 harg5 arg6 harg6 arg7 harg7  X Q K T := by
  intro W R
  simp only [placeB, Nat.reduceEqDiff, iff_true, iff_false] at hp
  obtain ⟨h0, h1, h2, h3, h4, h5, h6, h7⟩ := hp
  have hu : ¬ unbounded (word X) := fun h => (unbounded_iff _).1 h hb
  unfold outO outQ
  rw [if_pos hb, if_pos hb]
  unfold bpoint bdiag
  rw [dif_neg h0, dif_pos h1]
  unfold bdiag1
  simp only [cc0_flash_fwd_eq_skeleton]; unfold cc0_flash_fwd_skel
  simp only [k0_part1_eq_skeleton, k0_part2_eq_skeleton]; unfold k0_part1_skel k0_part2_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_b1.sl.r c arg2 f2 = word (arg2.view.read (Elt F) f2) from word_at arg2 f2]
  sl_exec
  simp only [bind_assoc]
  iapply (bloop_run (F := F)) $$ [H4 H5 H9]
  · isplitl [H4]; · iexact H4
    isplitl [H5]; · iexact H5
    iexact H9
  iintro %acc HI
  unfold binv
  icases HI with ⟨H4, H5, %f9', H9, %h9⟩
  sl_exec
  sl_step
  have e3 := q_read arg3 f3
  have hB := b_end e3 (z_read f9) h9
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg₂ (fun a b => k0_pay20 lanes k0_pay1 (k0_pay6 a) b) e3 ((View.readAt_full _ _ _).trans ?_)
    unfold run_b1.sl.H9_1_1
    rw [View.read_writes_cons_put _ _ _ _ _ rfl, View.writes_nil, e3]
    rfl
  isplitl [H7]
  · unfold owns; iexists _; isplitr; swap; (iexact H7); ipureintro
    rw [View.read_writes_full, hB]
    refine congrArg₂ (fun a b => k0_pay3 (k0_pay22 lanes k0_pay1 (k0_pay6 a) b) (k0_pay24 lanes k0_pay1 (k0_pay6 a) b) (k0_pay25 lanes k0_pay1 (k0_pay6 a) b) (k0_pay26 lanes) a) e3 ((View.readAt_full _ _ _).trans ?_)
    unfold run_b1.sl.H9_1_1
    rw [View.read_writes_cons_put _ _ _ _ _ rfl, View.writes_nil, e3]
    rfl
  isplitl [H8]; · iapply own_some; iexact H8
  isplitl [H9]; · iapply own_some; iexact H9
  iexact HW

set_option maxHeartbeats 400000 in
/-- Place 2 of the group, under a known bound. -/
theorem run_b2 (hb : bounded (word X)) (hp : placeB i 2) :
    Runs c i arg2 harg2 arg3 harg3 arg4 harg4 arg5 harg5 arg6 harg6 arg7 harg7  X Q K T := by
  intro W R
  simp only [placeB, Nat.reduceEqDiff, iff_true, iff_false] at hp
  obtain ⟨h0, h1, h2, h3, h4, h5, h6, h7⟩ := hp
  have hu : ¬ unbounded (word X) := fun h => (unbounded_iff _).1 h hb
  unfold outO outQ
  rw [if_pos hb, if_pos hb]
  unfold bpoint bdiag
  rw [dif_neg h0, dif_neg h1, dif_pos h2]
  unfold bdiag2
  simp only [cc0_flash_fwd_eq_skeleton]; unfold cc0_flash_fwd_skel
  simp only [k0_part1_eq_skeleton, k0_part2_eq_skeleton]; unfold k0_part1_skel k0_part2_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_b2.sl.r c arg2 f2 = word (arg2.view.read (Elt F) f2) from word_at arg2 f2]
  sl_exec
  simp only [bind_assoc]
  iapply (bloop_run (F := F)) $$ [H4 H5 H9]
  · isplitl [H4]; · iexact H4
    isplitl [H5]; · iexact H5
    iexact H9
  iintro %acc HI
  unfold binv
  icases HI with ⟨H4, H5, %f9', H9, %h9⟩
  sl_exec
  sl_step
  have e3 := q_read arg3 f3
  have hB := b_end e3 (z_read f9) h9
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg₂ (fun a b => k0_pay20 lanes k0_pay1 (k0_pay6 a) b) e3 ((View.readAt_full _ _ _).trans ?_)
    unfold run_b2.sl.H9_1_1
    rw [View.read_writes_cons_put _ _ _ _ _ rfl, View.writes_nil, e3]
    rfl
  isplitl [H7]
  · unfold owns; iexists _; isplitr; swap; (iexact H7); ipureintro
    rw [View.read_writes_full, hB]
    refine congrArg₂ (fun a b => k0_pay3 (k0_pay22 lanes k0_pay1 (k0_pay6 a) b) (k0_pay24 lanes k0_pay1 (k0_pay6 a) b) (k0_pay25 lanes k0_pay1 (k0_pay6 a) b) (k0_pay26 lanes) a) e3 ((View.readAt_full _ _ _).trans ?_)
    unfold run_b2.sl.H9_1_1
    rw [View.read_writes_cons_put _ _ _ _ _ rfl, View.writes_nil, e3]
    rfl
  isplitl [H8]; · iapply own_some; iexact H8
  isplitl [H9]; · iapply own_some; iexact H9
  iexact HW

set_option maxHeartbeats 400000 in
/-- Place 3 of the group, under a known bound. -/
theorem run_b3 (hb : bounded (word X)) (hp : placeB i 3) :
    Runs c i arg2 harg2 arg3 harg3 arg4 harg4 arg5 harg5 arg6 harg6 arg7 harg7  X Q K T := by
  intro W R
  simp only [placeB, Nat.reduceEqDiff, iff_true, iff_false] at hp
  obtain ⟨h0, h1, h2, h3, h4, h5, h6, h7⟩ := hp
  have hu : ¬ unbounded (word X) := fun h => (unbounded_iff _).1 h hb
  unfold outO outQ
  rw [if_pos hb, if_pos hb]
  unfold bpoint bdiag
  rw [dif_neg h0, dif_neg h1, dif_neg h2, dif_pos h3]
  unfold bdiag3
  simp only [cc0_flash_fwd_eq_skeleton]; unfold cc0_flash_fwd_skel
  simp only [k0_part1_eq_skeleton, k0_part2_eq_skeleton]; unfold k0_part1_skel k0_part2_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_b3.sl.r c arg2 f2 = word (arg2.view.read (Elt F) f2) from word_at arg2 f2]
  sl_exec
  simp only [bind_assoc]
  iapply (bloop_run (F := F)) $$ [H4 H5 H9]
  · isplitl [H4]; · iexact H4
    isplitl [H5]; · iexact H5
    iexact H9
  iintro %acc HI
  unfold binv
  icases HI with ⟨H4, H5, %f9', H9, %h9⟩
  sl_exec
  sl_step
  have e3 := q_read arg3 f3
  have hB := b_end e3 (z_read f9) h9
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg₂ (fun a b => k0_pay20 lanes k0_pay1 (k0_pay6 a) b) e3 ((View.readAt_full _ _ _).trans ?_)
    unfold run_b3.sl.H9_1_1
    rw [View.read_writes_cons_put _ _ _ _ _ rfl, View.writes_nil, e3]
    rfl
  isplitl [H7]
  · unfold owns; iexists _; isplitr; swap; (iexact H7); ipureintro
    rw [View.read_writes_full, hB]
    refine congrArg₂ (fun a b => k0_pay3 (k0_pay22 lanes k0_pay1 (k0_pay6 a) b) (k0_pay24 lanes k0_pay1 (k0_pay6 a) b) (k0_pay25 lanes k0_pay1 (k0_pay6 a) b) (k0_pay26 lanes) a) e3 ((View.readAt_full _ _ _).trans ?_)
    unfold run_b3.sl.H9_1_1
    rw [View.read_writes_cons_put _ _ _ _ _ rfl, View.writes_nil, e3]
    rfl
  isplitl [H8]; · iapply own_some; iexact H8
  isplitl [H9]; · iapply own_some; iexact H9
  iexact HW

set_option maxHeartbeats 400000 in
/-- Place 4 of the group, under a known bound. -/
theorem run_b4 (hb : bounded (word X)) (hp : placeB i 4) :
    Runs c i arg2 harg2 arg3 harg3 arg4 harg4 arg5 harg5 arg6 harg6 arg7 harg7  X Q K T := by
  intro W R
  simp only [placeB, Nat.reduceEqDiff, iff_true, iff_false] at hp
  obtain ⟨h0, h1, h2, h3, h4, h5, h6, h7⟩ := hp
  have hu : ¬ unbounded (word X) := fun h => (unbounded_iff _).1 h hb
  unfold outO outQ
  rw [if_pos hb, if_pos hb]
  unfold bpoint bdiag
  rw [dif_neg h0, dif_neg h1, dif_neg h2, dif_neg h3, dif_pos h4]
  unfold bdiag4
  simp only [cc0_flash_fwd_eq_skeleton]; unfold cc0_flash_fwd_skel
  simp only [k0_part1_eq_skeleton, k0_part2_eq_skeleton]; unfold k0_part1_skel k0_part2_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_b4.sl.r c arg2 f2 = word (arg2.view.read (Elt F) f2) from word_at arg2 f2]
  sl_exec
  simp only [bind_assoc]
  iapply (bloop_run (F := F)) $$ [H4 H5 H9]
  · isplitl [H4]; · iexact H4
    isplitl [H5]; · iexact H5
    iexact H9
  iintro %acc HI
  unfold binv
  icases HI with ⟨H4, H5, %f9', H9, %h9⟩
  sl_exec
  sl_step
  have e3 := q_read arg3 f3
  have hB := b_end e3 (z_read f9) h9
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg₂ (fun a b => k0_pay20 lanes k0_pay1 (k0_pay6 a) b) e3 ((View.readAt_full _ _ _).trans ?_)
    unfold run_b4.sl.H9_1_1
    rw [View.read_writes_cons_put _ _ _ _ _ rfl, View.writes_nil, e3]
    rfl
  isplitl [H7]
  · unfold owns; iexists _; isplitr; swap; (iexact H7); ipureintro
    rw [View.read_writes_full, hB]
    refine congrArg₂ (fun a b => k0_pay3 (k0_pay22 lanes k0_pay1 (k0_pay6 a) b) (k0_pay24 lanes k0_pay1 (k0_pay6 a) b) (k0_pay25 lanes k0_pay1 (k0_pay6 a) b) (k0_pay26 lanes) a) e3 ((View.readAt_full _ _ _).trans ?_)
    unfold run_b4.sl.H9_1_1
    rw [View.read_writes_cons_put _ _ _ _ _ rfl, View.writes_nil, e3]
    rfl
  isplitl [H8]; · iapply own_some; iexact H8
  isplitl [H9]; · iapply own_some; iexact H9
  iexact HW

set_option maxHeartbeats 400000 in
/-- Place 5 of the group, under a known bound. -/
theorem run_b5 (hb : bounded (word X)) (hp : placeB i 5) :
    Runs c i arg2 harg2 arg3 harg3 arg4 harg4 arg5 harg5 arg6 harg6 arg7 harg7  X Q K T := by
  intro W R
  simp only [placeB, Nat.reduceEqDiff, iff_true, iff_false] at hp
  obtain ⟨h0, h1, h2, h3, h4, h5, h6, h7⟩ := hp
  have hu : ¬ unbounded (word X) := fun h => (unbounded_iff _).1 h hb
  unfold outO outQ
  rw [if_pos hb, if_pos hb]
  unfold bpoint bdiag
  rw [dif_neg h0, dif_neg h1, dif_neg h2, dif_neg h3, dif_neg h4, dif_pos h5]
  unfold bdiag5
  simp only [cc0_flash_fwd_eq_skeleton]; unfold cc0_flash_fwd_skel
  simp only [k0_part1_eq_skeleton, k0_part2_eq_skeleton]; unfold k0_part1_skel k0_part2_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_b5.sl.r c arg2 f2 = word (arg2.view.read (Elt F) f2) from word_at arg2 f2]
  sl_exec
  simp only [bind_assoc]
  iapply (bloop_run (F := F)) $$ [H4 H5 H9]
  · isplitl [H4]; · iexact H4
    isplitl [H5]; · iexact H5
    iexact H9
  iintro %acc HI
  unfold binv
  icases HI with ⟨H4, H5, %f9', H9, %h9⟩
  sl_exec
  sl_step
  have e3 := q_read arg3 f3
  have hB := b_end e3 (z_read f9) h9
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg₂ (fun a b => k0_pay20 lanes k0_pay1 (k0_pay6 a) b) e3 ((View.readAt_full _ _ _).trans ?_)
    unfold run_b5.sl.H9_1_1
    rw [View.read_writes_cons_put _ _ _ _ _ rfl, View.writes_nil, e3]
    rfl
  isplitl [H7]
  · unfold owns; iexists _; isplitr; swap; (iexact H7); ipureintro
    rw [View.read_writes_full, hB]
    refine congrArg₂ (fun a b => k0_pay3 (k0_pay22 lanes k0_pay1 (k0_pay6 a) b) (k0_pay24 lanes k0_pay1 (k0_pay6 a) b) (k0_pay25 lanes k0_pay1 (k0_pay6 a) b) (k0_pay26 lanes) a) e3 ((View.readAt_full _ _ _).trans ?_)
    unfold run_b5.sl.H9_1_1
    rw [View.read_writes_cons_put _ _ _ _ _ rfl, View.writes_nil, e3]
    rfl
  isplitl [H8]; · iapply own_some; iexact H8
  isplitl [H9]; · iapply own_some; iexact H9
  iexact HW

set_option maxHeartbeats 400000 in
/-- Place 6 of the group, under a known bound. -/
theorem run_b6 (hb : bounded (word X)) (hp : placeB i 6) :
    Runs c i arg2 harg2 arg3 harg3 arg4 harg4 arg5 harg5 arg6 harg6 arg7 harg7  X Q K T := by
  intro W R
  simp only [placeB, Nat.reduceEqDiff, iff_true, iff_false] at hp
  obtain ⟨h0, h1, h2, h3, h4, h5, h6, h7⟩ := hp
  have hu : ¬ unbounded (word X) := fun h => (unbounded_iff _).1 h hb
  unfold outO outQ
  rw [if_pos hb, if_pos hb]
  unfold bpoint bdiag
  rw [dif_neg h0, dif_neg h1, dif_neg h2, dif_neg h3, dif_neg h4, dif_neg h5, dif_pos h6]
  unfold bdiag6
  simp only [cc0_flash_fwd_eq_skeleton]; unfold cc0_flash_fwd_skel
  simp only [k0_part1_eq_skeleton, k0_part2_eq_skeleton]; unfold k0_part1_skel k0_part2_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_b6.sl.r c arg2 f2 = word (arg2.view.read (Elt F) f2) from word_at arg2 f2]
  sl_exec
  simp only [bind_assoc]
  iapply (bloop_run (F := F)) $$ [H4 H5 H9]
  · isplitl [H4]; · iexact H4
    isplitl [H5]; · iexact H5
    iexact H9
  iintro %acc HI
  unfold binv
  icases HI with ⟨H4, H5, %f9', H9, %h9⟩
  sl_exec
  sl_step
  have e3 := q_read arg3 f3
  have hB := b_end e3 (z_read f9) h9
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg₂ (fun a b => k0_pay20 lanes k0_pay1 (k0_pay6 a) b) e3 ((View.readAt_full _ _ _).trans ?_)
    unfold run_b6.sl.H9_1_1
    rw [View.read_writes_cons_put _ _ _ _ _ rfl, View.writes_nil, e3]
    rfl
  isplitl [H7]
  · unfold owns; iexists _; isplitr; swap; (iexact H7); ipureintro
    rw [View.read_writes_full, hB]
    refine congrArg₂ (fun a b => k0_pay3 (k0_pay22 lanes k0_pay1 (k0_pay6 a) b) (k0_pay24 lanes k0_pay1 (k0_pay6 a) b) (k0_pay25 lanes k0_pay1 (k0_pay6 a) b) (k0_pay26 lanes) a) e3 ((View.readAt_full _ _ _).trans ?_)
    unfold run_b6.sl.H9_1_1
    rw [View.read_writes_cons_put _ _ _ _ _ rfl, View.writes_nil, e3]
    rfl
  isplitl [H8]; · iapply own_some; iexact H8
  isplitl [H9]; · iapply own_some; iexact H9
  iexact HW

set_option maxHeartbeats 400000 in
/-- Place 7 of the group, under a known bound. -/
theorem run_b7 (hb : bounded (word X)) (hp : placeB i 7) :
    Runs c i arg2 harg2 arg3 harg3 arg4 harg4 arg5 harg5 arg6 harg6 arg7 harg7  X Q K T := by
  intro W R
  simp only [placeB, Nat.reduceEqDiff, iff_true, iff_false] at hp
  obtain ⟨h0, h1, h2, h3, h4, h5, h6, h7⟩ := hp
  have hu : ¬ unbounded (word X) := fun h => (unbounded_iff _).1 h hb
  unfold outO outQ
  rw [if_pos hb, if_pos hb]
  unfold bpoint bdiag
  rw [dif_neg h0, dif_neg h1, dif_neg h2, dif_neg h3, dif_neg h4, dif_neg h5, dif_neg h6, dif_pos h7]
  unfold bdiag7
  simp only [cc0_flash_fwd_eq_skeleton]; unfold cc0_flash_fwd_skel
  simp only [k0_part1_eq_skeleton, k0_part2_eq_skeleton]; unfold k0_part1_skel k0_part2_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_b7.sl.r c arg2 f2 = word (arg2.view.read (Elt F) f2) from word_at arg2 f2]
  sl_exec
  simp only [bind_assoc]
  iapply (bloop_run (F := F)) $$ [H4 H5 H9]
  · isplitl [H4]; · iexact H4
    isplitl [H5]; · iexact H5
    iexact H9
  iintro %acc HI
  unfold binv
  icases HI with ⟨H4, H5, %f9', H9, %h9⟩
  sl_exec
  sl_step
  have e3 := q_read arg3 f3
  have hB := b_end e3 (z_read f9) h9
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg₂ (fun a b => k0_pay20 lanes k0_pay1 (k0_pay6 a) b) e3 ((View.readAt_full _ _ _).trans ?_)
    unfold run_b7.sl.H9_1_1
    rw [View.read_writes_cons_put _ _ _ _ _ rfl, View.writes_nil, e3]
    rfl
  isplitl [H7]
  · unfold owns; iexists _; isplitr; swap; (iexact H7); ipureintro
    rw [View.read_writes_full, hB]
    refine congrArg₂ (fun a b => k0_pay3 (k0_pay22 lanes k0_pay1 (k0_pay6 a) b) (k0_pay24 lanes k0_pay1 (k0_pay6 a) b) (k0_pay25 lanes k0_pay1 (k0_pay6 a) b) (k0_pay26 lanes) a) e3 ((View.readAt_full _ _ _).trans ?_)
    unfold run_b7.sl.H9_1_1
    rw [View.read_writes_cons_put _ _ _ _ _ rfl, View.writes_nil, e3]
    rfl
  isplitl [H8]; · iapply own_some; iexact H8
  isplitl [H9]; · iapply own_some; iexact H9
  iexact HW

end Cert.Kernel2Ideal.Hand
-- ==== Proof.K2I.BodyU.lean ====
/-
  The forward kernel run at one grid point without a bound, by a running maximum.  The tile's place in its group of eight
  decides the rest of the body's conditionals; each place's run ends with this tile's results.
-/
module

public import proofs.«01_k».proof.Proof.K2I.Point
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .smem S1x1 .f32) (harg2 : arg2.IsWhole) (arg3 : Memref sig .tc .vmem S1x1x512x128 .bf16) (harg3 : arg3.IsWhole) (arg4 : Memref sig .tc .vmem S1x16384x128 .bf16) (harg4 : arg4.IsWhole) (arg5 : Memref sig .tc .vmem S1x4x80x4096 .bf16) (harg5 : arg5.IsWhole) (arg6 : Memref sig .tc .vmem S1x1x512x128 .f32) (harg6 : arg6.IsWhole) (arg7 : Memref sig .tc .vmem S1x1x512x128 .bf16) (harg7 : arg7.IsWhole)  (X : Vec F S1x1 .f32) (Q : Vec F S1x1x512x128 .bf16) (K : Vec F S1x16384x128 .bf16) (T : Vec F S1x4x80x4096 .bf16)

set_option maxHeartbeats 400000 in
/-- Place 0 of the group, with a running maximum. -/
theorem run_u0 (hu : unbounded (word X)) (hp : placeU i 0) :
    Runs c i arg2 harg2 arg3 harg3 arg4 harg4 arg5 harg5 arg6 harg6 arg7 harg7  X Q K T := by
  intro W R
  simp only [placeU, Nat.reduceEqDiff, iff_true, iff_false] at hp
  obtain ⟨h0, h1, h2, h3, h4, h5, h6, h7⟩ := hp
  have hb : ¬ bounded (word X) := (unbounded_iff _).1 hu
  unfold outO outQ
  rw [if_neg hb, if_neg hb]
  unfold upoint udiag
  rw [dif_pos h0]
  unfold udiag0
  simp only [cc0_flash_fwd_eq_skeleton]; unfold cc0_flash_fwd_skel
  simp only [k0_part3_eq_skeleton, k0_part4_eq_skeleton]; unfold k0_part3_skel k0_part4_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_u0.sl.r c arg2 f2 = word (arg2.view.read (Elt F) f2) from word_at arg2 f2]
  sl_exec
  simp only [bind_assoc]
  iapply (uloop_run (F := F)) $$ [H4 H5 H8 H9]
  · isplitl [H4]; · iexact H4
    isplitl [H5]; · iexact H5
    isplitl [H8]; · iexact H8
    iexact H9
  iintro %acc HI
  unfold uinv
  icases HI with ⟨H4, H5, ⟨%f8', H8, %h8⟩, %f9', H9, %h9⟩
  sl_exec
  sl_step
  have e3 := q_read arg3 f3
  have hB := u_end e3 (m_read f8) (z_read f9) h8 h9
  have em := m_whole f8'
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg (fun b => k0_pay4 (k0_pay73 lanes b)) ((View.readAt_full _ _ _).trans ?_)
    unfold run_u0.sl.H9_2
    rw [View.read_writes_cons_put _ _ _ _ _ rfl, View.read_writes_cons_put _ _ _ _ _ rfl, View.writes_nil, e3, em]
    unfold run_u0.sl.v56 run_u0.sl.H8_1
    rw [View.readCov_full, em, e3]
    rfl
  isplitl [H7]
  · unfold owns; iexists _; isplitr; swap; (iexact H7); ipureintro
    rw [View.read_writes_full, hB]
    refine congrArg₂ (fun a b => k0_pay5 (k0_pay72 lanes b) a) e3 ((View.readAt_full _ _ _).trans ?_)
    unfold run_u0.sl.H9_2
    rw [View.read_writes_cons_put _ _ _ _ _ rfl, View.read_writes_cons_put _ _ _ _ _ rfl, View.writes_nil, e3, em]
    unfold run_u0.sl.v56 run_u0.sl.H8_1
    rw [View.readCov_full, em, e3]
    rfl
  isplitl [H8]; · iapply own_some; iexact H8
  isplitl [H9]; · iapply own_some; iexact H9
  iexact HW

set_option maxHeartbeats 400000 in
/-- Place 1 of the group, with a running maximum. -/
theorem run_u1 (hu : unbounded (word X)) (hp : placeU i 1) :
    Runs c i arg2 harg2 arg3 harg3 arg4 harg4 arg5 harg5 arg6 harg6 arg7 harg7  X Q K T := by
  intro W R
  simp only [placeU, Nat.reduceEqDiff, iff_true, iff_false] at hp
  obtain ⟨h0, h1, h2, h3, h4, h5, h6, h7⟩ := hp
  have hb : ¬ bounded (word X) := (unbounded_iff _).1 hu
  unfold outO outQ
  rw [if_neg hb, if_neg hb]
  unfold upoint udiag
  rw [dif_neg h0, dif_pos h1]
  unfold udiag1
  simp only [cc0_flash_fwd_eq_skeleton]; unfold cc0_flash_fwd_skel
  simp only [k0_part3_eq_skeleton, k0_part4_eq_skeleton]; unfold k0_part3_skel k0_part4_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_u1.sl.r c arg2 f2 = word (arg2.view.read (Elt F) f2) from word_at arg2 f2]
  sl_exec
  simp only [bind_assoc]
  iapply (uloop_run (F := F)) $$ [H4 H5 H8 H9]
  · isplitl [H4]; · iexact H4
    isplitl [H5]; · iexact H5
    isplitl [H8]; · iexact H8
    iexact H9
  iintro %acc HI
  unfold uinv
  icases HI with ⟨H4, H5, ⟨%f8', H8, %h8⟩, %f9', H9, %h9⟩
  sl_exec
  sl_step
  have e3 := q_read arg3 f3
  have hB := u_end e3 (m_read f8) (z_read f9) h8 h9
  have em := m_whole f8'
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg (fun b => k0_pay4 (k0_pay73 lanes b)) ((View.readAt_full _ _ _).trans ?_)
    unfold run_u1.sl.H9_2
    rw [View.read_writes_cons_put _ _ _ _ _ rfl, View.read_writes_cons_put _ _ _ _ _ rfl, View.writes_nil, e3, em]
    unfold run_u1.sl.v56 run_u1.sl.H8_1
    rw [View.readCov_full, em, e3]
    rfl
  isplitl [H7]
  · unfold owns; iexists _; isplitr; swap; (iexact H7); ipureintro
    rw [View.read_writes_full, hB]
    refine congrArg₂ (fun a b => k0_pay5 (k0_pay72 lanes b) a) e3 ((View.readAt_full _ _ _).trans ?_)
    unfold run_u1.sl.H9_2
    rw [View.read_writes_cons_put _ _ _ _ _ rfl, View.read_writes_cons_put _ _ _ _ _ rfl, View.writes_nil, e3, em]
    unfold run_u1.sl.v56 run_u1.sl.H8_1
    rw [View.readCov_full, em, e3]
    rfl
  isplitl [H8]; · iapply own_some; iexact H8
  isplitl [H9]; · iapply own_some; iexact H9
  iexact HW

set_option maxHeartbeats 400000 in
/-- Place 2 of the group, with a running maximum. -/
theorem run_u2 (hu : unbounded (word X)) (hp : placeU i 2) :
    Runs c i arg2 harg2 arg3 harg3 arg4 harg4 arg5 harg5 arg6 harg6 arg7 harg7  X Q K T := by
  intro W R
  simp only [placeU, Nat.reduceEqDiff, iff_true, iff_false] at hp
  obtain ⟨h0, h1, h2, h3, h4, h5, h6, h7⟩ := hp
  have hb : ¬ bounded (word X) := (unbounded_iff _).1 hu
  unfold outO outQ
  rw [if_neg hb, if_neg hb]
  unfold upoint udiag
  rw [dif_neg h0, dif_neg h1, dif_pos h2]
  unfold udiag2
  simp only [cc0_flash_fwd_eq_skeleton]; unfold cc0_flash_fwd_skel
  simp only [k0_part3_eq_skeleton, k0_part4_eq_skeleton]; unfold k0_part3_skel k0_part4_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_u2.sl.r c arg2 f2 = word (arg2.view.read (Elt F) f2) from word_at arg2 f2]
  sl_exec
  simp only [bind_assoc]
  iapply (uloop_run (F := F)) $$ [H4 H5 H8 H9]
  · isplitl [H4]; · iexact H4
    isplitl [H5]; · iexact H5
    isplitl [H8]; · iexact H8
    iexact H9
  iintro %acc HI
  unfold uinv
  icases HI with ⟨H4, H5, ⟨%f8', H8, %h8⟩, %f9', H9, %h9⟩
  sl_exec
  sl_step
  have e3 := q_read arg3 f3
  have hB := u_end e3 (m_read f8) (z_read f9) h8 h9
  have em := m_whole f8'
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg (fun b => k0_pay4 (k0_pay73 lanes b)) ((View.readAt_full _ _ _).trans ?_)
    unfold run_u2.sl.H9_2
    rw [View.read_writes_cons_put _ _ _ _ _ rfl, View.read_writes_cons_put _ _ _ _ _ rfl, View.writes_nil, e3, em]
    unfold run_u2.sl.v56 run_u2.sl.H8_1
    rw [View.readCov_full, em, e3]
    rfl
  isplitl [H7]
  · unfold owns; iexists _; isplitr; swap; (iexact H7); ipureintro
    rw [View.read_writes_full, hB]
    refine congrArg₂ (fun a b => k0_pay5 (k0_pay72 lanes b) a) e3 ((View.readAt_full _ _ _).trans ?_)
    unfold run_u2.sl.H9_2
    rw [View.read_writes_cons_put _ _ _ _ _ rfl, View.read_writes_cons_put _ _ _ _ _ rfl, View.writes_nil, e3, em]
    unfold run_u2.sl.v56 run_u2.sl.H8_1
    rw [View.readCov_full, em, e3]
    rfl
  isplitl [H8]; · iapply own_some; iexact H8
  isplitl [H9]; · iapply own_some; iexact H9
  iexact HW

set_option maxHeartbeats 400000 in
/-- Place 3 of the group, with a running maximum. -/
theorem run_u3 (hu : unbounded (word X)) (hp : placeU i 3) :
    Runs c i arg2 harg2 arg3 harg3 arg4 harg4 arg5 harg5 arg6 harg6 arg7 harg7  X Q K T := by
  intro W R
  simp only [placeU, Nat.reduceEqDiff, iff_true, iff_false] at hp
  obtain ⟨h0, h1, h2, h3, h4, h5, h6, h7⟩ := hp
  have hb : ¬ bounded (word X) := (unbounded_iff _).1 hu
  unfold outO outQ
  rw [if_neg hb, if_neg hb]
  unfold upoint udiag
  rw [dif_neg h0, dif_neg h1, dif_neg h2, dif_pos h3]
  unfold udiag3
  simp only [cc0_flash_fwd_eq_skeleton]; unfold cc0_flash_fwd_skel
  simp only [k0_part3_eq_skeleton, k0_part4_eq_skeleton]; unfold k0_part3_skel k0_part4_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_u3.sl.r c arg2 f2 = word (arg2.view.read (Elt F) f2) from word_at arg2 f2]
  sl_exec
  simp only [bind_assoc]
  iapply (uloop_run (F := F)) $$ [H4 H5 H8 H9]
  · isplitl [H4]; · iexact H4
    isplitl [H5]; · iexact H5
    isplitl [H8]; · iexact H8
    iexact H9
  iintro %acc HI
  unfold uinv
  icases HI with ⟨H4, H5, ⟨%f8', H8, %h8⟩, %f9', H9, %h9⟩
  sl_exec
  sl_step
  have e3 := q_read arg3 f3
  have hB := u_end e3 (m_read f8) (z_read f9) h8 h9
  have em := m_whole f8'
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg (fun b => k0_pay4 (k0_pay73 lanes b)) ((View.readAt_full _ _ _).trans ?_)
    unfold run_u3.sl.H9_2
    rw [View.read_writes_cons_put _ _ _ _ _ rfl, View.read_writes_cons_put _ _ _ _ _ rfl, View.writes_nil, e3, em]
    unfold run_u3.sl.v56 run_u3.sl.H8_1
    rw [View.readCov_full, em, e3]
    rfl
  isplitl [H7]
  · unfold owns; iexists _; isplitr; swap; (iexact H7); ipureintro
    rw [View.read_writes_full, hB]
    refine congrArg₂ (fun a b => k0_pay5 (k0_pay72 lanes b) a) e3 ((View.readAt_full _ _ _).trans ?_)
    unfold run_u3.sl.H9_2
    rw [View.read_writes_cons_put _ _ _ _ _ rfl, View.read_writes_cons_put _ _ _ _ _ rfl, View.writes_nil, e3, em]
    unfold run_u3.sl.v56 run_u3.sl.H8_1
    rw [View.readCov_full, em, e3]
    rfl
  isplitl [H8]; · iapply own_some; iexact H8
  isplitl [H9]; · iapply own_some; iexact H9
  iexact HW

set_option maxHeartbeats 400000 in
/-- Place 4 of the group, with a running maximum. -/
theorem run_u4 (hu : unbounded (word X)) (hp : placeU i 4) :
    Runs c i arg2 harg2 arg3 harg3 arg4 harg4 arg5 harg5 arg6 harg6 arg7 harg7  X Q K T := by
  intro W R
  simp only [placeU, Nat.reduceEqDiff, iff_true, iff_false] at hp
  obtain ⟨h0, h1, h2, h3, h4, h5, h6, h7⟩ := hp
  have hb : ¬ bounded (word X) := (unbounded_iff _).1 hu
  unfold outO outQ
  rw [if_neg hb, if_neg hb]
  unfold upoint udiag
  rw [dif_neg h0, dif_neg h1, dif_neg h2, dif_neg h3, dif_pos h4]
  unfold udiag4
  simp only [cc0_flash_fwd_eq_skeleton]; unfold cc0_flash_fwd_skel
  simp only [k0_part3_eq_skeleton, k0_part4_eq_skeleton]; unfold k0_part3_skel k0_part4_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_u4.sl.r c arg2 f2 = word (arg2.view.read (Elt F) f2) from word_at arg2 f2]
  sl_exec
  simp only [bind_assoc]
  iapply (uloop_run (F := F)) $$ [H4 H5 H8 H9]
  · isplitl [H4]; · iexact H4
    isplitl [H5]; · iexact H5
    isplitl [H8]; · iexact H8
    iexact H9
  iintro %acc HI
  unfold uinv
  icases HI with ⟨H4, H5, ⟨%f8', H8, %h8⟩, %f9', H9, %h9⟩
  sl_exec
  sl_step
  have e3 := q_read arg3 f3
  have hB := u_end e3 (m_read f8) (z_read f9) h8 h9
  have em := m_whole f8'
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg (fun b => k0_pay4 (k0_pay73 lanes b)) ((View.readAt_full _ _ _).trans ?_)
    unfold run_u4.sl.H9_2
    rw [View.read_writes_cons_put _ _ _ _ _ rfl, View.read_writes_cons_put _ _ _ _ _ rfl, View.writes_nil, e3, em]
    unfold run_u4.sl.v56 run_u4.sl.H8_1
    rw [View.readCov_full, em, e3]
    rfl
  isplitl [H7]
  · unfold owns; iexists _; isplitr; swap; (iexact H7); ipureintro
    rw [View.read_writes_full, hB]
    refine congrArg₂ (fun a b => k0_pay5 (k0_pay72 lanes b) a) e3 ((View.readAt_full _ _ _).trans ?_)
    unfold run_u4.sl.H9_2
    rw [View.read_writes_cons_put _ _ _ _ _ rfl, View.read_writes_cons_put _ _ _ _ _ rfl, View.writes_nil, e3, em]
    unfold run_u4.sl.v56 run_u4.sl.H8_1
    rw [View.readCov_full, em, e3]
    rfl
  isplitl [H8]; · iapply own_some; iexact H8
  isplitl [H9]; · iapply own_some; iexact H9
  iexact HW

set_option maxHeartbeats 400000 in
/-- Place 5 of the group, with a running maximum. -/
theorem run_u5 (hu : unbounded (word X)) (hp : placeU i 5) :
    Runs c i arg2 harg2 arg3 harg3 arg4 harg4 arg5 harg5 arg6 harg6 arg7 harg7  X Q K T := by
  intro W R
  simp only [placeU, Nat.reduceEqDiff, iff_true, iff_false] at hp
  obtain ⟨h0, h1, h2, h3, h4, h5, h6, h7⟩ := hp
  have hb : ¬ bounded (word X) := (unbounded_iff _).1 hu
  unfold outO outQ
  rw [if_neg hb, if_neg hb]
  unfold upoint udiag
  rw [dif_neg h0, dif_neg h1, dif_neg h2, dif_neg h3, dif_neg h4, dif_pos h5]
  unfold udiag5
  simp only [cc0_flash_fwd_eq_skeleton]; unfold cc0_flash_fwd_skel
  simp only [k0_part3_eq_skeleton, k0_part4_eq_skeleton]; unfold k0_part3_skel k0_part4_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_u5.sl.r c arg2 f2 = word (arg2.view.read (Elt F) f2) from word_at arg2 f2]
  sl_exec
  simp only [bind_assoc]
  iapply (uloop_run (F := F)) $$ [H4 H5 H8 H9]
  · isplitl [H4]; · iexact H4
    isplitl [H5]; · iexact H5
    isplitl [H8]; · iexact H8
    iexact H9
  iintro %acc HI
  unfold uinv
  icases HI with ⟨H4, H5, ⟨%f8', H8, %h8⟩, %f9', H9, %h9⟩
  sl_exec
  sl_step
  have e3 := q_read arg3 f3
  have hB := u_end e3 (m_read f8) (z_read f9) h8 h9
  have em := m_whole f8'
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg (fun b => k0_pay4 (k0_pay73 lanes b)) ((View.readAt_full _ _ _).trans ?_)
    unfold run_u5.sl.H9_2
    rw [View.read_writes_cons_put _ _ _ _ _ rfl, View.read_writes_cons_put _ _ _ _ _ rfl, View.writes_nil, e3, em]
    unfold run_u5.sl.v56 run_u5.sl.H8_1
    rw [View.readCov_full, em, e3]
    rfl
  isplitl [H7]
  · unfold owns; iexists _; isplitr; swap; (iexact H7); ipureintro
    rw [View.read_writes_full, hB]
    refine congrArg₂ (fun a b => k0_pay5 (k0_pay72 lanes b) a) e3 ((View.readAt_full _ _ _).trans ?_)
    unfold run_u5.sl.H9_2
    rw [View.read_writes_cons_put _ _ _ _ _ rfl, View.read_writes_cons_put _ _ _ _ _ rfl, View.writes_nil, e3, em]
    unfold run_u5.sl.v56 run_u5.sl.H8_1
    rw [View.readCov_full, em, e3]
    rfl
  isplitl [H8]; · iapply own_some; iexact H8
  isplitl [H9]; · iapply own_some; iexact H9
  iexact HW

set_option maxHeartbeats 400000 in
/-- Place 6 of the group, with a running maximum. -/
theorem run_u6 (hu : unbounded (word X)) (hp : placeU i 6) :
    Runs c i arg2 harg2 arg3 harg3 arg4 harg4 arg5 harg5 arg6 harg6 arg7 harg7  X Q K T := by
  intro W R
  simp only [placeU, Nat.reduceEqDiff, iff_true, iff_false] at hp
  obtain ⟨h0, h1, h2, h3, h4, h5, h6, h7⟩ := hp
  have hb : ¬ bounded (word X) := (unbounded_iff _).1 hu
  unfold outO outQ
  rw [if_neg hb, if_neg hb]
  unfold upoint udiag
  rw [dif_neg h0, dif_neg h1, dif_neg h2, dif_neg h3, dif_neg h4, dif_neg h5, dif_pos h6]
  unfold udiag6
  simp only [cc0_flash_fwd_eq_skeleton]; unfold cc0_flash_fwd_skel
  simp only [k0_part3_eq_skeleton, k0_part4_eq_skeleton]; unfold k0_part3_skel k0_part4_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_u6.sl.r c arg2 f2 = word (arg2.view.read (Elt F) f2) from word_at arg2 f2]
  sl_exec
  simp only [bind_assoc]
  iapply (uloop_run (F := F)) $$ [H4 H5 H8 H9]
  · isplitl [H4]; · iexact H4
    isplitl [H5]; · iexact H5
    isplitl [H8]; · iexact H8
    iexact H9
  iintro %acc HI
  unfold uinv
  icases HI with ⟨H4, H5, ⟨%f8', H8, %h8⟩, %f9', H9, %h9⟩
  sl_exec
  sl_step
  have e3 := q_read arg3 f3
  have hB := u_end e3 (m_read f8) (z_read f9) h8 h9
  have em := m_whole f8'
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg (fun b => k0_pay4 (k0_pay73 lanes b)) ((View.readAt_full _ _ _).trans ?_)
    unfold run_u6.sl.H9_2
    rw [View.read_writes_cons_put _ _ _ _ _ rfl, View.read_writes_cons_put _ _ _ _ _ rfl, View.writes_nil, e3, em]
    unfold run_u6.sl.v56 run_u6.sl.H8_1
    rw [View.readCov_full, em, e3]
    rfl
  isplitl [H7]
  · unfold owns; iexists _; isplitr; swap; (iexact H7); ipureintro
    rw [View.read_writes_full, hB]
    refine congrArg₂ (fun a b => k0_pay5 (k0_pay72 lanes b) a) e3 ((View.readAt_full _ _ _).trans ?_)
    unfold run_u6.sl.H9_2
    rw [View.read_writes_cons_put _ _ _ _ _ rfl, View.read_writes_cons_put _ _ _ _ _ rfl, View.writes_nil, e3, em]
    unfold run_u6.sl.v56 run_u6.sl.H8_1
    rw [View.readCov_full, em, e3]
    rfl
  isplitl [H8]; · iapply own_some; iexact H8
  isplitl [H9]; · iapply own_some; iexact H9
  iexact HW

set_option maxHeartbeats 400000 in
/-- Place 7 of the group, with a running maximum. -/
theorem run_u7 (hu : unbounded (word X)) (hp : placeU i 7) :
    Runs c i arg2 harg2 arg3 harg3 arg4 harg4 arg5 harg5 arg6 harg6 arg7 harg7  X Q K T := by
  intro W R
  simp only [placeU, Nat.reduceEqDiff, iff_true, iff_false] at hp
  obtain ⟨h0, h1, h2, h3, h4, h5, h6, h7⟩ := hp
  have hb : ¬ bounded (word X) := (unbounded_iff _).1 hu
  unfold outO outQ
  rw [if_neg hb, if_neg hb]
  unfold upoint udiag
  rw [dif_neg h0, dif_neg h1, dif_neg h2, dif_neg h3, dif_neg h4, dif_neg h5, dif_neg h6, dif_pos h7]
  unfold udiag7
  simp only [cc0_flash_fwd_eq_skeleton]; unfold cc0_flash_fwd_skel
  simp only [k0_part3_eq_skeleton, k0_part4_eq_skeleton]; unfold k0_part3_skel k0_part4_skel
  unfold pre owns
  iintro ⟨⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, HW⟩, Hk⟩
  subst e2 e3 e4 e5
  unfold bounded at hb
  unfold unbounded at hu
  sl_exec
  rw [show run_u7.sl.r c arg2 f2 = word (arg2.view.read (Elt F) f2) from word_at arg2 f2]
  sl_exec
  simp only [bind_assoc]
  iapply (uloop_run (F := F)) $$ [H4 H5 H8 H9]
  · isplitl [H4]; · iexact H4
    isplitl [H5]; · iexact H5
    isplitl [H8]; · iexact H8
    iexact H9
  iintro %acc HI
  unfold uinv
  icases HI with ⟨H4, H5, ⟨%f8', H8, %h8⟩, %f9', H9, %h9⟩
  sl_exec
  sl_step
  have e3 := q_read arg3 f3
  have hB := u_end e3 (m_read f8) (z_read f9) h8 h9
  have em := m_whole f8'
  iapply Hk
  unfold post
  isplitl [H2]; · iapply own_read; iexact H2
  isplitl [H3]; · iapply own_read; iexact H3
  isplitl [H4]; · iapply own_read; iexact H4
  isplitl [H5]; · iapply own_read; iexact H5
  isplitl [H6]
  · unfold owns; iexists _; isplitr; swap; (iexact H6); ipureintro
    rw [View.read_writes_full, hB]
    refine congrArg (fun b => k0_pay4 (k0_pay73 lanes b)) ((View.readAt_full _ _ _).trans ?_)
    unfold run_u7.sl.H9_2
    rw [View.read_writes_cons_put _ _ _ _ _ rfl, View.read_writes_cons_put _ _ _ _ _ rfl, View.writes_nil, e3, em]
    unfold run_u7.sl.v56 run_u7.sl.H8_1
    rw [View.readCov_full, em, e3]
    rfl
  isplitl [H7]
  · unfold owns; iexists _; isplitr; swap; (iexact H7); ipureintro
    rw [View.read_writes_full, hB]
    refine congrArg₂ (fun a b => k0_pay5 (k0_pay72 lanes b) a) e3 ((View.readAt_full _ _ _).trans ?_)
    unfold run_u7.sl.H9_2
    rw [View.read_writes_cons_put _ _ _ _ _ rfl, View.read_writes_cons_put _ _ _ _ _ rfl, View.writes_nil, e3, em]
    unfold run_u7.sl.v56 run_u7.sl.H8_1
    rw [View.readCov_full, em, e3]
    rfl
  isplitl [H8]; · iapply own_some; iexact H8
  isplitl [H9]; · iapply own_some; iexact H9
  iexact HW

end Cert.Kernel2Ideal.Hand
-- ==== Proof.K2I.Frame.lean ====
/-
  The forward kernel's run over the whole grid, and what its program ends with.  A point carries nothing over to the next:
  both scratch buffers are written before they are read.  The two result blocks of a point are its tile's.
-/
module

public import proofs.«01_k».proof.Proof.K2I.BodyB
public import proofs.«01_k».proof.Proof.K2I.BodyU
public import proofs.«01_k».proof.Proof.Gen.Kernel2Ideal.Frame

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Every tile has one place in its group -/

theorem placesB : ∀ t : Fin grid0.N, placeB (grid0.coords t) ((grid0.coords t 1).val % 8) := by decide +kernel
theorem placesU : ∀ t : Fin grid0.N, placeU (grid0.coords t) ((grid0.coords t 1).val % 8) := by decide +kernel

/-- The stages of point `t`. -/
theorem runs (c : Dev nD) (t : Fin cfg0.N) (X : Vec F S1x1 .f32) (Q : Vec F S1x1x512x128 .bf16) (K : Vec F S1x16384x128 .bf16) (T : Vec F S1x4x80x4096 .bf16) :
    Runs c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5)) X Q K T := by
  have hlt : (grid0.coords t 1).val % 8 < 8 := Nat.mod_lt _ (by decide)
  by_cases hb : bounded (word X)
  · have hp := placesB t
    revert hp hlt
    generalize (grid0.coords t 1).val % 8 = n
    intro hlt hp
    interval_cases n
    · exact run_b0 c _ _ _ _ _ _ _ _ _ _ _ _ _ X Q K T hb hp
    · exact run_b1 c _ _ _ _ _ _ _ _ _ _ _ _ _ X Q K T hb hp
    · exact run_b2 c _ _ _ _ _ _ _ _ _ _ _ _ _ X Q K T hb hp
    · exact run_b3 c _ _ _ _ _ _ _ _ _ _ _ _ _ X Q K T hb hp
    · exact run_b4 c _ _ _ _ _ _ _ _ _ _ _ _ _ X Q K T hb hp
    · exact run_b5 c _ _ _ _ _ _ _ _ _ _ _ _ _ X Q K T hb hp
    · exact run_b6 c _ _ _ _ _ _ _ _ _ _ _ _ _ X Q K T hb hp
    · exact run_b7 c _ _ _ _ _ _ _ _ _ _ _ _ _ X Q K T hb hp
  · have hu := (unbounded_iff _).2 hb
    have hp := placesU t
    revert hp hlt
    generalize (grid0.coords t 1).val % 8 = n
    intro hlt hp
    interval_cases n
    · exact run_u0 c _ _ _ _ _ _ _ _ _ _ _ _ _ X Q K T hu hp
    · exact run_u1 c _ _ _ _ _ _ _ _ _ _ _ _ _ X Q K T hu hp
    · exact run_u2 c _ _ _ _ _ _ _ _ _ _ _ _ _ X Q K T hu hp
    · exact run_u3 c _ _ _ _ _ _ _ _ _ _ _ _ _ X Q K T hu hp
    · exact run_u4 c _ _ _ _ _ _ _ _ _ _ _ _ _ X Q K T hu hp
    · exact run_u5 c _ _ _ _ _ _ _ _ _ _ _ _ _ X Q K T hu hp
    · exact run_u6 c _ _ _ _ _ _ _ _ _ _ _ _ _ X Q K T hu hp
    · exact run_u7 c _ _ _ _ _ _ _ _ _ _ _ _ _ X Q K T hu hp

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outO (word (iblk m c 0 t)) (grid0.coords t) (iblk m c 1 t) (iblk m c 2 t) (iblk m c 3 t)
    | ⟨5, _⟩ => outQ (word (iblk m c 0 t)) (grid0.coords t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outO (word (iblk m c 0 t)) (grid0.coords t) (iblk m c 1 t) (iblk m c 2 t) (iblk m c 3 t) := by dsimp only [dats]
theorem after_5 (c : Dev nD) (t : Fin cfg0.N) : (dats m 0 c).after 5 t = outQ (word (iblk m c 0 t)) (grid0.coords t) (iblk m c 1 t) (iblk m c 2 t) (iblk m c 3 t) := by dsimp only [dats]

/-! An operand's buffer holds its block at every point. -/
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  rw [after_0, after_1, after_2, after_3, after_4, after_5]
  unfold Dat.owesAt Pipeline.owesWithin
  rw [show (dats m 0 c).owed t.castSucc = 0 from rfl, show (dats m 0 c).owed t.succ = 0 from rfl]
  unfold Pipeline.ΦA
  rw [scopedRest0_eq]
  simp only [before_0, before_1, before_2, before_3]
  iintro ⟨⟨⟨⟨%f0, S0⟩, ⟨%f1, S1⟩⟩, Hr⟩, ⟨%W, -, HW⟩, ⟨%d0, H0⟩, ⟨%d1, H1⟩, ⟨%d2, H2⟩, ⟨%d3, H3⟩, ⟨%d4, H4⟩, ⟨%d5, H5⟩⟩
  iapply (runs c t (iblk m c 0 t) (iblk m c 1 t) (iblk m c 2 t) (iblk m c 3 t) W _)
  unfold pre post
  simp only [sc0, sc1, owns_whole]
  isplitl [S0 S1 HW H0 H1 H2 H3 H4 H5]
  · isplitl [H0]; · iexact H0
    isplitl [H1]; · iexact H1
    isplitl [H2]; · iexact H2
    isplitl [H3]; · iexact H3
    isplitl [H4]; · iexists _; iexact H4
    isplitl [H5]; · iexists _; iexact H5
    isplitl [S0]; · iexists _; iexact S0
    isplitl [S1]; · iexists _; iexact S1
    iexact HW
  iintro ⟨H0, H1, H2, H3, H4, H5, S0, S1, HW⟩
  isplitl [S0 S1 Hr]
  · isplitl [S0 S1]
    · isplitl [S0]; · iexact S0
      iexact S1
    iexact Hr
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the program's run ends with: the pipeline's arrays, every other buffer through the host lines after the kernel, and every cell at zero. -/
def Ends (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
theorem run_main : θ_run defs (onTc (τ := τ) (main (F := F))) (s₀ m ρ) (Ends m) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := Ends m) (hQ' := fun _ h => h)

/-- At the end the six arguments are as launched. -/
theorem ends_args {r : PUnit × MemSt nD τ sig (Elt F)} (h : Ends m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c),
    ((h.1 c).2 main_arg5 (Pipeline.mem_restRefs_of main_arg5 (by decide) (by decide))).trans (W_main_arg5 m (dats m) c)⟩

/-- The kernel's program leaves its six arguments as launched and every cell at zero. -/
theorem frame : θ_run defs (onTc (τ := τ) (main (F := F))) (s₀ m ρ) (fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun _ h => ⟨ends_args m h, h.2⟩) (run_main m ρ)

end Cert.Kernel2Ideal.Hand
-- ==== Proof.K2I.Blocks.lean ====
/-
  Where the blocks of a grid point lie in their arrays.
-/
module

public import proofs.«01_k».proof.Proof.K2I.Frame
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe

/-- The blocks of a point: the word, the head's tile of queries, the head's keys and values. -/
theorem idx : ∀ t : Fin cfg0.N, win0_0.index t = ![0, 0] ∧ win0_1.index t = ![t.val / 32, t.val % 32, 0, 0]
    ∧ win0_2.index t = ![t.val / 32, 0, 0] ∧ win0_3.index t = ![t.val / 32, 0, 0, 0]
    ∧ win0_4.index t = ![t.val / 32, t.val % 32, 0, 0] ∧ win0_5.index t = ![t.val / 32, t.val % 32, 0, 0] ∧ t.val / 32 < 16 :=
  (by decide +kernel : ∀ t : Fin grid0.N, _)

/-- The head of a point. -/
def headAt (t : Fin cfg0.N) : Fin 16 := ⟨t.val / 32, (idx t).2.2.2.2.2.2⟩
/-- The tile of a point. -/
def tileAt (t : Fin cfg0.N) : Fin 32 := ⟨t.val % 32, by omega⟩

theorem emb_1 (t : Fin cfg0.N) (s : Fin 512) (l : Fin 128) : ((cfg0.win 1).blk t).view.emb (ix4 0 0 s l : S1x1x512x128.Idx) = (ix4 (headAt t) (tileAt t) s l : S16x32x512x128.Idx) := by
  blk_ext [idx t, headAt, tileAt]
/-- An entry of the tile of queries. -/
theorem read_1 (X : FVec Ideal S16x32x512x128 .bf16) (t : Fin cfg0.N) (s : Fin 512) (l : Fin 128) :
    ((cfg0.win 1).blk t).view.read (Elt Ideal) X (ix4 0 0 s l : S1x1x512x128.Idx) = X (ix4 (headAt t) (tileAt t) s l) := congrArg X (emb_1 t s l)

theorem emb_2 (t : Fin cfg0.N) (r : Fin 16384) (l : Fin 128) : ((cfg0.win 2).blk t).view.emb (ix3 0 r l : S1x16384x128.Idx) = (ix3 (headAt t) r l : S16x16384x128.Idx) := by
  blk_ext [idx t, headAt]
/-- An entry of the head's keys. -/
theorem read_2 (X : FVec Ideal S16x16384x128 .bf16) (t : Fin cfg0.N) (r : Fin 16384) (l : Fin 128) :
    ((cfg0.win 2).blk t).view.read (Elt Ideal) X (ix3 0 r l : S1x16384x128.Idx) = X (ix3 (headAt t) r l) := congrArg X (emb_2 t r l)

theorem emb_3 (t : Fin cfg0.N) (g : Fin 4) (a : Fin 80) (s : Fin 4096) : ((cfg0.win 3).blk t).view.emb (ix4 0 g a s : S1x4x80x4096.Idx) = (ix4 (headAt t) g a s : S16x4x80x4096.Idx) := by
  blk_ext [idx t, headAt]
/-- An entry of the head's values. -/
theorem read_3 (X : FVec Ideal S16x4x80x4096 .bf16) (t : Fin cfg0.N) (g : Fin 4) (a : Fin 80) (s : Fin 4096) :
    ((cfg0.win 3).blk t).view.read (Elt Ideal) X (ix4 0 g a s : S1x4x80x4096.Idx) = X (ix4 (headAt t) g a s) := congrArg X (emb_3 t g a s)

/-- Where an entry of the first result's block lies in its array. -/
theorem emb_4 (t : Fin cfg0.N) (s : Fin 512) (l : Fin 128) : ((cfg0.win 4).blk t).view.emb (ix4 0 0 s l : S1x1x512x128.Idx) = (ix4 (headAt t) (tileAt t) s l : S16x32x512x128.Idx) := by
  blk_ext [idx t, headAt, tileAt]
/-- Those blocks cover the array. -/
theorem covers_4 : (cfg0.win 4).Covers := by decide +kernel

/-- Where an entry of the second result's block lies in its array. -/
theorem emb_5 (t : Fin cfg0.N) (s : Fin 512) (l : Fin 128) : ((cfg0.win 5).blk t).view.emb (ix4 0 0 s l : S1x1x512x128.Idx) = (ix4 (headAt t) (tileAt t) s l : S16x32x512x128.Idx) := by
  blk_ext [idx t, headAt, tileAt]
/-- Those blocks cover the array. -/
theorem covers_5 : (cfg0.win 5).Covers := by decide +kernel

/-- An index of a tile's block. -/
theorem unit_idx (y : S1x1x512x128.Idx) : ∃ (s : Fin 512) (l : Fin 128), y = ix4 (0 : Fin 1) (0 : Fin 1) s l :=
  ⟨y 2, y 3, (eq_ix4 y).trans ((congrArg (fun z : Fin 1 => (ix4 z (y 1) (y 2) (y 3) : S1x1x512x128.Idx)) (Subsingleton.elim _ _)).trans
    (congrArg (fun z : Fin 1 => (ix4 0 z (y 2) (y 3) : S1x1x512x128.Idx)) (Subsingleton.elim _ _)))⟩

end Cert.Kernel2Ideal.Hand
-- ==== Proof.K2I.Host.lean ====
/-
  What the host prepares for the forward kernel, as plain functions of the arguments: a bound on the products of queries
  and keys, and the three arrays of lanes the kernel reads.
-/
module

public import proofs.«01_k».proof.Proof.Gen.Kernel2Ideal.Frame
public import Idealize.ShloMosaic.Lib.Claim
public import Idealize.ShloMosaic.Lib.StableHlo.RunRead

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.StableHlo

variable {F : FTy → Type} [FloatOps F] [Named F]

/-- The largest absolute value of a row of 64. -/
def hLargest (g : FVec F S1x64 .f32) : FVec F S_ .f32 :=
  Host.reduce FloatOps.maximumf (Host.absf g) (constant S_ .f32 0xFF800000#32) reducesTo_S1x64_S_d0_1 h_S_

/-- The bound on the products of queries and keys. -/
def hReach (gq gk : FVec F S1x64 .f32) : FVec F S_ .f32 :=
  mulf (mulf (constant S_ .f32 0x410147AE#32) (hLargest gq)) (hLargest gk)

/-- Each query's cumulative log-forget less the bound. -/
def hLow (c : FVec F S16x16384 .f32) (gq gk : FVec F S1x64 .f32) : FVec F S16x16384 .f32 :=
  subf c (broadcastInDim S16x16384 ![] bcast_S_S16x16384 (hReach gq gk))

/-- The part of a number that rounding drops. -/
def hRest (x : FVec F S16x16384 .f32) : FVec F S16x16384 .f32 := subf x (extf .f32 (truncf .bf16 x bitsLt_bf16_f32) bitsLt_bf16_f32)

/-- A number a row, as one lane. -/
def hCol (x : FVec F S16x16384 .f32) : FVec F S16x16384x1 .bf16 :=
  broadcastInDim S16x16384x1 ![0, 1] bcast_S16x16384_S16x16384x1_0_1 (truncf .bf16 x bitsLt_bf16_f32)

/-- One everywhere. -/
def hOne : FVec F S16x16384 .f32 := broadcastInDim S16x16384 ![] bcast_S_S16x16384 (constant S_ .f32 0x3F800000#32)

/-- Sixty-four features, three lanes, zeros. -/
def hLanes3 (x : FVec F S16x16384x64 .f32) (a b e : FVec F S16x16384 .f32) : FVec F S16x16384x128 .bf16 :=
  concatenate S16x16384x128 2 [⟨S16x16384x64, truncf .bf16 x bitsLt_bf16_f32⟩, ⟨S16x16384x1, hCol a⟩, ⟨S16x16384x1, hCol b⟩, ⟨S16x16384x1, hCol e⟩,
    ⟨S16x16384x61, broadcastInDim S16x16384x61 ![] bcast_S_S16x16384x61 (constant S_ .bf16 0x0000#16)⟩]
    concatenates_S16x16384x64_S16x16384x1_S16x16384x1_S16x16384x1_S16x16384x61_S16x16384x128_d2

/-- Sixty-four features, six lanes, zeros. -/
def hLanes6 (x : FVec F S16x16384x64 .f32) (a b e f g h : FVec F S16x16384 .f32) : FVec F S16x16384x128 .bf16 :=
  concatenate S16x16384x128 2 [⟨S16x16384x64, truncf .bf16 x bitsLt_bf16_f32⟩, ⟨S16x16384x1, hCol a⟩, ⟨S16x16384x1, hCol b⟩, ⟨S16x16384x1, hCol e⟩,
    ⟨S16x16384x1, hCol f⟩, ⟨S16x16384x1, hCol g⟩, ⟨S16x16384x1, hCol h⟩,
    ⟨S16x16384x58, broadcastInDim S16x16384x58 ![] bcast_S_S16x16384x58 (constant S_ .bf16 0x0000#16)⟩]
    concatenates_S16x16384x64_S16x16384x1_S16x16384x1_S16x16384x1_S16x16384x1_S16x16384x1_S16x16384x1_S16x16384x58_S16x16384x128_d2

/-- The query lanes. -/
def hQa (q : FVec F S16x16384x64 .f32) (c : FVec F S16x16384 .f32) (gq gk : FVec F S1x64 .f32) : FVec F S16x16384x128 .bf16 :=
  hLanes6 (mulf q (broadcastInDim S16x16384x64 ![] bcast_S_S16x16384x64 (constant S_ .f32 0x3E000000#32))) hOne hOne hOne
    (hLow c gq gk) (hRest (hLow c gq gk)) (hRest (hRest (hLow c gq gk)))

/-- The key lanes. -/
def hKa (k : FVec F S16x16384x64 .f32) (c : FVec F S16x16384 .f32) : FVec F S16x16384x128 .bf16 :=
  hLanes6 k (Host.negf c) (hRest (Host.negf c)) (hRest (hRest (Host.negf c))) hOne hOne hOne

/-- The value lanes. -/
def hVa (v : FVec F S16x16384x64 .f32) : FVec F S16x16384x128 .bf16 := hLanes3 v hOne hOne hOne

/-- The value lanes the kernel reads: the first eighty, four groups of keys, each group transposed. -/
def hVt (v : FVec F S16x16384x64 .f32) : FVec F S16x4x80x4096 .bf16 :=
  transpose S16x4x80x4096 [0, 1, 3, 2]
    (shapeCast S16x4x4096x80 (extractStridedSlice S16x16384x80 ![0, 0, 0] (hVa v) slices_S16x16384x128_S16x16384x80_0_0_0) shapeCasts_S16x16384x80_S16x4x4096x80)
    transposes_S16x4x4096x80_S16x4x80x4096_0_1_3_2

variable (W : Valuation τ sig (Elt F))

/-- The queries' lanes. -/
theorem W_qa : after hostOps0 W (Proc.devRef .tc main_v33) = hQa (W (Proc.devRef .tc main_arg0) : FVec F S16x16384x64 .f32) (W (Proc.devRef .tc main_arg3) : FVec F S16x16384 .f32) (W (Proc.devRef .tc main_arg4) : FVec F S1x64 .f32) (W (Proc.devRef .tc main_arg5) : FVec F S1x64 .f32) := by
  after_reads_simp
  have e0 : upto hostOps0 W 41 (Proc.devRef .tc main_v31) = (truncf .bf16 (mulf (W (Proc.devRef .tc main_arg0) : FVec F S16x16384x64 .f32) (broadcastInDim S16x16384x64 ![] bcast_S_S16x16384x64 (constant S_ .f32 0x3E000000#32))) bitsLt_bf16_f32 : FVec F S16x16384x64 .bf16) := by after_reads_simp
  have e1 : upto hostOps0 W 41 (Proc.devRef .tc main_v23) = (hCol hOne : FVec F S16x16384x1 .bf16) := by after_reads_simp; rfl
  have e2 : upto hostOps0 W 41 (Proc.devRef .tc main_v25) = (hCol hOne : FVec F S16x16384x1 .bf16) := by after_reads_simp; rfl
  have e3 : upto hostOps0 W 41 (Proc.devRef .tc main_v27) = (hCol hOne : FVec F S16x16384x1 .bf16) := by after_reads_simp; rfl
  have e4 : upto hostOps0 W 41 (Proc.devRef .tc main_v28) = (hCol (hLow (W (Proc.devRef .tc main_arg3) : FVec F S16x16384 .f32) (W (Proc.devRef .tc main_arg4) : FVec F S1x64 .f32) (W (Proc.devRef .tc main_arg5) : FVec F S1x64 .f32)) : FVec F S16x16384x1 .bf16) := by after_reads_simp; rfl
  have e5 : upto hostOps0 W 41 (Proc.devRef .tc main_v29) = (hCol (hRest (hLow (W (Proc.devRef .tc main_arg3) : FVec F S16x16384 .f32) (W (Proc.devRef .tc main_arg4) : FVec F S1x64 .f32) (W (Proc.devRef .tc main_arg5) : FVec F S1x64 .f32))) : FVec F S16x16384x1 .bf16) := by after_reads_simp; rfl
  have e6 : upto hostOps0 W 41 (Proc.devRef .tc main_v30) = (hCol (hRest (hRest (hLow (W (Proc.devRef .tc main_arg3) : FVec F S16x16384 .f32) (W (Proc.devRef .tc main_arg4) : FVec F S1x64 .f32) (W (Proc.devRef .tc main_arg5) : FVec F S1x64 .f32)))) : FVec F S16x16384x1 .bf16) := by after_reads_simp; rfl
  have e7 : upto hostOps0 W 41 (Proc.devRef .tc main_v32) = (broadcastInDim S16x16384x58 ![] bcast_S_S16x16384x58 (constant S_ .bf16 0x0000#16) : FVec F S16x16384x58 .bf16) := by after_reads_simp
  dsimp only [Matrix.cons_val]
  rw [e0, e1, e2, e3, e4, e5, e6, e7]
  rfl

/-- The keys' lanes. -/
theorem W_ka : after hostOps0 W (Proc.devRef .tc main_v53) = hKa (W (Proc.devRef .tc main_arg1) : FVec F S16x16384x64 .f32) (W (Proc.devRef .tc main_arg3) : FVec F S16x16384 .f32) := by
  after_reads_simp
  have e0 : upto hostOps0 W 62 (Proc.devRef .tc main_v51) = (truncf .bf16 (W (Proc.devRef .tc main_arg1) : FVec F S16x16384x64 .f32) bitsLt_bf16_f32 : FVec F S16x16384x64 .bf16) := by after_reads_simp
  have e1 : upto hostOps0 W 62 (Proc.devRef .tc main_v42) = (hCol (Host.negf (W (Proc.devRef .tc main_arg3) : FVec F S16x16384 .f32)) : FVec F S16x16384x1 .bf16) := by after_reads_simp; rfl
  have e2 : upto hostOps0 W 62 (Proc.devRef .tc main_v43) = (hCol (hRest (Host.negf (W (Proc.devRef .tc main_arg3) : FVec F S16x16384 .f32))) : FVec F S16x16384x1 .bf16) := by after_reads_simp; rfl
  have e3 : upto hostOps0 W 62 (Proc.devRef .tc main_v44) = (hCol (hRest (hRest (Host.negf (W (Proc.devRef .tc main_arg3) : FVec F S16x16384 .f32)))) : FVec F S16x16384x1 .bf16) := by after_reads_simp; rfl
  have e4 : upto hostOps0 W 62 (Proc.devRef .tc main_v46) = (hCol hOne : FVec F S16x16384x1 .bf16) := by after_reads_simp; rfl
  have e5 : upto hostOps0 W 62 (Proc.devRef .tc main_v48) = (hCol hOne : FVec F S16x16384x1 .bf16) := by after_reads_simp; rfl
  have e6 : upto hostOps0 W 62 (Proc.devRef .tc main_v50) = (hCol hOne : FVec F S16x16384x1 .bf16) := by after_reads_simp; rfl
  have e7 : upto hostOps0 W 62 (Proc.devRef .tc main_v52) = (broadcastInDim S16x16384x58 ![] bcast_S_S16x16384x58 (constant S_ .bf16 0x0000#16) : FVec F S16x16384x58 .bf16) := by after_reads_simp
  dsimp only [Matrix.cons_val]
  rw [e0, e1, e2, e3, e4, e5, e6, e7]
  rfl

/-- The values' lanes. -/
theorem W_va : after hostOps0 W (Proc.devRef .tc main_v62) = hVa (W (Proc.devRef .tc main_arg2) : FVec F S16x16384x64 .f32) := by
  after_reads_simp
  have e0 : upto hostOps0 W 72 (Proc.devRef .tc main_v60) = (truncf .bf16 (W (Proc.devRef .tc main_arg2) : FVec F S16x16384x64 .f32) bitsLt_bf16_f32 : FVec F S16x16384x64 .bf16) := by after_reads_simp
  have e1 : upto hostOps0 W 72 (Proc.devRef .tc main_v55) = (hCol hOne : FVec F S16x16384x1 .bf16) := by after_reads_simp; rfl
  have e2 : upto hostOps0 W 72 (Proc.devRef .tc main_v57) = (hCol hOne : FVec F S16x16384x1 .bf16) := by after_reads_simp; rfl
  have e3 : upto hostOps0 W 72 (Proc.devRef .tc main_v59) = (hCol hOne : FVec F S16x16384x1 .bf16) := by after_reads_simp; rfl
  have e4 : upto hostOps0 W 72 (Proc.devRef .tc main_v61) = (broadcastInDim S16x16384x61 ![] bcast_S_S16x16384x61 (constant S_ .bf16 0x0000#16) : FVec F S16x16384x61 .bf16) := by after_reads_simp
  dsimp only [Matrix.cons_val]
  rw [e0, e1, e2, e3, e4]
  rfl

/-- The queries' lanes in tiles, the values' lanes in groups. -/
theorem W_tiles :
    after hostOps0 W (Proc.devRef .tc main_v66) = shapeCast S16x32x512x128 (after hostOps0 W (Proc.devRef .tc main_v33) : FVec F S16x16384x128 .bf16) shapeCasts_S16x16384x128_S16x32x512x128
    ∧ after hostOps0 W (Proc.devRef .tc main_v65) = transpose S16x4x80x4096 [0, 1, 3, 2]
        (shapeCast S16x4x4096x80 (extractStridedSlice S16x16384x80 ![0, 0, 0] (after hostOps0 W (Proc.devRef .tc main_v62) : FVec F S16x16384x128 .bf16) slices_S16x16384x128_S16x16384x80_0_0_0) shapeCasts_S16x16384x80_S16x4x4096x80)
        transposes_S16x4x4096x80_S16x4x80x4096_0_1_3_2 := by
  refine ⟨?_, ?_⟩ <;> after_reads_simp <;> rfl

variable (m : (ℓ : Loc nD τ sig) → Buf (Elt F) ℓ) (c : Dev nD)

/-- What a buffer holds when the kernel begins. -/
theorem V_eq (b : Ref sig .tc) : V m c b = after hostOps0 (fun b => m (c, b)) (Proc.devRef .tc b) := by
  show after (List.flatten [hostOps0]) _ _ = _
  rw [List.flatten_cons, List.flatten_nil, List.append_nil]

end Cert.Kernel2Ideal.Hand
-- ==== Proof.K2I.Lanes.lean ====
/-
  The three arrays of lanes over the extended reals, at real arguments, and the products of their lanes: the scores, and
  the scores less the bound.
-/
module

public import proofs.«01_k».proof.Proof.K2I.Host
public import proofs.«01_k».proof.Proof.Ext
public import Idealize.ShloMosaic.Lib.Pointwise

@[expose] public section

set_option maxRecDepth 16384

noncomputable section

namespace Cert.Kernel2Ideal.Hand

open Cert.Kernel2Ideal Cert.Kernel2Ideal.Gen Cert.Attn
open Idealize.ShloMosaic Idealize.ShloMosaic.TcCoe

/-- The largest of a real and finitely many reals is a real. -/
theorem foldl_max_real {ι : Type} (f : ι → EReal) (hf : ∀ i, ∃ y : ℝ, f i = (y : EReal)) :
    ∀ (l : List ι) (a : ℝ), ∃ y : ℝ, l.foldl (fun r n => max r (f n)) (a : EReal) = (y : EReal)
  | [], a => ⟨a, rfl⟩
  | b :: l, a => by
    obtain ⟨y, hy⟩ := hf b
    rw [List.foldl_cons, hy, ← EReal.coe_strictMono.monotone.map_max]
    exact foldl_max_real f hf l _

/-- The largest absolute value of real entries is real. -/
theorem largest_real (g : FVec Ideal S1x64 .f32) (hg : ∀ i, ∃ y : ℝ, g i = (y : EReal)) (j : S_.Idx) : ∃ y : ℝ, hLargest g j = (y : EReal) := by
  haveI : Subsingleton S_.Idx := ⟨fun a b => funext fun a => a.elim0⟩
  have ha : ∀ i : S1x64.Idx, ∃ y : ℝ, (Host.absf g : FVec Ideal S1x64 .f32) i = (y : EReal) := by
    intro i
    obtain ⟨y, hy⟩ := hg i
    refine ⟨max y (-y), ?_⟩
    show max (g i) (-(g i)) = _
    rw [hy, ← EReal.coe_neg, ← EReal.coe_strictMono.monotone.map_max]
  unfold hLargest
  rw [Host.reduce_eq_foldl]
  have hmem : ∀ i : S1x64.Idx, i ∈ ((List.finRange S1x64.numel).map S1x64.rowMajor.symm).filter fun i => reducesTo_S1x64_S_d0_1.drop i = j := by
    intro i
    rw [List.mem_filter]
    exact ⟨List.mem_map.2 ⟨S1x64.rowMajor i, List.mem_finRange _, Equiv.symm_apply_apply _ _⟩, by simp [Subsingleton.elim (reducesTo_S1x64_S_d0_1.drop i) j]⟩
  have h0 : (constant S_ .f32 0xFF800000#32 : FVec Ideal S_ .f32) (Shape.Idx.first h_S_) = (⊥ : EReal) := bottom
  rw [h0]
  generalize ((List.finRange S1x64.numel).map S1x64.rowMajor.symm).filter (fun i => decide (reducesTo_S1x64_S_d0_1.drop i = j)) = L at hmem ⊢
  cases L with
  | nil => exact absurd (hmem (ix2 0 0)) (List.not_mem_nil)
  | cons b L =>
    obtain ⟨y, hy⟩ := ha b
    obtain ⟨z, hz⟩ := foldl_max_real _ ha L y
    refine ⟨z, ?_⟩
    rw [List.foldl_cons, hy]
    refine Eq.trans ?_ hz
    refine congrArg (fun x : EReal => List.foldl (fun (r : EReal) n => max r ((Host.absf g : FVec Ideal S1x64 .f32) n)) x L) ?_
    exact max_eq_right bot_le

variable (q k v : Fin 16 → Fin 16384 → Fin 64 → ℝ) (c s : Fin 16 → Fin 16384 → ℝ)

/-- Query lanes: an eighth of the query, three ones, the offset less the bound. -/
def qlane (h : Fin 16) (i : Fin 16384) (l : Fin 128) : ℝ :=
  if hl : l.val < 64 then q h i ⟨l.val, hl⟩ * (1 / 8) else if l.val < 67 then 1 else if l.val = 67 then s h i else 0
/-- Key lanes: the key, its offset negated, three ones. -/
def klane (h : Fin 16) (i : Fin 16384) (l : Fin 128) : ℝ :=
  if hl : l.val < 64 then k h i ⟨l.val, hl⟩ else if l.val = 64 then -c h i else if l.val < 67 then 0 else if l.val < 70 then 1 else 0
/-- Value lanes: the value, three ones. -/
def vlane (h : Fin 16) (i : Fin 16384) (l : Fin 80) : ℝ :=
  if hl : l.val < 64 then v h i ⟨l.val, hl⟩ else if l.val < 67 then 1 else 0

section
variable (Q : FVec Ideal S16x16384x64 .f32) (a b e f g o : FVec Ideal S16x16384 .f32)

theorem lanes3_at (h : Fin 16) (i : Fin 16384) (l : Fin 128) : hLanes3 Q a b e (ix3 h i l)
    = if hl : l.val < 64 then Q (ix3 h i ⟨l.val, hl⟩) else if l.val = 64 then a (ix2 h i) else if l.val = 65 then b (ix2 h i) else if l.val = 66 then e (ix2 h i) else 0 := by
  pointwise [hLanes3, hCol]
  by_cases hl : l.val < 64
  · simp only [dif_pos hl]
  · simp only [dif_neg hl]
    by_cases h1 : l.val = 64
    · simp [h1]
    by_cases h2 : l.val = 65
    · simp [h2]
    by_cases h3 : l.val = 66
    · simp [h3]
    · rw [dif_neg (by omega), dif_neg (by omega), dif_neg (by omega)]
      simp [h1, h2, h3]

theorem lanes6_at (h : Fin 16) (i : Fin 16384) (l : Fin 128) : hLanes6 Q a b e f g o (ix3 h i l)
    = if hl : l.val < 64 then Q (ix3 h i ⟨l.val, hl⟩) else if l.val = 64 then a (ix2 h i) else if l.val = 65 then b (ix2 h i) else if l.val = 66 then e (ix2 h i)
      else if l.val = 67 then f (ix2 h i) else if l.val = 68 then g (ix2 h i) else if l.val = 69 then o (ix2 h i) else 0 := by
  pointwise [hLanes6, hCol]
  by_cases hl : l.val < 64
  · simp only [dif_pos hl]
  · simp only [dif_neg hl]
    by_cases h1 : l.val = 64
    · simp [h1]
    by_cases h2 : l.val = 65
    · simp [h2]
    by_cases h3 : l.val = 66
    · simp [h3]
    by_cases h4 : l.val = 67
    · simp [h4]
    by_cases h5 : l.val = 68
    · simp [h5]
    by_cases h6 : l.val = 69
    · simp [h6]
    · rw [dif_neg (by omega), dif_neg (by omega), dif_neg (by omega), dif_neg (by omega), dif_neg (by omega), dif_neg (by omega)]
      simp [h1, h2, h3, h4, h5, h6]

/-- Rounding drops nothing of a real. -/
theorem rest_at (x : Fin 16 → Fin 16384 → ℝ) (ha : ∀ h i, a (ix2 h i) = ((x h i : ℝ) : EReal)) (h : Fin 16) (i : Fin 16384) : hRest a (ix2 h i) = ((0 : ℝ) : EReal) := by
  pointwise [hRest]
  rw [ha, ← EReal.coe_sub, sub_self]

theorem one_at (h : Fin 16) (i : Fin 16384) : hOne (F := Ideal) (ix2 h i) = ((1 : ℝ) : EReal) := by
  pointwise [hOne]
  exact EReal.coe_one.symm

theorem neg_at (x : Fin 16 → Fin 16384 → ℝ) (ha : ∀ h i, a (ix2 h i) = ((x h i : ℝ) : EReal)) (h : Fin 16) (i : Fin 16384) : Host.negf a (ix2 h i) = ((-x h i : ℝ) : EReal) := by
  pointwise []
  rw [ha, EReal.coe_neg]

/-- The offsets less the bound, whatever real the bound is. -/
theorem low_real (gq gk : FVec Ideal S1x64 .f32) (hgq : ∀ i, ∃ y : ℝ, gq i = (y : EReal)) (hgk : ∀ i, ∃ y : ℝ, gk i = (y : EReal))
    (ha : ∀ h i, a (ix2 h i) = ((c h i : ℝ) : EReal)) :
    ∃ s : Fin 16 → Fin 16384 → ℝ, ∀ h i, hLow a gq gk (ix2 h i) = ((s h i : ℝ) : EReal) := by
  have hb : ∀ j : S_.Idx, ∃ y : ℝ, hReach gq gk j = (y : EReal) := by
    intro j
    obtain ⟨x, hx⟩ := largest_real gq hgq j
    obtain ⟨y, hy⟩ := largest_real gk hgk j
    have e : hReach gq gk j = Ideal.ofBits .f32 0x410147AE#32 * hLargest gq j * hLargest gk j := rfl
    have ec : ∃ z : ℝ, Ideal.ofBits .f32 0x410147AE#32 = (z : EReal) := ⟨_, rfl⟩
    obtain ⟨z, hz⟩ := ec
    refine ⟨z * x * y, ?_⟩
    rw [e, hx, hy, hz, EReal.coe_mul, EReal.coe_mul]
  have hs : ∀ h i, ∃ y : ℝ, hLow a gq gk (ix2 h i) = (y : EReal) := by
    intro h i
    obtain ⟨y, hy⟩ := hb (fun a => a.elim0)
    have e : ∃ j : S_.Idx, hLow a gq gk (ix2 h i) = a (ix2 h i) - hReach gq gk j := ⟨_, rfl⟩
    obtain ⟨j, hj⟩ := e
    obtain ⟨y, hy⟩ := hb j
    exact ⟨c h i - y, by rw [hj, hy, ha, EReal.coe_sub]⟩
  choose s hs using hs
  exact ⟨s, hs⟩

theorem qa_at (gq gk : FVec Ideal S1x64 .f32) (hq : ∀ h i l, Q (ix3 h i l) = ((q h i l : ℝ) : EReal)) (hn : ∀ h i, hLow a gq gk (ix2 h i) = ((s h i : ℝ) : EReal))
    (h : Fin 16) (i : Fin 16384) (l : Fin 128) : hQa Q a gq gk (ix3 h i l) = ((qlane q s h i l : ℝ) : EReal) := by
  have hr := rest_at (hLow a gq gk) _ hn
  have hr' := rest_at (hRest (hLow a gq gk)) _ hr
  have hm : ∀ l : Fin 64, mulf Q (broadcastInDim S16x16384x64 ![] bcast_S_S16x16384x64 (constant S_ .f32 0x3E000000#32)) (ix3 h i l) = ((q h i l * (1 / 8) : ℝ) : EReal) := by
    intro l
    pointwise [hq, eighth]
    rw [← EReal.coe_mul]
  unfold hQa
  rw [lanes6_at]
  unfold qlane
  simp only [hn, hr, hr', hm, one_at]
  by_cases hl : l.val < 64
  · simp only [dif_pos hl]
  · simp only [dif_neg hl]
    split_ifs <;> first | rfl | (exfalso; omega)

theorem ka_at (hk : ∀ h i l, Q (ix3 h i l) = ((k h i l : ℝ) : EReal)) (ha : ∀ h i, a (ix2 h i) = ((c h i : ℝ) : EReal)) (h : Fin 16) (i : Fin 16384) (l : Fin 128) :
    hKa Q a (ix3 h i l) = ((klane k c h i l : ℝ) : EReal) := by
  have hn := neg_at a c ha
  have hr := rest_at (Host.negf a) _ hn
  have hr' := rest_at (hRest (Host.negf a)) _ hr
  unfold hKa
  rw [lanes6_at]
  unfold klane
  simp only [hn, hr, hr', hk, one_at]
  by_cases hl : l.val < 64
  · simp only [dif_pos hl]
  · simp only [dif_neg hl]
    split_ifs <;> first | rfl | (exfalso; omega)

theorem va_at (hv : ∀ h i l, Q (ix3 h i l) = ((v h i l : ℝ) : EReal)) (h : Fin 16) (i : Fin 16384) (l : Fin 80) :
    hVa Q (ix3 h i ⟨l.val, by omega⟩) = ((vlane v h i l : ℝ) : EReal) := by
  unfold hVa
  rw [lanes3_at]
  unfold vlane
  simp only [hv, one_at]
  by_cases hl : l.val < 64
  · simp only [dif_pos hl]
  · simp only [dif_neg hl]
    split_ifs <;> first | rfl | (exfalso; omega)

end

/-- A sum over the lanes: the features' and the others'. -/
theorem sum_lanes (f : Fin 128 → ℝ) : ∑ l, f l = (∑ l : Fin 64, f ⟨l.val, by omega⟩) + ∑ l : Fin 64, f ⟨64 + l.val, by omega⟩ :=
  Fin.sum_univ_add (a := 64) (b := 64) f

/-- The product of key and query lanes: the score and the query's offset less the bound. -/
theorem dot_kq (h : Fin 16) (i j : Fin 16384) : ∑ l, klane k c h j l * qlane q s h i l = score q k c h i j + s h i := by
  rw [sum_lanes]
  have e1 : ∀ l : Fin 64, klane k c h j ⟨l.val, by omega⟩ * qlane q s h i ⟨l.val, by omega⟩ = q h i l * k h j l * (1 / 8) := by
    intro l
    have := l.isLt
    unfold qlane klane
    simp only [dif_pos this]
    ring
  have e2 : ∀ l : Fin 64, klane k c h j ⟨64 + l.val, by omega⟩ * qlane q s h i ⟨64 + l.val, by omega⟩
      = (if l = 0 then -c h j else 0) + (if l = 3 then s h i else 0) := by
    intro l
    have := l.isLt
    have n0 : (l = 0) = (l.val = 0) := propext Fin.ext_iff
    have n3 : (l = 3) = (l.val = 3) := propext Fin.ext_iff
    unfold qlane klane
    simp only [n0, n3]
    rw [dif_neg (by show ¬ 64 + l.val < 64; omega), dif_neg (by show ¬ 64 + l.val < 64; omega)]
    show (if 64 + l.val = 64 then -c h j else if 64 + l.val < 67 then 0 else if 64 + l.val < 70 then 1 else 0) * (if 64 + l.val < 67 then (1 : ℝ) else if 64 + l.val = 67 then s h i else 0) = _
    split_ifs <;> first | (exfalso; omega) | ring
  simp only [e1, e2, Finset.sum_add_distrib, Finset.sum_ite_eq', Finset.mem_univ, if_true, ← Finset.sum_mul]
  unfold score
  ring

/-- What three of a query's lanes hold together. -/
theorem lanes_low (h : Fin 16) (i : Fin 16384) : (∑ l : Fin 128, if 67 ≤ l.val ∧ l.val < 70 then qlane q s h i l else 0) = s h i := by
  have e : ∀ l : Fin 128, (if 67 ≤ l.val ∧ l.val < 70 then qlane q s h i l else 0) = if l = 67 then s h i else 0 := by
    intro l
    have n : (l = 67) = (l.val = 67) := propext Fin.ext_iff
    simp only [n]
    unfold qlane
    split_ifs <;> first | rfl | (exfalso; omega)
  simp only [e, Finset.sum_ite_eq', Finset.mem_univ, if_true]

/-- Without those three lanes the query's offset less the bound is nought. -/
theorem lanes_bare (h : Fin 16) (i : Fin 16384) (l : Fin 128) :
    (if 67 ≤ l.val ∧ l.val < 70 then 0 else qlane q s h i l) = qlane q (fun _ _ => 0) h i l := by
  unfold qlane
  split_ifs <;> first | rfl | (exfalso; omega)

end Cert.Kernel2Ideal.Hand
-- ==== Proof.K2I.Tile.lean ====
/-
  The products of one step of the attention's forward pass over the extended reals, read at an entry, when what the step
  reads are real numbers: under a known bound the sums of the weighted values, and with a running maximum the new maximum
  and the sums rescaled to it.
-/
module

public import proofs.«01_k».proof.Proof.Gen.Kernel2Ideal.Skeleton
public import proofs.«01_k».proof.Proof.Ext
public import Idealize.ShloMosaic.Lib.Pointwise
public import Idealize.ShloMosaic.Lib.IdealHost
public import Idealize.ShloMosaic.Lib.WordCmp

@[expose] public section

set_option maxRecDepth 16384

noncomputable section

namespace Cert.Kernel2Ideal.Hand

open Cert.Kernel2Ideal Cert.Kernel2Ideal.Gen Cert.Attn
open Idealize.ShloMosaic Idealize.ShloMosaic.TcCoe

/-- A score, minus infinity where it is masked. -/
def cut (b : Prop) [Decidable b] (z : ℝ) : EReal := if b then (z : EReal) else ⊥

/-- Its exponential. -/
def pr (b : Prop) [Decidable b] (z : ℝ) : ℝ := if b then Real.exp z else 0

theorem cut_true (z : ℝ) : cut True z = (z : EReal) := if_pos trivial

theorem exp_cut (b : Prop) [Decidable b] (z : ℝ) : Ideal.exp (cut b z) = ((pr b z : ℝ) : EReal) := by
  unfold cut pr; split_ifs
  · rw [Ideal.exp_coe]
  · rw [Ideal.exp_bot, EReal.coe_zero]

/-- The mask constant is minus infinity. -/
theorem mask_bot : (Named.named κ "mask" 0xF149F2CA#32 : Ideal .f32) = (⊥ : EReal) := rfl

/-- The masked score the body chooses. -/
theorem select_cut {n : ℕ} (t : Fin n) (r : Fin 512) (o : ℕ) (hn : n ≤ 4096) (ho : o ≤ 4096) (z : ℝ) :
    Scalar.select (IntOp.cmpi CmpIPredicate.sle (BitVec.ofNat 32 t.val) (IntOp.addi (BitVec.ofNat 32 r.val) (BitVec.ofNat 32 o)))
      (z : EReal) (Named.named (F := Ideal) κ "mask" 0xF149F2CA#32 : Ideal .f32) = cut (t.val ≤ r.val + o) z := by
  have h1 := t.isLt
  have h2 := r.isLt
  rw [mask_bot, WordCmp.addi_ofNat, WordCmp.cmpi_sle_ofNat (w := 32) (by norm_num; omega) (by norm_num; omega)]
  unfold cut
  by_cases hb : t.val ≤ r.val + o
  · simp [hb, Scalar.select]
  · simp [hb, Scalar.select]

/-- A product of lanes. -/
theorem dot_coe (k q : Fin 128 → ℝ) : ∑ l, (k l : EReal) * (q l : EReal) = ((∑ l, k l * q l : ℝ) : EReal) := by
  simp only [← EReal.coe_mul, sum_coe]

/-- The new maximum: the old one's with the largest of a column. -/
theorem column {n : ℕ} (hr : (⟨2, ![n, 512]⟩ : Shape).Reduces [0] S512) (x : FVec Ideal ⟨2, ![n, 512]⟩ .f32) (mx : FVec Ideal S1x512 .f32) (r : Fin 512) :
    maximumf mx (shapeCast S1x512 (multiReduction .maximumf [0] S512 x 0xFF800000#32 hr (.inl rfl) rfl) shapeCasts_S512_S1x512) (ix2 0 r)
      = max (mx (ix2 0 r)) (Finset.univ.fold max (⊥ : EReal) fun t : Fin n => x (ix2 t r)) := by
  pointwise [bottom]

section
variable (Q : Vec Ideal S1x1x512x128 .bf16) (q : Fin 512 → Fin 128 → ℝ) (hQ : ∀ r l, Q (ix4 0 0 r l) = ((q r l : ℝ) : EReal))

include hQ in
/-- 4096 keys under a known bound, none masked. -/
theorem btrip_at (T : Vec Ideal S1x1x80x4096 .bf16) (K : Vec Ideal S1x4096x128 .bf16) (v : Fin 80 → Fin 4096 → ℝ) (k : Fin 4096 → Fin 128 → ℝ)
    (hT : ∀ a t, T (ix4 0 0 a t) = ((v a t : ℝ) : EReal)) (hK : ∀ t l, K (ix3 0 t l) = ((k t l : ℝ) : EReal))
    (x : Vec Ideal S80x512 .f32) (a : Fin 80) (r : Fin 512) (y : ℝ) (hx : x (ix2 a r) = (y : EReal)) :
    k0_pay7 (F := Ideal) Q T K x (ix2 a r) = ((y + ∑ t, v a t * pr (True) (∑ l, k t l * q r l) : ℝ) : EReal) := by
  pointwise [k0_pay7, k0_pay6, hQ, hT, hK, hx]
  rw [EReal.coe_add, ← sum_coe]
  refine congrArg (fun w : EReal => (y : EReal) + w) (Finset.sum_congr rfl fun t _ => ?_)
  rw [dot_coe, ← cut_true (∑ l, k t l * q r l), exp_cut]
  exact (EReal.coe_mul _ _).symm

include hQ in
/-- 512 keys under a known bound, the later masked. -/
theorem bdiag0_at (T : Vec Ideal S1x1x80x512 .bf16) (K : Vec Ideal S1x512x128 .bf16) (v : Fin 80 → Fin 512 → ℝ) (k : Fin 512 → Fin 128 → ℝ)
    (hT : ∀ a t, T (ix4 0 0 a t) = ((v a t : ℝ) : EReal)) (hK : ∀ t l, K (ix3 0 t l) = ((k t l : ℝ) : EReal))
    (x : Vec Ideal S80x512 .f32) (a : Fin 80) (r : Fin 512) (y : ℝ) (hx : x (ix2 a r) = (y : EReal)) :
    k0_pay9 (F := Ideal) Q T K x (ix2 a r) = ((y + ∑ t, v a t * pr (t.val ≤ r.val + 0) (∑ l, k t l * q r l) : ℝ) : EReal) := by
  pointwise [k0_pay9, k0_pay6, hQ, hT, hK, hx]
  rw [EReal.coe_add, ← sum_coe]
  refine congrArg (fun w : EReal => (y : EReal) + w) (Finset.sum_congr rfl fun t _ => ?_)
  rw [dot_coe, select_cut t r 0 (by norm_num) (by norm_num), exp_cut]
  exact (EReal.coe_mul _ _).symm

include hQ in
/-- 1024 keys under a known bound, the later masked. -/
theorem bdiag1_at (T : Vec Ideal S1x1x80x1024 .bf16) (K : Vec Ideal S1x1024x128 .bf16) (v : Fin 80 → Fin 1024 → ℝ) (k : Fin 1024 → Fin 128 → ℝ)
    (hT : ∀ a t, T (ix4 0 0 a t) = ((v a t : ℝ) : EReal)) (hK : ∀ t l, K (ix3 0 t l) = ((k t l : ℝ) : EReal))
    (x : Vec Ideal S80x512 .f32) (a : Fin 80) (r : Fin 512) (y : ℝ) (hx : x (ix2 a r) = (y : EReal)) :
    k0_pay10 (F := Ideal) Q T K x (ix2 a r) = ((y + ∑ t, v a t * pr (t.val ≤ r.val + 512) (∑ l, k t l * q r l) : ℝ) : EReal) := by
  pointwise [k0_pay10, k0_pay6, hQ, hT, hK, hx]
  rw [EReal.coe_add, ← sum_coe]
  refine congrArg (fun w : EReal => (y : EReal) + w) (Finset.sum_congr rfl fun t _ => ?_)
  rw [dot_coe, select_cut t r 512 (by norm_num) (by norm_num), exp_cut]
  exact (EReal.coe_mul _ _).symm

include hQ in
/-- 1536 keys under a known bound, the later masked. -/
theorem bdiag2_at (T : Vec Ideal S1x1x80x1536 .bf16) (K : Vec Ideal S1x1536x128 .bf16) (v : Fin 80 → Fin 1536 → ℝ) (k : Fin 1536 → Fin 128 → ℝ)
    (hT : ∀ a t, T (ix4 0 0 a t) = ((v a t : ℝ) : EReal)) (hK : ∀ t l, K (ix3 0 t l) = ((k t l : ℝ) : EReal))
    (x : Vec Ideal S80x512 .f32) (a : Fin 80) (r : Fin 512) (y : ℝ) (hx : x (ix2 a r) = (y : EReal)) :
    k0_pay11 (F := Ideal) Q T K x (ix2 a r) = ((y + ∑ t, v a t * pr (t.val ≤ r.val + 1024) (∑ l, k t l * q r l) : ℝ) : EReal) := by
  pointwise [k0_pay11, k0_pay6, hQ, hT, hK, hx]
  rw [EReal.coe_add, ← sum_coe]
  refine congrArg (fun w : EReal => (y : EReal) + w) (Finset.sum_congr rfl fun t _ => ?_)
  rw [dot_coe, select_cut t r 1024 (by norm_num) (by norm_num), exp_cut]
  exact (EReal.coe_mul _ _).symm

include hQ in
/-- 2048 keys under a known bound, the later masked. -/
theorem bdiag3_at (T : Vec Ideal S1x1x80x2048 .bf16) (K : Vec Ideal S1x2048x128 .bf16) (v : Fin 80 → Fin 2048 → ℝ) (k : Fin 2048 → Fin 128 → ℝ)
    (hT : ∀ a t, T (ix4 0 0 a t) = ((v a t : ℝ) : EReal)) (hK : ∀ t l, K (ix3 0 t l) = ((k t l : ℝ) : EReal))
    (x : Vec Ideal S80x512 .f32) (a : Fin 80) (r : Fin 512) (y : ℝ) (hx : x (ix2 a r) = (y : EReal)) :
    k0_pay12 (F := Ideal) Q T K x (ix2 a r) = ((y + ∑ t, v a t * pr (t.val ≤ r.val + 1536) (∑ l, k t l * q r l) : ℝ) : EReal) := by
  pointwise [k0_pay12, k0_pay6, hQ, hT, hK, hx]
  rw [EReal.coe_add, ← sum_coe]
  refine congrArg (fun w : EReal => (y : EReal) + w) (Finset.sum_congr rfl fun t _ => ?_)
  rw [dot_coe, select_cut t r 1536 (by norm_num) (by norm_num), exp_cut]
  exact (EReal.coe_mul _ _).symm

include hQ in
/-- 2560 keys under a known bound, the later masked. -/
theorem bdiag4_at (T : Vec Ideal S1x1x80x2560 .bf16) (K : Vec Ideal S1x2560x128 .bf16) (v : Fin 80 → Fin 2560 → ℝ) (k : Fin 2560 → Fin 128 → ℝ)
    (hT : ∀ a t, T (ix4 0 0 a t) = ((v a t : ℝ) : EReal)) (hK : ∀ t l, K (ix3 0 t l) = ((k t l : ℝ) : EReal))
    (x : Vec Ideal S80x512 .f32) (a : Fin 80) (r : Fin 512) (y : ℝ) (hx : x (ix2 a r) = (y : EReal)) :
    k0_pay13 (F := Ideal) Q T K x (ix2 a r) = ((y + ∑ t, v a t * pr (t.val ≤ r.val + 2048) (∑ l, k t l * q r l) : ℝ) : EReal) := by
  pointwise [k0_pay13, k0_pay6, hQ, hT, hK, hx]
  rw [EReal.coe_add, ← sum_coe]
  refine congrArg (fun w : EReal => (y : EReal) + w) (Finset.sum_congr rfl fun t _ => ?_)
  rw [dot_coe, select_cut t r 2048 (by norm_num) (by norm_num), exp_cut]
  exact (EReal.coe_mul _ _).symm

include hQ in
/-- 3072 keys under a known bound, the later masked. -/
theorem bdiag5_at (T : Vec Ideal S1x1x80x3072 .bf16) (K : Vec Ideal S1x3072x128 .bf16) (v : Fin 80 → Fin 3072 → ℝ) (k : Fin 3072 → Fin 128 → ℝ)
    (hT : ∀ a t, T (ix4 0 0 a t) = ((v a t : ℝ) : EReal)) (hK : ∀ t l, K (ix3 0 t l) = ((k t l : ℝ) : EReal))
    (x : Vec Ideal S80x512 .f32) (a : Fin 80) (r : Fin 512) (y : ℝ) (hx : x (ix2 a r) = (y : EReal)) :
    k0_pay14 (F := Ideal) Q T K x (ix2 a r) = ((y + ∑ t, v a t * pr (t.val ≤ r.val + 2560) (∑ l, k t l * q r l) : ℝ) : EReal) := by
  pointwise [k0_pay14, k0_pay6, hQ, hT, hK, hx]
  rw [EReal.coe_add, ← sum_coe]
  refine congrArg (fun w : EReal => (y : EReal) + w) (Finset.sum_congr rfl fun t _ => ?_)
  rw [dot_coe, select_cut t r 2560 (by norm_num) (by norm_num), exp_cut]
  exact (EReal.coe_mul _ _).symm

include hQ in
/-- 3584 keys under a known bound, the later masked. -/
theorem bdiag6_at (T : Vec Ideal S1x1x80x3584 .bf16) (K : Vec Ideal S1x3584x128 .bf16) (v : Fin 80 → Fin 3584 → ℝ) (k : Fin 3584 → Fin 128 → ℝ)
    (hT : ∀ a t, T (ix4 0 0 a t) = ((v a t : ℝ) : EReal)) (hK : ∀ t l, K (ix3 0 t l) = ((k t l : ℝ) : EReal))
    (x : Vec Ideal S80x512 .f32) (a : Fin 80) (r : Fin 512) (y : ℝ) (hx : x (ix2 a r) = (y : EReal)) :
    k0_pay15 (F := Ideal) Q T K x (ix2 a r) = ((y + ∑ t, v a t * pr (t.val ≤ r.val + 3072) (∑ l, k t l * q r l) : ℝ) : EReal) := by
  pointwise [k0_pay15, k0_pay6, hQ, hT, hK, hx]
  rw [EReal.coe_add, ← sum_coe]
  refine congrArg (fun w : EReal => (y : EReal) + w) (Finset.sum_congr rfl fun t _ => ?_)
  rw [dot_coe, select_cut t r 3072 (by norm_num) (by norm_num), exp_cut]
  exact (EReal.coe_mul _ _).symm

include hQ in
/-- 4096 keys under a known bound, the later masked. -/
theorem bdiag7_at (T : Vec Ideal S1x1x80x4096 .bf16) (K : Vec Ideal S1x4096x128 .bf16) (v : Fin 80 → Fin 4096 → ℝ) (k : Fin 4096 → Fin 128 → ℝ)
    (hT : ∀ a t, T (ix4 0 0 a t) = ((v a t : ℝ) : EReal)) (hK : ∀ t l, K (ix3 0 t l) = ((k t l : ℝ) : EReal))
    (x : Vec Ideal S80x512 .f32) (a : Fin 80) (r : Fin 512) (y : ℝ) (hx : x (ix2 a r) = (y : EReal)) :
    k0_pay16 (F := Ideal) (k0_pay6 Q) T K x (ix2 a r) = ((y + ∑ t, v a t * pr (t.val ≤ r.val + 3584) (∑ l, k t l * q r l) : ℝ) : EReal) := by
  pointwise [k0_pay16, k0_pay6, hQ, hT, hK, hx]
  rw [EReal.coe_add, ← sum_coe]
  refine congrArg (fun w : EReal => (y : EReal) + w) (Finset.sum_congr rfl fun t _ => ?_)
  rw [dot_coe, select_cut t r 3584 (by norm_num) (by norm_num), exp_cut]
  exact (EReal.coe_mul _ _).symm

/-- The query's lanes with the bound's three taken away. -/
def bare (q : Fin 512 → Fin 128 → ℝ) (r : Fin 512) (l : Fin 128) : ℝ := if 67 ≤ l.val ∧ l.val < 70 then 0 else q r l

/-- The lanes the bound is kept in. -/
theorem pay1_at (r : Fin 512) (l : Fin 128) : k0_pay1 (ix2 r l) = BitVec.ofBool (decide (67 ≤ l.val ∧ l.val < 70)) := by
  have h := l.isLt
  pointwise [k0_pay1]
  revert l; decide +kernel

include hQ in
theorem pay27_at (r : Fin 512) (l : Fin 128) : k0_pay27 (F := Ideal) k0_pay1 Q (ix2 r l) = ((bare q r l : ℝ) : EReal) := by
  pointwise [k0_pay27, pay1_at, hQ]
  unfold bare
  by_cases h : 67 ≤ l.val ∧ l.val < 70
  · simp [h, Scalar.select]
  · simp [h, Scalar.select]

include hQ in
/-- 4096 keys with a running maximum, none masked: the scores. -/
theorem strip_at (K : Vec Ideal S1x4096x128 .bf16) (k : Fin 4096 → Fin 128 → ℝ)
    (hK : ∀ t l, K (ix3 0 t l) = ((k t l : ℝ) : EReal)) (t : Fin 4096) (r : Fin 512) :
    k0_pay29 (F := Ideal) k0_pay1 Q K (ix2 t r) = cut (True) (∑ l, k t l * bare q r l) := by
  pointwise [k0_pay29, pay27_at Q q hQ, hK]
  rw [dot_coe, cut_true]

include hQ in
/-- The new maximum. -/
theorem mtrip_at (K : Vec Ideal S1x4096x128 .bf16) (k : Fin 4096 → Fin 128 → ℝ)
    (hK : ∀ t l, K (ix3 0 t l) = ((k t l : ℝ) : EReal)) (mx : Vec Ideal S1x512 .f32) (r : Fin 512) :
    k0_pay30 (F := Ideal) k0_pay1 Q K mx (ix2 0 r) = max (mx (ix2 0 r)) (Finset.univ.fold max (⊥ : EReal) fun t : Fin 4096 => cut (True) (∑ l, k t l * bare q r l)) := by
  unfold k0_pay30
  refine (column (n := 4096) _ _ mx r).trans ?_
  simp only [strip_at Q q hQ K k hK]

include hQ in
theorem wtrip_at (K : Vec Ideal S1x4096x128 .bf16) (k : Fin 4096 → Fin 128 → ℝ)
    (hK : ∀ t l, K (ix3 0 t l) = ((k t l : ℝ) : EReal)) (mx : Vec Ideal S1x512 .f32) (r : Fin 512) :
    k0_pay32 (F := Ideal) k0_pay1 Q K mx (ix2 0 r) = max (mx (ix2 0 r)) (Finset.univ.fold max (⊥ : EReal) fun t : Fin 4096 => cut (True) (∑ l, k t l * bare q r l)) := by
  pointwise [k0_pay32, mtrip_at Q q hQ K k hK]

include hQ in
/-- The rescaled sums. -/
theorem utrip_at (T : Vec Ideal S1x1x80x4096 .bf16) (K : Vec Ideal S1x4096x128 .bf16) (v : Fin 80 → Fin 4096 → ℝ) (k : Fin 4096 → Fin 128 → ℝ)
    (hT : ∀ a t, T (ix4 0 0 a t) = ((v a t : ℝ) : EReal)) (hK : ∀ t l, K (ix3 0 t l) = ((k t l : ℝ) : EReal))
    (mx : Vec Ideal S1x512 .f32) (x : Vec Ideal S80x512 .f32) (a : Fin 80) (r : Fin 512) (N : EReal) (hN : k0_pay30 (F := Ideal) k0_pay1 Q K mx (ix2 0 r) = N) :
    k0_pay31 (F := Ideal) k0_pay1 Q T K mx x (ix2 a r) = Ideal.exp (mx (ix2 0 r) - N) * x (ix2 a r)
      + ∑ t, ((v a t : ℝ) : EReal) * Ideal.exp (cut (True) (∑ l, k t l * bare q r l) - N) := by
  pointwise [k0_pay31, strip_at Q q hQ K k hK, hT, hN]

include hQ in
/-- 512 keys with a running maximum, the later masked: the scores. -/
theorem sdiag0_at (K : Vec Ideal S1x512x128 .bf16) (k : Fin 512 → Fin 128 → ℝ)
    (hK : ∀ t l, K (ix3 0 t l) = ((k t l : ℝ) : EReal)) (t : Fin 512) (r : Fin 512) :
    k0_pay37 (F := Ideal) k0_pay1 Q K (ix2 t r) = cut (t.val ≤ r.val + 0) (∑ l, k t l * bare q r l) := by
  pointwise [k0_pay37, pay27_at Q q hQ, hK]
  rw [dot_coe]
  exact select_cut t r 0 (by norm_num) (by norm_num) _

include hQ in
/-- The new maximum. -/
theorem mdiag0_at (K : Vec Ideal S1x512x128 .bf16) (k : Fin 512 → Fin 128 → ℝ)
    (hK : ∀ t l, K (ix3 0 t l) = ((k t l : ℝ) : EReal)) (mx : Vec Ideal S1x512 .f32) (r : Fin 512) :
    k0_pay38 (F := Ideal) k0_pay1 Q K mx (ix2 0 r) = max (mx (ix2 0 r)) (Finset.univ.fold max (⊥ : EReal) fun t : Fin 512 => cut (t.val ≤ r.val + 0) (∑ l, k t l * bare q r l)) := by
  unfold k0_pay38
  refine (column (n := 512) _ _ mx r).trans ?_
  simp only [sdiag0_at Q q hQ K k hK]

include hQ in
theorem wdiag0_at (K : Vec Ideal S1x512x128 .bf16) (k : Fin 512 → Fin 128 → ℝ)
    (hK : ∀ t l, K (ix3 0 t l) = ((k t l : ℝ) : EReal)) (mx : Vec Ideal S1x512 .f32) (r : Fin 512) :
    k0_pay40 (F := Ideal) k0_pay1 Q K mx (ix2 0 r) = max (mx (ix2 0 r)) (Finset.univ.fold max (⊥ : EReal) fun t : Fin 512 => cut (t.val ≤ r.val + 0) (∑ l, k t l * bare q r l)) := by
  pointwise [k0_pay40, mdiag0_at Q q hQ K k hK]

include hQ in
/-- The rescaled sums. -/
theorem udiag0_at (T : Vec Ideal S1x1x80x512 .bf16) (K : Vec Ideal S1x512x128 .bf16) (v : Fin 80 → Fin 512 → ℝ) (k : Fin 512 → Fin 128 → ℝ)
    (hT : ∀ a t, T (ix4 0 0 a t) = ((v a t : ℝ) : EReal)) (hK : ∀ t l, K (ix3 0 t l) = ((k t l : ℝ) : EReal))
    (mx : Vec Ideal S1x512 .f32) (x : Vec Ideal S80x512 .f32) (a : Fin 80) (r : Fin 512) (N : EReal) (hN : k0_pay38 (F := Ideal) k0_pay1 Q K mx (ix2 0 r) = N) :
    k0_pay39 (F := Ideal) k0_pay1 Q T K mx x (ix2 a r) = Ideal.exp (mx (ix2 0 r) - N) * x (ix2 a r)
      + ∑ t, ((v a t : ℝ) : EReal) * Ideal.exp (cut (t.val ≤ r.val + 0) (∑ l, k t l * bare q r l) - N) := by
  pointwise [k0_pay39, sdiag0_at Q q hQ K k hK, hT, hN]

include hQ in
/-- 1024 keys with a running maximum, the later masked: the scores. -/
theorem sdiag1_at (K : Vec Ideal S1x1024x128 .bf16) (k : Fin 1024 → Fin 128 → ℝ)
    (hK : ∀ t l, K (ix3 0 t l) = ((k t l : ℝ) : EReal)) (t : Fin 1024) (r : Fin 512) :
    k0_pay41 (F := Ideal) k0_pay1 Q K (ix2 t r) = cut (t.val ≤ r.val + 512) (∑ l, k t l * bare q r l) := by
  pointwise [k0_pay41, pay27_at Q q hQ, hK]
  rw [dot_coe]
  exact select_cut t r 512 (by norm_num) (by norm_num) _

include hQ in
/-- The new maximum. -/
theorem mdiag1_at (K : Vec Ideal S1x1024x128 .bf16) (k : Fin 1024 → Fin 128 → ℝ)
    (hK : ∀ t l, K (ix3 0 t l) = ((k t l : ℝ) : EReal)) (mx : Vec Ideal S1x512 .f32) (r : Fin 512) :
    k0_pay42 (F := Ideal) k0_pay1 Q K mx (ix2 0 r) = max (mx (ix2 0 r)) (Finset.univ.fold max (⊥ : EReal) fun t : Fin 1024 => cut (t.val ≤ r.val + 512) (∑ l, k t l * bare q r l)) := by
  unfold k0_pay42
  refine (column (n := 1024) _ _ mx r).trans ?_
  simp only [sdiag1_at Q q hQ K k hK]

include hQ in
theorem wdiag1_at (K : Vec Ideal S1x1024x128 .bf16) (k : Fin 1024 → Fin 128 → ℝ)
    (hK : ∀ t l, K (ix3 0 t l) = ((k t l : ℝ) : EReal)) (mx : Vec Ideal S1x512 .f32) (r : Fin 512) :
    k0_pay44 (F := Ideal) k0_pay1 Q K mx (ix2 0 r) = max (mx (ix2 0 r)) (Finset.univ.fold max (⊥ : EReal) fun t : Fin 1024 => cut (t.val ≤ r.val + 512) (∑ l, k t l * bare q r l)) := by
  pointwise [k0_pay44, mdiag1_at Q q hQ K k hK]

include hQ in
/-- The rescaled sums. -/
theorem udiag1_at (T : Vec Ideal S1x1x80x1024 .bf16) (K : Vec Ideal S1x1024x128 .bf16) (v : Fin 80 → Fin 1024 → ℝ) (k : Fin 1024 → Fin 128 → ℝ)
    (hT : ∀ a t, T (ix4 0 0 a t) = ((v a t : ℝ) : EReal)) (hK : ∀ t l, K (ix3 0 t l) = ((k t l : ℝ) : EReal))
    (mx : Vec Ideal S1x512 .f32) (x : Vec Ideal S80x512 .f32) (a : Fin 80) (r : Fin 512) (N : EReal) (hN : k0_pay42 (F := Ideal) k0_pay1 Q K mx (ix2 0 r) = N) :
    k0_pay43 (F := Ideal) k0_pay1 Q T K mx x (ix2 a r) = Ideal.exp (mx (ix2 0 r) - N) * x (ix2 a r)
      + ∑ t, ((v a t : ℝ) : EReal) * Ideal.exp (cut (t.val ≤ r.val + 512) (∑ l, k t l * bare q r l) - N) := by
  pointwise [k0_pay43, sdiag1_at Q q hQ K k hK, hT, hN]

include hQ in
/-- 1536 keys with a running maximum, the later masked: the scores. -/
theorem sdiag2_at (K : Vec Ideal S1x1536x128 .bf16) (k : Fin 1536 → Fin 128 → ℝ)
    (hK : ∀ t l, K (ix3 0 t l) = ((k t l : ℝ) : EReal)) (t : Fin 1536) (r : Fin 512) :
    k0_pay45 (F := Ideal) k0_pay1 Q K (ix2 t r) = cut (t.val ≤ r.val + 1024) (∑ l, k t l * bare q r l) := by
  pointwise [k0_pay45, pay27_at Q q hQ, hK]
  rw [dot_coe]
  exact select_cut t r 1024 (by norm_num) (by norm_num) _

include hQ in
/-- The new maximum. -/
theorem mdiag2_at (K : Vec Ideal S1x1536x128 .bf16) (k : Fin 1536 → Fin 128 → ℝ)
    (hK : ∀ t l, K (ix3 0 t l) = ((k t l : ℝ) : EReal)) (mx : Vec Ideal S1x512 .f32) (r : Fin 512) :
    k0_pay46 (F := Ideal) k0_pay1 Q K mx (ix2 0 r) = max (mx (ix2 0 r)) (Finset.univ.fold max (⊥ : EReal) fun t : Fin 1536 => cut (t.val ≤ r.val + 1024) (∑ l, k t l * bare q r l)) := by
  unfold k0_pay46
  refine (column (n := 1536) _ _ mx r).trans ?_
  simp only [sdiag2_at Q q hQ K k hK]

include hQ in
theorem wdiag2_at (K : Vec Ideal S1x1536x128 .bf16) (k : Fin 1536 → Fin 128 → ℝ)
    (hK : ∀ t l, K (ix3 0 t l) = ((k t l : ℝ) : EReal)) (mx : Vec Ideal S1x512 .f32) (r : Fin 512) :
    k0_pay48 (F := Ideal) k0_pay1 Q K mx (ix2 0 r) = max (mx (ix2 0 r)) (Finset.univ.fold max (⊥ : EReal) fun t : Fin 1536 => cut (t.val ≤ r.val + 1024) (∑ l, k t l * bare q r l)) := by
  pointwise [k0_pay48, mdiag2_at Q q hQ K k hK]

include hQ in
/-- The rescaled sums. -/
theorem udiag2_at (T : Vec Ideal S1x1x80x1536 .bf16) (K : Vec Ideal S1x1536x128 .bf16) (v : Fin 80 → Fin 1536 → ℝ) (k : Fin 1536 → Fin 128 → ℝ)
    (hT : ∀ a t, T (ix4 0 0 a t) = ((v a t : ℝ) : EReal)) (hK : ∀ t l, K (ix3 0 t l) = ((k t l : ℝ) : EReal))
    (mx : Vec Ideal S1x512 .f32) (x : Vec Ideal S80x512 .f32) (a : Fin 80) (r : Fin 512) (N : EReal) (hN : k0_pay46 (F := Ideal) k0_pay1 Q K mx (ix2 0 r) = N) :
    k0_pay47 (F := Ideal) k0_pay1 Q T K mx x (ix2 a r) = Ideal.exp (mx (ix2 0 r) - N) * x (ix2 a r)
      + ∑ t, ((v a t : ℝ) : EReal) * Ideal.exp (cut (t.val ≤ r.val + 1024) (∑ l, k t l * bare q r l) - N) := by
  pointwise [k0_pay47, sdiag2_at Q q hQ K k hK, hT, hN]

include hQ in
/-- 2048 keys with a running maximum, the later masked: the scores. -/
theorem sdiag3_at (K : Vec Ideal S1x2048x128 .bf16) (k : Fin 2048 → Fin 128 → ℝ)
    (hK : ∀ t l, K (ix3 0 t l) = ((k t l : ℝ) : EReal)) (t : Fin 2048) (r : Fin 512) :
    k0_pay49 (F := Ideal) k0_pay1 Q K (ix2 t r) = cut (t.val ≤ r.val + 1536) (∑ l, k t l * bare q r l) := by
  pointwise [k0_pay49, pay27_at Q q hQ, hK]
  rw [dot_coe]
  exact select_cut t r 1536 (by norm_num) (by norm_num) _

include hQ in
/-- The new maximum. -/
theorem mdiag3_at (K : Vec Ideal S1x2048x128 .bf16) (k : Fin 2048 → Fin 128 → ℝ)
    (hK : ∀ t l, K (ix3 0 t l) = ((k t l : ℝ) : EReal)) (mx : Vec Ideal S1x512 .f32) (r : Fin 512) :
    k0_pay50 (F := Ideal) k0_pay1 Q K mx (ix2 0 r) = max (mx (ix2 0 r)) (Finset.univ.fold max (⊥ : EReal) fun t : Fin 2048 => cut (t.val ≤ r.val + 1536) (∑ l, k t l * bare q r l)) := by
  unfold k0_pay50
  refine (column (n := 2048) _ _ mx r).trans ?_
  simp only [sdiag3_at Q q hQ K k hK]

include hQ in
theorem wdiag3_at (K : Vec Ideal S1x2048x128 .bf16) (k : Fin 2048 → Fin 128 → ℝ)
    (hK : ∀ t l, K (ix3 0 t l) = ((k t l : ℝ) : EReal)) (mx : Vec Ideal S1x512 .f32) (r : Fin 512) :
    k0_pay52 (F := Ideal) k0_pay1 Q K mx (ix2 0 r) = max (mx (ix2 0 r)) (Finset.univ.fold max (⊥ : EReal) fun t : Fin 2048 => cut (t.val ≤ r.val + 1536) (∑ l, k t l * bare q r l)) := by
  pointwise [k0_pay52, mdiag3_at Q q hQ K k hK]

include hQ in
/-- The rescaled sums. -/
theorem udiag3_at (T : Vec Ideal S1x1x80x2048 .bf16) (K : Vec Ideal S1x2048x128 .bf16) (v : Fin 80 → Fin 2048 → ℝ) (k : Fin 2048 → Fin 128 → ℝ)
    (hT : ∀ a t, T (ix4 0 0 a t) = ((v a t : ℝ) : EReal)) (hK : ∀ t l, K (ix3 0 t l) = ((k t l : ℝ) : EReal))
    (mx : Vec Ideal S1x512 .f32) (x : Vec Ideal S80x512 .f32) (a : Fin 80) (r : Fin 512) (N : EReal) (hN : k0_pay50 (F := Ideal) k0_pay1 Q K mx (ix2 0 r) = N) :
    k0_pay51 (F := Ideal) k0_pay1 Q T K mx x (ix2 a r) = Ideal.exp (mx (ix2 0 r) - N) * x (ix2 a r)
      + ∑ t, ((v a t : ℝ) : EReal) * Ideal.exp (cut (t.val ≤ r.val + 1536) (∑ l, k t l * bare q r l) - N) := by
  pointwise [k0_pay51, sdiag3_at Q q hQ K k hK, hT, hN]

include hQ in
/-- 2560 keys with a running maximum, the later masked: the scores. -/
theorem sdiag4_at (K : Vec Ideal S1x2560x128 .bf16) (k : Fin 2560 → Fin 128 → ℝ)
    (hK : ∀ t l, K (ix3 0 t l) = ((k t l : ℝ) : EReal)) (t : Fin 2560) (r : Fin 512) :
    k0_pay53 (F := Ideal) k0_pay1 Q K (ix2 t r) = cut (t.val ≤ r.val + 2048) (∑ l, k t l * bare q r l) := by
  pointwise [k0_pay53, pay27_at Q q hQ, hK]
  rw [dot_coe]
  exact select_cut t r 2048 (by norm_num) (by norm_num) _

include hQ in
/-- The new maximum. -/
theorem mdiag4_at (K : Vec Ideal S1x2560x128 .bf16) (k : Fin 2560 → Fin 128 → ℝ)
    (hK : ∀ t l, K (ix3 0 t l) = ((k t l : ℝ) : EReal)) (mx : Vec Ideal S1x512 .f32) (r : Fin 512) :
    k0_pay54 (F := Ideal) k0_pay1 Q K mx (ix2 0 r) = max (mx (ix2 0 r)) (Finset.univ.fold max (⊥ : EReal) fun t : Fin 2560 => cut (t.val ≤ r.val + 2048) (∑ l, k t l * bare q r l)) := by
  unfold k0_pay54
  refine (column (n := 2560) _ _ mx r).trans ?_
  simp only [sdiag4_at Q q hQ K k hK]

include hQ in
theorem wdiag4_at (K : Vec Ideal S1x2560x128 .bf16) (k : Fin 2560 → Fin 128 → ℝ)
    (hK : ∀ t l, K (ix3 0 t l) = ((k t l : ℝ) : EReal)) (mx : Vec Ideal S1x512 .f32) (r : Fin 512) :
    k0_pay56 (F := Ideal) k0_pay1 Q K mx (ix2 0 r) = max (mx (ix2 0 r)) (Finset.univ.fold max (⊥ : EReal) fun t : Fin 2560 => cut (t.val ≤ r.val + 2048) (∑ l, k t l * bare q r l)) := by
  pointwise [k0_pay56, mdiag4_at Q q hQ K k hK]

include hQ in
/-- The rescaled sums. -/
theorem udiag4_at (T : Vec Ideal S1x1x80x2560 .bf16) (K : Vec Ideal S1x2560x128 .bf16) (v : Fin 80 → Fin 2560 → ℝ) (k : Fin 2560 → Fin 128 → ℝ)
    (hT : ∀ a t, T (ix4 0 0 a t) = ((v a t : ℝ) : EReal)) (hK : ∀ t l, K (ix3 0 t l) = ((k t l : ℝ) : EReal))
    (mx : Vec Ideal S1x512 .f32) (x : Vec Ideal S80x512 .f32) (a : Fin 80) (r : Fin 512) (N : EReal) (hN : k0_pay54 (F := Ideal) k0_pay1 Q K mx (ix2 0 r) = N) :
    k0_pay55 (F := Ideal) k0_pay1 Q T K mx x (ix2 a r) = Ideal.exp (mx (ix2 0 r) - N) * x (ix2 a r)
      + ∑ t, ((v a t : ℝ) : EReal) * Ideal.exp (cut (t.val ≤ r.val + 2048) (∑ l, k t l * bare q r l) - N) := by
  pointwise [k0_pay55, sdiag4_at Q q hQ K k hK, hT, hN]

include hQ in
/-- 3072 keys with a running maximum, the later masked: the scores. -/
theorem sdiag5_at (K : Vec Ideal S1x3072x128 .bf16) (k : Fin 3072 → Fin 128 → ℝ)
    (hK : ∀ t l, K (ix3 0 t l) = ((k t l : ℝ) : EReal)) (t : Fin 3072) (r : Fin 512) :
    k0_pay57 (F := Ideal) (k0_pay27 k0_pay1 Q) K (ix2 t r) = cut (t.val ≤ r.val + 2560) (∑ l, k t l * bare q r l) := by
  pointwise [k0_pay57, pay27_at Q q hQ, hK]
  rw [dot_coe]
  exact select_cut t r 2560 (by norm_num) (by norm_num) _

include hQ in
/-- The new maximum. -/
theorem mdiag5_at (K : Vec Ideal S1x3072x128 .bf16) (k : Fin 3072 → Fin 128 → ℝ)
    (hK : ∀ t l, K (ix3 0 t l) = ((k t l : ℝ) : EReal)) (mx : Vec Ideal S1x512 .f32) (r : Fin 512) :
    k0_pay58 (F := Ideal) (k0_pay27 k0_pay1 Q) K mx (ix2 0 r) = max (mx (ix2 0 r)) (Finset.univ.fold max (⊥ : EReal) fun t : Fin 3072 => cut (t.val ≤ r.val + 2560) (∑ l, k t l * bare q r l)) := by
  unfold k0_pay58
  refine (column (n := 3072) _ _ mx r).trans ?_
  simp only [sdiag5_at Q q hQ K k hK]

include hQ in
theorem wdiag5_at (K : Vec Ideal S1x3072x128 .bf16) (k : Fin 3072 → Fin 128 → ℝ)
    (hK : ∀ t l, K (ix3 0 t l) = ((k t l : ℝ) : EReal)) (mx : Vec Ideal S1x512 .f32) (r : Fin 512) :
    k0_pay60 (F := Ideal) (k0_pay27 k0_pay1 Q) K mx (ix2 0 r) = max (mx (ix2 0 r)) (Finset.univ.fold max (⊥ : EReal) fun t : Fin 3072 => cut (t.val ≤ r.val + 2560) (∑ l, k t l * bare q r l)) := by
  pointwise [k0_pay60, mdiag5_at Q q hQ K k hK]

include hQ in
/-- The rescaled sums. -/
theorem udiag5_at (T : Vec Ideal S1x1x80x3072 .bf16) (K : Vec Ideal S1x3072x128 .bf16) (v : Fin 80 → Fin 3072 → ℝ) (k : Fin 3072 → Fin 128 → ℝ)
    (hT : ∀ a t, T (ix4 0 0 a t) = ((v a t : ℝ) : EReal)) (hK : ∀ t l, K (ix3 0 t l) = ((k t l : ℝ) : EReal))
    (mx : Vec Ideal S1x512 .f32) (x : Vec Ideal S80x512 .f32) (a : Fin 80) (r : Fin 512) (N : EReal) (hN : k0_pay58 (F := Ideal) (k0_pay27 k0_pay1 Q) K mx (ix2 0 r) = N) :
    k0_pay59 (F := Ideal) (k0_pay27 k0_pay1 Q) T K mx x (ix2 a r) = Ideal.exp (mx (ix2 0 r) - N) * x (ix2 a r)
      + ∑ t, ((v a t : ℝ) : EReal) * Ideal.exp (cut (t.val ≤ r.val + 2560) (∑ l, k t l * bare q r l) - N) := by
  pointwise [k0_pay59, sdiag5_at Q q hQ K k hK, hT, hN]

include hQ in
/-- 3584 keys with a running maximum, the later masked: the scores. -/
theorem sdiag6_at (K : Vec Ideal S1x3584x128 .bf16) (k : Fin 3584 → Fin 128 → ℝ)
    (hK : ∀ t l, K (ix3 0 t l) = ((k t l : ℝ) : EReal)) (t : Fin 3584) (r : Fin 512) :
    k0_pay61 (F := Ideal) (k0_pay27 k0_pay1 Q) K (ix2 t r) = cut (t.val ≤ r.val + 3072) (∑ l, k t l * bare q r l) := by
  pointwise [k0_pay61, pay27_at Q q hQ, hK]
  rw [dot_coe]
  exact select_cut t r 3072 (by norm_num) (by norm_num) _

include hQ in
/-- The new maximum. -/
theorem mdiag6_at (K : Vec Ideal S1x3584x128 .bf16) (k : Fin 3584 → Fin 128 → ℝ)
    (hK : ∀ t l, K (ix3 0 t l) = ((k t l : ℝ) : EReal)) (mx : Vec Ideal S1x512 .f32) (r : Fin 512) :
    k0_pay62 (F := Ideal) (k0_pay27 k0_pay1 Q) K mx (ix2 0 r) = max (mx (ix2 0 r)) (Finset.univ.fold max (⊥ : EReal) fun t : Fin 3584 => cut (t.val ≤ r.val + 3072) (∑ l, k t l * bare q r l)) := by
  unfold k0_pay62
  refine (column (n := 3584) _ _ mx r).trans ?_
  simp only [sdiag6_at Q q hQ K k hK]

include hQ in
theorem wdiag6_at (K : Vec Ideal S1x3584x128 .bf16) (k : Fin 3584 → Fin 128 → ℝ)
    (hK : ∀ t l, K (ix3 0 t l) = ((k t l : ℝ) : EReal)) (mx : Vec Ideal S1x512 .f32) (r : Fin 512) :
    k0_pay64 (F := Ideal) (k0_pay27 k0_pay1 Q) K mx (ix2 0 r) = max (mx (ix2 0 r)) (Finset.univ.fold max (⊥ : EReal) fun t : Fin 3584 => cut (t.val ≤ r.val + 3072) (∑ l, k t l * bare q r l)) := by
  pointwise [k0_pay64, mdiag6_at Q q hQ K k hK]

include hQ in
/-- The rescaled sums. -/
theorem udiag6_at (T : Vec Ideal S1x1x80x3584 .bf16) (K : Vec Ideal S1x3584x128 .bf16) (v : Fin 80 → Fin 3584 → ℝ) (k : Fin 3584 → Fin 128 → ℝ)
    (hT : ∀ a t, T (ix4 0 0 a t) = ((v a t : ℝ) : EReal)) (hK : ∀ t l, K (ix3 0 t l) = ((k t l : ℝ) : EReal))
    (mx : Vec Ideal S1x512 .f32) (x : Vec Ideal S80x512 .f32) (a : Fin 80) (r : Fin 512) (N : EReal) (hN : k0_pay62 (F := Ideal) (k0_pay27 k0_pay1 Q) K mx (ix2 0 r) = N) :
    k0_pay63 (F := Ideal) (k0_pay27 k0_pay1 Q) T K mx x (ix2 a r) = Ideal.exp (mx (ix2 0 r) - N) * x (ix2 a r)
      + ∑ t, ((v a t : ℝ) : EReal) * Ideal.exp (cut (t.val ≤ r.val + 3072) (∑ l, k t l * bare q r l) - N) := by
  pointwise [k0_pay63, sdiag6_at Q q hQ K k hK, hT, hN]

include hQ in
/-- 4096 keys with a running maximum, the later masked: the scores. -/
theorem sdiag7_at (K : Vec Ideal S1x4096x128 .bf16) (k : Fin 4096 → Fin 128 → ℝ)
    (hK : ∀ t l, K (ix3 0 t l) = ((k t l : ℝ) : EReal)) (t : Fin 4096) (r : Fin 512) :
    k0_pay65 (F := Ideal) (k0_pay27 k0_pay1 Q) K (ix2 t r) = cut (t.val ≤ r.val + 3584) (∑ l, k t l * bare q r l) := by
  pointwise [k0_pay65, pay27_at Q q hQ, hK]
  rw [dot_coe]
  exact select_cut t r 3584 (by norm_num) (by norm_num) _

include hQ in
/-- The new maximum. -/
theorem mdiag7_at (K : Vec Ideal S1x4096x128 .bf16) (k : Fin 4096 → Fin 128 → ℝ)
    (hK : ∀ t l, K (ix3 0 t l) = ((k t l : ℝ) : EReal)) (mx : Vec Ideal S1x512 .f32) (r : Fin 512) :
    k0_pay66 (F := Ideal) (k0_pay27 k0_pay1 Q) K mx (ix2 0 r) = max (mx (ix2 0 r)) (Finset.univ.fold max (⊥ : EReal) fun t : Fin 4096 => cut (t.val ≤ r.val + 3584) (∑ l, k t l * bare q r l)) := by
  unfold k0_pay66
  refine (column (n := 4096) _ _ mx r).trans ?_
  simp only [sdiag7_at Q q hQ K k hK]

include hQ in
theorem wdiag7_at (K : Vec Ideal S1x4096x128 .bf16) (k : Fin 4096 → Fin 128 → ℝ)
    (hK : ∀ t l, K (ix3 0 t l) = ((k t l : ℝ) : EReal)) (mx : Vec Ideal S1x512 .f32) (r : Fin 512) :
    k0_pay68 (F := Ideal) (k0_pay27 k0_pay1 Q) K mx (ix2 0 r) = max (mx (ix2 0 r)) (Finset.univ.fold max (⊥ : EReal) fun t : Fin 4096 => cut (t.val ≤ r.val + 3584) (∑ l, k t l * bare q r l)) := by
  pointwise [k0_pay68, mdiag7_at Q q hQ K k hK]

include hQ in
/-- The rescaled sums. -/
theorem udiag7_at (T : Vec Ideal S1x1x80x4096 .bf16) (K : Vec Ideal S1x4096x128 .bf16) (v : Fin 80 → Fin 4096 → ℝ) (k : Fin 4096 → Fin 128 → ℝ)
    (hT : ∀ a t, T (ix4 0 0 a t) = ((v a t : ℝ) : EReal)) (hK : ∀ t l, K (ix3 0 t l) = ((k t l : ℝ) : EReal))
    (mx : Vec Ideal S1x512 .f32) (x : Vec Ideal S80x512 .f32) (a : Fin 80) (r : Fin 512) (N : EReal) (hN : k0_pay66 (F := Ideal) (k0_pay27 k0_pay1 Q) K mx (ix2 0 r) = N) :
    k0_pay67 (F := Ideal) (k0_pay27 k0_pay1 Q) T K mx x (ix2 a r) = Ideal.exp (mx (ix2 0 r) - N) * x (ix2 a r)
      + ∑ t, ((v a t : ℝ) : EReal) * Ideal.exp (cut (t.val ≤ r.val + 3584) (∑ l, k t l * bare q r l) - N) := by
  pointwise [k0_pay67, sdiag7_at Q q hQ K k hK, hT, hN]

end

end Cert.Kernel2Ideal.Hand
-- ==== Proof.K2I.Sum.lean ====
/-
  One grid point of the attention's forward pass over the extended reals, at real lanes: after its steps the accumulator's
  rows hold, for every query of the tile, the sums over the keys up to the query of the values' lanes times the scores'
  exponentials; with a running maximum they are rescaled by it.
-/
module

public import proofs.«01_k».proof.Proof.K2I.Step
public import proofs.«01_k».proof.Proof.K2I.Tile
public import proofs.«01_k».proof.Proof.KI.Point

@[expose] public section

set_option maxRecDepth 16384

noncomputable section

namespace Cert.Kernel2Ideal.Hand

open Cert.Kernel2Ideal Cert.Kernel2Ideal.Gen Cert.Attn
open Idealize.ShloMosaic Idealize.ShloMosaic.TcCoe

/-- A window of keys, read at an entry. -/
theorem window_keys {n b : ℕ} (Q : Vec Ideal S1x16384x128 .bf16) (off : Fin 3 → ℕ) (h : off = ![0, b, 0])
    (inb : ∀ a, off a + (⟨3, ![1, n, 128]⟩ : Shape).size a ≤ S1x16384x128.size a) (r : Fin n) (l : Fin 128) (hb : b + n ≤ 16384) :
    (VecWindow.window Q off (⟨3, ![1, n, 128]⟩ : Shape).size inb : (⟨3, ![1, n, 128]⟩ : Shape).Idx → _) (ix3 0 r l) = Q (ix3 0 ⟨b + r.val, by omega⟩ l) := by
  subst h
  refine congrArg Q (funext fun a => Fin.ext ?_)
  fin_cases a
  · show 0 + 1 * 0 = 0; rfl
  · show b + 1 * r.val = b + r.val; omega
  · show 0 + 1 * l.val = l.val; omega

/-- A window of values, read at an entry. -/
theorem window_vals {n g : ℕ} (T : Vec Ideal S1x4x80x4096 .bf16) (off : Fin 4 → ℕ) (h : off = ![0, g, 0, 0])
    (inb : ∀ a, off a + (⟨4, ![1, 1, 80, n]⟩ : Shape).size a ≤ S1x4x80x4096.size a) (a : Fin 80) (t : Fin n) (hg : g < 4) (hn : n ≤ 4096) :
    (VecWindow.window T off (⟨4, ![1, 1, 80, n]⟩ : Shape).size inb : (⟨4, ![1, 1, 80, n]⟩ : Shape).Idx → _) (ix4 0 0 a t) = T (ix4 0 ⟨g, hg⟩ a ⟨t.val, by omega⟩) := by
  subst h
  refine congrArg T (funext fun x => Fin.ext ?_)
  fin_cases x
  · show 0 + 1 * 0 = 0; rfl
  · show g + 1 * 0 = g; omega
  · show 0 + 1 * a.val = a.val; omega
  · show 0 + 1 * t.val = t.val; omega

theorem top_put (A : Vec Ideal S128x512 .f32) (W : Vec Ideal S80x512 .f32) : top (VecWindow.put A ![0, 0] S80x512.size W) = W :=
  VecWindow.window_put_same A _ _ _ W

theorem top_at (A : Vec Ideal S128x512 .f32) (a : Fin 80) (r : Fin 512) : top A (ix2 a r) = A (ix2 ⟨a.val, by omega⟩ r) := by
  unfold top
  refine congrArg A (funext fun x => Fin.ext ?_)
  fin_cases x
  · show 0 + 1 * a.val = a.val; omega
  · show 0 + 1 * r.val = r.val; omega

theorem pr_congr {b b' : Prop} [Decidable b] [Decidable b'] (h : b ↔ b') (z : ℝ) : pr b z = pr b' z := by
  unfold pr; by_cases hb : b
  · rw [if_pos hb, if_pos (h.1 hb)]
  · rw [if_neg hb, if_neg (fun h' => hb (h.2 h'))]

/-- The sum over the keys below `n` and up to the query `R` of a value times the score's exponential. -/
def wsum (v z : Fin 16384 → ℝ) (R n : ℕ) : ℝ := ∑ j : Fin 16384, if j.val < n then v j * pr (j.val ≤ R) (z j) else 0

theorem wsum_zero (v z : Fin 16384 → ℝ) (R : ℕ) : wsum v z R 0 = 0 := by simp [wsum]

theorem wsum_add (v z : Fin 16384 → ℝ) (R b : ℕ) {n : ℕ} (h : b + n ≤ 16384) :
    wsum v z R (b + n) = wsum v z R b + ∑ t : Fin n, v ⟨b + t.val, by omega⟩ * pr (b + t.val ≤ R) (z ⟨b + t.val, by omega⟩) :=
  Cert.KernelIdeal.Hand.sum_rows (N := 16384) (n := n) b h (fun j => v j * pr (j.val ≤ R) (z j))

theorem wsum_all (v z : Fin 16384 → ℝ) (R n : ℕ) (h : R < n) : wsum v z R n = ∑ j : Fin 16384, v j * pr (j.val ≤ R) (z j) := by
  refine Finset.sum_congr rfl fun j _ => ?_
  by_cases hj : j.val < n
  · rw [if_pos hj]
  · rw [if_neg hj]; unfold pr; rw [if_neg (by omega), mul_zero]

/-- A maximum and sums rescaled to it: nothing yet, or some real maximum. -/
def Kept (mx : EReal) (x : Fin 80 → EReal) (w : Fin 80 → ℝ) : Prop :=
  (mx = ⊥ ∧ ∀ a, x a = 0 ∧ w a = 0) ∨ ∃ M : ℝ, mx = (M : EReal) ∧ ∀ a, x a = ((w a * Real.exp (-M) : ℝ) : EReal)

theorem exp_cut_sub (b : Prop) [Decidable b] (z M : ℝ) : Ideal.exp (cut b z - (M : EReal)) = ((pr b z * Real.exp (-M) : ℝ) : EReal) := by
  unfold cut pr; split_ifs
  · rw [← EReal.coe_sub, Ideal.exp_coe, sub_eq_add_neg, Real.exp_add]
  · rw [EReal.bot_sub, Ideal.exp_bot, zero_mul, EReal.coe_zero]

theorem fold_real {n : ℕ} (b : Fin n → Prop) [DecidablePred b] (z : Fin n → ℝ) (t0 : Fin n) (h0 : b t0) :
    ∃ M : ℝ, Finset.univ.fold max (⊥ : EReal) (fun t => cut (b t) (z t)) = (M : EReal) := fold_max_real b z t0 h0

/-- One step with a running maximum keeps the sums. -/
theorem kept_step {n : ℕ} (mx : EReal) (x : Fin 80 → EReal) (w : Fin 80 → ℝ) (h : Kept mx x w) (b : Fin n → Prop) [DecidablePred b]
    (z : Fin n → ℝ) (v : Fin 80 → Fin n → ℝ) (t0 : Fin n) (h0 : b t0) (N : EReal) (hN : N = max mx (Finset.univ.fold max (⊥ : EReal) fun t => cut (b t) (z t))) :
    (∃ M : ℝ, N = (M : EReal)) ∧ Kept N (fun a => Ideal.exp (mx - N) * x a + ∑ t, ((v a t : ℝ) : EReal) * Ideal.exp (cut (b t) (z t) - N)) (fun a => w a + ∑ t, v a t * pr (b t) (z t)) := by
  obtain ⟨L, hL⟩ := fold_real b z t0 h0
  rw [hL] at hN
  have hs : ∀ M : ℝ, ∀ a, ∑ t, ((v a t : ℝ) : EReal) * Ideal.exp (cut (b t) (z t) - (M : EReal)) = (((∑ t, v a t * pr (b t) (z t)) * Real.exp (-M) : ℝ) : EReal) := by
    intro M a
    simp only [exp_cut_sub, ← EReal.coe_mul, sum_coe, Finset.sum_mul]
    exact congrArg _ (Finset.sum_congr rfl fun t _ => by ring)
  rcases h with ⟨hm, hx⟩ | ⟨M, hm, hx⟩
  · rw [hm, max_eq_right bot_le] at hN
    subst hN
    refine ⟨⟨L, rfl⟩, Or.inr ⟨L, rfl, fun a => ?_⟩⟩
    dsimp only
    rw [hs, (hx a).1, (hx a).2, mul_zero, zero_add, zero_add]
  · have hN' : N = ((max M L : ℝ) : EReal) := by rw [hN, hm]; exact (EReal.coe_strictMono.monotone.map_max (a := M) (b := L)).symm
    generalize max M L = P at hN'
    subst hN'
    refine ⟨⟨P, rfl⟩, Or.inr ⟨P, rfl, fun a => ?_⟩⟩
    dsimp only
    rw [hs, hx a, hm, ← EReal.coe_sub, Ideal.exp_coe, ← EReal.coe_mul, ← EReal.coe_add]
    refine congrArg _ ?_
    rw [add_mul, sub_eq_add_neg, Real.exp_add, Real.exp_neg M]
    have := (Real.exp_pos M).ne'
    field_simp

set_option synthInstance.maxSize 8192 in
set_option synthInstance.maxHeartbeats 2000000 in
/-- The tile of a point within its head, its group of eight and its place there. -/
theorem offs : ∀ t : Fin grid0.N,
    (k0_t1_loop (grid0.coords t)).trips = t.val % 32 / 8 ∧ (k0_t3_loop (grid0.coords t)).trips = t.val % 32 / 8
    ∧ (k0_cond2 (grid0.coords t) = 1#1 ↔ t.val % 8 = 0) ∧ (k0_cond11 (grid0.coords t) = 1#1 ↔ t.val % 8 = 0)
    ∧ k0_off5 (grid0.coords t) = ![0, t.val % 32 / 8, 0, 0] ∧ k0_off6 (grid0.coords t) = ![0, t.val % 32 / 8 * 4096, 0]
    ∧ k0_off25 (grid0.coords t) = ![0, t.val % 32 / 8, 0, 0] ∧ k0_off26 (grid0.coords t) = ![0, t.val % 32 / 8 * 4096, 0]
    ∧ (k0_cond3 (grid0.coords t) = 1#1 ↔ t.val % 8 = 1) ∧ (k0_cond12 (grid0.coords t) = 1#1 ↔ t.val % 8 = 1)
    ∧ k0_off7 (grid0.coords t) = ![0, t.val % 32 / 8, 0, 0] ∧ k0_off8 (grid0.coords t) = ![0, t.val % 32 / 8 * 4096, 0]
    ∧ k0_off27 (grid0.coords t) = ![0, t.val % 32 / 8, 0, 0] ∧ k0_off28 (grid0.coords t) = ![0, t.val % 32 / 8 * 4096, 0]
    ∧ (k0_cond4 (grid0.coords t) = 1#1 ↔ t.val % 8 = 2) ∧ (k0_cond13 (grid0.coords t) = 1#1 ↔ t.val % 8 = 2)
    ∧ k0_off9 (grid0.coords t) = ![0, t.val % 32 / 8, 0, 0] ∧ k0_off10 (grid0.coords t) = ![0, t.val % 32 / 8 * 4096, 0]
    ∧ k0_off29 (grid0.coords t) = ![0, t.val % 32 / 8, 0, 0] ∧ k0_off30 (grid0.coords t) = ![0, t.val % 32 / 8 * 4096, 0]
    ∧ (k0_cond5 (grid0.coords t) = 1#1 ↔ t.val % 8 = 3) ∧ (k0_cond14 (grid0.coords t) = 1#1 ↔ t.val % 8 = 3)
    ∧ k0_off11 (grid0.coords t) = ![0, t.val % 32 / 8, 0, 0] ∧ k0_off12 (grid0.coords t) = ![0, t.val % 32 / 8 * 4096, 0]
    ∧ k0_off31 (grid0.coords t) = ![0, t.val % 32 / 8, 0, 0] ∧ k0_off32 (grid0.coords t) = ![0, t.val % 32 / 8 * 4096, 0]
    ∧ (k0_cond6 (grid0.coords t) = 1#1 ↔ t.val % 8 = 4) ∧ (k0_cond15 (grid0.coords t) = 1#1 ↔ t.val % 8 = 4)
    ∧ k0_off13 (grid0.coords t) = ![0, t.val % 32 / 8, 0, 0] ∧ k0_off14 (grid0.coords t) = ![0, t.val % 32 / 8 * 4096, 0]
    ∧ k0_off33 (grid0.coords t) = ![0, t.val % 32 / 8, 0, 0] ∧ k0_off34 (grid0.coords t) = ![0, t.val % 32 / 8 * 4096, 0]
    ∧ (k0_cond7 (grid0.coords t) = 1#1 ↔ t.val % 8 = 5) ∧ (k0_cond16 (grid0.coords t) = 1#1 ↔ t.val % 8 = 5)
    ∧ k0_off15 (grid0.coords t) = ![0, t.val % 32 / 8, 0, 0] ∧ k0_off16 (grid0.coords t) = ![0, t.val % 32 / 8 * 4096, 0]
    ∧ k0_off35 (grid0.coords t) = ![0, t.val % 32 / 8, 0, 0] ∧ k0_off36 (grid0.coords t) = ![0, t.val % 32 / 8 * 4096, 0]
    ∧ (k0_cond8 (grid0.coords t) = 1#1 ↔ t.val % 8 = 6) ∧ (k0_cond17 (grid0.coords t) = 1#1 ↔ t.val % 8 = 6)
    ∧ k0_off17 (grid0.coords t) = ![0, t.val % 32 / 8, 0, 0] ∧ k0_off18 (grid0.coords t) = ![0, t.val % 32 / 8 * 4096, 0]
    ∧ k0_off37 (grid0.coords t) = ![0, t.val % 32 / 8, 0, 0] ∧ k0_off38 (grid0.coords t) = ![0, t.val % 32 / 8 * 4096, 0]
    ∧ (k0_cond9 (grid0.coords t) = 1#1 ↔ t.val % 8 = 7) ∧ (k0_cond18 (grid0.coords t) = 1#1 ↔ t.val % 8 = 7)
    ∧ k0_off19 (grid0.coords t) = ![0, t.val % 32 / 8, 0, 0] ∧ k0_off20 (grid0.coords t) = ![0, t.val % 32 / 8 * 4096, 0]
    ∧ k0_off39 (grid0.coords t) = ![0, t.val % 32 / 8, 0, 0] ∧ k0_off40 (grid0.coords t) = ![0, t.val % 32 / 8 * 4096, 0] := by
  decide +kernel

theorem trip_offs : ∀ t : Fin grid0.N,
    (∀ n : Fin (k0_t1_loop (grid0.coords t)).trips, k0_off1 (grid0.coords t) n = ![0, n.val, 0, 0] ∧ k0_off2 (grid0.coords t) n = ![0, n.val * 4096, 0])
    ∧ ∀ n : Fin (k0_t3_loop (grid0.coords t)).trips, k0_off21 (grid0.coords t) n = ![0, n.val, 0, 0] ∧ k0_off22 (grid0.coords t) n = ![0, n.val * 4096, 0] := by
  decide +kernel

/-- A key of a group of 4096. -/
def inGroup (g : Fin 4) (s : Fin 4096) : Fin 16384 := ⟨g.val * 4096 + s.val, by have := g.isLt; have := s.isLt; omega⟩

section
variable (Q : Vec Ideal S1x1x512x128 .bf16) (K : Vec Ideal S1x16384x128 .bf16) (T : Vec Ideal S1x4x80x4096 .bf16)
  (q : Fin 512 → Fin 128 → ℝ) (k : Fin 16384 → Fin 128 → ℝ) (v : Fin 80 → Fin 16384 → ℝ)
  (hQ : ∀ r l, Q (ix4 0 0 r l) = ((q r l : ℝ) : EReal)) (hK : ∀ j l, K (ix3 0 j l) = ((k j l : ℝ) : EReal))
  (hT : ∀ (g : Fin 4) (a : Fin 80) (s : Fin 4096), T (ix4 0 g a s) = ((v a (inGroup g s) : ℝ) : EReal))
  (t : Fin grid0.N)

/-- The query's number among the head's. -/
def rowOf (t : Fin grid0.N) (r : Fin 512) : ℕ := t.val % 32 * 512 + r.val

/-- The score of a key for a query of the tile. -/
def zed (q : Fin 512 → Fin 128 → ℝ) (k : Fin 16384 → Fin 128 → ℝ) (r : Fin 512) (j : Fin 16384) : ℝ := ∑ l, k j l * q r l

/-- The last step of a row: its mask leaves the keys up to the query. -/
theorem tail_sum (w z : Fin 16384 → ℝ) (t : Fin grid0.N) (r : Fin 512) {n : ℕ} (o : ℕ) (h : n = o + 512 ∧ t.val % 8 * 512 = o)
    (b : Fin n → Prop) [DecidablePred b] (hb : ∀ x, b x ↔ x.val ≤ r.val + o) :
    wsum w z (rowOf t r) (t.val % 32 / 8 * 4096) + ∑ x : Fin n, w ⟨t.val % 32 / 8 * 4096 + x.val, by omega⟩ * pr (b x) (z ⟨t.val % 32 / 8 * 4096 + x.val, by omega⟩)
      = ∑ j : Fin 16384, w j * pr (j.val ≤ rowOf t r) (z j) := by
  obtain ⟨h, ho⟩ := h
  rw [← wsum_all _ _ _ (t.val % 32 / 8 * 4096 + n) (by unfold rowOf; omega), wsum_add _ _ _ _ (by omega)]
  refine congrArg (fun y : ℝ => (_ + y : ℝ)) (Finset.sum_congr rfl fun x _ => ?_)
  rw [pr_congr (b' := t.val % 32 / 8 * 4096 + x.val ≤ rowOf t r) ((hb x).trans (by unfold rowOf; constructor <;> intro _ <;> omega))]

theorem zero_top (a : Fin 80) (r : Fin 512) : top (F := Ideal) (k0_pay2 (F := Ideal)) (ix2 a r) = ((0 : ℝ) : EReal) := by
  rw [top_at]
  pointwise [k0_pay2]
  exact EReal.coe_zero.symm

include hQ hK hT in
/-- One unmasked step under a known bound. -/
theorem btrip_sum (n : Fin (k0_t1_loop (grid0.coords t)).trips) (A : Vec Ideal S128x512 .f32) (a : Fin 80) (r : Fin 512)
    (hA : top A (ix2 a r) = ((wsum (v a) (zed q k r) (rowOf t r) (n.val * 4096) : ℝ) : EReal)) :
    top (btrip (grid0.coords t) n Q K T A) (ix2 a r) = ((wsum (v a) (zed q k r) (rowOf t r) ((n.val + 1) * 4096) : ℝ) : EReal) := by
  have hn : n.val < t.val % 32 / 8 := (offs t).1 ▸ n.isLt
  obtain ⟨h1, h2⟩ := (trip_offs t).1 n
  have h8 := (offs t).1
  unfold btrip
  rw [top_put, btrip_at Q q hQ _ _ (fun a s => v a ⟨n.val * 4096 + s.val, by omega⟩) (fun s => k ⟨n.val * 4096 + s.val, by omega⟩)
    (fun a s => (window_vals T _ h1 _ a s (by omega) (by norm_num)).trans (hT _ a s))
    (fun s l => (window_keys K _ h2 _ s l (by omega)).trans (hK _ l)) (top A) a r _ hA]
  rw [show (n.val + 1) * 4096 = n.val * 4096 + 4096 by ring, wsum_add _ _ _ _ (by omega)]
  refine congrArg (fun y : ℝ => ((_ + y : ℝ) : EReal)) (Finset.sum_congr rfl fun s _ => ?_)
  have hs := s.isLt
  rw [pr_congr (b' := n.val * 4096 + s.val ≤ rowOf t r) (by unfold rowOf; exact ⟨fun _ => by omega, fun _ => trivial⟩)]
  rfl

include hQ hK hT in
/-- The unmasked steps under a known bound. -/
theorem btrips_sum (a : Fin 80) (r : Fin 512) (n : ℕ) (hn : n ≤ (k0_t1_loop (grid0.coords t)).trips) :
    top (btrips (grid0.coords t) Q K T (k0_pay2 (F := Ideal)) n) (ix2 a r) = ((wsum (v a) (zed q k r) (rowOf t r) (n * 4096) : ℝ) : EReal) := by
  induction n with
  | zero =>
    rw [Nat.zero_mul, wsum_zero]
    exact zero_top a r
  | succ n ih =>
    rw [btrips_succ _ _ _ _ _ ⟨n, hn⟩]
    exact btrip_sum Q K T q k v hQ hK hT t ⟨n, hn⟩ _ a r (ih (by omega))

include hQ hK hT in
/-- The masked step over 512 keys under a known bound. -/
theorem bdiag0_sum (h : k0_cond2 (grid0.coords t) = 1#1) (hp : t.val % 8 = 0) (A : Vec Ideal S128x512 .f32) (a : Fin 80) (r : Fin 512)
    (h1 : k0_off5 (grid0.coords t) = ![0, t.val % 32 / 8, 0, 0]) (h2 : k0_off6 (grid0.coords t) = ![0, t.val % 32 / 8 * 4096, 0])
    (hA : top A (ix2 a r) = ((wsum (v a) (zed q k r) (rowOf t r) (t.val % 32 / 8 * 4096) : ℝ) : EReal)) :
    top (bdiag0 (grid0.coords t) h Q K T A) (ix2 a r) = ((∑ j : Fin 16384, v a j * pr (j.val ≤ rowOf t r) (zed q k r j) : ℝ) : EReal) := by
  unfold bdiag0
  rw [top_put, bdiag0_at Q q hQ _ _ (fun a s => v a ⟨t.val % 32 / 8 * 4096 + s.val, by omega⟩) (fun s => k ⟨t.val % 32 / 8 * 4096 + s.val, by omega⟩)
    (fun a s => (window_vals T _ h1 _ a s (by omega) (by norm_num)).trans (hT _ a _))
    (fun s l => (window_keys K _ h2 _ s l (by omega)).trans (hK _ l)) (top A) a r _ hA]
  exact congrArg (fun y : ℝ => (y : EReal)) (tail_sum (v a) (zed q k r) t r 0 (by omega) _ (fun _ => by omega))

include hQ hK hT in
/-- The masked step over 1024 keys under a known bound. -/
theorem bdiag1_sum (h : k0_cond3 (grid0.coords t) = 1#1) (hp : t.val % 8 = 1) (A : Vec Ideal S128x512 .f32) (a : Fin 80) (r : Fin 512)
    (h1 : k0_off7 (grid0.coords t) = ![0, t.val % 32 / 8, 0, 0]) (h2 : k0_off8 (grid0.coords t) = ![0, t.val % 32 / 8 * 4096, 0])
    (hA : top A (ix2 a r) = ((wsum (v a) (zed q k r) (rowOf t r) (t.val % 32 / 8 * 4096) : ℝ) : EReal)) :
    top (bdiag1 (grid0.coords t) h Q K T A) (ix2 a r) = ((∑ j : Fin 16384, v a j * pr (j.val ≤ rowOf t r) (zed q k r j) : ℝ) : EReal) := by
  unfold bdiag1
  rw [top_put, bdiag1_at Q q hQ _ _ (fun a s => v a ⟨t.val % 32 / 8 * 4096 + s.val, by omega⟩) (fun s => k ⟨t.val % 32 / 8 * 4096 + s.val, by omega⟩)
    (fun a s => (window_vals T _ h1 _ a s (by omega) (by norm_num)).trans (hT _ a _))
    (fun s l => (window_keys K _ h2 _ s l (by omega)).trans (hK _ l)) (top A) a r _ hA]
  exact congrArg (fun y : ℝ => (y : EReal)) (tail_sum (v a) (zed q k r) t r 512 (by omega) _ (fun _ => by omega))

include hQ hK hT in
/-- The masked step over 1536 keys under a known bound. -/
theorem bdiag2_sum (h : k0_cond4 (grid0.coords t) = 1#1) (hp : t.val % 8 = 2) (A : Vec Ideal S128x512 .f32) (a : Fin 80) (r : Fin 512)
    (h1 : k0_off9 (grid0.coords t) = ![0, t.val % 32 / 8, 0, 0]) (h2 : k0_off10 (grid0.coords t) = ![0, t.val % 32 / 8 * 4096, 0])
    (hA : top A (ix2 a r) = ((wsum (v a) (zed q k r) (rowOf t r) (t.val % 32 / 8 * 4096) : ℝ) : EReal)) :
    top (bdiag2 (grid0.coords t) h Q K T A) (ix2 a r) = ((∑ j : Fin 16384, v a j * pr (j.val ≤ rowOf t r) (zed q k r j) : ℝ) : EReal) := by
  unfold bdiag2
  rw [top_put, bdiag2_at Q q hQ _ _ (fun a s => v a ⟨t.val % 32 / 8 * 4096 + s.val, by omega⟩) (fun s => k ⟨t.val % 32 / 8 * 4096 + s.val, by omega⟩)
    (fun a s => (window_vals T _ h1 _ a s (by omega) (by norm_num)).trans (hT _ a _))
    (fun s l => (window_keys K _ h2 _ s l (by omega)).trans (hK _ l)) (top A) a r _ hA]
  exact congrArg (fun y : ℝ => (y : EReal)) (tail_sum (v a) (zed q k r) t r 1024 (by omega) _ (fun _ => by omega))

include hQ hK hT in
/-- The masked step over 2048 keys under a known bound. -/
theorem bdiag3_sum (h : k0_cond5 (grid0.coords t) = 1#1) (hp : t.val % 8 = 3) (A : Vec Ideal S128x512 .f32) (a : Fin 80) (r : Fin 512)
    (h1 : k0_off11 (grid0.coords t) = ![0, t.val % 32 / 8, 0, 0]) (h2 : k0_off12 (grid0.coords t) = ![0, t.val % 32 / 8 * 4096, 0])
    (hA : top A (ix2 a r) = ((wsum (v a) (zed q k r) (rowOf t r) (t.val % 32 / 8 * 4096) : ℝ) : EReal)) :
    top (bdiag3 (grid0.coords t) h Q K T A) (ix2 a r) = ((∑ j : Fin 16384, v a j * pr (j.val ≤ rowOf t r) (zed q k r j) : ℝ) : EReal) := by
  unfold bdiag3
  rw [top_put, bdiag3_at Q q hQ _ _ (fun a s => v a ⟨t.val % 32 / 8 * 4096 + s.val, by omega⟩) (fun s => k ⟨t.val % 32 / 8 * 4096 + s.val, by omega⟩)
    (fun a s => (window_vals T _ h1 _ a s (by omega) (by norm_num)).trans (hT _ a _))
    (fun s l => (window_keys K _ h2 _ s l (by omega)).trans (hK _ l)) (top A) a r _ hA]
  exact congrArg (fun y : ℝ => (y : EReal)) (tail_sum (v a) (zed q k r) t r 1536 (by omega) _ (fun _ => by omega))

include hQ hK hT in
/-- The masked step over 2560 keys under a known bound. -/
theorem bdiag4_sum (h : k0_cond6 (grid0.coords t) = 1#1) (hp : t.val % 8 = 4) (A : Vec Ideal S128x512 .f32) (a : Fin 80) (r : Fin 512)
    (h1 : k0_off13 (grid0.coords t) = ![0, t.val % 32 / 8, 0, 0]) (h2 : k0_off14 (grid0.coords t) = ![0, t.val % 32 / 8 * 4096, 0])
    (hA : top A (ix2 a r) = ((wsum (v a) (zed q k r) (rowOf t r) (t.val % 32 / 8 * 4096) : ℝ) : EReal)) :
    top (bdiag4 (grid0.coords t) h Q K T A) (ix2 a r) = ((∑ j : Fin 16384, v a j * pr (j.val ≤ rowOf t r) (zed q k r j) : ℝ) : EReal) := by
  unfold bdiag4
  rw [top_put, bdiag4_at Q q hQ _ _ (fun a s => v a ⟨t.val % 32 / 8 * 4096 + s.val, by omega⟩) (fun s => k ⟨t.val % 32 / 8 * 4096 + s.val, by omega⟩)
    (fun a s => (window_vals T _ h1 _ a s (by omega) (by norm_num)).trans (hT _ a _))
    (fun s l => (window_keys K _ h2 _ s l (by omega)).trans (hK _ l)) (top A) a r _ hA]
  exact congrArg (fun y : ℝ => (y : EReal)) (tail_sum (v a) (zed q k r) t r 2048 (by omega) _ (fun _ => by omega))

include hQ hK hT in
/-- The masked step over 3072 keys under a known bound. -/
theorem bdiag5_sum (h : k0_cond7 (grid0.coords t) = 1#1) (hp : t.val % 8 = 5) (A : Vec Ideal S128x512 .f32) (a : Fin 80) (r : Fin 512)
    (h1 : k0_off15 (grid0.coords t) = ![0, t.val % 32 / 8, 0, 0]) (h2 : k0_off16 (grid0.coords t) = ![0, t.val % 32 / 8 * 4096, 0])
    (hA : top A (ix2 a r) = ((wsum (v a) (zed q k r) (rowOf t r) (t.val % 32 / 8 * 4096) : ℝ) : EReal)) :
    top (bdiag5 (grid0.coords t) h Q K T A) (ix2 a r) = ((∑ j : Fin 16384, v a j * pr (j.val ≤ rowOf t r) (zed q k r j) : ℝ) : EReal) := by
  unfold bdiag5
  rw [top_put, bdiag5_at Q q hQ _ _ (fun a s => v a ⟨t.val % 32 / 8 * 4096 + s.val, by omega⟩) (fun s => k ⟨t.val % 32 / 8 * 4096 + s.val, by omega⟩)
    (fun a s => (window_vals T _ h1 _ a s (by omega) (by norm_num)).trans (hT _ a _))
    (fun s l => (window_keys K _ h2 _ s l (by omega)).trans (hK _ l)) (top A) a r _ hA]
  exact congrArg (fun y : ℝ => (y : EReal)) (tail_sum (v a) (zed q k r) t r 2560 (by omega) _ (fun _ => by omega))

include hQ hK hT in
/-- The masked step over 3584 keys under a known bound. -/
theorem bdiag6_sum (h : k0_cond8 (grid0.coords t) = 1#1) (hp : t.val % 8 = 6) (A : Vec Ideal S128x512 .f32) (a : Fin 80) (r : Fin 512)
    (h1 : k0_off17 (grid0.coords t) = ![0, t.val % 32 / 8, 0, 0]) (h2 : k0_off18 (grid0.coords t) = ![0, t.val % 32 / 8 * 4096, 0])
    (hA : top A (ix2 a r) = ((wsum (v a) (zed q k r) (rowOf t r) (t.val % 32 / 8 * 4096) : ℝ) : EReal)) :
    top (bdiag6 (grid0.coords t) h Q K T A) (ix2 a r) = ((∑ j : Fin 16384, v a j * pr (j.val ≤ rowOf t r) (zed q k r j) : ℝ) : EReal) := by
  unfold bdiag6
  rw [top_put, bdiag6_at Q q hQ _ _ (fun a s => v a ⟨t.val % 32 / 8 * 4096 + s.val, by omega⟩) (fun s => k ⟨t.val % 32 / 8 * 4096 + s.val, by omega⟩)
    (fun a s => (window_vals T _ h1 _ a s (by omega) (by norm_num)).trans (hT _ a _))
    (fun s l => (window_keys K _ h2 _ s l (by omega)).trans (hK _ l)) (top A) a r _ hA]
  exact congrArg (fun y : ℝ => (y : EReal)) (tail_sum (v a) (zed q k r) t r 3072 (by omega) _ (fun _ => by omega))

include hQ hK hT in
/-- The masked step over 4096 keys under a known bound. -/
theorem bdiag7_sum (h : k0_cond9 (grid0.coords t) = 1#1) (hp : t.val % 8 = 7) (A : Vec Ideal S128x512 .f32) (a : Fin 80) (r : Fin 512)
    (h1 : k0_off19 (grid0.coords t) = ![0, t.val % 32 / 8, 0, 0]) (h2 : k0_off20 (grid0.coords t) = ![0, t.val % 32 / 8 * 4096, 0])
    (hA : top A (ix2 a r) = ((wsum (v a) (zed q k r) (rowOf t r) (t.val % 32 / 8 * 4096) : ℝ) : EReal)) :
    top (bdiag7 (grid0.coords t) h Q K T A) (ix2 a r) = ((∑ j : Fin 16384, v a j * pr (j.val ≤ rowOf t r) (zed q k r j) : ℝ) : EReal) := by
  unfold bdiag7
  rw [top_put, bdiag7_at Q q hQ _ _ (fun a s => v a ⟨t.val % 32 / 8 * 4096 + s.val, by omega⟩) (fun s => k ⟨t.val % 32 / 8 * 4096 + s.val, by omega⟩)
    (fun a s => (window_vals T _ h1 _ a s (by omega) (by norm_num)).trans (hT _ a _))
    (fun s l => (window_keys K _ h2 _ s l (by omega)).trans (hK _ l)) (top A) a r _ hA]
  exact congrArg (fun y : ℝ => (y : EReal)) (tail_sum (v a) (zed q k r) t r 3584 (by omega) _ (fun _ => by omega))

include hQ hK hT in
/-- A point under a known bound. -/
theorem bpoint_sum (a : Fin 80) (r : Fin 512) :
    top (bpoint (grid0.coords t) Q K T) (ix2 a r) = ((∑ j : Fin 16384, v a j * pr (j.val ≤ rowOf t r) (zed q k r j) : ℝ) : EReal) := by
  have O := offs t
  have hA := btrips_sum Q K T q k v hQ hK hT t a r _ le_rfl
  rw [O.1] at hA
  unfold bpoint
  rw [O.1]
  generalize btrips (grid0.coords t) Q K T (k0_pay2 (F := Ideal)) (t.val % 32 / 8) = A at hA ⊢
  obtain ⟨-, -, b0, -, x0, y0, -, -, b1, -, x1, y1, -, -, b2, -, x2, y2, -, -, b3, -, x3, y3, -, -, b4, -, x4, y4, -, -, b5, -, x5, y5, -, -, b6, -, x6, y6, -, -, b7, -, x7, y7, -, -⟩ := O
  unfold bdiag
  by_cases h0 : k0_cond2 (grid0.coords t) = 1#1
  · rw [dif_pos h0]; exact bdiag0_sum Q K T q k v hQ hK hT t h0 (b0.1 h0) A a r x0 y0 hA
  rw [dif_neg h0]
  by_cases h1 : k0_cond3 (grid0.coords t) = 1#1
  · rw [dif_pos h1]; exact bdiag1_sum Q K T q k v hQ hK hT t h1 (b1.1 h1) A a r x1 y1 hA
  rw [dif_neg h1]
  by_cases h2 : k0_cond4 (grid0.coords t) = 1#1
  · rw [dif_pos h2]; exact bdiag2_sum Q K T q k v hQ hK hT t h2 (b2.1 h2) A a r x2 y2 hA
  rw [dif_neg h2]
  by_cases h3 : k0_cond5 (grid0.coords t) = 1#1
  · rw [dif_pos h3]; exact bdiag3_sum Q K T q k v hQ hK hT t h3 (b3.1 h3) A a r x3 y3 hA
  rw [dif_neg h3]
  by_cases h4 : k0_cond6 (grid0.coords t) = 1#1
  · rw [dif_pos h4]; exact bdiag4_sum Q K T q k v hQ hK hT t h4 (b4.1 h4) A a r x4 y4 hA
  rw [dif_neg h4]
  by_cases h5 : k0_cond7 (grid0.coords t) = 1#1
  · rw [dif_pos h5]; exact bdiag5_sum Q K T q k v hQ hK hT t h5 (b5.1 h5) A a r x5 y5 hA
  rw [dif_neg h5]
  by_cases h6 : k0_cond8 (grid0.coords t) = 1#1
  · rw [dif_pos h6]; exact bdiag6_sum Q K T q k v hQ hK hT t h6 (b6.1 h6) A a r x6 y6 hA
  rw [dif_neg h6]
  by_cases h7 : k0_cond9 (grid0.coords t) = 1#1
  · rw [dif_pos h7]; exact bdiag7_sum Q K T q k v hQ hK hT t h7 (b7.1 h7) A a r x7 y7 hA
  rw [dif_neg h7]
  exfalso
  have n0 : ¬ t.val % 8 = 0 := fun e => h0 (b0.2 e)
  have n1 : ¬ t.val % 8 = 1 := fun e => h1 (b1.2 e)
  have n2 : ¬ t.val % 8 = 2 := fun e => h2 (b2.2 e)
  have n3 : ¬ t.val % 8 = 3 := fun e => h3 (b3.2 e)
  have n4 : ¬ t.val % 8 = 4 := fun e => h4 (b4.2 e)
  have n5 : ¬ t.val % 8 = 5 := fun e => h5 (b5.2 e)
  have n6 : ¬ t.val % 8 = 6 := fun e => h6 (b6.2 e)
  have n7 : ¬ t.val % 8 = 7 := fun e => h7 (b7.2 e)
  omega

/-- The maximum and the sums of a query once the keys below `n` are seen. -/
def Seen (s : St Ideal) (r : Fin 512) (w : Fin 80 → ℝ) : Prop := Kept (s.mx (ix2 0 r)) (fun a => top s.acc (ix2 a r)) w

theorem start_seen (r : Fin 512) : Seen ⟨k0_pay28 (F := Ideal), k0_pay2 (F := Ideal)⟩ r (fun _ => 0) := by
  refine Or.inl ⟨?_, fun a => ⟨(zero_top a r).trans EReal.coe_zero, rfl⟩⟩
  show k0_pay28 (F := Ideal) (ix2 0 r) = ⊥
  pointwise [k0_pay28]
  exact mask_bot

include hQ hK hT in
/-- One unmasked step with a running maximum. -/
theorem utrip_seen (n : Fin (k0_t3_loop (grid0.coords t)).trips) (s : St Ideal) (r : Fin 512)
    (hs : Seen s r (fun a => wsum (v a) (zed (bare q) k r) (rowOf t r) (n.val * 4096))) :
    Seen (utrip (grid0.coords t) n Q K T s) r (fun a => wsum (v a) (zed (bare q) k r) (rowOf t r) ((n.val + 1) * 4096)) := by
  have hn : n.val < t.val % 32 / 8 := (offs t).2.1 ▸ n.isLt
  obtain ⟨h1, h2⟩ := (trip_offs t).2 n
  have hk : ∀ (x : Fin 4096) l, (VecWindow.window K (k0_off22 (grid0.coords t) n) S1x4096x128.size (k0_off22_inb (grid0.coords t) n) : Vec Ideal S1x4096x128 .bf16) (ix3 0 x l)
      = ((k ⟨n.val * 4096 + x.val, by omega⟩ l : ℝ) : EReal) := fun x l => (window_keys K _ h2 _ x l (by omega)).trans (hK _ l)
  have hv : ∀ (a : Fin 80) (x : Fin 4096), (VecWindow.window T (k0_off21 (grid0.coords t) n) S1x1x80x4096.size (k0_off21_inb (grid0.coords t) n) : Vec Ideal S1x1x80x4096 .bf16) (ix4 0 0 a x)
      = ((v a ⟨n.val * 4096 + x.val, by omega⟩ : ℝ) : EReal) := fun a x => (window_vals T _ h1 _ a x (by omega) (by norm_num)).trans (hT _ a x)
  have hw := wtrip_at Q q hQ _ _ hk s.mx r
  have hm := mtrip_at Q q hQ _ _ hk s.mx r
  have st := (kept_step _ _ _ hs (fun _ : Fin 4096 => True) _ (fun a (x : Fin 4096) => v a ⟨n.val * 4096 + x.val, by omega⟩) ⟨0, by norm_num⟩ trivial _ hw).2
  unfold Seen utrip
  dsimp only
  rw [top_put]
  have e1 : (fun a => wsum (v a) (zed (bare q) k r) (rowOf t r) ((n.val + 1) * 4096)) = fun a => wsum (v a) (zed (bare q) k r) (rowOf t r) (n.val * 4096)
      + ∑ x : Fin 4096, v a ⟨n.val * 4096 + x.val, by omega⟩ * pr True (∑ l, k ⟨n.val * 4096 + x.val, by omega⟩ l * bare q r l) := by
    funext a
    rw [show (n.val + 1) * 4096 = n.val * 4096 + 4096 by ring, wsum_add _ _ _ _ (by omega)]
    refine congrArg (fun y : ℝ => (_ + y : ℝ)) (Finset.sum_congr rfl fun x _ => ?_)
    have hx := x.isLt
    rw [pr_congr (b' := True) (by unfold rowOf; exact ⟨fun _ => trivial, fun _ => by omega⟩)]
    rfl
  have e2 : (fun a => k0_pay31 (F := Ideal) k0_pay1 Q (VecWindow.window T (k0_off21 (grid0.coords t) n) S1x1x80x4096.size (k0_off21_inb (grid0.coords t) n))
      (VecWindow.window K (k0_off22 (grid0.coords t) n) S1x4096x128.size (k0_off22_inb (grid0.coords t) n)) s.mx (top s.acc) (ix2 a r)) = _ :=
    funext fun a => utrip_at Q q hQ _ _ _ _ hv hk s.mx (top s.acc) a r _ (hm.trans hw.symm)
  rw [e1, e2]
  exact st

include hQ hK hT in
/-- The unmasked steps with a running maximum. -/
theorem utrips_seen (r : Fin 512) (n : ℕ) (hn : n ≤ (k0_t3_loop (grid0.coords t)).trips) :
    Seen (utrips (grid0.coords t) Q K T ⟨k0_pay28 (F := Ideal), k0_pay2 (F := Ideal)⟩ n) r (fun a => wsum (v a) (zed (bare q) k r) (rowOf t r) (n * 4096)) := by
  induction n with
  | zero =>
    rw [Nat.zero_mul]
    simp only [wsum_zero]
    exact start_seen r
  | succ n ih =>
    rw [utrips_succ _ _ _ _ _ ⟨n, hn⟩]
    exact utrip_seen Q K T q k v hQ hK hT t ⟨n, hn⟩ _ r (ih (by omega))

/-- A query's maximum and sums at the end of a point. -/
def Ended (s : St Ideal) (r : Fin 512) (w : Fin 80 → ℝ) : Prop :=
  ∃ M : ℝ, s.mx (ix2 0 r) = (M : EReal) ∧ ∀ a, top s.acc (ix2 a r) = ((w a * Real.exp (-M) : ℝ) : EReal)

theorem Ended.of {s : St Ideal} {r : Fin 512} {w : Fin 80 → ℝ} (h : Kept (s.mx (ix2 0 r)) (fun a => top s.acc (ix2 a r)) w)
    (hm : ∃ M : ℝ, s.mx (ix2 0 r) = (M : EReal)) : Ended s r w := by
  rcases h with ⟨h, -⟩ | h
  · obtain ⟨M, hM⟩ := hm
    rw [hM] at h
    exact absurd h (EReal.coe_ne_bot M)
  · exact h

include hQ hK hT in
/-- The masked step over 512 keys with a running maximum. -/
theorem udiag0_seen (h : k0_cond11 (grid0.coords t) = 1#1) (hp : t.val % 8 = 0) (s : St Ideal) (r : Fin 512)
    (h1 : k0_off25 (grid0.coords t) = ![0, t.val % 32 / 8, 0, 0]) (h2 : k0_off26 (grid0.coords t) = ![0, t.val % 32 / 8 * 4096, 0])
    (hs : Seen s r (fun a => wsum (v a) (zed (bare q) k r) (rowOf t r) (t.val % 32 / 8 * 4096))) :
    Ended (udiag0 (grid0.coords t) h Q K T s) r (fun a => ∑ j : Fin 16384, v a j * pr (j.val ≤ rowOf t r) (zed (bare q) k r j)) := by
  have hk : ∀ (x : Fin 512) l, (VecWindow.window K (k0_off26 (grid0.coords t)) S1x512x128.size (k0_off26_inb (grid0.coords t) h) : Vec Ideal S1x512x128 .bf16) (ix3 0 x l)
      = ((k ⟨t.val % 32 / 8 * 4096 + x.val, by omega⟩ l : ℝ) : EReal) := fun x l => (window_keys K _ h2 _ x l (by omega)).trans (hK _ l)
  have hv : ∀ (a : Fin 80) (x : Fin 512), (VecWindow.window T (k0_off25 (grid0.coords t)) S1x1x80x512.size (k0_off25_inb (grid0.coords t) h) : Vec Ideal S1x1x80x512 .bf16) (ix4 0 0 a x)
      = ((v a ⟨t.val % 32 / 8 * 4096 + x.val, by omega⟩ : ℝ) : EReal) := fun a x => (window_vals T _ h1 _ a x (by omega) (by norm_num)).trans (hT _ a _)
  have hw := wdiag0_at Q q hQ _ _ hk s.mx r
  have hm := mdiag0_at Q q hQ _ _ hk s.mx r
  have st := kept_step _ _ _ hs (fun x : Fin 512 => x.val ≤ r.val + 0) _ (fun a (x : Fin 512) => v a ⟨t.val % 32 / 8 * 4096 + x.val, by omega⟩) ⟨0, by norm_num⟩ (Nat.zero_le _) _ hw
  have e1 := funext fun a => (tail_sum (v a) (zed (bare q) k r) t r (n := 512) 0 (by omega) _ (fun x => (Iff.rfl : x.val ≤ r.val + 0 ↔ _))).symm
  have e2 : (fun a => k0_pay39 (F := Ideal) k0_pay1 Q (VecWindow.window T (k0_off25 (grid0.coords t)) S1x1x80x512.size (k0_off25_inb (grid0.coords t) h))
      (VecWindow.window K (k0_off26 (grid0.coords t)) S1x512x128.size (k0_off26_inb (grid0.coords t) h)) s.mx (top s.acc) (ix2 a r)) = _ :=
    funext fun a => udiag0_at Q q hQ _ _ _ _ hv hk s.mx (top s.acc) a r _ (hm.trans hw.symm)
  refine Ended.of ?_ st.1
  unfold udiag0
  dsimp only
  rw [top_put, e1, e2]
  exact st.2

include hQ hK hT in
/-- The masked step over 1024 keys with a running maximum. -/
theorem udiag1_seen (h : k0_cond12 (grid0.coords t) = 1#1) (hp : t.val % 8 = 1) (s : St Ideal) (r : Fin 512)
    (h1 : k0_off27 (grid0.coords t) = ![0, t.val % 32 / 8, 0, 0]) (h2 : k0_off28 (grid0.coords t) = ![0, t.val % 32 / 8 * 4096, 0])
    (hs : Seen s r (fun a => wsum (v a) (zed (bare q) k r) (rowOf t r) (t.val % 32 / 8 * 4096))) :
    Ended (udiag1 (grid0.coords t) h Q K T s) r (fun a => ∑ j : Fin 16384, v a j * pr (j.val ≤ rowOf t r) (zed (bare q) k r j)) := by
  have hk : ∀ (x : Fin 1024) l, (VecWindow.window K (k0_off28 (grid0.coords t)) S1x1024x128.size (k0_off28_inb (grid0.coords t) h) : Vec Ideal S1x1024x128 .bf16) (ix3 0 x l)
      = ((k ⟨t.val % 32 / 8 * 4096 + x.val, by omega⟩ l : ℝ) : EReal) := fun x l => (window_keys K _ h2 _ x l (by omega)).trans (hK _ l)
  have hv : ∀ (a : Fin 80) (x : Fin 1024), (VecWindow.window T (k0_off27 (grid0.coords t)) S1x1x80x1024.size (k0_off27_inb (grid0.coords t) h) : Vec Ideal S1x1x80x1024 .bf16) (ix4 0 0 a x)
      = ((v a ⟨t.val % 32 / 8 * 4096 + x.val, by omega⟩ : ℝ) : EReal) := fun a x => (window_vals T _ h1 _ a x (by omega) (by norm_num)).trans (hT _ a _)
  have hw := wdiag1_at Q q hQ _ _ hk s.mx r
  have hm := mdiag1_at Q q hQ _ _ hk s.mx r
  have st := kept_step _ _ _ hs (fun x : Fin 1024 => x.val ≤ r.val + 512) _ (fun a (x : Fin 1024) => v a ⟨t.val % 32 / 8 * 4096 + x.val, by omega⟩) ⟨0, by norm_num⟩ (Nat.zero_le _) _ hw
  have e1 := funext fun a => (tail_sum (v a) (zed (bare q) k r) t r (n := 1024) 512 (by omega) _ (fun x => (Iff.rfl : x.val ≤ r.val + 512 ↔ _))).symm
  have e2 : (fun a => k0_pay43 (F := Ideal) k0_pay1 Q (VecWindow.window T (k0_off27 (grid0.coords t)) S1x1x80x1024.size (k0_off27_inb (grid0.coords t) h))
      (VecWindow.window K (k0_off28 (grid0.coords t)) S1x1024x128.size (k0_off28_inb (grid0.coords t) h)) s.mx (top s.acc) (ix2 a r)) = _ :=
    funext fun a => udiag1_at Q q hQ _ _ _ _ hv hk s.mx (top s.acc) a r _ (hm.trans hw.symm)
  refine Ended.of ?_ st.1
  unfold udiag1
  dsimp only
  rw [top_put, e1, e2]
  exact st.2

include hQ hK hT in
/-- The masked step over 1536 keys with a running maximum. -/
theorem udiag2_seen (h : k0_cond13 (grid0.coords t) = 1#1) (hp : t.val % 8 = 2) (s : St Ideal) (r : Fin 512)
    (h1 : k0_off29 (grid0.coords t) = ![0, t.val % 32 / 8, 0, 0]) (h2 : k0_off30 (grid0.coords t) = ![0, t.val % 32 / 8 * 4096, 0])
    (hs : Seen s r (fun a => wsum (v a) (zed (bare q) k r) (rowOf t r) (t.val % 32 / 8 * 4096))) :
    Ended (udiag2 (grid0.coords t) h Q K T s) r (fun a => ∑ j : Fin 16384, v a j * pr (j.val ≤ rowOf t r) (zed (bare q) k r j)) := by
  have hk : ∀ (x : Fin 1536) l, (VecWindow.window K (k0_off30 (grid0.coords t)) S1x1536x128.size (k0_off30_inb (grid0.coords t) h) : Vec Ideal S1x1536x128 .bf16) (ix3 0 x l)
      = ((k ⟨t.val % 32 / 8 * 4096 + x.val, by omega⟩ l : ℝ) : EReal) := fun x l => (window_keys K _ h2 _ x l (by omega)).trans (hK _ l)
  have hv : ∀ (a : Fin 80) (x : Fin 1536), (VecWindow.window T (k0_off29 (grid0.coords t)) S1x1x80x1536.size (k0_off29_inb (grid0.coords t) h) : Vec Ideal S1x1x80x1536 .bf16) (ix4 0 0 a x)
      = ((v a ⟨t.val % 32 / 8 * 4096 + x.val, by omega⟩ : ℝ) : EReal) := fun a x => (window_vals T _ h1 _ a x (by omega) (by norm_num)).trans (hT _ a _)
  have hw := wdiag2_at Q q hQ _ _ hk s.mx r
  have hm := mdiag2_at Q q hQ _ _ hk s.mx r
  have st := kept_step _ _ _ hs (fun x : Fin 1536 => x.val ≤ r.val + 1024) _ (fun a (x : Fin 1536) => v a ⟨t.val % 32 / 8 * 4096 + x.val, by omega⟩) ⟨0, by norm_num⟩ (Nat.zero_le _) _ hw
  have e1 := funext fun a => (tail_sum (v a) (zed (bare q) k r) t r (n := 1536) 1024 (by omega) _ (fun x => (Iff.rfl : x.val ≤ r.val + 1024 ↔ _))).symm
  have e2 : (fun a => k0_pay47 (F := Ideal) k0_pay1 Q (VecWindow.window T (k0_off29 (grid0.coords t)) S1x1x80x1536.size (k0_off29_inb (grid0.coords t) h))
      (VecWindow.window K (k0_off30 (grid0.coords t)) S1x1536x128.size (k0_off30_inb (grid0.coords t) h)) s.mx (top s.acc) (ix2 a r)) = _ :=
    funext fun a => udiag2_at Q q hQ _ _ _ _ hv hk s.mx (top s.acc) a r _ (hm.trans hw.symm)
  refine Ended.of ?_ st.1
  unfold udiag2
  dsimp only
  rw [top_put, e1, e2]
  exact st.2

include hQ hK hT in
/-- The masked step over 2048 keys with a running maximum. -/
theorem udiag3_seen (h : k0_cond14 (grid0.coords t) = 1#1) (hp : t.val % 8 = 3) (s : St Ideal) (r : Fin 512)
    (h1 : k0_off31 (grid0.coords t) = ![0, t.val % 32 / 8, 0, 0]) (h2 : k0_off32 (grid0.coords t) = ![0, t.val % 32 / 8 * 4096, 0])
    (hs : Seen s r (fun a => wsum (v a) (zed (bare q) k r) (rowOf t r) (t.val % 32 / 8 * 4096))) :
    Ended (udiag3 (grid0.coords t) h Q K T s) r (fun a => ∑ j : Fin 16384, v a j * pr (j.val ≤ rowOf t r) (zed (bare q) k r j)) := by
  have hk : ∀ (x : Fin 2048) l, (VecWindow.window K (k0_off32 (grid0.coords t)) S1x2048x128.size (k0_off32_inb (grid0.coords t) h) : Vec Ideal S1x2048x128 .bf16) (ix3 0 x l)
      = ((k ⟨t.val % 32 / 8 * 4096 + x.val, by omega⟩ l : ℝ) : EReal) := fun x l => (window_keys K _ h2 _ x l (by omega)).trans (hK _ l)
  have hv : ∀ (a : Fin 80) (x : Fin 2048), (VecWindow.window T (k0_off31 (grid0.coords t)) S1x1x80x2048.size (k0_off31_inb (grid0.coords t) h) : Vec Ideal S1x1x80x2048 .bf16) (ix4 0 0 a x)
      = ((v a ⟨t.val % 32 / 8 * 4096 + x.val, by omega⟩ : ℝ) : EReal) := fun a x => (window_vals T _ h1 _ a x (by omega) (by norm_num)).trans (hT _ a _)
  have hw := wdiag3_at Q q hQ _ _ hk s.mx r
  have hm := mdiag3_at Q q hQ _ _ hk s.mx r
  have st := kept_step _ _ _ hs (fun x : Fin 2048 => x.val ≤ r.val + 1536) _ (fun a (x : Fin 2048) => v a ⟨t.val % 32 / 8 * 4096 + x.val, by omega⟩) ⟨0, by norm_num⟩ (Nat.zero_le _) _ hw
  have e1 := funext fun a => (tail_sum (v a) (zed (bare q) k r) t r (n := 2048) 1536 (by omega) _ (fun x => (Iff.rfl : x.val ≤ r.val + 1536 ↔ _))).symm
  have e2 : (fun a => k0_pay51 (F := Ideal) k0_pay1 Q (VecWindow.window T (k0_off31 (grid0.coords t)) S1x1x80x2048.size (k0_off31_inb (grid0.coords t) h))
      (VecWindow.window K (k0_off32 (grid0.coords t)) S1x2048x128.size (k0_off32_inb (grid0.coords t) h)) s.mx (top s.acc) (ix2 a r)) = _ :=
    funext fun a => udiag3_at Q q hQ _ _ _ _ hv hk s.mx (top s.acc) a r _ (hm.trans hw.symm)
  refine Ended.of ?_ st.1
  unfold udiag3
  dsimp only
  rw [top_put, e1, e2]
  exact st.2

include hQ hK hT in
/-- The masked step over 2560 keys with a running maximum. -/
theorem udiag4_seen (h : k0_cond15 (grid0.coords t) = 1#1) (hp : t.val % 8 = 4) (s : St Ideal) (r : Fin 512)
    (h1 : k0_off33 (grid0.coords t) = ![0, t.val % 32 / 8, 0, 0]) (h2 : k0_off34 (grid0.coords t) = ![0, t.val % 32 / 8 * 4096, 0])
    (hs : Seen s r (fun a => wsum (v a) (zed (bare q) k r) (rowOf t r) (t.val % 32 / 8 * 4096))) :
    Ended (udiag4 (grid0.coords t) h Q K T s) r (fun a => ∑ j : Fin 16384, v a j * pr (j.val ≤ rowOf t r) (zed (bare q) k r j)) := by
  have hk : ∀ (x : Fin 2560) l, (VecWindow.window K (k0_off34 (grid0.coords t)) S1x2560x128.size (k0_off34_inb (grid0.coords t) h) : Vec Ideal S1x2560x128 .bf16) (ix3 0 x l)
      = ((k ⟨t.val % 32 / 8 * 4096 + x.val, by omega⟩ l : ℝ) : EReal) := fun x l => (window_keys K _ h2 _ x l (by omega)).trans (hK _ l)
  have hv : ∀ (a : Fin 80) (x : Fin 2560), (VecWindow.window T (k0_off33 (grid0.coords t)) S1x1x80x2560.size (k0_off33_inb (grid0.coords t) h) : Vec Ideal S1x1x80x2560 .bf16) (ix4 0 0 a x)
      = ((v a ⟨t.val % 32 / 8 * 4096 + x.val, by omega⟩ : ℝ) : EReal) := fun a x => (window_vals T _ h1 _ a x (by omega) (by norm_num)).trans (hT _ a _)
  have hw := wdiag4_at Q q hQ _ _ hk s.mx r
  have hm := mdiag4_at Q q hQ _ _ hk s.mx r
  have st := kept_step _ _ _ hs (fun x : Fin 2560 => x.val ≤ r.val + 2048) _ (fun a (x : Fin 2560) => v a ⟨t.val % 32 / 8 * 4096 + x.val, by omega⟩) ⟨0, by norm_num⟩ (Nat.zero_le _) _ hw
  have e1 := funext fun a => (tail_sum (v a) (zed (bare q) k r) t r (n := 2560) 2048 (by omega) _ (fun x => (Iff.rfl : x.val ≤ r.val + 2048 ↔ _))).symm
  have e2 : (fun a => k0_pay55 (F := Ideal) k0_pay1 Q (VecWindow.window T (k0_off33 (grid0.coords t)) S1x1x80x2560.size (k0_off33_inb (grid0.coords t) h))
      (VecWindow.window K (k0_off34 (grid0.coords t)) S1x2560x128.size (k0_off34_inb (grid0.coords t) h)) s.mx (top s.acc) (ix2 a r)) = _ :=
    funext fun a => udiag4_at Q q hQ _ _ _ _ hv hk s.mx (top s.acc) a r _ (hm.trans hw.symm)
  refine Ended.of ?_ st.1
  unfold udiag4
  dsimp only
  rw [top_put, e1, e2]
  exact st.2

include hQ hK hT in
/-- The masked step over 3072 keys with a running maximum. -/
theorem udiag5_seen (h : k0_cond16 (grid0.coords t) = 1#1) (hp : t.val % 8 = 5) (s : St Ideal) (r : Fin 512)
    (h1 : k0_off35 (grid0.coords t) = ![0, t.val % 32 / 8, 0, 0]) (h2 : k0_off36 (grid0.coords t) = ![0, t.val % 32 / 8 * 4096, 0])
    (hs : Seen s r (fun a => wsum (v a) (zed (bare q) k r) (rowOf t r) (t.val % 32 / 8 * 4096))) :
    Ended (udiag5 (grid0.coords t) h Q K T s) r (fun a => ∑ j : Fin 16384, v a j * pr (j.val ≤ rowOf t r) (zed (bare q) k r j)) := by
  have hk : ∀ (x : Fin 3072) l, (VecWindow.window K (k0_off36 (grid0.coords t)) S1x3072x128.size (k0_off36_inb (grid0.coords t) h) : Vec Ideal S1x3072x128 .bf16) (ix3 0 x l)
      = ((k ⟨t.val % 32 / 8 * 4096 + x.val, by omega⟩ l : ℝ) : EReal) := fun x l => (window_keys K _ h2 _ x l (by omega)).trans (hK _ l)
  have hv : ∀ (a : Fin 80) (x : Fin 3072), (VecWindow.window T (k0_off35 (grid0.coords t)) S1x1x80x3072.size (k0_off35_inb (grid0.coords t) h) : Vec Ideal S1x1x80x3072 .bf16) (ix4 0 0 a x)
      = ((v a ⟨t.val % 32 / 8 * 4096 + x.val, by omega⟩ : ℝ) : EReal) := fun a x => (window_vals T _ h1 _ a x (by omega) (by norm_num)).trans (hT _ a _)
  have hw := wdiag5_at Q q hQ _ _ hk s.mx r
  have hm := mdiag5_at Q q hQ _ _ hk s.mx r
  have st := kept_step _ _ _ hs (fun x : Fin 3072 => x.val ≤ r.val + 2560) _ (fun a (x : Fin 3072) => v a ⟨t.val % 32 / 8 * 4096 + x.val, by omega⟩) ⟨0, by norm_num⟩ (Nat.zero_le _) _ hw
  have e1 := funext fun a => (tail_sum (v a) (zed (bare q) k r) t r (n := 3072) 2560 (by omega) _ (fun x => (Iff.rfl : x.val ≤ r.val + 2560 ↔ _))).symm
  have e2 : (fun a => k0_pay59 (F := Ideal) (k0_pay27 k0_pay1 Q) (VecWindow.window T (k0_off35 (grid0.coords t)) S1x1x80x3072.size (k0_off35_inb (grid0.coords t) h))
      (VecWindow.window K (k0_off36 (grid0.coords t)) S1x3072x128.size (k0_off36_inb (grid0.coords t) h)) s.mx (top s.acc) (ix2 a r)) = _ :=
    funext fun a => udiag5_at Q q hQ _ _ _ _ hv hk s.mx (top s.acc) a r _ (hm.trans hw.symm)
  refine Ended.of ?_ st.1
  unfold udiag5
  dsimp only
  rw [top_put, e1, e2]
  exact st.2

include hQ hK hT in
/-- The masked step over 3584 keys with a running maximum. -/
theorem udiag6_seen (h : k0_cond17 (grid0.coords t) = 1#1) (hp : t.val % 8 = 6) (s : St Ideal) (r : Fin 512)
    (h1 : k0_off37 (grid0.coords t) = ![0, t.val % 32 / 8, 0, 0]) (h2 : k0_off38 (grid0.coords t) = ![0, t.val % 32 / 8 * 4096, 0])
    (hs : Seen s r (fun a => wsum (v a) (zed (bare q) k r) (rowOf t r) (t.val % 32 / 8 * 4096))) :
    Ended (udiag6 (grid0.coords t) h Q K T s) r (fun a => ∑ j : Fin 16384, v a j * pr (j.val ≤ rowOf t r) (zed (bare q) k r j)) := by
  have hk : ∀ (x : Fin 3584) l, (VecWindow.window K (k0_off38 (grid0.coords t)) S1x3584x128.size (k0_off38_inb (grid0.coords t) h) : Vec Ideal S1x3584x128 .bf16) (ix3 0 x l)
      = ((k ⟨t.val % 32 / 8 * 4096 + x.val, by omega⟩ l : ℝ) : EReal) := fun x l => (window_keys K _ h2 _ x l (by omega)).trans (hK _ l)
  have hv : ∀ (a : Fin 80) (x : Fin 3584), (VecWindow.window T (k0_off37 (grid0.coords t)) S1x1x80x3584.size (k0_off37_inb (grid0.coords t) h) : Vec Ideal S1x1x80x3584 .bf16) (ix4 0 0 a x)
      = ((v a ⟨t.val % 32 / 8 * 4096 + x.val, by omega⟩ : ℝ) : EReal) := fun a x => (window_vals T _ h1 _ a x (by omega) (by norm_num)).trans (hT _ a _)
  have hw := wdiag6_at Q q hQ _ _ hk s.mx r
  have hm := mdiag6_at Q q hQ _ _ hk s.mx r
  have st := kept_step _ _ _ hs (fun x : Fin 3584 => x.val ≤ r.val + 3072) _ (fun a (x : Fin 3584) => v a ⟨t.val % 32 / 8 * 4096 + x.val, by omega⟩) ⟨0, by norm_num⟩ (Nat.zero_le _) _ hw
  have e1 := funext fun a => (tail_sum (v a) (zed (bare q) k r) t r (n := 3584) 3072 (by omega) _ (fun x => (Iff.rfl : x.val ≤ r.val + 3072 ↔ _))).symm
  have e2 : (fun a => k0_pay63 (F := Ideal) (k0_pay27 k0_pay1 Q) (VecWindow.window T (k0_off37 (grid0.coords t)) S1x1x80x3584.size (k0_off37_inb (grid0.coords t) h))
      (VecWindow.window K (k0_off38 (grid0.coords t)) S1x3584x128.size (k0_off38_inb (grid0.coords t) h)) s.mx (top s.acc) (ix2 a r)) = _ :=
    funext fun a => udiag6_at Q q hQ _ _ _ _ hv hk s.mx (top s.acc) a r _ (hm.trans hw.symm)
  refine Ended.of ?_ st.1
  unfold udiag6
  dsimp only
  rw [top_put, e1, e2]
  exact st.2

include hQ hK hT in
/-- The masked step over 4096 keys with a running maximum. -/
theorem udiag7_seen (h : k0_cond18 (grid0.coords t) = 1#1) (hp : t.val % 8 = 7) (s : St Ideal) (r : Fin 512)
    (h1 : k0_off39 (grid0.coords t) = ![0, t.val % 32 / 8, 0, 0]) (h2 : k0_off40 (grid0.coords t) = ![0, t.val % 32 / 8 * 4096, 0])
    (hs : Seen s r (fun a => wsum (v a) (zed (bare q) k r) (rowOf t r) (t.val % 32 / 8 * 4096))) :
    Ended (udiag7 (grid0.coords t) h Q K T s) r (fun a => ∑ j : Fin 16384, v a j * pr (j.val ≤ rowOf t r) (zed (bare q) k r j)) := by
  have hk : ∀ (x : Fin 4096) l, (VecWindow.window K (k0_off40 (grid0.coords t)) S1x4096x128.size (k0_off40_inb (grid0.coords t) h) : Vec Ideal S1x4096x128 .bf16) (ix3 0 x l)
      = ((k ⟨t.val % 32 / 8 * 4096 + x.val, by omega⟩ l : ℝ) : EReal) := fun x l => (window_keys K _ h2 _ x l (by omega)).trans (hK _ l)
  have hv : ∀ (a : Fin 80) (x : Fin 4096), (VecWindow.window T (k0_off39 (grid0.coords t)) S1x1x80x4096.size (k0_off39_inb (grid0.coords t) h) : Vec Ideal S1x1x80x4096 .bf16) (ix4 0 0 a x)
      = ((v a ⟨t.val % 32 / 8 * 4096 + x.val, by omega⟩ : ℝ) : EReal) := fun a x => (window_vals T _ h1 _ a x (by omega) (by norm_num)).trans (hT _ a _)
  have hw := wdiag7_at Q q hQ _ _ hk s.mx r
  have hm := mdiag7_at Q q hQ _ _ hk s.mx r
  have st := kept_step _ _ _ hs (fun x : Fin 4096 => x.val ≤ r.val + 3584) _ (fun a (x : Fin 4096) => v a ⟨t.val % 32 / 8 * 4096 + x.val, by omega⟩) ⟨0, by norm_num⟩ (Nat.zero_le _) _ hw
  have e1 := funext fun a => (tail_sum (v a) (zed (bare q) k r) t r (n := 4096) 3584 (by omega) _ (fun x => (Iff.rfl : x.val ≤ r.val + 3584 ↔ _))).symm
  have e2 : (fun a => k0_pay67 (F := Ideal) (k0_pay27 k0_pay1 Q) (VecWindow.window T (k0_off39 (grid0.coords t)) S1x1x80x4096.size (k0_off39_inb (grid0.coords t) h))
      (VecWindow.window K (k0_off40 (grid0.coords t)) S1x4096x128.size (k0_off40_inb (grid0.coords t) h)) s.mx (top s.acc) (ix2 a r)) = _ :=
    funext fun a => udiag7_at Q q hQ _ _ _ _ hv hk s.mx (top s.acc) a r _ (hm.trans hw.symm)
  refine Ended.of ?_ st.1
  unfold udiag7
  dsimp only
  rw [top_put, e1, e2]
  exact st.2

include hQ hK hT in
/-- A point with a running maximum. -/
theorem upoint_seen (r : Fin 512) :
    Ended (upoint (grid0.coords t) Q K T) r (fun a => ∑ j : Fin 16384, v a j * pr (j.val ≤ rowOf t r) (zed (bare q) k r j)) := by
  have O := offs t
  have hA := utrips_seen Q K T q k v hQ hK hT t r _ le_rfl
  rw [O.2.1] at hA
  unfold upoint
  rw [O.2.1]
  generalize utrips (grid0.coords t) Q K T ⟨k0_pay28 (F := Ideal), k0_pay2 (F := Ideal)⟩ (t.val % 32 / 8) = A at hA ⊢
  obtain ⟨-, -, -, b0, -, -, x0, y0, -, b1, -, -, x1, y1, -, b2, -, -, x2, y2, -, b3, -, -, x3, y3, -, b4, -, -, x4, y4, -, b5, -, -, x5, y5, -, b6, -, -, x6, y6, -, b7, -, -, x7, y7⟩ := O
  unfold udiag
  by_cases h0 : k0_cond11 (grid0.coords t) = 1#1
  · rw [dif_pos h0]; exact udiag0_seen Q K T q k v hQ hK hT t h0 (b0.1 h0) A r x0 y0 hA
  rw [dif_neg h0]
  by_cases h1 : k0_cond12 (grid0.coords t) = 1#1
  · rw [dif_pos h1]; exact udiag1_seen Q K T q k v hQ hK hT t h1 (b1.1 h1) A r x1 y1 hA
  rw [dif_neg h1]
  by_cases h2 : k0_cond13 (grid0.coords t) = 1#1
  · rw [dif_pos h2]; exact udiag2_seen Q K T q k v hQ hK hT t h2 (b2.1 h2) A r x2 y2 hA
  rw [dif_neg h2]
  by_cases h3 : k0_cond14 (grid0.coords t) = 1#1
  · rw [dif_pos h3]; exact udiag3_seen Q K T q k v hQ hK hT t h3 (b3.1 h3) A r x3 y3 hA
  rw [dif_neg h3]
  by_cases h4 : k0_cond15 (grid0.coords t) = 1#1
  · rw [dif_pos h4]; exact udiag4_seen Q K T q k v hQ hK hT t h4 (b4.1 h4) A r x4 y4 hA
  rw [dif_neg h4]
  by_cases h5 : k0_cond16 (grid0.coords t) = 1#1
  · rw [dif_pos h5]; exact udiag5_seen Q K T q k v hQ hK hT t h5 (b5.1 h5) A r x5 y5 hA
  rw [dif_neg h5]
  by_cases h6 : k0_cond17 (grid0.coords t) = 1#1
  · rw [dif_pos h6]; exact udiag6_seen Q K T q k v hQ hK hT t h6 (b6.1 h6) A r x6 y6 hA
  rw [dif_neg h6]
  by_cases h7 : k0_cond18 (grid0.coords t) = 1#1
  · rw [dif_pos h7]; exact udiag7_seen Q K T q k v hQ hK hT t h7 (b7.1 h7) A r x7 y7 hA
  rw [dif_neg h7]
  exfalso
  have n0 : ¬ t.val % 8 = 0 := fun e => h0 (b0.2 e)
  have n1 : ¬ t.val % 8 = 1 := fun e => h1 (b1.2 e)
  have n2 : ¬ t.val % 8 = 2 := fun e => h2 (b2.2 e)
  have n3 : ¬ t.val % 8 = 3 := fun e => h3 (b3.2 e)
  have n4 : ¬ t.val % 8 = 4 := fun e => h4 (b4.2 e)
  have n5 : ¬ t.val % 8 = 5 := fun e => h5 (b5.2 e)
  have n6 : ¬ t.val % 8 = 6 := fun e => h6 (b6.2 e)
  have n7 : ¬ t.val % 8 = 7 := fun e => h7 (b7.2 e)
  omega

end

end Cert.Kernel2Ideal.Hand
-- ==== Proof.K2I.Out.lean ====
/-
  The two tiles a grid point writes, over the extended reals at real lanes: side by side the averages of the values and the
  logarithm of the sum of the exponentials; and the query's lanes with that logarithm, negated, in lanes 67 to 69.
-/
module

public import proofs.«01_k».proof.Proof.K2I.Sum

@[expose] public section

set_option maxRecDepth 16384

noncomputable section

namespace Cert.Kernel2Ideal.Hand

open Cert.Kernel2Ideal Cert.Kernel2Ideal.Gen Cert.Attn
open Idealize.ShloMosaic Idealize.ShloMosaic.TcCoe

/-- The accumulator with the maximum's row, read at an entry. -/
theorem uend_at (s : St Ideal) (l : Fin 128) (r : Fin 512) :
    uend s (ix2 l r) = if l.val = 65 then s.mx (ix2 0 r) else s.acc (ix2 l r) := by
  unfold uend VecWindow.put
  by_cases hl : l.val = 65
  · have hall : ∀ a : Fin 2, (![65, 0] : Fin 2 → ℕ) a ≤ ((ix2 l r : S128x512.Idx) a).val ∧ ((ix2 l r : S128x512.Idx) a).val < (![65, 0] : Fin 2 → ℕ) a + S1x512.size a := by
      intro a; fin_cases a
      · show 65 ≤ l.val ∧ l.val < 65 + 1; omega
      · exact ⟨Nat.zero_le _, by show r.val < 0 + 512; have := r.isLt; omega⟩
    rw [dif_pos hall, if_pos hl]
    have e : k0_pay69 s.mx (ix2 0 r) = s.mx (ix2 0 r) := by pointwise [k0_pay69]
    rw [← e]
    refine congrArg (k0_pay69 s.mx) (funext fun a => Fin.ext ?_)
    fin_cases a
    · show l.val - 65 = 0; omega
    · show r.val - 0 = r.val; omega
  · rw [dif_neg fun hall => ?_, if_neg hl]
    have h := hall 0
    have h' : 65 ≤ l.val ∧ l.val < 65 + 1 := h
    omega

/-- A choice of the lane `n`. -/
theorem pick {α : Type} (l : Fin 128) (n : ℕ) (hn : n < 128) (a b : α) :
    Scalar.select (IntOp.cmpi CmpIPredicate.eq (BitVec.ofNat 32 l.val) (BitVec.ofNat 32 n)) a b = if l = ⟨n, hn⟩ then a else b := by
  have hl := l.isLt
  have e : IntOp.cmpi CmpIPredicate.eq (BitVec.ofNat 32 l.val) (BitVec.ofNat 32 n) = BitVec.ofBool (decide (l.val = n)) := by
    rw [WordCmp.cmpi_eq_eq]
    refine congrArg BitVec.ofBool (decide_eq_decide.2 ⟨fun h => ?_, fun h => by rw [h]⟩)
    have h' := congrArg BitVec.toNat h
    rw [BitVec.toNat_ofNat, BitVec.toNat_ofNat, Nat.mod_eq_of_lt (by omega), Nat.mod_eq_of_lt (by omega)] at h'
    exact h'
  rw [e]
  by_cases h : l.val = n
  · rw [if_pos (Fin.ext h)]; simp [h, Scalar.select]
  · rw [if_neg fun h' => h (congrArg Fin.val h')]; simp [h, Scalar.select]

/-- A choice of the lanes below 64. -/
theorem low {α : Type} (l : Fin 128) (a b : α) :
    Scalar.select (IntOp.cmpi CmpIPredicate.slt (BitVec.ofNat 32 l.val) 64#32) a b = if l.val < 64 then a else b := by
  have e : IntOp.cmpi CmpIPredicate.slt (BitVec.ofNat 32 l.val) 64#32 = BitVec.ofBool (decide (l.val < 64)) := by
    revert l; decide +kernel
  rw [e]
  by_cases h : l.val < 64
  · simp [h, Scalar.select]
  · simp [h, Scalar.select]

theorem sum_pick (f : Fin 128 → EReal) (n : Fin 128) : (∑ l, if l = n then f l else (0 : EReal)) = f n := by
  rw [Finset.sum_ite_eq' Finset.univ n f, if_pos (Finset.mem_univ n)]

theorem zero_bits : (Ideal.ofBits .f32 0x00000000#32 : EReal) = 0 := by simp [Ideal.ofBits, Ideal.ieee]

/-- A quotient of numbers with a common factor. -/
theorem div_scaled (a b e : ℝ) (hb : b ≠ 0) (he : e ≠ 0) : Ideal.div ((a * e : ℝ) : EReal) ((b * e : ℝ) : EReal) = ((a / b : ℝ) : EReal) := by
  rw [Ideal.div_coe (mul_ne_zero hb he), ← EReal.coe_mul]
  exact congrArg (fun x : ℝ => (x : EReal)) (by field_simp)

/-! ## Under a known bound -/

section
variable (A : Vec Ideal S128x512 .f32)

/-- A lane's number. -/
theorem lanes_at (r : Fin 512) (l : Fin 128) : lanes (ix2 r l) = BitVec.ofNat 32 l.val := by pointwise [lanes]

theorem pay18_at (r : Fin 512) : k0_pay18 (F := Ideal) lanes A (ix2 r 0) = A (ix2 64 r) := by
  pointwise [k0_pay18, k0_pay17, lanes]
  simp only [pick _ 64 (by norm_num)]
  exact sum_pick (fun l => A (ix2 l r)) 64

theorem pay71_at (r : Fin 512) : k0_pay71 (F := Ideal) lanes A (ix2 r 0) = A (ix2 64 r) := by
  pointwise [k0_pay71, k0_pay70, lanes]
  simp only [pick _ 64 (by norm_num)]
  exact sum_pick (fun l => A (ix2 l r)) 64

theorem pay72_at (r : Fin 512) : k0_pay72 (F := Ideal) lanes A (ix2 r 0) = A (ix2 65 r) + Ideal.log (A (ix2 64 r)) := by
  pointwise [k0_pay72, k0_pay70, lanes_at, pay71_at]
  simp only [pick _ 65 (by norm_num)]
  exact congrArg (fun x : EReal => x + Ideal.log (A (ix2 64 r))) (sum_pick (fun l => A (ix2 l r)) 65)

theorem pay73_at (r : Fin 512) (l : Fin 128) : k0_pay73 (F := Ideal) lanes A (ix2 r l)
    = if l.val < 64 then Ideal.div (A (ix2 l r)) (A (ix2 64 r)) else A (ix2 65 r) + Ideal.log (A (ix2 64 r)) := by
  pointwise [k0_pay73, k0_pay70, lanes_at, pay71_at, pay72_at]
  exact low l _ _

variable (Q : Vec Ideal S1x1x512x128 .bf16) (q : Fin 512 → Fin 128 → ℝ) (hQ : ∀ r l, Q (ix4 0 0 r l) = ((q r l : ℝ) : EReal))

/-- The bound's lanes, summed. -/
def bound (q : Fin 512 → Fin 128 → ℝ) (r : Fin 512) : ℝ := ∑ l : Fin 128, if 67 ≤ l.val ∧ l.val < 70 then q r l else 0

include hQ in
theorem pay19_at (r : Fin 512) : k0_pay19 (F := Ideal) lanes k0_pay1 (k0_pay6 Q) A (ix2 r 0) = ((-bound q r : ℝ) : EReal) + Ideal.log (A (ix2 64 r)) := by
  obtain ⟨m, hm, hm'⟩ : ∃ m : Fin 512 → Fin 128 → BitVec 1, (∀ r l, k0_pay1 (ix2 r l) = m r l) ∧ ∀ r l, m r l = BitVec.ofBool (decide (67 ≤ l.val ∧ l.val < 70)) :=
    ⟨fun r l => k0_pay1 (ix2 r l), fun _ _ => rfl, pay1_at⟩
  pointwise [k0_pay19, k0_pay6, hm, pay18_at, hQ]
  refine congrArg (fun x : EReal => x + Ideal.log (A (ix2 64 r))) ?_
  have e : ∀ l : Fin 128, Scalar.select (m r l) ((q r l : ℝ) : EReal) (0 : EReal)
      = (((if 67 ≤ l.val ∧ l.val < 70 then q r l else 0) : ℝ) : EReal) := by
    intro l
    rw [hm']
    by_cases h : 67 ≤ l.val ∧ l.val < 70
    · simp [h, Scalar.select]
    · simp [h, Scalar.select]
  simp only [e, sum_coe]
  unfold bound
  rw [zero_sub, EReal.coe_neg]

include hQ in
theorem pay20_at (r : Fin 512) (l : Fin 128) : k0_pay20 (F := Ideal) lanes k0_pay1 (k0_pay6 Q) A (ix4 0 0 r l)
    = if l.val < 64 then Ideal.div (A (ix2 l r)) (A (ix2 64 r)) else ((-bound q r : ℝ) : EReal) + Ideal.log (A (ix2 64 r)) := by
  have h1 := pay19_at A Q q hQ r
  pointwise [k0_pay20, k0_pay17, lanes_at, pay18_at, h1]
  exact low l _ _

/-- The query's lanes with a number, negated, in the first of the bound's lanes and nothing in the other two. -/
def marked (x : Fin 128 → ℝ) (y : ℝ) (l : Fin 128) : ℝ := if l.val = 67 then -y else if l.val = 68 ∨ l.val = 69 then 0 else x l

include hQ in
theorem pay3_at (r : Fin 512) (l : Fin 128) (y : ℝ) (hy : k0_pay19 (F := Ideal) lanes k0_pay1 (k0_pay6 Q) A (ix2 r 0) = (y : EReal)) :
    k0_pay3 (F := Ideal) (k0_pay22 lanes k0_pay1 (k0_pay6 Q) A) (k0_pay24 lanes k0_pay1 (k0_pay6 Q) A) (k0_pay25 lanes k0_pay1 (k0_pay6 Q) A) (k0_pay26 lanes) Q (ix4 0 0 r l)
      = ((marked (q r) y l : ℝ) : EReal) := by
  have h22 : k0_pay21 (F := Ideal) lanes k0_pay1 (k0_pay6 Q) A (ix2 r 0) = ((-y : ℝ) : EReal) := by
    pointwise [k0_pay21, hy]
    rw [zero_sub, EReal.coe_neg]
  have h23 : k0_pay23 (F := Ideal) lanes k0_pay1 (k0_pay6 Q) A (ix2 r 0) = ((0 : ℝ) : EReal) := by
    pointwise [k0_pay23, k0_pay22, h22]
    rw [← EReal.coe_sub, sub_self]
  have h25 : k0_pay25 (F := Ideal) lanes k0_pay1 (k0_pay6 Q) A (ix2 r 0) = ((0 : ℝ) : EReal) := by
    pointwise [k0_pay25, k0_pay24, h23]
    rw [← EReal.coe_sub, sub_self]
  pointwise [k0_pay3, k0_pay22, k0_pay24, k0_pay26, lanes_at, h22, h23, h25, hQ]
  rw [pick _ 67 (by norm_num), pick _ 68 (by norm_num), pick _ 69 (by norm_num)]
  unfold marked
  simp only [Fin.ext_iff]
  split_ifs <;> first | rfl | (exfalso; omega)

include hQ in
theorem pay5_at (r : Fin 512) (l : Fin 128) (x : Vec Ideal S512x1 .f32) (y : ℝ) (hy : x (ix2 r 0) = (y : EReal)) :
    k0_pay5 (F := Ideal) x Q (ix4 0 0 r l) = ((marked (q r) y l : ℝ) : EReal) := by
  pointwise [k0_pay5, hy, hQ]
  rw [pick _ 67 (by norm_num), pick _ 68 (by norm_num), pick _ 69 (by norm_num)]
  have e0 : (0 : EReal) - ((y : ℝ) : EReal) = ((-y : ℝ) : EReal) := by rw [zero_sub, EReal.coe_neg]
  simp only [e0, ← EReal.coe_sub, sub_self]
  unfold marked
  simp only [Fin.ext_iff]
  split_ifs <;> first | rfl | (exfalso; omega)

end

section
variable (Q : Vec Ideal S1x1x512x128 .bf16) (K : Vec Ideal S1x16384x128 .bf16) (T : Vec Ideal S1x4x80x4096 .bf16)
  (q : Fin 512 → Fin 128 → ℝ) (k : Fin 16384 → Fin 128 → ℝ) (v : Fin 80 → Fin 16384 → ℝ)
  (hQ : ∀ r l, Q (ix4 0 0 r l) = ((q r l : ℝ) : EReal)) (hK : ∀ j l, K (ix3 0 j l) = ((k j l : ℝ) : EReal))
  (hT : ∀ (g : Fin 4) (a : Fin 80) (s : Fin 4096), T (ix4 0 g a s) = ((v a (inGroup g s) : ℝ) : EReal))
  (t : Fin grid0.N) (x : Elt Ideal .f32) (r : Fin 512)
  (w : Fin 80 → ℝ) (s : ℝ) (hb : ∀ a, ∑ j : Fin 16384, v a j * pr (j.val ≤ rowOf t r) (zed q k r j) = w a * Real.exp s) (hs : bound q r = s)
  (hu : ∀ a, ∑ j : Fin 16384, v a j * pr (j.val ≤ rowOf t r) (zed (bare q) k r j) = w a) (hw : 0 < w 64)

include hQ hK hT hb hs hu hw in
/-- The two tiles: the averages, the logarithm of the sum, and the query's lanes marked with it. -/
theorem tiles_at : (∀ l : Fin 64, outO x (grid0.coords t) Q K T (ix4 0 0 r ⟨l.val, by omega⟩) = ((w ⟨l.val, by omega⟩ / w 64 : ℝ) : EReal))
    ∧ ∀ l : Fin 128, outQ x (grid0.coords t) Q K T (ix4 0 0 r l) = ((marked (q r) (Real.log (w 64)) l : ℝ) : EReal) := by
  have hne := hw.ne'
  unfold outO outQ
  by_cases hx : bounded x
  · simp only [if_pos hx]
    have hA : ∀ a : Fin 80, bpoint (grid0.coords t) Q K T (ix2 ⟨a.val, by omega⟩ r) = ((w a * Real.exp s : ℝ) : EReal) := fun a =>
      (top_at _ a r).symm.trans ((bpoint_sum Q K T q k v hQ hK hT t a r).trans (congrArg (fun y : ℝ => (y : EReal)) (hb a)))
    generalize bpoint (grid0.coords t) Q K T = A at hA ⊢
    have h64 : A (ix2 64 r) = ((w 64 * Real.exp s : ℝ) : EReal) := hA 64
    have hl : k0_pay19 (F := Ideal) lanes k0_pay1 (k0_pay6 Q) A (ix2 r 0) = ((Real.log (w 64) : ℝ) : EReal) := by
      rw [pay19_at A Q q hQ, h64, log_pos _ (mul_pos hw (Real.exp_pos s)), ← EReal.coe_add, Real.log_mul hne (Real.exp_pos s).ne', Real.log_exp, hs]
      exact congrArg _ (by ring)
    refine ⟨fun l => ?_, fun l => pay3_at A Q q hQ r l _ hl⟩
    have hlt : (⟨l.val, by omega⟩ : Fin 128).val < 64 := l.isLt
    have hn : A (ix2 ⟨l.val, by omega⟩ r) = ((w ⟨l.val, by omega⟩ * Real.exp s : ℝ) : EReal) := hA ⟨l.val, by omega⟩
    rw [pay20_at A Q q hQ, if_pos hlt, h64, hn, div_scaled _ _ _ hne (Real.exp_pos s).ne']
  · simp only [if_neg hx]
    obtain ⟨M, hM, hA⟩ := upoint_seen Q K T q k v hQ hK hT t r
    generalize upoint (grid0.coords t) Q K T = S at hM hA ⊢
    have h64 : uend S (ix2 64 r) = ((w 64 * Real.exp (-M) : ℝ) : EReal) := by
      rw [uend_at, if_neg (by decide)]
      exact ((top_at S.acc 64 r).symm.trans (hA 64)).trans (congrArg (fun y : ℝ => ((y * Real.exp (-M) : ℝ) : EReal)) (hu 64))
    have h65 : uend S (ix2 65 r) = (M : EReal) := by rw [uend_at, if_pos (by decide), hM]
    have hl : k0_pay72 (F := Ideal) lanes (uend S) (ix2 r 0) = ((Real.log (w 64) : ℝ) : EReal) := by
      rw [pay72_at, h64, h65, log_pos _ (mul_pos hw (Real.exp_pos _)), ← EReal.coe_add, Real.log_mul hne (Real.exp_pos _).ne', Real.log_exp]
      exact congrArg _ (by ring)
    refine ⟨fun l => ?_, fun l => pay5_at Q q hQ r l _ _ hl⟩
    have hlt : (⟨l.val, by omega⟩ : Fin 128).val < 64 := l.isLt
    have hn : uend S (ix2 ⟨l.val, by omega⟩ r) = ((w ⟨l.val, by omega⟩ * Real.exp (-M) : ℝ) : EReal) := by
      rw [uend_at, if_neg (by show ¬ l.val = 65; omega)]
      exact ((top_at S.acc ⟨l.val, by omega⟩ r).symm.trans (hA ⟨l.val, by omega⟩)).trans (congrArg (fun y : ℝ => ((y * Real.exp (-M) : ℝ) : EReal)) (hu ⟨l.val, by omega⟩))
    have e4 : k0_pay4 (F := Ideal) (k0_pay73 lanes (uend S)) (ix4 0 0 r ⟨l.val, by omega⟩) = k0_pay73 lanes (uend S) (ix2 r ⟨l.val, by omega⟩) := by
      pointwise [k0_pay4]
    rw [e4, pay73_at, if_pos hlt, h64, hn, div_scaled _ _ _ hne (Real.exp_pos _).ne']

end

end Cert.Kernel2Ideal.Hand
-- ==== Proof.K2I.Value.lean ====
/-
  The two arrays the forward kernel leaves, over the extended reals at real arguments, and from them the program's two
  results: the attention's output and the logarithm of each row's sum.
-/
module

public import proofs.«01_k».proof.Proof.K2I.Blocks
public import proofs.«01_k».proof.Proof.K2I.Lanes
public import proofs.«01_k».proof.Proof.K2I.Out

@[expose] public section

set_option maxRecDepth 16384

noncomputable section

namespace Cert.Kernel2Ideal.Hand

open Cert.Kernel2Ideal Cert.Kernel2Ideal.Gen Cert.Attn
open Idealize.ShloMosaic Idealize.ShloMosaic.TcCoe Idealize.ShloMosaic.StableHlo
open Idealize.ShloMosaic.Pipeline (Dat)

/-- A row of a tile. -/
def rowIn (j : Fin 32) (r : Fin 512) : Fin 16384 := ⟨j.val * 512 + r.val, by have := j.isLt; have := r.isLt; omega⟩
/-- The tile of a row. -/
def tileOf (i : Fin 16384) : Fin 32 := ⟨i.val / 512, by have := i.isLt; omega⟩
/-- A row's place in its tile. -/
def placeOf (i : Fin 16384) : Fin 512 := ⟨i.val % 512, Nat.mod_lt _ (by norm_num)⟩

theorem rowIn_of (i : Fin 16384) : rowIn (tileOf i) (placeOf i) = i := by
  unfold rowIn tileOf placeOf
  ext
  show i.val / 512 * 512 + i.val % 512 = i.val
  omega

/-- The point of a head's tile. -/
def pointOf (h : Fin 16) (j : Fin 32) : Fin cfg0.N := ⟨h.val * 32 + j.val, by have := h.isLt; have := j.isLt; show _ < 512; omega⟩

theorem headAt_pointOf (h : Fin 16) (j : Fin 32) : headAt (pointOf h j) = h := by
  have := j.isLt
  unfold headAt pointOf; ext; show (h.val * 32 + j.val) / 32 = h.val; omega
theorem tileAt_pointOf (h : Fin 16) (j : Fin 32) : tileAt (pointOf h j) = j := by
  have := j.isLt
  unfold tileAt pointOf; ext; show (h.val * 32 + j.val) % 32 = j.val; omega
theorem pointOf_at (t : Fin cfg0.N) : pointOf (headAt t) (tileAt t) = t := by
  unfold headAt tileAt pointOf; ext; show t.val / 32 * 32 + t.val % 32 = t.val; omega

section arrays
variable (m : (ℓ : Loc nD τ sig) → Buf (Elt Ideal) ℓ) (c : Dev nD)

/-- The first tile a point writes. -/
def tileO (t : Fin cfg0.N) : Vec Ideal S1x1x512x128 .f32 := outO (word (iblk m c 0 t)) (grid0.coords t) (iblk m c 1 t) (iblk m c 2 t) (iblk m c 3 t)
/-- The second tile a point writes. -/
def tileQ (t : Fin cfg0.N) : Vec Ideal S1x1x512x128 .bf16 := outQ (word (iblk m c 0 t)) (grid0.coords t) (iblk m c 1 t) (iblk m c 2 t) (iblk m c 3 t)

/-- The first array is made of the tiles its points leave. -/
theorem tiles_4 (T : Fin cfg0.N → Vec Ideal S1x1x512x128 .f32) (hT : ∀ t, (dats m 0 c).after 4 t = T t) :
    (dats m 0 c).arrAt 4 cfg0.N = (fun i => T (pointOf (i 0) (i 1)) (ix4 0 0 (i 2) (i 3)) : FVec Ideal S16x32x512x128 .f32) := by
  refine Dat.arrAt_eq_of_covers _ 4 _ covers_4 fun t _ (y : S1x1x512x128.Idx) => ?_
  obtain ⟨s, l, rfl⟩ := unit_idx y
  refine Eq.trans ?_ (congrArg (fun i : S16x32x512x128.Idx => T (pointOf (i 0) (i 1)) (ix4 0 0 (i 2) (i 3))) (emb_4 t s l).symm)
  rw [hT]
  exact congrArg (fun u => T u (ix4 0 0 s l)) (pointOf_at t).symm

/-- The first array is made of the first tiles. -/
theorem array_4 : (dats m 0 c).arrAt 4 cfg0.N = (fun i => tileO m c (pointOf (i 0) (i 1)) (ix4 0 0 (i 2) (i 3)) : FVec Ideal S16x32x512x128 .f32) :=
  tiles_4 m c (tileO m c) fun t => after_4 m c t

/-- The second array is made of the tiles its points leave. -/
theorem tiles_5 (T : Fin cfg0.N → Vec Ideal S1x1x512x128 .bf16) (hT : ∀ t, (dats m 0 c).after 5 t = T t) :
    (dats m 0 c).arrAt 5 cfg0.N = (fun i => T (pointOf (i 0) (i 1)) (ix4 0 0 (i 2) (i 3)) : FVec Ideal S16x32x512x128 .bf16) := by
  refine Dat.arrAt_eq_of_covers _ 5 _ covers_5 fun t _ (y : S1x1x512x128.Idx) => ?_
  obtain ⟨s, l, rfl⟩ := unit_idx y
  refine Eq.trans ?_ (congrArg (fun i : S16x32x512x128.Idx => T (pointOf (i 0) (i 1)) (ix4 0 0 (i 2) (i 3))) (emb_5 t s l).symm)
  rw [hT]
  exact congrArg (fun u => T u (ix4 0 0 s l)) (pointOf_at t).symm

/-- The second array is made of the second tiles. -/
theorem array_5 : (dats m 0 c).arrAt 5 cfg0.N = (fun i => tileQ m c (pointOf (i 0) (i 1)) (ix4 0 0 (i 2) (i 3)) : FVec Ideal S16x32x512x128 .bf16) :=
  tiles_5 m c (tileQ m c) fun t => after_5 m c t

variable (q k v : Fin 16 → Fin 16384 → Fin 64 → ℝ) (cs s : Fin 16 → Fin 16384 → ℝ)
  (hQ : ∀ h j r l, (V m c main_v66 : FVec Ideal S16x32x512x128 .bf16) (ix4 h j r l) = ((qlane q s h (rowIn j r) l : ℝ) : EReal))
  (hK : ∀ h j l, (V m c main_v53 : FVec Ideal S16x16384x128 .bf16) (ix3 h j l) = ((klane k cs h j l : ℝ) : EReal))
  (hT : ∀ h g a t, (V m c main_v65 : FVec Ideal S16x4x80x4096 .bf16) (ix4 h g a t) = ((vlane v h (inGroup g t) a : ℝ) : EReal))

/-- A weighted sum of value lanes. -/
def mass (h : Fin 16) (i : Fin 16384) (a : Fin 80) : ℝ := ∑ j : Fin 16384, vlane v h j a * weight q k cs h i j

omit hQ hK hT in
theorem mass_one (h : Fin 16) (i : Fin 16384) : mass q k v cs h i 64 = rowSum q k cs h i := by
  unfold mass rowSum
  refine Finset.sum_congr rfl fun j _ => ?_
  have e : vlane v h j 64 = 1 := by unfold vlane; simp
  rw [e, one_mul]

omit hQ hK hT in
theorem mass_out (h : Fin 16) (i : Fin 16384) (l : Fin 64) : mass q k v cs h i ⟨l.val, by omega⟩ / mass q k v cs h i 64 = out q k v cs h i l := by
  rw [mass_one]
  unfold mass out share
  rw [Finset.sum_div]
  refine Finset.sum_congr rfl fun j _ => ?_
  have e : vlane v h j ⟨l.val, by omega⟩ = v h j l := by
    unfold vlane
    rw [dif_pos (show (⟨l.val, by omega⟩ : Fin 80).val < 64 from l.isLt)]
  rw [e]; ring

include hQ hK hT in
/-- What a point's tiles hold. -/
theorem point_at (t : Fin cfg0.N) (r : Fin 512) :
    (∀ l : Fin 64, tileO m c t (ix4 0 0 r ⟨l.val, by omega⟩) = ((out q k v cs (headAt t) (rowIn (tileAt t) r) l : ℝ) : EReal))
    ∧ ∀ l : Fin 128, tileQ m c t (ix4 0 0 r l) = ((marked (qlane q s (headAt t) (rowIn (tileAt t) r)) (Real.log (rowSum q k cs (headAt t) (rowIn (tileAt t) r))) l : ℝ) : EReal) := by
  have hq : ∀ r l, (iblk m c 1 t : Vec Ideal S1x1x512x128 .bf16) (ix4 0 0 r l) = ((qlane q s (headAt t) (rowIn (tileAt t) r) l : ℝ) : EReal) := fun r l =>
    (read_1 (V m c main_v66) t r l).trans (hQ _ _ _ _)
  have hk : ∀ j l, (iblk m c 2 t : Vec Ideal S1x16384x128 .bf16) (ix3 0 j l) = ((klane k cs (headAt t) j l : ℝ) : EReal) := fun j l =>
    (read_2 (V m c main_v53) t j l).trans (hK _ _ _)
  have ht : ∀ (g : Fin 4) (a : Fin 80) (x : Fin 4096), (iblk m c 3 t : Vec Ideal S1x4x80x4096 .bf16) (ix4 0 g a x) = ((vlane v (headAt t) (inGroup g x) a : ℝ) : EReal) := fun g a x =>
    (read_3 (V m c main_v65) t g a x).trans (hT _ _ _ _)
  have hpr : ∀ (j : Fin 16384), pr (j.val ≤ rowOf t r) (score q k cs (headAt t) (rowIn (tileAt t) r) j) = weight q k cs (headAt t) (rowIn (tileAt t) r) j := fun j => rfl
  have key := tiles_at (iblk m c 1 t) (iblk m c 2 t) (iblk m c 3 t) (fun r => qlane q s (headAt t) (rowIn (tileAt t) r)) (klane k cs (headAt t))
    (fun a j => vlane v (headAt t) j a) hq hk ht t (word (iblk m c 0 t)) r (mass q k v cs (headAt t) (rowIn (tileAt t) r)) (s (headAt t) (rowIn (tileAt t) r))
    (fun a => by
      unfold mass
      rw [Finset.sum_mul]
      refine Finset.sum_congr rfl fun j _ => ?_
      have e : zed (fun r => qlane q s (headAt t) (rowIn (tileAt t) r)) (klane k cs (headAt t)) r j
          = score q k cs (headAt t) (rowIn (tileAt t) r) j + s (headAt t) (rowIn (tileAt t) r) := dot_kq q k cs s _ _ _
      rw [e, mul_assoc, ← hpr]
      unfold pr
      split_ifs
      · rw [Real.exp_add]
      · rw [zero_mul])
    (lanes_low q s _ _)
    (fun a => by
      unfold mass
      refine Finset.sum_congr rfl fun j _ => ?_
      have e : zed (bare (fun r => qlane q s (headAt t) (rowIn (tileAt t) r))) (klane k cs (headAt t)) r j
          = score q k cs (headAt t) (rowIn (tileAt t) r) j := by
        unfold zed bare
        simp only [lanes_bare]
        rw [dot_kq, add_zero]
      rw [e, hpr])
    (by rw [mass_one]; exact rowSum_pos q k cs _ _)
  refine ⟨fun l => (key.1 l).trans (congrArg _ (mass_out q k v cs _ _ l)), fun l => (key.2 l).trans ?_⟩
  rw [mass_one]

end arrays

section
variable (W : Valuation τ sig (Elt Ideal))

/-- Tiles put together. -/
theorem tiles_back {α : Type} (A : S16x32x512x128.Idx → α) (h : Fin 16) (i : Fin 16384) (l : Fin 128) :
    shapeCast S16x16384x128 A shapeCasts_S16x32x512x128_S16x16384x128 (ix3 h i l) = A (ix4 h (tileOf i) (placeOf i) l) := by
  pointwise [tileOf, placeOf]

/-- An entry of a tile. -/
theorem tile_at (X : FVec Ideal S16x16384x128 .bf16) (h : Fin 16) (j : Fin 32) (t : Fin 512) (l : Fin 128) :
    shapeCast S16x32x512x128 X shapeCasts_S16x16384x128_S16x32x512x128 (ix4 h j t l) = X (ix3 h (rowIn j t) l) := by
  pointwise [rowIn]

/-- An entry of a group of transposed values. -/
theorem group_at (X : FVec Ideal S16x16384x128 .bf16) (h : Fin 16) (g : Fin 4) (a : Fin 80) (t : Fin 4096) :
    transpose S16x4x80x4096 [0, 1, 3, 2]
        (shapeCast S16x4x4096x80 (extractStridedSlice S16x16384x80 ![0, 0, 0] X slices_S16x16384x128_S16x16384x80_0_0_0) shapeCasts_S16x16384x80_S16x4x4096x80)
        transposes_S16x4x4096x80_S16x4x80x4096_0_1_3_2 (ix4 h g a t) = X (ix3 h (inGroup g t) ⟨a.val, by omega⟩) := by
  pointwise [inGroup]

/-- The last lines: the output. -/
theorem S_o (A : FVec Ideal S16x32x512x128 .f32) (hA : W (Proc.devRef .tc main_v67_0) = A) (h : Fin 16) (i : Fin 16384) (l : Fin 64) :
    (after hostOps1 W (Proc.devRef .tc main_v72) : FVec Ideal S16x16384x64 .f32) (ix3 h i l) = A (ix4 h (tileOf i) (placeOf i) ⟨l.val, by omega⟩) := by
  after_reads_simp
  rw [hA]
  pointwise [tileOf, placeOf]

/-- The last lines: the logarithm of the row's sum, from its three lanes. -/
theorem S_lse (A : FVec Ideal S16x32x512x128 .bf16) (hA : W (Proc.devRef .tc main_v67_1) = A) (h : Fin 16) (i : Fin 16384) :
    (after hostOps1 W (Proc.devRef .tc main_v74) : FVec Ideal S16x16384 .f32) (ix2 h i)
      = -(A (ix4 h (tileOf i) (placeOf i) 67) + A (ix4 h (tileOf i) (placeOf i) 68) + A (ix4 h (tileOf i) (placeOf i) 69)) := by
  after_reads_simp
  rw [hA]
  pointwise [tileOf, placeOf]
  rw [Fin.sum_univ_three]
  rfl

end

/-! ## The two results -/

section results
variable (m : (ℓ : Loc nD τ sig) → Buf (Elt Ideal) ℓ) (c : Dev nD)

/-- A device's memory when the last lines begin. -/
def Wf : Valuation τ sig (Elt Ideal) :=
  Pipeline.withArrays spec0 c (V0 m c) fun w => (dats m 0 c).arrAt w cfg0.N

theorem arr_inj : Function.Injective (Pipeline.arrRef spec0) := by decide

theorem Wf_0 : Wf m c (Proc.devRef .tc main_v67_0) = (dats m 0 c).arrAt 4 cfg0.N :=
  Pipeline.withArrays_arr spec0 arr_inj c _ (fun w => (dats m 0 c).arrAt w cfg0.N) 4

theorem Wf_1 : Wf m c (Proc.devRef .tc main_v67_1) = (dats m 0 c).arrAt 5 cfg0.N :=
  Pipeline.withArrays_arr spec0 arr_inj c _ (fun w => (dats m 0 c).arrAt w cfg0.N) 5

variable (q k v : Fin 16 → Fin 16384 → Fin 64 → ℝ) (cs : Fin 16 → Fin 16384 → ℝ)

/-- A device's arguments are real. -/
structure Args : Prop where
  hq : ∀ h i l, (m (c, Proc.devRef .tc main_arg0) : FVec Ideal S16x16384x64 .f32) (ix3 h i l) = ((q h i l : ℝ) : EReal)
  hk : ∀ h i l, (m (c, Proc.devRef .tc main_arg1) : FVec Ideal S16x16384x64 .f32) (ix3 h i l) = ((k h i l : ℝ) : EReal)
  hv : ∀ h i l, (m (c, Proc.devRef .tc main_arg2) : FVec Ideal S16x16384x64 .f32) (ix3 h i l) = ((v h i l : ℝ) : EReal)
  hc : ∀ h i, (m (c, Proc.devRef .tc main_arg3) : FVec Ideal S16x16384 .f32) (ix2 h i) = ((cs h i : ℝ) : EReal)
  hgq : ∀ i, ∃ y : ℝ, (m (c, Proc.devRef .tc main_arg4) : FVec Ideal S1x64 .f32) i = (y : EReal)
  hgk : ∀ i, ∃ y : ℝ, (m (c, Proc.devRef .tc main_arg5) : FVec Ideal S1x64 .f32) i = (y : EReal)

variable {m c q k v cs} (H : Args m c q k v cs)

include H in
/-- The query lanes the kernel reads, for some offsets less the bound. -/
theorem V_q : ∃ s : Fin 16 → Fin 16384 → ℝ, ∀ h j r l,
    (V m c main_v66 : FVec Ideal S16x32x512x128 .bf16) (ix4 h j r l) = ((qlane q s h (rowIn j r) l : ℝ) : EReal) := by
  obtain ⟨s, hs⟩ := low_real cs (m (c, Proc.devRef .tc main_arg3)) (m (c, Proc.devRef .tc main_arg4)) (m (c, Proc.devRef .tc main_arg5)) H.hgq H.hgk H.hc
  refine ⟨s, fun h j r l => ?_⟩
  rw [V_eq, (W_tiles _).1, tile_at, W_qa]
  exact qa_at q s _ _ _ _ H.hq hs h _ l

include H in
theorem V_k (h : Fin 16) (j : Fin 16384) (l : Fin 128) : (V m c main_v53 : FVec Ideal S16x16384x128 .bf16) (ix3 h j l) = ((klane k cs h j l : ℝ) : EReal) := by
  rw [V_eq, W_ka]
  exact ka_at k cs _ _ H.hk H.hc h j l

include H in
theorem V_v (h : Fin 16) (g : Fin 4) (a : Fin 80) (t : Fin 4096) : (V m c main_v65 : FVec Ideal S16x4x80x4096 .bf16) (ix4 h g a t)
    = ((vlane v h (inGroup g t) a : ℝ) : EReal) := by
  rw [V_eq, (W_tiles _).2, group_at, W_va]
  exact va_at v _ H.hv h _ a

include H in
/-- The output. -/
theorem result_o (h : Fin 16) (i : Fin 16384) (l : Fin 64) :
    (after hostOps1 (Wf m c) (Proc.devRef .tc main_v72) : FVec Ideal S16x16384x64 .f32) (ix3 h i l) = ((out q k v cs h i l : ℝ) : EReal) := by
  obtain ⟨s, hQ⟩ := V_q H
  rw [S_o (Wf m c) _ ((Wf_0 m c).trans (array_4 m c))]
  show tileO m c (pointOf h (tileOf i)) (ix4 0 0 (placeOf i) ⟨l.val, _⟩) = _
  rw [(point_at m c q k v cs s hQ (V_k H) (V_v H) _ _).1, headAt_pointOf, tileAt_pointOf, rowIn_of]

include H in
/-- The logarithm of a row's sum. -/
theorem result_lse (h : Fin 16) (i : Fin 16384) :
    (after hostOps1 (Wf m c) (Proc.devRef .tc main_v74) : FVec Ideal S16x16384 .f32) (ix2 h i) = ((Real.log (rowSum q k cs h i) : ℝ) : EReal) := by
  obtain ⟨s, hQ⟩ := V_q H
  rw [S_lse (Wf m c) _ ((Wf_1 m c).trans (array_5 m c))]
  show -(tileQ m c (pointOf h (tileOf i)) (ix4 0 0 (placeOf i) 67) + tileQ m c (pointOf h (tileOf i)) (ix4 0 0 (placeOf i) 68)
    + tileQ m c (pointOf h (tileOf i)) (ix4 0 0 (placeOf i) 69)) = _
  simp only [(point_at m c q k v cs s hQ (V_k H) (V_v H) _ _).2, headAt_pointOf, tileAt_pointOf, rowIn_of]
  rw [← EReal.coe_add, ← EReal.coe_add, ← EReal.coe_neg]
  refine congrArg (fun x : ℝ => (x : EReal)) ?_
  unfold marked
  simp

end results

/-! ## The run -/

section run
open Idealize.SL.Sem

variable (m : (ℓ : Loc nD τ sig) → Buf (Elt Ideal) ℓ) (ρ : Dev nD → PrngReg)
variable (q k v : Dev nD → Fin 16 → Fin 16384 → Fin 64 → ℝ) (cs : Dev nD → Fin 16 → Fin 16384 → ℝ)

/-- An array of reals by head, row and lane. -/
def cube (f : Fin 16 → Fin 16384 → Fin 64 → ℝ) : FVec Ideal S16x16384x64 .f32 := fun i => ((f (i 0) (i 1) (i 2) : ℝ) : EReal)

/-- An array of reals by head and row. -/
def plane (f : Fin 16 → Fin 16384 → ℝ) : FVec Ideal S16x16384 .f32 := fun i => ((f (i 0) (i 1) : ℝ) : EReal)

theorem eq_cube (A : FVec Ideal S16x16384x64 .f32) (f : Fin 16 → Fin 16384 → Fin 64 → ℝ)
    (h : ∀ a b d, A (ix3 a b d) = ((f a b d : ℝ) : EReal)) : A = cube f :=
  funext fun i => (congrArg A (ValueIdx.eq_ix3 i)).trans (h (i 0) (i 1) (i 2))

theorem eq_plane (A : FVec Ideal S16x16384 .f32) (f : Fin 16 → Fin 16384 → ℝ)
    (h : ∀ a b, A (ix2 a b) = ((f a b : ℝ) : EReal)) : A = plane f :=
  funext fun i => (congrArg A (ValueIdx.eq_ix2 i)).trans (h (i 0) (i 1))

/-- Run on real arguments, the program ends with the attention's output and the logarithms of the rows' sums in its
    results and its arguments as launched. -/
theorem run_values (H : ∀ c, Args m c (q c) (k c) (v c) (cs c)) :
    θ_run defs (onTc (τ := τ) (main (F := Ideal))) ⟨m, fun _ => 0, ρ⟩ (fun r => ∀ c : Dev nD,
      r.2.mem ((c.tc : Thread nD τ).loc main_v72) = cube (out (q c) (k c) (v c) (cs c))
      ∧ r.2.mem ((c.tc : Thread nD τ).loc main_v74) = plane (fun h i => Real.log (rowSum (q c) (k c) (cs c) h i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    refine ⟨?_, ?_, ends_args m h c⟩
    · exact ((h.1 c).2 main_v72 (Pipeline.mem_restRefs_of main_v72 (by decide) (by decide))).trans (eq_cube _ _ (result_o (H c)))
    · exact ((h.1 c).2 main_v74 (Pipeline.mem_restRefs_of main_v74 (by decide) (by decide))).trans (eq_plane _ _ (result_lse (H c)))) (run_main m ρ)

end run

end Cert.Kernel2Ideal.Hand
-- ==== Proof.Ref2.lean ====
/-
  The forward reference over the extended reals, at real arguments: its stages one after another, up to the attention's
  output and the logarithm of each row's sum.
-/
module

public import proofs.«01_k».proof.Proof.Gen.Reference2Ideal.Read
public import proofs.«01_k».proof.Proof.Ext
public import Idealize.ShloMosaic.Lib.Pointwise

@[expose] public section

set_option maxRecDepth 16384

noncomputable section

namespace Cert.Reference2Ideal.Hand

open Cert.Reference2Ideal Cert.Reference2Ideal.Read Cert.Attn
open Idealize.ShloMosaic Idealize.ShloMosaic.TcCoe

variable (Q K V : FVec Ideal S16x16384x64 .f32) (C : FVec Ideal S16x16384 .f32)
variable (q k v : Fin 16 → Fin 16384 → Fin 64 → ℝ) (c : Fin 16 → Fin 16384 → ℝ)
  (hq : ∀ h i l, Q (ix3 h i l) = ((q h i l : ℝ) : EReal)) (hk : ∀ h i l, K (ix3 h i l) = ((k h i l : ℝ) : EReal))
  (hv : ∀ h i l, V (ix3 h i l) = ((v h i l : ℝ) : EReal)) (hc : ∀ h i, C (ix2 h i) = ((c h i : ℝ) : EReal))

include hq hk in
/-- A product of a query with a key. -/
theorem dots_at (h : Fin 16) (i j : Fin 16384) :
    val_main_v1 (F := Ideal) Q K (ix3 h i j) = ((∑ l, q h i l * k h j l : ℝ) : EReal) := by
  pointwise [val_main_v1, hq, hk]
  simp only [← EReal.coe_mul, sum_coe]

include hq hk hc in
/-- A score with the query's own offset. -/
theorem scores_at (h : Fin 16) (i j : Fin 16384) :
    val_main_v9 (F := Ideal) Q K C (ix3 h i j) = ((score q k c h i j + c h i : ℝ) : EReal) := by
  have h1 := dots_at Q K q k hq hk
  pointwise [val_main_v9, val_main_v8, val_main_v7, val_main_v6, val_main_v5, val_main_v4, val_main_v3, val_main_v2, val_main_cst, h1, hc, eighth]
  simp only [← EReal.coe_mul, ← EReal.coe_add, ← EReal.coe_sub]
  refine congrArg (fun x : ℝ => (x : EReal)) ?_
  unfold score; ring

include hq hk hc in
/-- A score, minus infinity for a later key. -/
theorem masked_at (h : Fin 16) (i j : Fin 16384) :
    val_main_v15 (F := Ideal) Q K C (ix3 h i j) = if j.val ≤ i.val then ((score q k c h i j + c h i : ℝ) : EReal) else ⊥ := by
  have h1 := scores_at Q K C q k c hq hk hc
  pointwise [val_main_v15, val_main_call0_v2, val_main_call0_v1, val_main_call0_v0, val_main_cst_0, val_main_v14, val_main_v13, val_main_v12, val_main_v11, val_main_v10, val_main_v0, h1]
  rw [causal]
  exact if_congr Iff.rfl rfl bottom

include hq hk hc in
/-- A row's largest score is a number. -/
theorem max_at : ∃ M : Fin 16 → Fin 16384 → ℝ, ∀ h i, val_main_v16 (F := Ideal) Q K C (ix2 h i) = ((M h i : ℝ) : EReal) := by
  have h1 := masked_at Q K C q k c hq hk hc
  have hm : ∀ h i, ∃ M : ℝ, val_main_v16 (F := Ideal) Q K C (ix2 h i) = (M : EReal) := by
    intro h i
    obtain ⟨M, hM⟩ := fold_max_real (fun j : Fin 16384 => j.val ≤ i.val) (fun j => score q k c h i j + c h i) i le_rfl
    refine ⟨M, ?_⟩
    rw [← hM]
    pointwise [val_main_v16, val_main_cst_1, bottom, h1]
  choose M hM using hm
  exact ⟨M, hM⟩

/-- The place in a column that a row's number comes from. -/
theorem flat_at (h : Fin 16) (i : Fin 16384) : idx_main_v28 (ix2 h i) = ix3 h i (0 : Fin 1) := by
  have hh := h.isLt
  have hi := i.isLt
  funext a
  match a with
  | ⟨0, _⟩ => exact Fin.ext (show (h.val * 16384 + i.val) / 16384 = h.val by omega)
  | ⟨1, _⟩ => exact Fin.ext (show (h.val * 16384 + i.val) / 1 % 16384 = i.val by omega)
  | ⟨2, _⟩ => rfl

section largest

variable (M : Fin 16 → Fin 16384 → ℝ) (hM : ∀ h i, val_main_v16 (F := Ideal) Q K C (ix2 h i) = ((M h i : ℝ) : EReal))

include hq hk hc hM in
/-- An exponential: the weight, scaled by one number a row. -/
theorem exp_at (h : Fin 16) (i j : Fin 16384) :
    val_main_v20 (F := Ideal) Q K C (ix3 h i j) = ((weight q k c h i j * Real.exp (c h i - M h i) : ℝ) : EReal) := by
  have h1 := masked_at Q K C q k c hq hk hc
  have e : val_main_v20 (F := Ideal) Q K C (ix3 h i j)
      = Ideal.exp ((if j.val ≤ i.val then ((score q k c h i j + c h i : ℝ) : EReal) else ⊥) - ((M h i : ℝ) : EReal)) := by
    pointwise [val_main_v20, val_main_v19, val_main_v18, val_main_v17, h1, hM]
  rw [e, exp_mask, ← weight_shift]
  refine congrArg (fun x : ℝ => (x : EReal)) ?_
  split_ifs
  · congr 1; ring
  · rfl

include hq hk hc hM in
/-- A row's sum. -/
theorem sum_at (h : Fin 16) (i : Fin 16384) :
    val_main_v21 (F := Ideal) Q K C (ix2 h i) = ((rowSum q k c h i * Real.exp (c h i - M h i) : ℝ) : EReal) := by
  have he := exp_at Q K C q k c hq hk hc M hM
  pointwise [val_main_v21, val_main_cst_2, he]
  simp only [sum_coe]
  refine congrArg (fun x : ℝ => (x : EReal)) ?_
  unfold rowSum; rw [Finset.sum_mul]

include hq hk hc hM in
/-- A share. -/
theorem share_at (h : Fin 16) (i j : Fin 16384) :
    val_main_v24 (F := Ideal) Q K C (ix3 h i j) = ((share q k c h i j : ℝ) : EReal) := by
  have he := exp_at Q K C q k c hq hk hc M hM
  have h1 := sum_at Q K C q k c hq hk hc M hM
  pointwise [val_main_v24, val_main_v23, val_main_v22, he, h1]
  rw [Ideal.div_coe (mul_pos (rowSum_pos q k c h i) (Real.exp_pos _)).ne', ← EReal.coe_mul]
  refine congrArg (fun x : ℝ => (x : EReal)) ?_
  rw [← share_shift q k c (c h i - M h i), mul_one_div]

include hq hk hv hc hM in
/-- The output. -/
theorem out_at (h : Fin 16) (i : Fin 16384) (l : Fin 64) :
    val_main_v25 (F := Ideal) Q K V C (ix3 h i l) = ((out q k v c h i l : ℝ) : EReal) := by
  have h1 := share_at Q K C q k c hq hk hc M hM
  pointwise [val_main_v25, hv, h1]
  simp only [← EReal.coe_mul, sum_coe]
  rfl

/-- A difference of numbers. -/
theorem sub_at (x y : EReal) : FloatOps.subf (F := Ideal) (φ := .f32) x y = x - y := rfl

/-- A sum of numbers. -/
theorem add_at (x y : EReal) : FloatOps.addf (F := Ideal) (φ := .f32) x y = x + y := rfl

/-- A logarithm. -/
theorem log_at (x : EReal) : FloatOps.hostUnary (F := Ideal) (φ := .f32) .log x = Ideal.log x := rfl

/-- The place a column's number of the largest scores comes from. -/
theorem place_at (h : Fin 16) (i : Fin 16384) : idx_main_v17 (ix3 h i (0 : Fin 1)) = ix2 h i := by
  funext a
  match a with
  | ⟨0, _⟩ => rfl
  | ⟨1, _⟩ => rfl

/-- The place a column's number of the sums comes from. -/
theorem place_at' (h : Fin 16) (i : Fin 16384) : idx_main_v22 (ix3 h i (0 : Fin 1)) = ix2 h i := by
  funext a
  match a with
  | ⟨0, _⟩ => rfl
  | ⟨1, _⟩ => rfl

include hM in
/-- A row's largest score, in its column. -/
theorem top_at (h : Fin 16) (i : Fin 16384) : val_main_v17 (F := Ideal) Q K C (ix3 h i (0 : Fin 1)) = ((M h i : ℝ) : EReal) := by
  rw [val_main_v17_apply, place_at]; exact hM h i

include hq hk hc hM in
/-- The logarithm of a row's sum of exponentials. -/
theorem logsum_at (h : Fin 16) (i : Fin 16384) :
    val_main_v26 (F := Ideal) Q K C (ix3 h i (0 : Fin 1)) = ((Real.log (rowSum q k c h i * Real.exp (c h i - M h i)) : ℝ) : EReal) := by
  have h1 := sum_at Q K C q k c hq hk hc M hM h i
  rw [val_main_v26_apply, val_main_v22_apply, place_at', h1, log_at]
  exact log_pos _ (mul_pos (rowSum_pos q k c h i) (Real.exp_pos _))

include hq hk hc hM in
/-- The logarithm of a row's sum. -/
theorem lse_at (h : Fin 16) (i : Fin 16384) :
    val_main_v29 (F := Ideal) Q K C (ix2 h i) = ((Real.log (rowSum q k c h i) : ℝ) : EReal) := by
  have h1 := logsum_at Q K C q k c hq hk hc M hM h i
  have h2 := top_at Q K C M hM h i
  rw [val_main_v29_apply, val_main_v28_apply, flat_at, val_main_v27_apply, h1, h2, hc h i, sub_at, add_at, ← EReal.coe_add, ← EReal.coe_sub,
    Real.log_mul (rowSum_pos q k c h i).ne' (Real.exp_pos _).ne', Real.log_exp]
  exact congrArg (fun x : ℝ => (x : EReal)) (by ring)

end largest

include hq hk hv hc in
/-- The two results. -/
theorem results : (∀ h i l, val_main_v25 (F := Ideal) Q K V C (ix3 h i l) = ((out q k v c h i l : ℝ) : EReal))
    ∧ ∀ h i, val_main_v29 (F := Ideal) Q K C (ix2 h i) = ((Real.log (rowSum q k c h i) : ℝ) : EReal) := by
  obtain ⟨M, hM⟩ := max_at Q K C q k c hq hk hc
  exact ⟨out_at Q K V C q k v c hq hk hv hc M hM, lse_at Q K C q k c hq hk hc M hM⟩

end Cert.Reference2Ideal.Hand
-- ==== Proof.Finite2.lean ====
/-
  The forward call's precondition: every entry of every argument is a number.
-/
module

public import proofs.«01_k».proof.Proof.Gen.Pre_finite2
public import proofs.«01_k».proof.Proof.Finite

@[expose] public section

noncomputable section

namespace Cert.Pre_finite2

open Idealize.ShloMosaic

/-- All entries of an array below infinity. -/
theorem real_of_all {s : Shape} {axes : List (Fin s.rank)} (x : FVec Ideal s .f32) (b : FVec Ideal s .f32) (hb : ∀ i, b i = (⊤ : EReal))
    (hs : s.ReducesTo axes S_) (hu : 0 < S_.numel) (j : S_.Idx)
    (e : Host.reduce IntOp.andi (cmpf .olt (Host.absf x) b) (constantI S_ 1 1#1) hs hu j = 1#1) (i : s.Idx) : ∃ r : ℝ, x i = (r : EReal) :=
  Cert.Pre_finite.real_of_all x b hb hs hu j e i

variable (q k v : FVec Ideal S16x16384x64 .f32) (c : FVec Ideal S16x16384 .f32) (gq gk : FVec Ideal S1x64 .f32)

/-- Under the precondition every entry is real. -/
theorem real_of_fn (h : fn (F := Ideal) q k v c gq gk = fun _ => 1#1) :
    (∀ i, ∃ r : ℝ, q i = (r : EReal)) ∧ (∀ i, ∃ r : ℝ, k i = (r : EReal)) ∧ (∀ i, ∃ r : ℝ, v i = (r : EReal))
      ∧ (∀ i, ∃ r : ℝ, c i = (r : EReal)) ∧ (∀ i, ∃ r : ℝ, gq i = (r : EReal)) ∧ (∀ i, ∃ r : ℝ, gk i = (r : EReal)) := by
  have h0 := congrFun h (fun a => a.elim0)
  unfold fn fn_part1 at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  have inf := Cert.Pre_finite.infinity
  exact ⟨real_of_all q _ (fun _ => inf) _ _ _ e0, real_of_all k _ (fun _ => inf) _ _ _ e1, real_of_all v _ (fun _ => inf) _ _ _ e2,
    real_of_all c _ (fun _ => inf) _ _ _ e3, real_of_all gq _ (fun _ => inf) _ _ _ e4, real_of_all gk _ (fun _ => inf) _ _ _ e5⟩

end Cert.Pre_finite2
-- ==== Proof.lean ====
module

public import proofs.«01_k».proof.Defs
public import proofs.«01_k».proof.Proof.K.Frame
public import proofs.«01_k».proof.Proof.KI.Run
public import proofs.«01_k».proof.Proof.Ref
public import proofs.«01_k».proof.Proof.Finite
public import proofs.«01_k».proof.Proof.K2.Frame
public import proofs.«01_k».proof.Proof.K2I.Value
public import proofs.«01_k».proof.Proof.Ref2
public import proofs.«01_k».proof.Proof.Finite2
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The reference leaves its arguments as launched; it has no cells. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run (F := Ideal) m g)

/-- The forward reference leaves its arguments as launched; it has no cells. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2.2, sem_eq_zero_of_no_sems (by decide) r.2⟩)
    (Cert.Reference2Ideal.Value.run (F := Ideal) m g)

open Cert.Attn

section backward
open Cert.KernelIdeal.Hand

/-- Over the extended reals, at finite arguments, the kernel's four gradients are the reference's. -/
theorem algebra : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp hm
  have hr := fun c => Cert.Pre_finite.real_of_fn _ _ _ _ _ (hp c)
  choose q hq using fun c => (hr c).1
  choose k hk using fun c => (hr c).2.1
  choose v hv using fun c => (hr c).2.2.1
  choose cs hc using fun c => (hr c).2.2.2.1
  choose ct hct using fun c => (hr c).2.2.2.2
  have H : ∀ c, Args m c (fun a b d => q c (ix3 a b d)) (fun a b d => k c (ix3 a b d)) (fun a b d => v c (ix3 a b d)) (fun a b d => ct c (ix3 a b d)) (fun a b => cs c (ix2 a b)) :=
    fun c => ⟨fun a b d => hq c _, fun a b d => hk c _, fun a b d => hv c _, fun a b => hc c _, fun a b d => hct c _⟩
  refine ⟨_, _, _, _, run_values m g _ _ _ _ _ H, ?_⟩
  refine (θ_run Cert.ReferenceIdeal.defs _ _).mono (fun r h c => ?_) (Cert.ReferenceIdeal.Value.run (F := Ideal) m' g')
  obtain ⟨r0, r1, r2, r3, ra⟩ := h c
  obtain ⟨e0, e1, e2, e3, e4⟩ := hm c
  have R := Cert.ReferenceIdeal.Hand.results (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg4))
    (m ((c.tc : Thread Cert.KernelIdeal.nD Cert.KernelIdeal.τ).loc Cert.KernelIdeal.main_arg3)) _ _ _ _ _ (H c).hq (H c).hk (H c).hv (H c).hc (H c).hct
  rw [← e0, ← e1, ← e2, ← e3, ← e4] at R
  refine ⟨r0.trans ?_, r1.trans ?_, r2.trans ?_, r3.trans ?_, ra⟩
  · exact (Cert.ReferenceIdeal.Read.val_main_v61_eq m' c).trans (eq_cube _ _ R.1)
  · exact (Cert.ReferenceIdeal.Read.val_main_v60_eq m' c).trans (eq_cube _ _ R.2.1)
  · exact (Cert.ReferenceIdeal.Read.val_main_v35_eq m' c).trans (eq_cube _ _ R.2.2.1)
  · exact (Cert.ReferenceIdeal.Read.val_main_v57_eq m' c).trans (eq_plane _ _ R.2.2.2)

end backward

/-- Over the extended reals, at finite arguments, the forward kernel's output and logarithms of the rows' sums are the
    forward reference's. -/
theorem algebra2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hp hm
  have hr := fun c => Cert.Pre_finite2.real_of_fn _ _ _ _ _ _ (hp c)
  choose q hq using fun c => (hr c).1
  choose k hk using fun c => (hr c).2.1
  choose v hv using fun c => (hr c).2.2.1
  choose cs hc using fun c => (hr c).2.2.2.1
  have H : ∀ c, Cert.Kernel2Ideal.Hand.Args m c (fun a b d => q c (ix3 a b d)) (fun a b d => k c (ix3 a b d)) (fun a b d => v c (ix3 a b d)) (fun a b => cs c (ix2 a b)) :=
    fun c => ⟨fun a b d => hq c _, fun a b d => hk c _, fun a b d => hv c _, fun a b => hc c _, (hr c).2.2.2.2.1, (hr c).2.2.2.2.2⟩
  refine ⟨_, _, Cert.Kernel2Ideal.Hand.run_values m g _ _ _ _ H, ?_⟩
  refine (θ_run Cert.Reference2Ideal.defs _ _).mono (fun r h c => ?_) (Cert.Reference2Ideal.Value.run (F := Ideal) m' g')
  obtain ⟨r0, r1, ra⟩ := h c
  obtain ⟨e0, e1, e2, e3, e4, e5⟩ := hm c
  have R := Cert.Reference2Ideal.Hand.results (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) _ _ _ _ (H c).hq (H c).hk (H c).hv (H c).hc
  rw [← e0, ← e1, ← e2, ← e3] at R
  refine ⟨r0.trans ?_, r1.trans ?_, ra⟩
  · exact (Cert.Reference2Ideal.Read.val_main_v25_eq m' c).trans (Cert.Kernel2Ideal.Hand.eq_cube _ _ R.1)
  · exact (Cert.Reference2Ideal.Read.val_main_v29_eq m' c).trans (Cert.Kernel2Ideal.Hand.eq_plane _ _ R.2)

/-- The ten claims of the two calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.facts, Cert.Pre_finite2.Gen.facts,
  fun m g _ => Cert.Kernel.Hand.frame (F := Bits) m g, fun m g _ => Cert.KernelIdeal.Hand.frame (F := Ideal) m g,
  fun m g _ => Cert.KernelIdeal.Hand.frame (F := Ideal) m g, fun m g _ => frame_reference m g, fun m g _ => frame_reference m g,
  fun m g _ => Cert.Kernel2.Hand.frame (F := Bits) m g, fun m g _ => Cert.Kernel2Ideal.Hand.frame (F := Ideal) m g,
  fun m g _ => Cert.Kernel2Ideal.Hand.frame (F := Ideal) m g, fun m g _ => frame_reference2 m g, fun m g _ => frame_reference2 m g,
  IdealRules.named_const.statement Cert.KernelIdeal.κ "mask" .f32 0xF149F2CA#32 ⊥ rfl, algebra,
  IdealRules.named_const.statement Cert.Kernel2Ideal.κ "mask" .f32 0xF149F2CA#32 ⊥ rfl, algebra2⟩

end Cert.Proof

end
